-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "mask" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v19)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v19) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v25)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v25) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v44) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "scale" .f32 0x3E38AA3B#32 (((1 / 8) * (Real.log 2)⁻¹ : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v16)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v16) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v19)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v19) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v9)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v20) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v14)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v14) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "scale" .f32 0x3E16C740#32 ((((Real.sqrt 96) * (Real.log 2))⁻¹ : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v17)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v17) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v40) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v21)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v21) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v22) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4x4096x16x64 : Shape := ⟨4, ![4, 4096, 16, 64]⟩
abbrev S4x4096x16x32 : Shape := ⟨4, ![4, 4096, 16, 32]⟩
abbrev S4x4096x32 : Shape := ⟨3, ![4, 4096, 32]⟩
abbrev S_ : Shape := ⟨0, ![]⟩

class Facts : Prop where
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  h_S_ : 0 < S_.numel
  bcast_S_S4x4096x16x32 : S_.BroadcastsInDim S4x4096x16x32 (![] : Fin 0 → Fin S4x4096x16x32.rank)
  reducesTo_S4x4096x16x32_S_d0_1_2_3 : S4x4096x16x32.ReducesTo [0, 1, 2, 3] S_
  bcast_S_S4x4096x32 : S_.BroadcastsInDim S4x4096x32 (![] : Fin 0 → Fin S4x4096x32.rank)
  reducesTo_S4x4096x32_S_d0_1_2 : S4x4096x32.ReducesTo [0, 1, 2] S_

variable [Facts]

def fn_part1 {F : FTy → Type} [FloatOps F] (main_v13 : IVec S_ 1) (main_v16 : IVec S4x4096x32 1) : IVec S_ 1 :=
  let main_c_5 : IVec S_ 1 := constantI S_ 1 1#1
  let main_v17 : IVec S_ 1 := (fun x v => Host.reduce IntOp.andi x v reducesTo_S4x4096x32_S_d0_1_2 h_S_) main_v16 main_c_5
  let main_v18 : IVec S_ 1 := andi main_v13 main_v17
  main_v18

def fn {F : FTy → Type} [FloatOps F] (main_arg0 : FVec F S4x4096x16x64 .f32) (main_arg1 : FVec F S4x4096x16x32 .f32) (main_arg2 : FVec F S4x4096x16x64 .f32) (main_arg3 : FVec F S4x4096x32 .f32) (main_arg4 : FVec F S4x4096x16x64 .f32) : IVec S_ 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_c : IVec S_ 1 := constantI S_ 1 1#1
  let main_v3 : IVec S_ 1 := (fun x v => Host.reduce IntOp.andi x v reducesTo_S4x4096x16x64_S_d0_1_2_3 h_S_) main_v2 main_c
  let main_v4 : FVec F S4x4096x16x32 .f32 := Host.absf main_arg1
  let main_cst_0 : FVec F S_ .f32 := constant S_ .f32 0x7F800000#32
  let main_v5 : FVec F S4x4096x16x32 .f32 := broadcastInDim S4x4096x16x32 ![] bcast_S_S4x4096x16x32 main_cst_0
  let main_v6 : IVec S4x4096x16x32 1 := cmpf .olt main_v4 main_v5
  let main_c_1 : IVec S_ 1 := constantI S_ 1 1#1
  let main_v7 : IVec S_ 1 := (fun x v => Host.reduce IntOp.andi x v reducesTo_S4x4096x16x32_S_d0_1_2_3 h_S_) main_v6 main_c_1
  let main_v8 : IVec S_ 1 := andi main_v3 main_v7
  let main_v9 : FVec F S4x4096x16x64 .f32 := Host.absf main_arg2
  let main_cst_2 : FVec F S_ .f32 := constant S_ .f32 0x7F800000#32
  let main_v10 : FVec F S4x4096x16x64 .f32 := broadcastInDim S4x4096x16x64 ![] bcast_S_S4x4096x16x64 main_cst_2
  let main_v11 : IVec S4x4096x16x64 1 := cmpf .olt main_v9 main_v10
  let main_c_3 : IVec S_ 1 := constantI S_ 1 1#1
  let main_v12 : IVec S_ 1 := (fun x v => Host.reduce IntOp.andi x v reducesTo_S4x4096x16x64_S_d0_1_2_3 h_S_) main_v11 main_c_3
  let main_v13 : IVec S_ 1 := andi main_v8 main_v12
  let main_v14 : FVec F S4x4096x32 .f32 := Host.absf main_arg3
  let main_cst_4 : FVec F S_ .f32 := constant S_ .f32 0x7F800000#32
  let main_v15 : FVec F S4x4096x32 .f32 := broadcastInDim S4x4096x32 ![] bcast_S_S4x4096x32 main_cst_4
  let main_v16 : IVec S4x4096x32 1 := cmpf .olt main_v14 main_v15
  fn_part1 (F := F) main_v13 main_v16
-- ==== Pre_finite5.lean ====
abbrev S4x4096x4x4x64 : Shape := ⟨5, ![4, 4096, 4, 4, 64]⟩
abbrev S4x4096x4x64 : Shape := ⟨4, ![4, 4096, 4, 64]⟩
abbrev S_ : Shape := ⟨0, ![]⟩

class Facts : Prop where
  bcast_S_S4x4096x4x4x64 : S_.BroadcastsInDim S4x4096x4x4x64 (![] : Fin 0 → Fin S4x4096x4x4x64.rank)
  reducesTo_S4x4096x4x4x64_S_d0_1_2_3_4 : S4x4096x4x4x64.ReducesTo [0, 1, 2, 3, 4] S_
  h_S_ : 0 < S_.numel
  bcast_S_S4x4096x4x64 : S_.BroadcastsInDim S4x4096x4x64 (![] : Fin 0 → Fin S4x4096x4x64.rank)
  reducesTo_S4x4096x4x64_S_d0_1_2_3 : S4x4096x4x64.ReducesTo [0, 1, 2, 3] S_

variable [Facts]

def fn {F : FTy → Type} [FloatOps F] (main_arg0 : FVec F S4x4096x4x4x64 .f32) (main_arg1 : FVec F S4x4096x4x64 .f32) (main_arg2 : FVec F S4x4096x4x64 .f32) : IVec S_ 1 :=
  let main_v0 : FVec F S4x4096x4x4x64 .f32 := Host.absf main_arg0
  let main_cst : FVec F S_ .f32 := constant S_ .f32 0x7F800000#32
  let main_v1 : FVec F S4x4096x4x4x64 .f32 := broadcastInDim S4x4096x4x4x64 ![] bcast_S_S4x4096x4x4x64 main_cst
  let main_v2 : IVec S4x4096x4x4x64 1 := cmpf .olt main_v0 main_v1
  let main_c : IVec S_ 1 := constantI S_ 1 1#1
  let main_v3 : IVec S_ 1 := (fun x v => Host.reduce IntOp.andi x v reducesTo_S4x4096x4x4x64_S_d0_1_2_3_4 h_S_) main_v2 main_c
  let main_v4 : FVec F S4x4096x4x64 .f32 := Host.absf main_arg1
  let main_cst_0 : FVec F S_ .f32 := constant S_ .f32 0x7F800000#32
  let main_v5 : FVec F S4x4096x4x64 .f32 := broadcastInDim S4x4096x4x64 ![] bcast_S_S4x4096x4x64 main_cst_0
  let main_v6 : IVec S4x4096x4x64 1 := cmpf .olt main_v4 main_v5
  let main_c_1 : IVec S_ 1 := constantI S_ 1 1#1
  let main_v7 : IVec S_ 1 := (fun x v => Host.reduce IntOp.andi x v reducesTo_S4x4096x4x64_S_d0_1_2_3 h_S_) main_v6 main_c_1
  let main_v8 : IVec S_ 1 := andi main_v3 main_v7
  main_v8
-- ==== Kernel.lean ====
abbrev S4x4096x16x64 : Shape := ⟨4, ![4, 4096, 16, 64]⟩
abbrev S4x4096x16x32 : Shape := ⟨4, ![4, 4096, 16, 32]⟩
abbrev S4x4096x32 : Shape := ⟨3, ![4, 4096, 32]⟩
abbrev S_ : Shape := ⟨0, ![]⟩
abbrev S4x4096x16x128 : Shape := ⟨4, ![4, 4096, 16, 128]⟩
abbrev S4x4096x1x32 : Shape := ⟨4, ![4, 4096, 1, 32]⟩
abbrev S16384x2048 : Shape := ⟨2, ![16384, 2048]⟩
abbrev S16384x1024 : Shape := ⟨2, ![16384, 1024]⟩
abbrev S512x2048 : Shape := ⟨2, ![512, 2048]⟩
abbrev S512x1024 : Shape := ⟨2, ![512, 1024]⟩
abbrev S8192x128 : Shape := ⟨2, ![8192, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S8192 : Shape := ⟨1, ![8192]⟩
abbrev S8192x1 : Shape := ⟨2, ![8192, 1]⟩
abbrev S512x64 : Shape := ⟨2, ![512, 64]⟩

abbrev nBuf : Space → Nat
  | .hbm => 32
  | .vmem => 12
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x32, .f32⟩
  | .hbm, ⟨2, _⟩ => ⟨S4x4096x16x64, .f32⟩
  | .hbm, ⟨3, _⟩ => ⟨S4x4096x32, .f32⟩
  | .hbm, ⟨4, _⟩ => ⟨S4x4096x16x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4096x16x32, .f32⟩
  | .hbm, ⟨14, _⟩ => ⟨S4x4096x16x64, .f32⟩
  | .hbm, ⟨15, _⟩ => ⟨S4x4096x16x64, .f32⟩
  | .hbm, ⟨16, _⟩ => ⟨S4x4096x16x32, .f32⟩
  | .hbm, ⟨17, _⟩ => ⟨S4x4096x16x32, .f32⟩
  | .hbm, ⟨18, _⟩ => ⟨S4x4096x16x128, .f32⟩
  | .hbm, ⟨19, _⟩ => ⟨S4x4096x1x32, .f32⟩
  | .hbm, ⟨20, _⟩ => ⟨S4x4096x16x32, .f32⟩
  | .hbm, ⟨21, _⟩ => ⟨S4x4096x16x128, .f32⟩
  | .hbm, ⟨22, _⟩ => ⟨S_, .f32⟩
  | .hbm, ⟨23, _⟩ => ⟨S4x4096x16x64, .f32⟩
  | .hbm, ⟨24, _⟩ => ⟨S4x4096x16x128, .f32⟩
  | .hbm, ⟨25, _⟩ => ⟨S16384x2048, .f32⟩
  | .hbm, ⟨26, _⟩ => ⟨S16384x2048, .bf16⟩
  | .hbm, ⟨27, _⟩ => ⟨S16384x2048, .f32⟩
  | .hbm, ⟨28, _⟩ => ⟨S16384x2048, .bf16⟩
  | .hbm, ⟨29, _⟩ => ⟨S16384x2048, .f32⟩
  | .hbm, ⟨30, _⟩ => ⟨S16384x2048, .bf16⟩
  | .hbm, ⟨31, _⟩ => ⟨S16384x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S8192x128, .bf16⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 1, 4, 9], ![false, false, false, false]⟩

def k0_cond4 (i : grid0.Coords) : BitVec 1 :=
  let arg3 : BitVec 32 := BitVec.ofNat 32 (i 3).val
  let arg2 : BitVec 32 := BitVec.ofNat 32 (i 2).val
  let v0 : BitVec 1 := Scalar.cmpi .sle arg3 arg2
  let v3 : BitVec 32 := Scalar.subi arg3 arg2
  let c1_i32 : BitVec 32 := 1#32
  let v4 : BitVec 32 := Scalar.subi v3 c1_i32
  let v5 : BitVec 32 := Scalar.select v0 arg3 v4
  let c7_i32 : BitVec 32 := 7#32
  let v1 : BitVec 32 := Scalar.subi c7_i32 arg2
  let v2 : BitVec 32 := Scalar.select v0 arg2 v1
  let v6 : BitVec 1 := Scalar.cmpi .eq v5 v2
  let v18 : BitVec 32 := Scalar.extui v6
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 1 := Scalar.cmpi .sle arg3 arg2
  let c7_i32 : BitVec 32 := 7#32
  let v2 : BitVec 32 := Scalar.subi c7_i32 arg2
  let v3 : BitVec 32 := Scalar.select v1 arg2 v2
  let v4 : BitVec 32 := Scalar.subi arg3 arg2
  let c1_i32 : BitVec 32 := 1#32
  let v5 : BitVec 32 := Scalar.subi v4 c1_i32
  let v6 : BitVec 32 := Scalar.select v1 arg3 v5
  let v7 : BitVec 32 := Scalar.addi v0 v3
  let c0_i32 : BitVec 32 := 0#32
  ![v7.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 1 := Scalar.cmpi .sle arg3 arg2
  let c7_i32 : BitVec 32 := 7#32
  let v2 : BitVec 32 := Scalar.subi c7_i32 arg2
  let v3 : BitVec 32 := Scalar.select v1 arg2 v2
  let v4 : BitVec 32 := Scalar.subi arg3 arg2
  let c1_i32 : BitVec 32 := 1#32
  let v5 : BitVec 32 := Scalar.subi v4 c1_i32
  let v6 : BitVec 32 := Scalar.select v1 arg3 v5
  let v7 : BitVec 32 := Scalar.addi v0 v6
  let c0_i32 : BitVec 32 := 0#32
  let v8 : BitVec 32 := Scalar.addi c0_i32 arg1
  let c0_i32_0 : BitVec 32 := 0#32
  ![v7.toNat, v8.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 1 := Scalar.cmpi .sle arg3 arg2
  let c7_i32 : BitVec 32 := 7#32
  let v2 : BitVec 32 := Scalar.subi c7_i32 arg2
  let v3 : BitVec 32 := Scalar.select v1 arg2 v2
  let v4 : BitVec 32 := Scalar.subi arg3 arg2
  let c1_i32 : BitVec 32 := 1#32
  let v5 : BitVec 32 := Scalar.subi v4 c1_i32
  let v6 : BitVec 32 := Scalar.select v1 arg3 v5
  let v7 : BitVec 32 := Scalar.addi v0 v6
  let c0_i32 : BitVec 32 := 0#32
  let v8 : BitVec 32 := Scalar.addi c0_i32 arg1
  let c0_i32_0 : BitVec 32 := 0#32
  ![v7.toNat, v8.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 1 := Scalar.cmpi .sle arg3 arg2
  let c7_i32 : BitVec 32 := 7#32
  let v2 : BitVec 32 := Scalar.subi c7_i32 arg2
  let v3 : BitVec 32 := Scalar.select v1 arg2 v2
  let v4 : BitVec 32 := Scalar.subi arg3 arg2
  let c1_i32 : BitVec 32 := 1#32
  let v5 : BitVec 32 := Scalar.subi v4 c1_i32
  let v6 : BitVec 32 := Scalar.select v1 arg3 v5
  let v7 : BitVec 32 := Scalar.addi v0 v3
  let c0_i32 : BitVec 32 := 0#32
  ![v7.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]
-- ==== KernelIdeal.lean ====
variable {F : FTy → Type} [FloatOps F] [Named F]
def κ : String → Option EReal := fun
  | "mask" => some ⊥
  | _ => none
-- ==== ReferenceIdeal.lean ====
abbrev S4x4096x16x64 : Shape := ⟨4, ![4, 4096, 16, 64]⟩
abbrev S4x4096x16x32 : Shape := ⟨4, ![4, 4096, 16, 32]⟩
abbrev S4x4096x32 : Shape := ⟨3, ![4, 4096, 32]⟩
abbrev S_ : Shape := ⟨0, ![]⟩
abbrev S4096 : Shape := ⟨1, ![4096]⟩
abbrev S4x16x4096x4096 : Shape := ⟨4, ![4, 16, 4096, 4096]⟩
abbrev S4x4096x4096x16 : Shape := ⟨4, ![4, 4096, 4096, 16]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x32, .f32⟩
  | .hbm, ⟨2, _⟩ => ⟨S4x4096x16x64, .f32⟩
  | .hbm, ⟨3, _⟩ => ⟨S4x4096x32, .f32⟩
  | .hbm, ⟨4, _⟩ => ⟨S4x4096x16x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096, .i32⟩
  | .hbm, ⟨10, _⟩ => ⟨S4x16x4096x4096, .f32⟩
  | .hbm, ⟨11, _⟩ => ⟨S4x4096x4096x16, .f32⟩
  | .hbm, ⟨12, _⟩ => ⟨S4x16x4096x4096, .f32⟩
  | .hbm, ⟨13, _⟩ => ⟨S4x16x4096x4096, .f32⟩
  | .hbm, ⟨14, _⟩ => ⟨S4x16x4096x4096, .f32⟩
  | .hbm, ⟨15, _⟩ => ⟨S4x16x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x1x4096x4096, .i1⟩
  | .hbm, ⟨22, _⟩ => ⟨S_, .f32⟩
  | .hbm, ⟨23, _⟩ => ⟨S_, .f32⟩
  | .hbm, ⟨24, _⟩ => ⟨S4x16x4096x4096, .i1⟩
  | .hbm, ⟨25, _⟩ => ⟨S4x16x4096x4096, .f32⟩
  | .hbm, ⟨26, _⟩ => ⟨S4x16x4096x4096, .f32⟩
  | .hbm, ⟨27, _⟩ => ⟨S_, .f32⟩
  | .hbm, ⟨28, _⟩ => ⟨S4x16x4096, .f32⟩
  | .hbm, ⟨29, _⟩ => ⟨S_, .f32⟩
  | .hbm, ⟨30, _⟩ => ⟨S4x16x4096, .f32⟩
  | .hbm, ⟨31, _⟩ => ⟨S4x16x4096, .f32⟩
  | .hbm, ⟨32, _⟩ => ⟨S4x16x4096x1, .f32⟩
  | .hbm, ⟨33, _⟩ => ⟨S4x16x4096x4096, .f32⟩
  | .hbm, ⟨34, _⟩ => ⟨S4x16x4096x4096, .f32⟩
  | .hbm, ⟨35, _⟩ => ⟨S4x16x4096x4096, .f32⟩
  | .hbm, ⟨36, _⟩ => ⟨S_, .f32⟩
  | .hbm, ⟨37, _⟩ => ⟨S4x16x4096, .f32⟩
  | .hbm, ⟨38, _⟩ => ⟨S4x16x4096x1, .f32⟩
  | .hbm, ⟨39, _⟩ => ⟨S4x16x4096x4096, .f32⟩
  | .hbm, ⟨40, _⟩ => ⟨S4x16x4096x4096, .f32⟩
  | .hbm, ⟨41, _⟩ => ⟨S1x1x4096x4096, .f32⟩
  | .hbm, ⟨42, _⟩ => ⟨S4x16x4096x4096, .f32⟩
  | .hbm, ⟨43, _⟩ => ⟨S4x16x4096x4096, .f32⟩
  | .hbm, ⟨44, _⟩ => ⟨S4x16x64x4096, .f32⟩
  | .hbm, ⟨45, _⟩ => ⟨S4x4096x16x64, .f32⟩
  | .hbm, ⟨46, _⟩ => ⟨S16384x1024, .f32⟩
  | .hbm, ⟨47, _⟩ => ⟨S16384x1024, .bf16⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048x7504 : Shape := ⟨2, ![2048, 7504]⟩
abbrev S4x4096x1024 : Shape := ⟨3, ![4, 4096, 1024]⟩
abbrev S1024x2048 : Shape := ⟨2, ![1024, 2048]⟩
abbrev S2048x4096 : Shape := ⟨2, ![2048, 4096]⟩
abbrev S16384x2048 : Shape := ⟨2, ![16384, 2048]⟩
abbrev S16384x1024 : Shape := ⟨2, ![16384, 1024]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 17
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x1024, .f32⟩
  | .hbm, ⟨3, _⟩ => ⟨S1024x2048, .f32⟩
  | .hbm, ⟨4, _⟩ => ⟨S4x4096x1024, .f32⟩
  | .hbm, ⟨5, _⟩ => ⟨S1024x2048, .f32⟩
  | .hbm, ⟨6, _⟩ => ⟨S2048x7504, .bf16⟩
  | .hbm, ⟨7, _⟩ => ⟨S2048x4096, .bf16⟩
  | .hbm, ⟨8, _⟩ => ⟨S16384x2048, .f32⟩
  | .hbm, ⟨9, _⟩ => ⟨S16384x2048, .bf16⟩
  | .hbm, ⟨10, _⟩ => ⟨S16384x1024, .f32⟩
  | .hbm, ⟨11, _⟩ => ⟨S16384x1024, .bf16⟩
  | .hbm, ⟨12, _⟩ => ⟨S1024x2048, .bf16⟩
  | .hbm, ⟨13, _⟩ => ⟨S16384x1024, .f32⟩
  | .hbm, ⟨14, _⟩ => ⟨S16384x1024, .bf16⟩
  | .hbm, ⟨15, _⟩ => ⟨S1024x2048, .bf16⟩
  | .hbm, ⟨16, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x4096x2048 : Shape := ⟨3, ![4, 4096, 2048]⟩
abbrev S2048x7504 : Shape := ⟨2, ![2048, 7504]⟩
abbrev S4x4096x1024 : Shape := ⟨3, ![4, 4096, 1024]⟩
abbrev S1024x2048 : Shape := ⟨2, ![1024, 2048]⟩
abbrev S4x4096x7504 : Shape := ⟨3, ![4, 4096, 7504]⟩
abbrev S4x4096x4096 : Shape := ⟨3, ![4, 4096, 4096]⟩
abbrev S_ : Shape := ⟨0, ![]⟩
abbrev S4x4096x2x2048 : Shape := ⟨4, ![4, 4096, 2, 2048]⟩
abbrev S4x4096x1x2048 : Shape := ⟨4, ![4, 4096, 1, 2048]⟩
abbrev S16384x2048 : Shape := ⟨2, ![16384, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x1024, .f32⟩
  | .hbm, ⟨3, _⟩ => ⟨S1024x2048, .f32⟩
  | .hbm, ⟨4, _⟩ => ⟨S4x4096x1024, .f32⟩
  | .hbm, ⟨5, _⟩ => ⟨S1024x2048, .f32⟩
  | .hbm, ⟨6, _⟩ => ⟨S4x4096x7504, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x2x2048, .f32⟩
  | .hbm, ⟨17, _⟩ => ⟨S4x4096x1x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x1x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S16384x2048, .f32⟩
  | .hbm, ⟨27, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel3.lean ====
abbrev S4x4096x2048 : Shape := ⟨3, ![4, 4096, 2048]⟩
abbrev S2048x2048 : Shape := ⟨2, ![2048, 2048]⟩
abbrev S2048 : Shape := ⟨1, ![2048]⟩
abbrev S4x2048 : Shape := ⟨2, ![4, 2048]⟩
abbrev S16384x2048 : Shape := ⟨2, ![16384, 2048]⟩
abbrev S1x2048 : Shape := ⟨2, ![1, 2048]⟩
abbrev S4x1x2048 : Shape := ⟨3, ![4, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 19
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S4x2048, .f32⟩
  | .hbm, ⟨5, _⟩ => ⟨S2048, .f32⟩
  | .hbm, ⟨6, _⟩ => ⟨S4x2048, .f32⟩
  | .hbm, ⟨7, _⟩ => ⟨S4x2048, .f32⟩
  | .hbm, ⟨8, _⟩ => ⟨S16384x2048, .f32⟩
  | .hbm, ⟨9, _⟩ => ⟨S16384x2048, .bf16⟩
  | .hbm, ⟨10, _⟩ => ⟨S2048x2048, .bf16⟩
  | .hbm, ⟨11, _⟩ => ⟨S16384x2048, .f32⟩
  | .hbm, ⟨12, _⟩ => ⟨S1x2048, .f32⟩
  | .hbm, ⟨13, _⟩ => ⟨S4x1x2048, .f32⟩
  | .hbm, ⟨14, _⟩ => ⟨S1x2048, .f32⟩
  | .hbm, ⟨15, _⟩ => ⟨S4x1x2048, .f32⟩
  | .hbm, ⟨16, _⟩ => ⟨S4x1x2048, .f32⟩
  | .hbm, ⟨17, _⟩ => ⟨S16384x2048, .f32⟩
  | .hbm, ⟨18, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x4096x2048 : Shape := ⟨3, ![4, 4096, 2048]⟩
abbrev S2048x2048 : Shape := ⟨2, ![2048, 2048]⟩
abbrev S2048 : Shape := ⟨1, ![2048]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S4x2048, .f32⟩
  | .hbm, ⟨5, _⟩ => ⟨S2048, .f32⟩
  | .hbm, ⟨6, _⟩ => ⟨S4x2048, .f32⟩
  | .hbm, ⟨7, _⟩ => ⟨S4x2048, .f32⟩
  | .hbm, ⟨8, _⟩ => ⟨S4x4096x2048, .f32⟩
  | .hbm, ⟨9, _⟩ => ⟨S4x1x2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x2048, .f32⟩
  | .hbm, ⟨41, _⟩ => ⟨S4x4096x2048, .f32⟩
  | .hbm, ⟨42, _⟩ => ⟨S1x1x2048, .f32⟩
  | .hbm, ⟨43, _⟩ => ⟨S4x4096x2048, .f32⟩
  | .hbm, ⟨44, _⟩ => ⟨S4x4096x2048, .f32⟩
  | .hbm, ⟨45, _⟩ => ⟨S4x1x2048, .f32⟩
  | .hbm, ⟨46, _⟩ => ⟨S_, .f32⟩
  | .hbm, ⟨47, _⟩ => ⟨S4x1x2048, .f32⟩
  | .hbm, ⟨48, _⟩ => ⟨S4x1x2048, .f32⟩
  | .hbm, ⟨49, _⟩ => ⟨S4x4096x2048, .f32⟩
  | .hbm, ⟨50, _⟩ => ⟨S4x4096x2048, .f32⟩
  | .hbm, ⟨51, _⟩ => ⟨S4x1x2048, .f32⟩
  | .hbm, ⟨52, _⟩ => ⟨S4x4096x2048, .f32⟩
  | .hbm, ⟨53, _⟩ => ⟨S4x4096x2048, .f32⟩
  | .hbm, ⟨54, _⟩ => ⟨S16384x2048, .f32⟩
  | .hbm, ⟨55, _⟩ => ⟨S16384x2048, .f32⟩
  | .hbm, ⟨56, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048x2048 : Shape := ⟨2, ![2048, 2048]⟩
abbrev S16384x2048 : Shape := ⟨2, ![16384, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S16384x2048, .f32⟩
  | .hbm, ⟨3, _⟩ => ⟨S16384x2048, .bf16⟩
  | .hbm, ⟨4, _⟩ => ⟨S2048x2048, .bf16⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x4096x2048 : Shape := ⟨3, ![4, 4096, 2048]⟩
abbrev S2048x2048 : Shape := ⟨2, ![2048, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S16384x2048, .f32⟩
  | .hbm, ⟨4, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S4x4096x4x4x64 : Shape := ⟨5, ![4, 4096, 4, 4, 64]⟩
abbrev S4x4096x4x64 : Shape := ⟨4, ![4, 4096, 4, 64]⟩
abbrev S_ : Shape := ⟨0, ![]⟩
abbrev S16384x512 : Shape := ⟨2, ![16384, 512]⟩
abbrev S4x4096x4x4x128 : Shape := ⟨5, ![4, 4096, 4, 4, 128]⟩
abbrev S16384x2048 : Shape := ⟨2, ![16384, 2048]⟩
abbrev S4x4096x4x128 : Shape := ⟨4, ![4, 4096, 4, 128]⟩
abbrev S16384x1024 : Shape := ⟨2, ![16384, 1024]⟩
abbrev S16384x1536 : Shape := ⟨2, ![16384, 1536]⟩
abbrev S256x2048 : Shape := ⟨2, ![256, 2048]⟩
abbrev S256x512 : Shape := ⟨2, ![256, 512]⟩
abbrev S256x1024 : Shape := ⟨2, ![256, 1024]⟩
abbrev S1024x256 : Shape := ⟨2, ![1024, 256]⟩
abbrev S256x128 : Shape := ⟨2, ![256, 128]⟩
abbrev S1024x128 : Shape := ⟨2, ![1024, 128]⟩
abbrev S1024 : Shape := ⟨1, ![1024]⟩
abbrev S1024x1 : Shape := ⟨2, ![1024, 1]⟩
abbrev S256x64 : Shape := ⟨2, ![256, 64]⟩

abbrev nBuf : Space → Nat
  | .hbm => 27
  | .vmem => 16
  | .smem => 0
  | _ => 0

abbrev bufTy : (tb : Table) → Fin (tcTables nBuf tb) → BufTy
  | .hbm, ⟨0, _⟩ => ⟨S4x4096x4x4x64, .f32⟩
  | .hbm, ⟨1, _⟩ => ⟨S4x4096x4x64, .f32⟩
  | .hbm, ⟨2, _⟩ => ⟨S4x4096x4x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x4096x4x4x64, .f32⟩
  | .hbm, ⟨9, _⟩ => ⟨S_, .f32⟩
  | .hbm, ⟨10, _⟩ => ⟨S4x4096x4x64, .f32⟩
  | .hbm, ⟨11, _⟩ => ⟨S_, .f32⟩
  | .hbm, ⟨12, _⟩ => ⟨S16384x512, .f32⟩
  | .hbm, ⟨13, _⟩ => ⟨S4x4096x4x4x64, .f32⟩
  | .hbm, ⟨14, _⟩ => ⟨S4x4096x4x4x64, .f32⟩
  | .hbm, ⟨15, _⟩ => ⟨S4x4096x4x4x128, .f32⟩
  | .hbm, ⟨16, _⟩ => ⟨S16384x2048, .f32⟩
  | .hbm, ⟨17, _⟩ => ⟨S4x4096x4x128, .f32⟩
  | .hbm, ⟨18, _⟩ => ⟨S16384x512, .f32⟩
  | .hbm, ⟨19, _⟩ => ⟨S4x4096x4x128, .f32⟩
  | .hbm, ⟨20, _⟩ => ⟨S16384x512, .f32⟩
  | .hbm, ⟨21, _⟩ => ⟨S16384x1024, .f32⟩
  | .hbm, ⟨22, _⟩ => ⟨S16384x1536, .f32⟩
  | .hbm, ⟨23, _⟩ => ⟨S16384x2048, .bf16⟩
  | .hbm, ⟨24, _⟩ => ⟨S16384x1024, .bf16⟩
  | .hbm, ⟨25, _⟩ => ⟨S16384x1536, .bf16⟩
  | .hbm, ⟨26, _⟩ => ⟨S16384x1024, .bf16⟩
  | .local _ .vmem, ⟨0, _⟩ => ⟨S256x2048, .bf16⟩
  | .local _ .vmem, ⟨1, _⟩ => ⟨S256x2048, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x1024, .bf16⟩
  | .local _ .vmem, ⟨15, _⟩ => ⟨S256x1024, .bf16⟩
  | _, _ => ⟨S4x4096x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_cst_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c1_i32 : BitVec 32 := 1#32
  let c0_i32_1 : BitVec 32 := 0#32
  ![v4.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c1_i32 : BitVec 32 := 1#32
  let c0_i32_1 : BitVec 32 := 0#32
  ![v4.toNat, c1_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c1_i32 : BitVec 32 := 1#32
  let c0_i32_1 : BitVec 32 := 0#32
  ![v4.toNat, c1_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c1_i32 : BitVec 32 := 1#32
  let c0_i32_1 : BitVec 32 := 0#32
  ![v4.toNat, c1_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S4x4096x4x4x64 : Shape := ⟨5, ![4, 4096, 4, 4, 64]⟩
abbrev S4x4096x4x64 : Shape := ⟨4, ![4, 4096, 4, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x4x4096x4096x4 : Shape := ⟨5, ![4, 4, 4096, 4096, 4]⟩
abbrev S4x4096x4x4x4096 : Shape := ⟨5, ![4, 4096, 4, 4, 4096]⟩
abbrev S1x4096x1x1x4096 : Shape := ⟨5, ![1, 4096, 1, 1, 4096]⟩
abbrev S4x4096x4x4 : Shape := ⟨4, ![4, 4096, 4, 4]⟩
abbrev S4x4096x4x4x1 : Shape := ⟨5, ![4, 4096, 4, 4, 1]⟩
abbrev S4x4x64x4096x4 : Shape := ⟨5, ![4, 4, 64, 4096, 4]⟩
abbrev S16384x1024 : Shape := ⟨2, ![16384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x4x4x64, .f32⟩
  | .hbm, ⟨1, _⟩ => ⟨S4x4096x4x64, .f32⟩
  | .hbm, ⟨2, _⟩ => ⟨S4x4096x4x64, .f32⟩
  | .hbm, ⟨3, _⟩ => ⟨S4096, .i32⟩
  | .hbm, ⟨4, _⟩ => ⟨S1x4096, .i32⟩
  | .hbm, ⟨5, _⟩ => ⟨S4096x1, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i1⟩
  | .hbm, ⟨17, _⟩ => ⟨S4096x4096, .i1⟩
  | .hbm, ⟨18, _⟩ => ⟨S4x4x4096x4096x4, .f32⟩
  | .hbm, ⟨19, _⟩ => ⟨S4x4096x4x4x4096, .f32⟩
  | .hbm, ⟨20, _⟩ => ⟨S_, .f32⟩
  | .hbm, ⟨21, _⟩ => ⟨S4x4096x4x4x4096, .f32⟩
  | .hbm, ⟨22, _⟩ => ⟨S4x4096x4x4x4096, .f32⟩
  | .hbm, ⟨23, _⟩ => ⟨S1x4096x1x1x4096, .i1⟩
  | .hbm, ⟨24, _⟩ => ⟨S_, .f32⟩
  | .hbm, ⟨25, _⟩ => ⟨S_, .f32⟩
  | .hbm, ⟨26, _⟩ => ⟨S4x4096x4x4x4096, .i1⟩
  | .hbm, ⟨27, _⟩ => ⟨S4x4096x4x4x4096, .f32⟩
  | .hbm, ⟨28, _⟩ => ⟨S4x4096x4x4x4096, .f32⟩
  | .hbm, ⟨29, _⟩ => ⟨S_, .f32⟩
  | .hbm, ⟨30, _⟩ => ⟨S4x4096x4x4, .f32⟩
  | .hbm, ⟨31, _⟩ => ⟨S_, .f32⟩
  | .hbm, ⟨32, _⟩ => ⟨S4x4096x4x4, .f32⟩
  | .hbm, ⟨33, _⟩ => ⟨S4x4096x4x4, .f32⟩
  | .hbm, ⟨34, _⟩ => ⟨S4x4096x4x4x1, .f32⟩
  | .hbm, ⟨35, _⟩ => ⟨S4x4096x4x4x4096, .f32⟩
  | .hbm, ⟨36, _⟩ => ⟨S4x4096x4x4x4096, .f32⟩
  | .hbm, ⟨37, _⟩ => ⟨S4x4096x4x4x4096, .f32⟩
  | .hbm, ⟨38, _⟩ => ⟨S_, .f32⟩
  | .hbm, ⟨39, _⟩ => ⟨S4x4096x4x4, .f32⟩
  | .hbm, ⟨40, _⟩ => ⟨S4x4096x4x4x1, .f32⟩
  | .hbm, ⟨41, _⟩ => ⟨S4x4096x4x4x4096, .f32⟩
  | .hbm, ⟨42, _⟩ => ⟨S4x4096x4x4x4096, .f32⟩
  | .hbm, ⟨43, _⟩ => ⟨S1x4096x1x1x4096, .f32⟩
  | .hbm, ⟨44, _⟩ => ⟨S4x4096x4x4x4096, .f32⟩
  | .hbm, ⟨45, _⟩ => ⟨S4x4096x4x4x4096, .f32⟩
  | .hbm, ⟨46, _⟩ => ⟨S4x4x64x4096x4, .f32⟩
  | .hbm, ⟨47, _⟩ => ⟨S4x4096x4x4x64, .f32⟩
  | .hbm, ⟨48, _⟩ => ⟨S16384x1024, .f32⟩
  | .hbm, ⟨49, _⟩ => ⟨S16384x1024, .bf16⟩
  | _, _ => ⟨S4x4096x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel6.lean ====
abbrev S4x4096x2048 : Shape := ⟨3, ![4, 4096, 2048]⟩
abbrev S2048x7504 : Shape := ⟨2, ![2048, 7504]⟩
abbrev S2048x768 : Shape := ⟨2, ![2048, 768]⟩
abbrev S16384x2048 : Shape := ⟨2, ![16384, 2048]⟩
abbrev S16384x768 : Shape := ⟨2, ![16384, 768]⟩
abbrev S1024x2048 : Shape := ⟨2, ![1024, 2048]⟩
abbrev S1024x768 : Shape := ⟨2, ![1024, 768]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S2048x7504, .bf16⟩
  | .hbm, ⟨3, _⟩ => ⟨S2048x768, .bf16⟩
  | .hbm, ⟨4, _⟩ => ⟨S16384x2048, .f32⟩
  | .hbm, ⟨5, _⟩ => ⟨S16384x2048, .bf16⟩
  | .hbm, ⟨6, _⟩ => ⟨S16384x768, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S1024x768, .f32⟩
  | .local _ .vmem, ⟨4, _⟩ => ⟨S1024x768, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x4096x2048 : Shape := ⟨3, ![4, 4096, 2048]⟩
abbrev S2048x7504 : Shape := ⟨2, ![2048, 7504]⟩
abbrev S4x4096x7504 : Shape := ⟨3, ![4, 4096, 7504]⟩
abbrev S4x4096x768 : Shape := ⟨3, ![4, 4096, 768]⟩
abbrev S16384x768 : Shape := ⟨2, ![16384, 768]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x7504, .f32⟩
  | .hbm, ⟨3, _⟩ => ⟨S4x4096x768, .f32⟩
  | .hbm, ⟨4, _⟩ => ⟨S16384x768, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4x4096x2048 : Shape := ⟨3, ![4, 4096, 2048]⟩
abbrev S2048 : Shape := ⟨1, ![2048]⟩
abbrev S4x2048 : Shape := ⟨2, ![4, 2048]⟩
abbrev S16384x2048 : Shape := ⟨2, ![16384, 2048]⟩
abbrev S1x2048 : Shape := ⟨2, ![1, 2048]⟩
abbrev S4x1x2048 : Shape := ⟨3, ![4, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S16384x2048, .f32⟩
  | .hbm, ⟨5, _⟩ => ⟨S1x2048, .f32⟩
  | .hbm, ⟨6, _⟩ => ⟨S4x1x2048, .f32⟩
  | .hbm, ⟨7, _⟩ => ⟨S4x1x2048, .f32⟩
  | .hbm, ⟨8, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4x4096x2048 : Shape := ⟨3, ![4, 4096, 2048]⟩
abbrev S2048 : Shape := ⟨1, ![2048]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x1x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x1x2048, .f32⟩
  | .hbm, ⟨27, _⟩ => ⟨S4x4096x2048, .f32⟩
  | .hbm, ⟨28, _⟩ => ⟨S4x4096x2048, .f32⟩
  | .hbm, ⟨29, _⟩ => ⟨S16384x2048, .f32⟩
  | .hbm, ⟨30, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel8.lean ====
abbrev S4x4096x2048 : Shape := ⟨3, ![4, 4096, 2048]⟩
abbrev S2048x7504 : Shape := ⟨2, ![2048, 7504]⟩
abbrev S2048x1536 : Shape := ⟨2, ![2048, 1536]⟩
abbrev S2048x3x2x256 : Shape := ⟨4, ![2048, 3, 2, 256]⟩
abbrev S2048x1x1x256 : Shape := ⟨4, ![2048, 1, 1, 256]⟩
abbrev S2048x256 : Shape := ⟨2, ![2048, 256]⟩
abbrev S2048x4x64 : Shape := ⟨3, ![2048, 4, 64]⟩
abbrev S_ : Shape := ⟨0, ![]⟩
abbrev S2048x4x128 : Shape := ⟨3, ![2048, 4, 128]⟩
abbrev S2048x512 : Shape := ⟨2, ![2048, 512]⟩
abbrev S16384x2048 : Shape := ⟨2, ![16384, 2048]⟩
abbrev S16384x1536 : Shape := ⟨2, ![16384, 1536]⟩
abbrev S1024x2048 : Shape := ⟨2, ![1024, 2048]⟩
abbrev S1024x512 : Shape := ⟨2, ![1024, 512]⟩

abbrev nBuf : Space → Nat
  | .hbm => 27
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S2048x7504, .bf16⟩
  | .hbm, ⟨3, _⟩ => ⟨S2048x1536, .bf16⟩
  | .hbm, ⟨4, _⟩ => ⟨S2048x3x2x256, .bf16⟩
  | .hbm, ⟨5, _⟩ => ⟨S2048x1x1x256, .bf16⟩
  | .hbm, ⟨6, _⟩ => ⟨S2048x256, .bf16⟩
  | .hbm, ⟨7, _⟩ => ⟨S2048x4x64, .bf16⟩
  | .hbm, ⟨8, _⟩ => ⟨S_, .i32⟩
  | .hbm, ⟨9, _⟩ => ⟨S_, .bf16⟩
  | .hbm, ⟨10, _⟩ => ⟨S2048x4x128, .bf16⟩
  | .hbm, ⟨11, _⟩ => ⟨S2048x512, .bf16⟩
  | .hbm, ⟨12, _⟩ => ⟨S2048x1x1x256, .bf16⟩
  | .hbm, ⟨13, _⟩ => ⟨S2048x256, .bf16⟩
  | .hbm, ⟨14, _⟩ => ⟨S2048x4x64, .bf16⟩
  | .hbm, ⟨15, _⟩ => ⟨S_, .i32⟩
  | .hbm, ⟨16, _⟩ => ⟨S_, .bf16⟩
  | .hbm, ⟨17, _⟩ => ⟨S2048x4x128, .bf16⟩
  | .hbm, ⟨18, _⟩ => ⟨S2048x512, .bf16⟩
  | .hbm, ⟨19, _⟩ => ⟨S2048x1x1x256, .bf16⟩
  | .hbm, ⟨20, _⟩ => ⟨S2048x256, .bf16⟩
  | .hbm, ⟨21, _⟩ => ⟨S_, .bf16⟩
  | .hbm, ⟨22, _⟩ => ⟨S2048x256, .bf16⟩
  | .hbm, ⟨23, _⟩ => ⟨S2048x1536, .bf16⟩
  | .hbm, ⟨24, _⟩ => ⟨S16384x2048, .f32⟩
  | .hbm, ⟨25, _⟩ => ⟨S16384x2048, .bf16⟩
  | .hbm, ⟨26, _⟩ => ⟨S16384x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4x4096x2048 : Shape := ⟨3, ![4, 4096, 2048]⟩
abbrev S2048x7504 : Shape := ⟨2, ![2048, 7504]⟩
abbrev S4x4096x7504 : Shape := ⟨3, ![4, 4096, 7504]⟩
abbrev S4x4096x256 : Shape := ⟨3, ![4, 4096, 256]⟩
abbrev S16384x256 : Shape := ⟨2, ![16384, 256]⟩
abbrev S4x4096x4x64 : Shape := ⟨4, ![4, 4096, 4, 64]⟩
abbrev S_ : Shape := ⟨0, ![]⟩
abbrev S4x4096x4x128 : Shape := ⟨4, ![4, 4096, 4, 128]⟩
abbrev S16384x512 : Shape := ⟨2, ![16384, 512]⟩
abbrev S16384x1536 : Shape := ⟨2, ![16384, 1536]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x7504, .f32⟩
  | .hbm, ⟨3, _⟩ => ⟨S4x4096x256, .f32⟩
  | .hbm, ⟨4, _⟩ => ⟨S16384x256, .f32⟩
  | .hbm, ⟨5, _⟩ => ⟨S4x4096x256, .f32⟩
  | .hbm, ⟨6, _⟩ => ⟨S4x4096x4x64, .f32⟩
  | .hbm, ⟨7, _⟩ => ⟨S4x4096x256, .f32⟩
  | .hbm, ⟨8, _⟩ => ⟨S4x4096x4x64, .f32⟩
  | .hbm, ⟨9, _⟩ => ⟨S_, .f32⟩
  | .hbm, ⟨10, _⟩ => ⟨S4x4096x4x64, .f32⟩
  | .hbm, ⟨11, _⟩ => ⟨S4x4096x4x128, .f32⟩
  | .hbm, ⟨12, _⟩ => ⟨S16384x512, .f32⟩
  | .hbm, ⟨13, _⟩ => ⟨S_, .f32⟩
  | .hbm, ⟨14, _⟩ => ⟨S4x4096x4x64, .f32⟩
  | .hbm, ⟨15, _⟩ => ⟨S4x4096x4x128, .f32⟩
  | .hbm, ⟨16, _⟩ => ⟨S16384x512, .f32⟩
  | .hbm, ⟨17, _⟩ => ⟨S_, .f32⟩
  | .hbm, ⟨18, _⟩ => ⟨S16384x256, .f32⟩
  | .hbm, ⟨19, _⟩ => ⟨S16384x1536, .f32⟩
  | .hbm, ⟨20, _⟩ => ⟨S16384x1536, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel9.lean ====
abbrev S4x4096x2048 : Shape := ⟨3, ![4, 4096, 2048]⟩
abbrev S2048x7504 : Shape := ⟨2, ![2048, 7504]⟩
abbrev S4x4096x8 : Shape := ⟨3, ![4, 4096, 8]⟩
abbrev S16384x8 : Shape := ⟨2, ![16384, 8]⟩
abbrev S_ : Shape := ⟨0, ![]⟩
abbrev S16384x112 : Shape := ⟨2, ![16384, 112]⟩
abbrev S16384x128 : Shape := ⟨2, ![16384, 128]⟩
abbrev S16384x256 : Shape := ⟨2, ![16384, 256]⟩
abbrev S16384x512 : Shape := ⟨2, ![16384, 512]⟩
abbrev S2048x1536 : Shape := ⟨2, ![2048, 1536]⟩
abbrev S2048x3x2x256 : Shape := ⟨4, ![2048, 3, 2, 256]⟩
abbrev S2048x1x1x256 : Shape := ⟨4, ![2048, 1, 1, 256]⟩
abbrev S2048x256 : Shape := ⟨2, ![2048, 256]⟩
abbrev S2048x4x64 : Shape := ⟨3, ![2048, 4, 64]⟩
abbrev S2048x4x128 : Shape := ⟨3, ![2048, 4, 128]⟩
abbrev S2048x512 : Shape := ⟨2, ![2048, 512]⟩
abbrev S2048x1024 : Shape := ⟨2, ![2048, 1024]⟩
abbrev S16384x2048 : Shape := ⟨2, ![16384, 2048]⟩
abbrev S16384x1024 : Shape := ⟨2, ![16384, 1024]⟩
abbrev S1024x2048 : Shape := ⟨2, ![1024, 2048]⟩
abbrev S1024x512 : Shape := ⟨2, ![1024, 512]⟩
abbrev S1024x128 : Shape := ⟨2, ![1024, 128]⟩
abbrev S1x128 : Shape := ⟨2, ![1, 128]⟩

abbrev nBuf : Space → Nat
  | .hbm => 37
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x8, .f32⟩
  | .hbm, ⟨3, _⟩ => ⟨S4x4096x8, .f32⟩
  | .hbm, ⟨4, _⟩ => ⟨S16384x8, .f32⟩
  | .hbm, ⟨5, _⟩ => ⟨S16384x8, .f32⟩
  | .hbm, ⟨6, _⟩ => ⟨S_, .f32⟩
  | .hbm, ⟨7, _⟩ => ⟨S16384x112, .f32⟩
  | .hbm, ⟨8, _⟩ => ⟨S16384x128, .f32⟩
  | .hbm, ⟨9, _⟩ => ⟨S16384x8, .f32⟩
  | .hbm, ⟨10, _⟩ => ⟨S_, .f32⟩
  | .hbm, ⟨11, _⟩ => ⟨S16384x112, .f32⟩
  | .hbm, ⟨12, _⟩ => ⟨S16384x128, .f32⟩
  | .hbm, ⟨13, _⟩ => ⟨S_, .f32⟩
  | .hbm, ⟨14, _⟩ => ⟨S16384x256, .f32⟩
  | .hbm, ⟨15, _⟩ => ⟨S16384x512, .f32⟩
  | .hbm, ⟨16, _⟩ => ⟨S2048x7504, .bf16⟩
  | .hbm, ⟨17, _⟩ => ⟨S2048x1536, .bf16⟩
  | .hbm, ⟨18, _⟩ => ⟨S2048x3x2x256, .bf16⟩
  | .hbm, ⟨19, _⟩ => ⟨S2048x1x1x256, .bf16⟩
  | .hbm, ⟨20, _⟩ => ⟨S2048x256, .bf16⟩
  | .hbm, ⟨21, _⟩ => ⟨S2048x4x64, .bf16⟩
  | .hbm, ⟨22, _⟩ => ⟨S_, .i32⟩
  | .hbm, ⟨23, _⟩ => ⟨S_, .bf16⟩
  | .hbm, ⟨24, _⟩ => ⟨S2048x4x128, .bf16⟩
  | .hbm, ⟨25, _⟩ => ⟨S2048x512, .bf16⟩
  | .hbm, ⟨26, _⟩ => ⟨S2048x1x1x256, .bf16⟩
  | .hbm, ⟨27, _⟩ => ⟨S2048x256, .bf16⟩
  | .hbm, ⟨28, _⟩ => ⟨S2048x4x64, .bf16⟩
  | .hbm, ⟨29, _⟩ => ⟨S_, .i32⟩
  | .hbm, ⟨30, _⟩ => ⟨S_, .bf16⟩
  | .hbm, ⟨31, _⟩ => ⟨S2048x4x128, .bf16⟩
  | .hbm, ⟨32, _⟩ => ⟨S2048x512, .bf16⟩
  | .hbm, ⟨33, _⟩ => ⟨S2048x1024, .bf16⟩
  | .hbm, ⟨34, _⟩ => ⟨S16384x2048, .f32⟩
  | .hbm, ⟨35, _⟩ => ⟨S16384x2048, .bf16⟩
  | .hbm, ⟨36, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_call1_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x4096x2048 : Shape := ⟨3, ![4, 4096, 2048]⟩
abbrev S2048x7504 : Shape := ⟨2, ![2048, 7504]⟩
abbrev S4x4096x8 : Shape := ⟨3, ![4, 4096, 8]⟩
abbrev S4x4096x7504 : Shape := ⟨3, ![4, 4096, 7504]⟩
abbrev S4x4096x256 : Shape := ⟨3, ![4, 4096, 256]⟩
abbrev S4x4096x4x64 : Shape := ⟨4, ![4, 4096, 4, 64]⟩
abbrev S4x4096x1x8 : Shape := ⟨4, ![4, 4096, 1, 8]⟩
abbrev S4x4096x4x8 : Shape := ⟨4, ![4, 4096, 4, 8]⟩
abbrev S4x4096x4x48 : Shape := ⟨4, ![4, 4096, 4, 48]⟩
abbrev S_ : Shape := ⟨0, ![]⟩
abbrev S4x4096x4x128 : Shape := ⟨4, ![4, 4096, 4, 128]⟩
abbrev S16384x512 : Shape := ⟨2, ![16384, 512]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x8, .f32⟩
  | .hbm, ⟨3, _⟩ => ⟨S4x4096x8, .f32⟩
  | .hbm, ⟨4, _⟩ => ⟨S4x4096x7504, .f32⟩
  | .hbm, ⟨5, _⟩ => ⟨S4x4096x256, .f32⟩
  | .hbm, ⟨6, _⟩ => ⟨S4x4096x4x64, .f32⟩
  | .hbm, ⟨7, _⟩ => ⟨S4x4096x1x8, .f32⟩
  | .hbm, ⟨8, _⟩ => ⟨S4x4096x1x8, .f32⟩
  | .hbm, ⟨9, _⟩ => ⟨S4x4096x4x8, .f32⟩
  | .hbm, ⟨10, _⟩ => ⟨S4x4096x4x8, .f32⟩
  | .hbm, ⟨11, _⟩ => ⟨S4x4096x4x8, .f32⟩
  | .hbm, ⟨12, _⟩ => ⟨S4x4096x4x8, .f32⟩
  | .hbm, ⟨13, _⟩ => ⟨S4x4096x4x8, .f32⟩
  | .hbm, ⟨14, _⟩ => ⟨S4x4096x4x8, .f32⟩
  | .hbm, ⟨15, _⟩ => ⟨S4x4096x4x8, .f32⟩
  | .hbm, ⟨16, _⟩ => ⟨S4x4096x4x8, .f32⟩
  | .hbm, ⟨17, _⟩ => ⟨S4x4096x4x8, .f32⟩
  | .hbm, ⟨18, _⟩ => ⟨S4x4096x4x8, .f32⟩
  | .hbm, ⟨19, _⟩ => ⟨S4x4096x4x8, .f32⟩
  | .hbm, ⟨20, _⟩ => ⟨S4x4096x4x8, .f32⟩
  | .hbm, ⟨21, _⟩ => ⟨S4x4096x4x48, .f32⟩
  | .hbm, ⟨22, _⟩ => ⟨S4x4096x4x64, .f32⟩
  | .hbm, ⟨23, _⟩ => ⟨S4x4096x256, .f32⟩
  | .hbm, ⟨24, _⟩ => ⟨S4x4096x4x64, .f32⟩
  | .hbm, ⟨25, _⟩ => ⟨S4x4096x1x8, .f32⟩
  | .hbm, ⟨26, _⟩ => ⟨S4x4096x1x8, .f32⟩
  | .hbm, ⟨27, _⟩ => ⟨S4x4096x4x8, .f32⟩
  | .hbm, ⟨28, _⟩ => ⟨S4x4096x4x8, .f32⟩
  | .hbm, ⟨29, _⟩ => ⟨S4x4096x4x8, .f32⟩
  | .hbm, ⟨30, _⟩ => ⟨S4x4096x4x8, .f32⟩
  | .hbm, ⟨31, _⟩ => ⟨S4x4096x4x8, .f32⟩
  | .hbm, ⟨32, _⟩ => ⟨S4x4096x4x8, .f32⟩
  | .hbm, ⟨33, _⟩ => ⟨S4x4096x4x8, .f32⟩
  | .hbm, ⟨34, _⟩ => ⟨S4x4096x4x8, .f32⟩
  | .hbm, ⟨35, _⟩ => ⟨S4x4096x4x8, .f32⟩
  | .hbm, ⟨36, _⟩ => ⟨S4x4096x4x8, .f32⟩
  | .hbm, ⟨37, _⟩ => ⟨S4x4096x4x8, .f32⟩
  | .hbm, ⟨38, _⟩ => ⟨S4x4096x4x8, .f32⟩
  | .hbm, ⟨39, _⟩ => ⟨S4x4096x4x48, .f32⟩
  | .hbm, ⟨40, _⟩ => ⟨S4x4096x4x64, .f32⟩
  | .hbm, ⟨41, _⟩ => ⟨S_, .f32⟩
  | .hbm, ⟨42, _⟩ => ⟨S4x4096x4x64, .f32⟩
  | .hbm, ⟨43, _⟩ => ⟨S4x4096x4x128, .f32⟩
  | .hbm, ⟨44, _⟩ => ⟨S16384x512, .f32⟩
  | .hbm, ⟨45, _⟩ => ⟨S_, .f32⟩
  | .hbm, ⟨46, _⟩ => ⟨S4x4096x4x64, .f32⟩
  | .hbm, ⟨47, _⟩ => ⟨S4x4096x4x128, .f32⟩
  | .hbm, ⟨48, _⟩ => ⟨S16384x512, .f32⟩
  | .hbm, ⟨49, _⟩ => ⟨S16384x1024, .f32⟩
  | .hbm, ⟨50, _⟩ => ⟨S16384x1024, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_0 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== Kernel10.lean ====
abbrev S4x4096x2048 : Shape := ⟨3, ![4, 4096, 2048]⟩
abbrev S2048x7504 : Shape := ⟨2, ![2048, 7504]⟩
abbrev S4x4096x8 : Shape := ⟨3, ![4, 4096, 8]⟩
abbrev S16384x8 : Shape := ⟨2, ![16384, 8]⟩
abbrev S_ : Shape := ⟨0, ![]⟩
abbrev S16384x112 : Shape := ⟨2, ![16384, 112]⟩
abbrev S16384x128 : Shape := ⟨2, ![16384, 128]⟩
abbrev S16384x256 : Shape := ⟨2, ![16384, 256]⟩
abbrev S16384x512 : Shape := ⟨2, ![16384, 512]⟩
abbrev S2048x1024 : Shape := ⟨2, ![2048, 1024]⟩
abbrev S2048x16x64 : Shape := ⟨3, ![2048, 16, 64]⟩
abbrev S2048x16x128 : Shape := ⟨3, ![2048, 16, 128]⟩
abbrev S2048x2048 : Shape := ⟨2, ![2048, 2048]⟩
abbrev S16384x2048 : Shape := ⟨2, ![16384, 2048]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1x128 : Shape := ⟨2, ![1, 128]⟩

abbrev nBuf : Space → Nat
  | .hbm => 26
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x8, .f32⟩
  | .hbm, ⟨3, _⟩ => ⟨S4x4096x8, .f32⟩
  | .hbm, ⟨4, _⟩ => ⟨S16384x8, .f32⟩
  | .hbm, ⟨5, _⟩ => ⟨S16384x8, .f32⟩
  | .hbm, ⟨6, _⟩ => ⟨S_, .f32⟩
  | .hbm, ⟨7, _⟩ => ⟨S16384x112, .f32⟩
  | .hbm, ⟨8, _⟩ => ⟨S16384x128, .f32⟩
  | .hbm, ⟨9, _⟩ => ⟨S16384x8, .f32⟩
  | .hbm, ⟨10, _⟩ => ⟨S_, .f32⟩
  | .hbm, ⟨11, _⟩ => ⟨S16384x112, .f32⟩
  | .hbm, ⟨12, _⟩ => ⟨S16384x128, .f32⟩
  | .hbm, ⟨13, _⟩ => ⟨S_, .f32⟩
  | .hbm, ⟨14, _⟩ => ⟨S16384x256, .f32⟩
  | .hbm, ⟨15, _⟩ => ⟨S16384x512, .f32⟩
  | .hbm, ⟨16, _⟩ => ⟨S2048x7504, .bf16⟩
  | .hbm, ⟨17, _⟩ => ⟨S2048x1024, .bf16⟩
  | .hbm, ⟨18, _⟩ => ⟨S2048x16x64, .bf16⟩
  | .hbm, ⟨19, _⟩ => ⟨S_, .i32⟩
  | .hbm, ⟨20, _⟩ => ⟨S_, .bf16⟩
  | .hbm, ⟨21, _⟩ => ⟨S2048x16x128, .bf16⟩
  | .hbm, ⟨22, _⟩ => ⟨S2048x2048, .bf16⟩
  | .hbm, ⟨23, _⟩ => ⟨S16384x2048, .f32⟩
  | .hbm, ⟨24, _⟩ => ⟨S16384x2048, .bf16⟩
  | .hbm, ⟨25, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel10Ideal.lean ====
variable {F : FTy → Type} [FloatOps F] [Named F]
def κ : String → Option EReal := fun
  | "scale" => some (((1 / 8) * (Real.log 2)⁻¹ : ℝ) : EReal)
  | _ => none
-- ==== Reference10Ideal.lean ====
abbrev S4x4096x2048 : Shape := ⟨3, ![4, 4096, 2048]⟩
abbrev S2048x7504 : Shape := ⟨2, ![2048, 7504]⟩
abbrev S4x4096x8 : Shape := ⟨3, ![4, 4096, 8]⟩
abbrev S4x4096x7504 : Shape := ⟨3, ![4, 4096, 7504]⟩
abbrev S4x4096x1024 : Shape := ⟨3, ![4, 4096, 1024]⟩
abbrev S4x4096x16x64 : Shape := ⟨4, ![4, 4096, 16, 64]⟩
abbrev S4x4096x1x8 : Shape := ⟨4, ![4, 4096, 1, 8]⟩
abbrev S4x4096x16x8 : Shape := ⟨4, ![4, 4096, 16, 8]⟩
abbrev S4x4096x16x48 : Shape := ⟨4, ![4, 4096, 16, 48]⟩
abbrev S_ : Shape := ⟨0, ![]⟩
abbrev S4x4096x16x128 : Shape := ⟨4, ![4, 4096, 16, 128]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x8, .f32⟩
  | .hbm, ⟨3, _⟩ => ⟨S4x4096x8, .f32⟩
  | .hbm, ⟨4, _⟩ => ⟨S4x4096x7504, .f32⟩
  | .hbm, ⟨5, _⟩ => ⟨S4x4096x1024, .f32⟩
  | .hbm, ⟨6, _⟩ => ⟨S4x4096x16x64, .f32⟩
  | .hbm, ⟨7, _⟩ => ⟨S4x4096x1x8, .f32⟩
  | .hbm, ⟨8, _⟩ => ⟨S4x4096x1x8, .f32⟩
  | .hbm, ⟨9, _⟩ => ⟨S4x4096x16x8, .f32⟩
  | .hbm, ⟨10, _⟩ => ⟨S4x4096x16x8, .f32⟩
  | .hbm, ⟨11, _⟩ => ⟨S4x4096x16x8, .f32⟩
  | .hbm, ⟨12, _⟩ => ⟨S4x4096x16x8, .f32⟩
  | .hbm, ⟨13, _⟩ => ⟨S4x4096x16x8, .f32⟩
  | .hbm, ⟨14, _⟩ => ⟨S4x4096x16x8, .f32⟩
  | .hbm, ⟨15, _⟩ => ⟨S4x4096x16x8, .f32⟩
  | .hbm, ⟨16, _⟩ => ⟨S4x4096x16x8, .f32⟩
  | .hbm, ⟨17, _⟩ => ⟨S4x4096x16x8, .f32⟩
  | .hbm, ⟨18, _⟩ => ⟨S4x4096x16x8, .f32⟩
  | .hbm, ⟨19, _⟩ => ⟨S4x4096x16x8, .f32⟩
  | .hbm, ⟨20, _⟩ => ⟨S4x4096x16x8, .f32⟩
  | .hbm, ⟨21, _⟩ => ⟨S4x4096x16x48, .f32⟩
  | .hbm, ⟨22, _⟩ => ⟨S4x4096x16x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x4096x16x64, .f32⟩
  | .hbm, ⟨28, _⟩ => ⟨S4x4096x16x64, .f32⟩
  | .hbm, ⟨29, _⟩ => ⟨S_, .f32⟩
  | .hbm, ⟨30, _⟩ => ⟨S4x4096x16x64, .f32⟩
  | .hbm, ⟨31, _⟩ => ⟨S4x4096x16x128, .f32⟩
  | .hbm, ⟨32, _⟩ => ⟨S16384x2048, .f32⟩
  | .hbm, ⟨33, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel11.lean ====
abbrev S4x4096x2048 : Shape := ⟨3, ![4, 4096, 2048]⟩
abbrev S2048x7504 : Shape := ⟨2, ![2048, 7504]⟩
abbrev S4x4096x8 : Shape := ⟨3, ![4, 4096, 8]⟩
abbrev S16384x8 : Shape := ⟨2, ![16384, 8]⟩
abbrev S_ : Shape := ⟨0, ![]⟩
abbrev S16384x112 : Shape := ⟨2, ![16384, 112]⟩
abbrev S16384x128 : Shape := ⟨2, ![16384, 128]⟩
abbrev S16384x256 : Shape := ⟨2, ![16384, 256]⟩
abbrev S16384x512 : Shape := ⟨2, ![16384, 512]⟩
abbrev S2048x1536 : Shape := ⟨2, ![2048, 1536]⟩
abbrev S2048x3x2x256 : Shape := ⟨4, ![2048, 3, 2, 256]⟩
abbrev S2048x1x1x256 : Shape := ⟨4, ![2048, 1, 1, 256]⟩
abbrev S2048x256 : Shape := ⟨2, ![2048, 256]⟩
abbrev S2048x4x64 : Shape := ⟨3, ![2048, 4, 64]⟩
abbrev S2048x4x128 : Shape := ⟨3, ![2048, 4, 128]⟩
abbrev S2048x512 : Shape := ⟨2, ![2048, 512]⟩
abbrev S16384x2048 : Shape := ⟨2, ![16384, 2048]⟩
abbrev S1024x2048 : Shape := ⟨2, ![1024, 2048]⟩
abbrev S1024x512 : Shape := ⟨2, ![1024, 512]⟩
abbrev S1024x128 : Shape := ⟨2, ![1024, 128]⟩
abbrev S1x128 : Shape := ⟨2, ![1, 128]⟩

abbrev nBuf : Space → Nat
  | .hbm => 29
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x8, .f32⟩
  | .hbm, ⟨3, _⟩ => ⟨S4x4096x8, .f32⟩
  | .hbm, ⟨4, _⟩ => ⟨S16384x8, .f32⟩
  | .hbm, ⟨5, _⟩ => ⟨S16384x8, .f32⟩
  | .hbm, ⟨6, _⟩ => ⟨S_, .f32⟩
  | .hbm, ⟨7, _⟩ => ⟨S16384x112, .f32⟩
  | .hbm, ⟨8, _⟩ => ⟨S16384x128, .f32⟩
  | .hbm, ⟨9, _⟩ => ⟨S16384x8, .f32⟩
  | .hbm, ⟨10, _⟩ => ⟨S_, .f32⟩
  | .hbm, ⟨11, _⟩ => ⟨S16384x112, .f32⟩
  | .hbm, ⟨12, _⟩ => ⟨S16384x128, .f32⟩
  | .hbm, ⟨13, _⟩ => ⟨S_, .f32⟩
  | .hbm, ⟨14, _⟩ => ⟨S16384x256, .f32⟩
  | .hbm, ⟨15, _⟩ => ⟨S16384x512, .f32⟩
  | .hbm, ⟨16, _⟩ => ⟨S2048x7504, .bf16⟩
  | .hbm, ⟨17, _⟩ => ⟨S2048x1536, .bf16⟩
  | .hbm, ⟨18, _⟩ => ⟨S2048x3x2x256, .bf16⟩
  | .hbm, ⟨19, _⟩ => ⟨S2048x1x1x256, .bf16⟩
  | .hbm, ⟨20, _⟩ => ⟨S2048x256, .bf16⟩
  | .hbm, ⟨21, _⟩ => ⟨S2048x4x64, .bf16⟩
  | .hbm, ⟨22, _⟩ => ⟨S_, .i32⟩
  | .hbm, ⟨23, _⟩ => ⟨S_, .bf16⟩
  | .hbm, ⟨24, _⟩ => ⟨S2048x4x128, .bf16⟩
  | .hbm, ⟨25, _⟩ => ⟨S2048x512, .bf16⟩
  | .hbm, ⟨26, _⟩ => ⟨S16384x2048, .f32⟩
  | .hbm, ⟨27, _⟩ => ⟨S16384x2048, .bf16⟩
  | .hbm, ⟨28, _⟩ => ⟨S16384x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4x4096x2048 : Shape := ⟨3, ![4, 4096, 2048]⟩
abbrev S2048x7504 : Shape := ⟨2, ![2048, 7504]⟩
abbrev S4x4096x8 : Shape := ⟨3, ![4, 4096, 8]⟩
abbrev S4x4096x7504 : Shape := ⟨3, ![4, 4096, 7504]⟩
abbrev S4x4096x256 : Shape := ⟨3, ![4, 4096, 256]⟩
abbrev S4x4096x4x64 : Shape := ⟨4, ![4, 4096, 4, 64]⟩
abbrev S4x4096x1x8 : Shape := ⟨4, ![4, 4096, 1, 8]⟩
abbrev S4x4096x4x8 : Shape := ⟨4, ![4, 4096, 4, 8]⟩
abbrev S4x4096x4x48 : Shape := ⟨4, ![4, 4096, 4, 48]⟩
abbrev S64x64 : Shape := ⟨2, ![64, 64]⟩
abbrev S_ : Shape := ⟨0, ![]⟩
abbrev S1x64x1x1x64 : Shape := ⟨5, ![1, 64, 1, 1, 64]⟩
abbrev S4x64x64x4x64 : Shape := ⟨5, ![4, 64, 64, 4, 64]⟩
abbrev S4x4096x4x128 : Shape := ⟨4, ![4, 4096, 4, 128]⟩
abbrev S16384x512 : Shape := ⟨2, ![16384, 512]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x8, .f32⟩
  | .hbm, ⟨3, _⟩ => ⟨S4x4096x8, .f32⟩
  | .hbm, ⟨4, _⟩ => ⟨S4x4096x7504, .f32⟩
  | .hbm, ⟨5, _⟩ => ⟨S4x4096x256, .f32⟩
  | .hbm, ⟨6, _⟩ => ⟨S4x4096x4x64, .f32⟩
  | .hbm, ⟨7, _⟩ => ⟨S4x4096x1x8, .f32⟩
  | .hbm, ⟨8, _⟩ => ⟨S4x4096x1x8, .f32⟩
  | .hbm, ⟨9, _⟩ => ⟨S4x4096x4x8, .f32⟩
  | .hbm, ⟨10, _⟩ => ⟨S4x4096x4x8, .f32⟩
  | .hbm, ⟨11, _⟩ => ⟨S4x4096x4x8, .f32⟩
  | .hbm, ⟨12, _⟩ => ⟨S4x4096x4x8, .f32⟩
  | .hbm, ⟨13, _⟩ => ⟨S4x4096x4x8, .f32⟩
  | .hbm, ⟨14, _⟩ => ⟨S4x4096x4x8, .f32⟩
  | .hbm, ⟨15, _⟩ => ⟨S4x4096x4x8, .f32⟩
  | .hbm, ⟨16, _⟩ => ⟨S4x4096x4x8, .f32⟩
  | .hbm, ⟨17, _⟩ => ⟨S4x4096x4x8, .f32⟩
  | .hbm, ⟨18, _⟩ => ⟨S4x4096x4x8, .f32⟩
  | .hbm, ⟨19, _⟩ => ⟨S4x4096x4x8, .f32⟩
  | .hbm, ⟨20, _⟩ => ⟨S4x4096x4x8, .f32⟩
  | .hbm, ⟨21, _⟩ => ⟨S4x4096x4x48, .f32⟩
  | .hbm, ⟨22, _⟩ => ⟨S4x4096x4x64, .f32⟩
  | .hbm, ⟨23, _⟩ => ⟨S64x64, .i32⟩
  | .hbm, ⟨24, _⟩ => ⟨S64x64, .i32⟩
  | .hbm, ⟨25, _⟩ => ⟨S_, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S64x64, .f32⟩
  | .hbm, ⟨30, _⟩ => ⟨S1x64x1x1x64, .f32⟩
  | .hbm, ⟨31, _⟩ => ⟨S4x64x64x4x64, .f32⟩
  | .hbm, ⟨32, _⟩ => ⟨S4x4096x4x64, .f32⟩
  | .hbm, ⟨33, _⟩ => ⟨S4x4096x4x128, .f32⟩
  | .hbm, ⟨34, _⟩ => ⟨S16384x512, .f32⟩
  | .hbm, ⟨35, _⟩ => ⟨S16384x512, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Kernel12.lean ====
abbrev S4x4096x768 : Shape := ⟨3, ![4, 4096, 768]⟩
abbrev S256 : Shape := ⟨1, ![256]⟩
abbrev S256x2048 : Shape := ⟨2, ![256, 2048]⟩
abbrev S256x16x128 : Shape := ⟨3, ![256, 16, 128]⟩
abbrev S256x16x64 : Shape := ⟨3, ![256, 16, 64]⟩
abbrev S256x1024 : Shape := ⟨2, ![256, 1024]⟩
abbrev S_ : Shape := ⟨0, ![]⟩
abbrev S16384x768 : Shape := ⟨2, ![16384, 768]⟩
abbrev S1x256 : Shape := ⟨2, ![1, 256]⟩
abbrev S16384x2048 : Shape := ⟨2, ![16384, 2048]⟩
abbrev S1024x256 : Shape := ⟨2, ![1024, 256]⟩
abbrev S256x512 : Shape := ⟨2, ![256, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 15
  | .vmem => 7
  | .smem => 0
  | _ => 0

abbrev bufTy : (tb : Table) → Fin (tcTables nBuf tb) → BufTy
  | .hbm, ⟨0, _⟩ => ⟨S4x4096x768, .f32⟩
  | .hbm, ⟨1, _⟩ => ⟨S256, .f32⟩
  | .hbm, ⟨2, _⟩ => ⟨S256x2048, .f32⟩
  | .hbm, ⟨3, _⟩ => ⟨S256x2048, .bf16⟩
  | .hbm, ⟨4, _⟩ => ⟨S256x16x128, .bf16⟩
  | .hbm, ⟨5, _⟩ => ⟨S256x16x64, .bf16⟩
  | .hbm, ⟨6, _⟩ => ⟨S256x1024, .bf16⟩
  | .hbm, ⟨7, _⟩ => ⟨S256x16x64, .bf16⟩
  | .hbm, ⟨8, _⟩ => ⟨S_, .i32⟩
  | .hbm, ⟨9, _⟩ => ⟨S_, .bf16⟩
  | .hbm, ⟨10, _⟩ => ⟨S256x16x128, .bf16⟩
  | .hbm, ⟨11, _⟩ => ⟨S256x2048, .bf16⟩
  | .hbm, ⟨12, _⟩ => ⟨S16384x768, .f32⟩
  | .hbm, ⟨13, _⟩ => ⟨S1x256, .f32⟩
  | .hbm, ⟨14, _⟩ => ⟨S16384x2048, .bf16⟩
  | .local _ .vmem, ⟨0, _⟩ => ⟨S1024x256, .f32⟩
  | .local _ .vmem, ⟨1, _⟩ => ⟨S1024x256, .f32⟩
  | .local _ .vmem, ⟨2, _⟩ => ⟨S256x512, .bf16⟩
  | .local _ .vmem, ⟨3, _⟩ => ⟨S256x512, .bf16⟩
  | .local _ .vmem, ⟨4, _⟩ => ⟨S1x256, .f32⟩
  | .local _ .vmem, ⟨5, _⟩ => ⟨S1024x512, .bf16⟩
  | .local _ .vmem, ⟨6, _⟩ => ⟨S1024x512, .bf16⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4x4096x768 : Shape := ⟨3, ![4, 4096, 768]⟩
abbrev S256 : Shape := ⟨1, ![256]⟩
abbrev S256x2048 : Shape := ⟨2, ![256, 2048]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S1x1x256 : Shape := ⟨3, ![1, 1, 256]⟩
abbrev S4x4096x2048 : Shape := ⟨3, ![4, 4096, 2048]⟩
abbrev S4x4096x16x128 : Shape := ⟨4, ![4, 4096, 16, 128]⟩
abbrev S4x4096x16x64 : Shape := ⟨4, ![4, 4096, 16, 64]⟩
abbrev S16384x2048 : Shape := ⟨2, ![16384, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S256, .f32⟩
  | .hbm, ⟨2, _⟩ => ⟨S256x2048, .f32⟩
  | .hbm, ⟨3, _⟩ => ⟨S4x4096x256, .f32⟩
  | .hbm, ⟨4, _⟩ => ⟨S4x4096x256, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x256, .f32⟩
  | .hbm, ⟨16, _⟩ => ⟨S4x4096x256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S4x4096x2048, .f32⟩
  | .hbm, ⟨21, _⟩ => ⟨S4x4096x16x128, .f32⟩
  | .hbm, ⟨22, _⟩ => ⟨S4x4096x16x64, .f32⟩
  | .hbm, ⟨23, _⟩ => ⟨S_, .f32⟩
  | .hbm, ⟨24, _⟩ => ⟨S4x4096x16x64, .f32⟩
  | .hbm, ⟨25, _⟩ => ⟨S4x4096x16x128, .f32⟩
  | .hbm, ⟨26, _⟩ => ⟨S16384x2048, .f32⟩
  | .hbm, ⟨27, _⟩ => ⟨S16384x2048, .bf16⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel13.lean ====
abbrev S4x4096x768 : Shape := ⟨3, ![4, 4096, 768]⟩
abbrev S4x4096x32 : Shape := ⟨3, ![4, 4096, 32]⟩
abbrev S256 : Shape := ⟨1, ![256]⟩
abbrev S256x2048 : Shape := ⟨2, ![256, 2048]⟩
abbrev S256x16x128 : Shape := ⟨3, ![256, 16, 128]⟩
abbrev S256x16x64 : Shape := ⟨3, ![256, 16, 64]⟩
abbrev S256x1024 : Shape := ⟨2, ![256, 1024]⟩
abbrev S_ : Shape := ⟨0, ![]⟩
abbrev S16384x192 : Shape := ⟨2, ![16384, 192]⟩
abbrev S16384x32 : Shape := ⟨2, ![16384, 32]⟩
abbrev S16384x256 : Shape := ⟨2, ![16384, 256]⟩
abbrev S16384x768 : Shape := ⟨2, ![16384, 768]⟩
abbrev S1x256 : Shape := ⟨2, ![1, 256]⟩
abbrev S16384x2048 : Shape := ⟨2, ![16384, 2048]⟩
abbrev S1024x256 : Shape := ⟨2, ![1024, 256]⟩
abbrev S256x512 : Shape := ⟨2, ![256, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 23
  | .vmem => 9
  | .smem => 0
  | _ => 0

abbrev bufTy : (tb : Table) → Fin (tcTables nBuf tb) → BufTy
  | .hbm, ⟨0, _⟩ => ⟨S4x4096x768, .f32⟩
  | .hbm, ⟨1, _⟩ => ⟨S4x4096x32, .f32⟩
  | .hbm, ⟨2, _⟩ => ⟨S256, .f32⟩
  | .hbm, ⟨3, _⟩ => ⟨S256x2048, .f32⟩
  | .hbm, ⟨4, _⟩ => ⟨S256x2048, .bf16⟩
  | .hbm, ⟨5, _⟩ => ⟨S256x16x128, .bf16⟩
  | .hbm, ⟨6, _⟩ => ⟨S256x16x64, .bf16⟩
  | .hbm, ⟨7, _⟩ => ⟨S256x1024, .bf16⟩
  | .hbm, ⟨8, _⟩ => ⟨S256x16x64, .bf16⟩
  | .hbm, ⟨9, _⟩ => ⟨S_, .i32⟩
  | .hbm, ⟨10, _⟩ => ⟨S_, .bf16⟩
  | .hbm, ⟨11, _⟩ => ⟨S256x16x128, .bf16⟩
  | .hbm, ⟨12, _⟩ => ⟨S256x2048, .bf16⟩
  | .hbm, ⟨13, _⟩ => ⟨S_, .f32⟩
  | .hbm, ⟨14, _⟩ => ⟨S16384x192, .f32⟩
  | .hbm, ⟨15, _⟩ => ⟨S16384x32, .f32⟩
  | .hbm, ⟨16, _⟩ => ⟨S_, .f32⟩
  | .hbm, ⟨17, _⟩ => ⟨S16384x32, .f32⟩
  | .hbm, ⟨18, _⟩ => ⟨S16384x256, .f32⟩
  | .hbm, ⟨19, _⟩ => ⟨S16384x256, .bf16⟩
  | .hbm, ⟨20, _⟩ => ⟨S16384x768, .f32⟩
  | .hbm, ⟨21, _⟩ => ⟨S1x256, .f32⟩
  | .hbm, ⟨22, _⟩ => ⟨S16384x2048, .bf16⟩
  | .local _ .vmem, ⟨0, _⟩ => ⟨S1024x256, .f32⟩
  | .local _ .vmem, ⟨1, _⟩ => ⟨S1024x256, .f32⟩
  | .local _ .vmem, ⟨2, _⟩ => ⟨S256x512, .bf16⟩
  | .local _ .vmem, ⟨3, _⟩ => ⟨S256x512, .bf16⟩
  | .local _ .vmem, ⟨4, _⟩ => ⟨S1x256, .f32⟩
  | .local _ .vmem, ⟨5, _⟩ => ⟨S1024x128, .bf16⟩
  | .local _ .vmem, ⟨6, _⟩ => ⟨S1024x128, .bf16⟩
  | .local _ .vmem, ⟨7, _⟩ => ⟨S1024x512, .bf16⟩
  | .local _ .vmem, ⟨8, _⟩ => ⟨S1024x512, .bf16⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S4x4096x768 : Shape := ⟨3, ![4, 4096, 768]⟩
abbrev S4x4096x32 : Shape := ⟨3, ![4, 4096, 32]⟩
abbrev S256 : Shape := ⟨1, ![256]⟩
abbrev S256x2048 : Shape := ⟨2, ![256, 2048]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S1x1x256 : Shape := ⟨3, ![1, 1, 256]⟩
abbrev S4x4096x2048 : Shape := ⟨3, ![4, 4096, 2048]⟩
abbrev S4x4096x16x128 : Shape := ⟨4, ![4, 4096, 16, 128]⟩
abbrev S4x4096x64 : Shape := ⟨3, ![4, 4096, 64]⟩
abbrev S4x4096x16x64 : Shape := ⟨4, ![4, 4096, 16, 64]⟩
abbrev S4x4096x1x64 : Shape := ⟨4, ![4, 4096, 1, 64]⟩
abbrev S16384x2048 : Shape := ⟨2, ![16384, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S4x4096x32, .f32⟩
  | .hbm, ⟨2, _⟩ => ⟨S256, .f32⟩
  | .hbm, ⟨3, _⟩ => ⟨S256x2048, .f32⟩
  | .hbm, ⟨4, _⟩ => ⟨S4x4096x256, .f32⟩
  | .hbm, ⟨5, _⟩ => ⟨S4x4096x256, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x256, .f32⟩
  | .hbm, ⟨17, _⟩ => ⟨S4x4096x256, .f32⟩
  | .hbm, ⟨18, _⟩ => ⟨S1x1x256, .f32⟩
  | .hbm, ⟨19, _⟩ => ⟨S4x4096x256, .f32⟩
  | .hbm, ⟨20, _⟩ => ⟨S4x4096x256, .f32⟩
  | .hbm, ⟨21, _⟩ => ⟨S4x4096x2048, .f32⟩
  | .hbm, ⟨22, _⟩ => ⟨S4x4096x16x128, .f32⟩
  | .hbm, ⟨23, _⟩ => ⟨S_, .f32⟩
  | .hbm, ⟨24, _⟩ => ⟨S4x4096x32, .f32⟩
  | .hbm, ⟨25, _⟩ => ⟨S4x4096x64, .f32⟩
  | .hbm, ⟨26, _⟩ => ⟨S4x4096x16x64, .f32⟩
  | .hbm, ⟨27, _⟩ => ⟨S4x4096x1x64, .f32⟩
  | .hbm, ⟨28, _⟩ => ⟨S4x4096x16x64, .f32⟩
  | .hbm, ⟨29, _⟩ => ⟨S4x4096x16x128, .f32⟩
  | .hbm, ⟨30, _⟩ => ⟨S16384x2048, .f32⟩
  | .hbm, ⟨31, _⟩ => ⟨S16384x2048, .bf16⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel14.lean ====
abbrev S4x4096x768 : Shape := ⟨3, ![4, 4096, 768]⟩
abbrev S512 : Shape := ⟨1, ![512]⟩
abbrev S512x1536 : Shape := ⟨2, ![512, 1536]⟩
abbrev S4x4096x16 : Shape := ⟨3, ![4, 4096, 16]⟩
abbrev S16384x16 : Shape := ⟨2, ![16384, 16]⟩
abbrev S_ : Shape := ⟨0, ![]⟩
abbrev S16384x64 : Shape := ⟨2, ![16384, 64]⟩
abbrev S16384x32 : Shape := ⟨2, ![16384, 32]⟩
abbrev S16384x128 : Shape := ⟨2, ![16384, 128]⟩
abbrev S16384x256 : Shape := ⟨2, ![16384, 256]⟩
abbrev S16384x512 : Shape := ⟨2, ![16384, 512]⟩
abbrev S512x16x96 : Shape := ⟨3, ![512, 16, 96]⟩
abbrev S512x16x128 : Shape := ⟨3, ![512, 16, 128]⟩
abbrev S512x2048 : Shape := ⟨2, ![512, 2048]⟩
abbrev S16384x768 : Shape := ⟨2, ![16384, 768]⟩
abbrev S1x512 : Shape := ⟨2, ![1, 512]⟩
abbrev S16384x2048 : Shape := ⟨2, ![16384, 2048]⟩
abbrev S1024x512 : Shape := ⟨2, ![1024, 512]⟩
abbrev S512x512 : Shape := ⟨2, ![512, 512]⟩
abbrev S1024 : Shape := ⟨1, ![1024]⟩
abbrev S1024x1 : Shape := ⟨2, ![1024, 1]⟩
abbrev S1024x128 : Shape := ⟨2, ![1024, 128]⟩
abbrev S1x128 : Shape := ⟨2, ![1, 128]⟩

abbrev nBuf : Space → Nat
  | .hbm => 30
  | .vmem => 9
  | .smem => 0
  | _ => 0

abbrev bufTy : (tb : Table) → Fin (tcTables nBuf tb) → BufTy
  | .hbm, ⟨0, _⟩ => ⟨S4x4096x768, .f32⟩
  | .hbm, ⟨1, _⟩ => ⟨S512, .f32⟩
  | .hbm, ⟨2, _⟩ => ⟨S512x1536, .f32⟩
  | .hbm, ⟨3, _⟩ => ⟨S4x4096x16, .f32⟩
  | .hbm, ⟨4, _⟩ => ⟨S4x4096x16, .f32⟩
  | .hbm, ⟨5, _⟩ => ⟨S16384x16, .f32⟩
  | .hbm, ⟨6, _⟩ => ⟨S16384x16, .f32⟩
  | .hbm, ⟨7, _⟩ => ⟨S_, .f32⟩
  | .hbm, ⟨8, _⟩ => ⟨S16384x64, .f32⟩
  | .hbm, ⟨9, _⟩ => ⟨S_, .f32⟩
  | .hbm, ⟨10, _⟩ => ⟨S16384x32, .f32⟩
  | .hbm, ⟨11, _⟩ => ⟨S16384x128, .f32⟩
  | .hbm, ⟨12, _⟩ => ⟨S_, .f32⟩
  | .hbm, ⟨13, _⟩ => ⟨S16384x64, .f32⟩
  | .hbm, ⟨14, _⟩ => ⟨S16384x16, .f32⟩
  | .hbm, ⟨15, _⟩ => ⟨S_, .f32⟩
  | .hbm, ⟨16, _⟩ => ⟨S16384x32, .f32⟩
  | .hbm, ⟨17, _⟩ => ⟨S16384x128, .f32⟩
  | .hbm, ⟨18, _⟩ => ⟨S_, .f32⟩
  | .hbm, ⟨19, _⟩ => ⟨S16384x256, .f32⟩
  | .hbm, ⟨20, _⟩ => ⟨S16384x512, .f32⟩
  | .hbm, ⟨21, _⟩ => ⟨S512x1536, .bf16⟩
  | .hbm, ⟨22, _⟩ => ⟨S512x16x96, .bf16⟩
  | .hbm, ⟨23, _⟩ => ⟨S_, .i32⟩
  | .hbm, ⟨24, _⟩ => ⟨S_, .bf16⟩
  | .hbm, ⟨25, _⟩ => ⟨S512x16x128, .bf16⟩
  | .hbm, ⟨26, _⟩ => ⟨S512x2048, .bf16⟩
  | .hbm, ⟨27, _⟩ => ⟨S16384x768, .f32⟩
  | .hbm, ⟨28, _⟩ => ⟨S1x512, .f32⟩
  | .hbm, ⟨29, _⟩ => ⟨S16384x2048, .bf16⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel14Ideal.lean ====
variable {F : FTy → Type} [FloatOps F] [Named F]
def κ : String → Option EReal := fun
  | "scale" => some ((((Real.sqrt 96) * (Real.log 2))⁻¹ : ℝ) : EReal)
  | _ => none
-- ==== Reference14Ideal.lean ====
abbrev S4x4096x768 : Shape := ⟨3, ![4, 4096, 768]⟩
abbrev S512 : Shape := ⟨1, ![512]⟩
abbrev S512x1536 : Shape := ⟨2, ![512, 1536]⟩
abbrev S4x4096x16 : Shape := ⟨3, ![4, 4096, 16]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x1536 : Shape := ⟨3, ![4, 4096, 1536]⟩
abbrev S4x4096x16x96 : Shape := ⟨4, ![4, 4096, 16, 96]⟩
abbrev S4x4096x1x16 : Shape := ⟨4, ![4, 4096, 1, 16]⟩
abbrev S4x4096x16x16 : Shape := ⟨4, ![4, 4096, 16, 16]⟩
abbrev S4x4096x16x64 : Shape := ⟨4, ![4, 4096, 16, 64]⟩
abbrev S4x4096x16x32 : Shape := ⟨4, ![4, 4096, 16, 32]⟩
abbrev S4x4096x16x128 : Shape := ⟨4, ![4, 4096, 16, 128]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S512, .f32⟩
  | .hbm, ⟨2, _⟩ => ⟨S512x1536, .f32⟩
  | .hbm, ⟨3, _⟩ => ⟨S4x4096x16, .f32⟩
  | .hbm, ⟨4, _⟩ => ⟨S4x4096x16, .f32⟩
  | .hbm, ⟨5, _⟩ => ⟨S4x4096x512, .f32⟩
  | .hbm, ⟨6, _⟩ => ⟨S4x4096x512, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x512, .f32⟩
  | .hbm, ⟨18, _⟩ => ⟨S4x4096x512, .f32⟩
  | .hbm, ⟨19, _⟩ => ⟨S1x1x512, .f32⟩
  | .hbm, ⟨20, _⟩ => ⟨S4x4096x512, .f32⟩
  | .hbm, ⟨21, _⟩ => ⟨S4x4096x512, .f32⟩
  | .hbm, ⟨22, _⟩ => ⟨S4x4096x1536, .f32⟩
  | .hbm, ⟨23, _⟩ => ⟨S4x4096x16x96, .f32⟩
  | .hbm, ⟨24, _⟩ => ⟨S4x4096x1x16, .f32⟩
  | .hbm, ⟨25, _⟩ => ⟨S4x4096x1x16, .f32⟩
  | .hbm, ⟨26, _⟩ => ⟨S4x4096x16x16, .f32⟩
  | .hbm, ⟨27, _⟩ => ⟨S4x4096x16x16, .f32⟩
  | .hbm, ⟨28, _⟩ => ⟨S4x4096x16x64, .f32⟩
  | .hbm, ⟨29, _⟩ => ⟨S4x4096x16x16, .f32⟩
  | .hbm, ⟨30, _⟩ => ⟨S4x4096x16x16, .f32⟩
  | .hbm, ⟨31, _⟩ => ⟨S4x4096x16x16, .f32⟩
  | .hbm, ⟨32, _⟩ => ⟨S4x4096x16x16, .f32⟩
  | .hbm, ⟨33, _⟩ => ⟨S4x4096x16x16, .f32⟩
  | .hbm, ⟨34, _⟩ => ⟨S4x4096x16x16, .f32⟩
  | .hbm, ⟨35, _⟩ => ⟨S4x4096x16x16, .f32⟩
  | .hbm, ⟨36, _⟩ => ⟨S4x4096x16x16, .f32⟩
  | .hbm, ⟨37, _⟩ => ⟨S4x4096x16x16, .f32⟩
  | .hbm, ⟨38, _⟩ => ⟨S4x4096x16x16, .f32⟩
  | .hbm, ⟨39, _⟩ => ⟨S_, .f32⟩
  | .hbm, ⟨40, _⟩ => ⟨S4x4096x16x32, .f32⟩
  | .hbm, ⟨41, _⟩ => ⟨S4x4096x16x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4x4096x16x128, .f32⟩
  | .hbm, ⟨50, _⟩ => ⟨S4x4096x16x128, .f32⟩
  | .hbm, ⟨51, _⟩ => ⟨S16384x2048, .f32⟩
  | .hbm, ⟨52, _⟩ => ⟨S16384x2048, .bf16⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel15.lean ====
abbrev S4x4096x2048 : Shape := ⟨3, ![4, 4096, 2048]⟩
abbrev S2048x7504 : Shape := ⟨2, ![2048, 7504]⟩
abbrev S4x4096x16 : Shape := ⟨3, ![4, 4096, 16]⟩
abbrev S16384x16 : Shape := ⟨2, ![16384, 16]⟩
abbrev S_ : Shape := ⟨0, ![]⟩
abbrev S16384x64 : Shape := ⟨2, ![16384, 64]⟩
abbrev S16384x32 : Shape := ⟨2, ![16384, 32]⟩
abbrev S16384x128 : Shape := ⟨2, ![16384, 128]⟩
abbrev S16384x256 : Shape := ⟨2, ![16384, 256]⟩
abbrev S16384x512 : Shape := ⟨2, ![16384, 512]⟩
abbrev S2048x48 : Shape := ⟨2, ![2048, 48]⟩
abbrev S2048x128 : Shape := ⟨2, ![2048, 128]⟩
abbrev S2048x32 : Shape := ⟨2, ![2048, 32]⟩
abbrev S2048x1x32 : Shape := ⟨3, ![2048, 1, 32]⟩
abbrev S2048x1x128 : Shape := ⟨3, ![2048, 1, 128]⟩
abbrev S2048x256 : Shape := ⟨2, ![2048, 256]⟩
abbrev S16384x2048 : Shape := ⟨2, ![16384, 2048]⟩
abbrev S1024x2048 : Shape := ⟨2, ![1024, 2048]⟩
abbrev S1024x512 : Shape := ⟨2, ![1024, 512]⟩
abbrev S1024x256 : Shape := ⟨2, ![1024, 256]⟩
abbrev S1024x128 : Shape := ⟨2, ![1024, 128]⟩
abbrev S1x128 : Shape := ⟨2, ![1, 128]⟩

abbrev nBuf : Space → Nat
  | .hbm => 35
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x16, .f32⟩
  | .hbm, ⟨3, _⟩ => ⟨S4x4096x16, .f32⟩
  | .hbm, ⟨4, _⟩ => ⟨S16384x16, .f32⟩
  | .hbm, ⟨5, _⟩ => ⟨S16384x16, .f32⟩
  | .hbm, ⟨6, _⟩ => ⟨S_, .f32⟩
  | .hbm, ⟨7, _⟩ => ⟨S16384x64, .f32⟩
  | .hbm, ⟨8, _⟩ => ⟨S_, .f32⟩
  | .hbm, ⟨9, _⟩ => ⟨S16384x32, .f32⟩
  | .hbm, ⟨10, _⟩ => ⟨S16384x128, .f32⟩
  | .hbm, ⟨11, _⟩ => ⟨S_, .f32⟩
  | .hbm, ⟨12, _⟩ => ⟨S16384x64, .f32⟩
  | .hbm, ⟨13, _⟩ => ⟨S16384x16, .f32⟩
  | .hbm, ⟨14, _⟩ => ⟨S_, .f32⟩
  | .hbm, ⟨15, _⟩ => ⟨S16384x32, .f32⟩
  | .hbm, ⟨16, _⟩ => ⟨S16384x128, .f32⟩
  | .hbm, ⟨17, _⟩ => ⟨S_, .f32⟩
  | .hbm, ⟨18, _⟩ => ⟨S16384x256, .f32⟩
  | .hbm, ⟨19, _⟩ => ⟨S16384x512, .f32⟩
  | .hbm, ⟨20, _⟩ => ⟨S2048x7504, .bf16⟩
  | .hbm, ⟨21, _⟩ => ⟨S2048x48, .bf16⟩
  | .hbm, ⟨22, _⟩ => ⟨S_, .i32⟩
  | .hbm, ⟨23, _⟩ => ⟨S_, .bf16⟩
  | .hbm, ⟨24, _⟩ => ⟨S2048x128, .bf16⟩
  | .hbm, ⟨25, _⟩ => ⟨S2048x32, .bf16⟩
  | .hbm, ⟨26, _⟩ => ⟨S2048x1x32, .bf16⟩
  | .hbm, ⟨27, _⟩ => ⟨S_, .i32⟩
  | .hbm, ⟨28, _⟩ => ⟨S_, .bf16⟩
  | .hbm, ⟨29, _⟩ => ⟨S2048x1x128, .bf16⟩
  | .hbm, ⟨30, _⟩ => ⟨S2048x128, .bf16⟩
  | .hbm, ⟨31, _⟩ => ⟨S2048x256, .bf16⟩
  | .hbm, ⟨32, _⟩ => ⟨S16384x2048, .f32⟩
  | .hbm, ⟨33, _⟩ => ⟨S16384x2048, .bf16⟩
  | .hbm, ⟨34, _⟩ => ⟨S16384x256, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x512, .f32⟩
  | .local _ .vmem, ⟨4, _⟩ => ⟨S1024x512, .f32⟩
  | .local _ .vmem, ⟨5, _⟩ => ⟨S1024x256, .bf16⟩
  | .local _ .vmem, ⟨6, _⟩ => ⟨S1024x256, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S4x4096x2048 : Shape := ⟨3, ![4, 4096, 2048]⟩
abbrev S2048x7504 : Shape := ⟨2, ![2048, 7504]⟩
abbrev S4x4096x16 : Shape := ⟨3, ![4, 4096, 16]⟩
abbrev S4x4096x7504 : Shape := ⟨3, ![4, 4096, 7504]⟩
abbrev S4x4096x48 : Shape := ⟨3, ![4, 4096, 48]⟩
abbrev S_ : Shape := ⟨0, ![]⟩
abbrev S4x4096x80 : Shape := ⟨3, ![4, 4096, 80]⟩
abbrev S4x4096x64 : Shape := ⟨3, ![4, 4096, 64]⟩
abbrev S4x4096x32 : Shape := ⟨3, ![4, 4096, 32]⟩
abbrev S4x4096x256 : Shape := ⟨3, ![4, 4096, 256]⟩
abbrev S16384x256 : Shape := ⟨2, ![16384, 256]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x7504, .f32⟩
  | .hbm, ⟨2, _⟩ => ⟨S4x4096x16, .f32⟩
  | .hbm, ⟨3, _⟩ => ⟨S4x4096x16, .f32⟩
  | .hbm, ⟨4, _⟩ => ⟨S4x4096x7504, .f32⟩
  | .hbm, ⟨5, _⟩ => ⟨S4x4096x48, .f32⟩
  | .hbm, ⟨6, _⟩ => ⟨S4x4096x48, .f32⟩
  | .hbm, ⟨7, _⟩ => ⟨S4x4096x48, .f32⟩
  | .hbm, ⟨8, _⟩ => ⟨S_, .f32⟩
  | .hbm, ⟨9, _⟩ => ⟨S4x4096x48, .f32⟩
  | .hbm, ⟨10, _⟩ => ⟨S4x4096x48, .f32⟩
  | .hbm, ⟨11, _⟩ => ⟨S_, .f32⟩
  | .hbm, ⟨12, _⟩ => ⟨S4x4096x48, .f32⟩
  | .hbm, ⟨13, _⟩ => ⟨S4x4096x48, .f32⟩
  | .hbm, ⟨14, _⟩ => ⟨S4x4096x16, .f32⟩
  | .hbm, ⟨15, _⟩ => ⟨S4x4096x16, .f32⟩
  | .hbm, ⟨16, _⟩ => ⟨S_, .f32⟩
  | .hbm, ⟨17, _⟩ => ⟨S4x4096x80, .f32⟩
  | .hbm, ⟨18, _⟩ => ⟨S_, .f32⟩
  | .hbm, ⟨19, _⟩ => ⟨S4x4096x64, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S4x4096x16, .f32⟩
  | .hbm, ⟨24, _⟩ => ⟨S4x4096x16, .f32⟩
  | .hbm, ⟨25, _⟩ => ⟨S4x4096x16, .f32⟩
  | .hbm, ⟨26, _⟩ => ⟨S_, .f32⟩
  | .hbm, ⟨27, _⟩ => ⟨S4x4096x32, .f32⟩
  | .hbm, ⟨28, _⟩ => ⟨S4x4096x80, .f32⟩
  | .hbm, ⟨29, _⟩ => ⟨S4x4096x256, .f32⟩
  | .hbm, ⟨30, _⟩ => ⟨S16384x256, .f32⟩
  | .hbm, ⟨31, _⟩ => ⟨S16384x256, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel16.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S1x12288, .f32⟩
  | .hbm, ⟨7, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S4x12288 : Shape := ⟨2, ![4, 12288]⟩
abbrev S1x12288 : Shape := ⟨2, ![1, 12288]⟩
abbrev S8x12288 : Shape := ⟨2, ![8, 12288]⟩

abbrev nBuf : Space → Nat
  | .hbm => 18
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x12288, .f32⟩
  | .hbm, ⟨13, _⟩ => ⟨S1x12288, .f32⟩
  | .hbm, ⟨14, _⟩ => ⟨S4x12288, .f32⟩
  | .hbm, ⟨15, _⟩ => ⟨S4x12288, .f32⟩
  | .hbm, ⟨16, _⟩ => ⟨S4x12288, .f32⟩
  | .hbm, ⟨17, _⟩ => ⟨S8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Lin.Merge.lean ====
/-
  The gated merge of the two branches: the array that the tiled kernel leaves is the sum that the reference states, each
  branch's projection under the logistic gate of its channel.
-/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.MatmulPlain
public import Idealize.ShloMosaic.Lib.ValueIdx

@[expose] public section

set_option maxRecDepth 16384

noncomputable section

namespace Cert.Merge

open Cert.Kernel2Ideal Cert.Kernel2Ideal.Gen Idealize.ShloMosaic Idealize.ShloMosaic.TcCoe Idealize.SL.Sem
open scoped BigOperators

variable (m : (ℓ : Loc nD τ sig) → Buf (Elt Ideal) ℓ) (c : Dev nD)

/-- The activations, one row per token. -/
def rowsH (x : Vec Ideal S4x4096x2048 .f32) : Vec Ideal S16384x2048 .bf16 :=
  truncf (F := Ideal) (φ := .f32) .bf16 (shapeCast S16384x2048 x shapeCasts_S4x4096x2048_S16384x2048) bitsLt_bf16_f32

/-- A branch's output, one row per token. -/
def rowsB (x : Vec Ideal S4x4096x1024 .f32) : Vec Ideal S16384x1024 .bf16 :=
  truncf (F := Ideal) (φ := .f32) .bf16 (shapeCast S16384x1024 x shapeCasts_S4x4096x1024_S16384x1024) bitsLt_bf16_f32

/-- The gates' columns of the input projection. -/
def gateCols (x : Vec Ideal S2048x7504 .f32) : Vec Ideal S2048x4096 .bf16 :=
  extractStridedSlice S2048x4096 ![0, 3408] (truncf (F := Ideal) (φ := .f32) .bf16 x bitsLt_bf16_f32) slices_S2048x7504_S2048x4096_0_3408

theorem V_gate : V m c main_v1 = gateCols (m ((c : Thread nD τ).loc main_arg1)) := by
  unfold_abbrev_sides
  after_results
  rfl

theorem V_h : V m c main_v3 = rowsH (m ((c : Thread nD τ).loc main_arg0)) := by
  unfold_abbrev_sides
  after_results
  rfl

theorem V_a : V m c main_v5 = rowsB (m ((c : Thread nD τ).loc main_arg2)) := by
  unfold_abbrev_sides
  after_results
  rfl

theorem V_wa : V m c main_v6 = m ((c : Thread nD τ).loc main_arg3) := by
  unfold_abbrev_sides
  after_results
  rfl

theorem V_b : V m c main_v8 = rowsB (m ((c : Thread nD τ).loc main_arg4)) := by
  unfold_abbrev_sides
  after_results
  rfl

theorem V_wb : V m c main_v9 = m ((c : Thread nD τ).loc main_arg5) := by
  unfold_abbrev_sides
  after_results
  rfl

theorem rowsH_at (x : Vec Ideal S4x4096x2048 .f32) (i : S16384x2048.Idx) (j : S4x4096x2048.Idx)
    (h : (i 0).val = (j 0).val * 4096 + (j 1).val) (h' : (i 1).val = (j 2).val) : rowsH x i = x j := by
  refine shapeCast_apply (s := S4x4096x2048) (t := S16384x2048) x _ _ _ ?_
  rw [Shape.rowMajor_val_three, Shape.rowMajor_val_two]
  show ((j 0).val * 4096 + (j 1).val) * 2048 + (j 2).val = (i 0).val * 2048 + (i 1).val
  rw [h, h']

theorem rowsB_at (x : Vec Ideal S4x4096x1024 .f32) (i : S16384x1024.Idx) (j : S4x4096x1024.Idx)
    (h : (i 0).val = (j 0).val * 4096 + (j 1).val) (h' : (i 1).val = (j 2).val) : rowsB x i = x j := by
  refine shapeCast_apply (s := S4x4096x1024) (t := S16384x1024) x _ _ _ ?_
  rw [Shape.rowMajor_val_three, Shape.rowMajor_val_two]
  show ((j 0).val * 4096 + (j 1).val) * 1024 + (j 2).val = (i 0).val * 1024 + (i 1).val
  rw [h, h']

theorem gateCols_at (x : Vec Ideal S2048x7504 .f32) (i : S2048x4096.Idx) (j : S2048x7504.Idx)
    (h : (j 0).val = (i 0).val) (h' : (j 1).val = 3408 + (i 1).val) : gateCols x i = x j :=
  extractStridedSlice_apply (s := S2048x7504) (t := S2048x4096) _ _ _ _ _ fun b => by
    match b with
    | ⟨0, _⟩ => exact h.trans (Nat.zero_add _).symm
    | ⟨1, _⟩ => exact h'

/-- A row of an array times a column of another. -/
def dotE {M K N : ℕ} (x : (⟨2, ![M, K]⟩ : Shape).Idx → EReal) (w : (⟨2, ![K, N]⟩ : Shape).Idx → EReal) (r : Fin M) (e : Fin N) : EReal :=
  ∑ k : Fin K, x (ValueIdx.ix2 r k) * w (ValueIdx.ix2 k e)

/-- A block of the merge, read at an index. -/
theorem tile_at (h : Vec Ideal S1024x2048 .bf16) (g0 g1 : Vec Ideal S2048x512 .bf16) (a : Vec Ideal S1024x1024 .bf16)
    (wa : Vec Ideal S1024x512 .bf16) (b : Vec Ideal S1024x1024 .bf16) (wb : Vec Ideal S1024x512 .bf16) (r : Fin 1024) (e : Fin 512) :
    k0_pay1 h g0 g1 a wa b wb (ValueIdx.ix2 r e)
      = Ideal.logistic (dotE h g0 r e) * dotE a wa r e + Ideal.logistic (dotE h g1 r e) * dotE b wb r e := by
  have mmH (w : Vec Ideal S2048x512 .bf16) : matmul (F := Ideal) (φ₁ := .bf16) (φ₂ := .bf16) dot_S1024x2048_S2048x512_S1024x512_1_0_0_1_n_n none
      (shapeCast S1024x2048 h shapeCasts_S1024x2048_S1024x2048) (shapeCast S2048x512 w shapeCasts_S2048x512_S2048x512)
      (constant S1024x512 .f32 0x00000000#32) (ValueIdx.ix2 r e) = dotE h w r e := by
    rw [shapeCast_self, shapeCast_self]
    refine (Ideal.matmul_plain_apply (M := 1024) (K := 2048) (N := 512) none _ _ _ r e).trans ?_
    show Ideal.ofBits .f32 0x00000000#32 + _ = _
    rw [Ideal.ofBits_zero_f32, zero_add]
    rfl
  have mmB (y : Vec Ideal S1024x1024 .bf16) (w : Vec Ideal S1024x512 .bf16) : matmul (F := Ideal) (φ₁ := .bf16) (φ₂ := .bf16) dot_S1024x1024_S1024x512_S1024x512_1_0_0_1_n_n none
      (shapeCast S1024x1024 y shapeCasts_S1024x1024_S1024x1024) (shapeCast S1024x512 w shapeCasts_S1024x512_S1024x512)
      (constant S1024x512 .f32 0x00000000#32) (ValueIdx.ix2 r e) = dotE y w r e := by
    rw [shapeCast_self, shapeCast_self]
    refine (Ideal.matmul_plain_apply (M := 1024) (K := 1024) (N := 512) none _ _ _ r e).trans ?_
    show Ideal.ofBits .f32 0x00000000#32 + _ = _
    rw [Ideal.ofBits_zero_f32, zero_add]
    rfl
  rw [← mmH g0, ← mmH g1, ← mmB a wa, ← mmB b wb]
  rfl

theorem idxs : ∀ t : Fin cfg0.N, win0_0.index t = ![t.val / 4, 0] ∧ win0_1.index t = ![0, t.val % 4] ∧ win0_2.index t = ![0, 4 + t.val % 4]
    ∧ win0_3.index t = ![t.val / 4, 0] ∧ win0_4.index t = ![0, t.val % 4] ∧ win0_5.index t = ![t.val / 4, 0] ∧ win0_6.index t = ![0, t.val % 4]
    ∧ win0_7.index t = ![t.val / 4, t.val % 4] := by
  decide +kernel

/-- The merged branches at a token's row and a channel. -/
def gated (h : Vec Ideal S16384x2048 .bf16) (g : Vec Ideal S2048x4096 .bf16) (a : Vec Ideal S16384x1024 .bf16) (wa : Vec Ideal S1024x2048 .bf16)
    (b : Vec Ideal S16384x1024 .bf16) (wb : Vec Ideal S1024x2048 .bf16) (i : S16384x2048.Idx) : EReal :=
  Ideal.logistic (dotE (M := 16384) (K := 2048) (N := 4096) h g (i 0) ⟨(i 1).val, by have h1 : (i 1).val < 2048 := (i 1).isLt; omega⟩)
      * dotE (M := 16384) (K := 1024) (N := 2048) a wa (i 0) (i 1)
    + Ideal.logistic (dotE (M := 16384) (K := 2048) (N := 4096) h g (i 0) ⟨2048 + (i 1).val, by have h1 : (i 1).val < 2048 := (i 1).isLt; omega⟩)
      * dotE (M := 16384) (K := 1024) (N := 2048) b wb (i 0) (i 1)

set_option maxHeartbeats 2000000 in
/-- The array that the kernel leaves. -/
theorem out_at : (dats m 0 c).arrAt 7 cfg0.N
    = gated (V m c main_v3) (V m c main_v1) (V m c main_v5) (V m c main_v6) (V m c main_v8) (V m c main_v9) := by
  refine (dats m 0 c).arrAt_eq_of_covers 7 _ (by decide +kernel) fun t hf y => ?_
  blk_simp
  rw [after0_7]
  frame_out
  have ey : y = ValueIdx.ix2 (n0 := 1024) (n1 := 512) (y 0) (y 1) := by
    funext b
    match b with
    | ⟨0, _⟩ => rfl
    | ⟨1, _⟩ => rfl
  obtain ⟨e0, e1, e2, e3, e4, e5, e6, e7⟩ := idxs t
  refine ((congrArg _ ey).trans (tile_at _ _ _ _ _ _ _ (y 0) (y 1))).trans ?_
  have y0 : (y 0).val < 1024 := (y 0).isLt
  have y1 : (y 1).val < 512 := (y 1).isLt
  have q0 : win0_7.index t 0 * 1024 + 1 * (y 0).val = t.val / 4 * 1024 + (y 0).val := by rw [e7, one_mul]; rfl
  have q1 : win0_7.index t 1 * 512 + 1 * (y 1).val = t.val % 4 * 512 + (y 1).val := by rw [e7, one_mul]; rfl
  unfold gated dotE
  refine congrArg₂ (· + ·) (congrArg₂ (· * ·) (congrArg Ideal.logistic (Finset.sum_congr rfl fun k _ => congrArg₂ (· * ·) ?_ ?_)) (Finset.sum_congr rfl fun k _ => congrArg₂ (· * ·) ?_ ?_))
    (congrArg₂ (· * ·) (congrArg Ideal.logistic (Finset.sum_congr rfl fun k _ => congrArg₂ (· * ·) ?_ ?_)) (Finset.sum_congr rfl fun k _ => congrArg₂ (· * ·) ?_ ?_))
  · blk_ext [iblk, e0]; exact q0.symm
  · blk_ext [iblk, e1]; rw [one_mul] at q1; exact q1.symm
  · blk_ext [iblk, e3]; exact q0.symm
  · blk_ext [iblk, e4]; exact q1.symm
  · blk_ext [iblk, e0]; exact q0.symm
  · blk_ext [iblk, e2]
    show (4 + t.val % 4) * 512 + (y 1).val = 2048 + (win0_7.index t 1 * 512 + (y 1).val)
    omega
  · blk_ext [iblk, e5]; exact q0.symm
  · blk_ext [iblk, e6]; exact q1.symm

theorem kernel_out : (dats m 0 c).arrAt 7 cfg0.N
    = gated (rowsH (m ((c : Thread nD τ).loc main_arg0))) (gateCols (m ((c : Thread nD τ).loc main_arg1)))
      (rowsB (m ((c : Thread nD τ).loc main_arg2))) (m ((c : Thread nD τ).loc main_arg3))
      (rowsB (m ((c : Thread nD τ).loc main_arg4))) (m ((c : Thread nD τ).loc main_arg5)) := by
  rw [out_at, V_h, V_gate, V_a, V_wa, V_b, V_wb]

section Ref

open Cert.Reference2Ideal.Read

variable (x0 : Vec Ideal S4x4096x2048 .f32) (x1 : Vec Ideal S2048x7504 .f32) (x2 x4 : Vec Ideal S4x4096x1024 .f32) (x3 x5 : Vec Ideal S1024x2048 .f32)

/-- The reference's gate of a token's channel, counted over both branches' channels. -/
theorem gate_at (i : Cert.Reference2Ideal.S4x4096x4096.Idx) (R : Fin 16384) (C : Fin 4096) (hR : R.val = (i 0).val * 4096 + (i 1).val) (hC : C.val = (i 2).val) :
    val_main_v7 (F := Ideal) x0 x1 i = Ideal.logistic (dotE (M := 16384) (K := 2048) (N := 4096) (rowsH x0) (gateCols x1) R C) := by
  have e : val_main_v1 (F := Ideal) x0 x1 i = dotE (M := 16384) (K := 2048) (N := 4096) (rowsH x0) (gateCols x1) R C := by
    rw [val_main_v1_apply]
    refine (val_main_v0_apply _ _ _).trans (Finset.sum_congr rfl fun k _ => congrArg₂ (· * ·) ?_ ?_)
    · refine (rowsH_at x0 _ _ ?_ rfl).symm
      show R.val = (i 0).val * 4096 + (i 1).val
      exact hR
    · refine (gateCols_at x1 _ _ rfl ?_).symm
      show 3408 + (i 2).val = 3408 + C.val
      rw [hC]
  rw [← e]
  show Ideal.div (Ideal.ofBits .f32 0x3F800000#32) (Ideal.ofBits .f32 0x3F800000#32 + Ideal.exp (-_)) = Ideal.div 1 (1 + Ideal.exp (-_))
  rw [Ideal.ofBits_one_f32]

theorem split_row (j : Cert.Reference2Ideal.S4x4096x2x2048.Idx) : (idx_main_v8 j 0).val * 4096 + (idx_main_v8 j 1).val = (j 0).val * 4096 + (j 1).val := by
  have j0 : (j 0).val < 4 := (j 0).isLt
  have j1 : (j 1).val < 4096 := (j 1).isLt
  have j2 : (j 2).val < 2 := (j 2).isLt
  have j3 : (j 3).val < 2048 := (j 3).isLt
  show ((((j 0).val * 4096 + (j 1).val) * 2 + (j 2).val) * 2048 + (j 3).val) / 16777216 * 4096 + ((((j 0).val * 4096 + (j 1).val) * 2 + (j 2).val) * 2048 + (j 3).val) / 4096 % 4096 = _
  omega

theorem split_col (j : Cert.Reference2Ideal.S4x4096x2x2048.Idx) : (idx_main_v8 j 2).val = (j 2).val * 2048 + (j 3).val := by
  have j2 : (j 2).val < 2 := (j 2).isLt
  have j3 : (j 3).val < 2048 := (j 3).isLt
  show ((((j 0).val * 4096 + (j 1).val) * 2 + (j 2).val) * 2048 + (j 3).val) % 4096 = _
  omega

theorem flat_row (i : Cert.Reference2Ideal.S16384x2048.Idx) : (idx_main_v10 (idx_main_v18 i) 0).val * 4096 + (idx_main_v10 (idx_main_v18 i) 1).val = (i 0).val := by
  have i0 : (i 0).val < 16384 := (i 0).isLt
  have i1 : (i 1).val < 2048 := (i 1).isLt
  generalize hj : idx_main_v18 i = j
  have h0 : (j 0).val = ((i 0).val * 2048 + (i 1).val) / 8388608 := by rw [← hj]
  have h1 : (j 1).val = ((i 0).val * 2048 + (i 1).val) / 2048 % 4096 := by rw [← hj]
  have j2 : (j 2).val < 2048 := (j 2).isLt
  show (((j 0).val * 4096 + (j 1).val) * 2048 + (j 2).val) / 8388608 * 4096 + (((j 0).val * 4096 + (j 1).val) * 2048 + (j 2).val) / 2048 % 4096 = _
  omega

theorem flat_col (i : Cert.Reference2Ideal.S16384x2048.Idx) : (idx_main_v10 (idx_main_v18 i) 3).val = (i 1).val := by
  have i1 : (i 1).val < 2048 := (i 1).isLt
  generalize hj : idx_main_v18 i = j
  have h2 : (j 2).val = ((i 0).val * 2048 + (i 1).val) % 2048 := by rw [← hj]
  show (((j 0).val * 4096 + (j 1).val) * 2048 + (j 2).val) % 2048 = _
  omega

theorem ref_at : val_main_v19 (F := Ideal) x0 x1 x2 x3 x4 x5 = gated (rowsH x0) (gateCols x1) (rowsB x2) x3 (rowsB x4) x5 := by
  funext i
  have i0 : (i 0).val < 16384 := (i 0).isLt
  have i1 : (i 1).val < 2048 := (i 1).isLt
  rw [val_main_v19_apply, val_main_v18_apply]
  refine (val_main_v17_apply _ _ _ _ _ _ _).trans ?_
  rw [val_main_v12_apply, val_main_v16_apply, val_main_v10_apply, val_main_v9_apply, val_main_v8_apply, val_main_v14_apply, val_main_v13_apply, val_main_v8_apply]
  unfold gated
  refine congrArg₂ (· + ·) (congrArg₂ (· * ·) ?_ ?_) (congrArg₂ (· * ·) ?_ ?_)
  · refine gate_at x0 x1 _ _ _ ?_ ?_
    · rw [split_row]
      exact (flat_row i).symm
    · rw [split_col]
      show (i 1).val = 0 * 2048 + (idx_main_v10 (idx_main_v18 i) 3).val
      rw [flat_col, zero_mul, zero_add]
  · refine (val_main_v11_apply _ _ _).trans (Finset.sum_congr rfl fun k _ => congrArg₂ (· * ·) ?_ ?_)
    · refine (rowsB_at x2 _ _ ?_ rfl).symm
      show (i 0).val = ((i 0).val * 2048 + (i 1).val) / 8388608 * 4096 + ((i 0).val * 2048 + (i 1).val) / 2048 % 4096
      omega
    · refine congrArg x3 (funext fun b => Fin.ext ?_)
      match b with
      | ⟨0, _⟩ => rfl
      | ⟨1, _⟩ =>
        show ((i 0).val * 2048 + (i 1).val) % 2048 = (i 1).val
        omega
  · refine gate_at x0 x1 _ _ _ ?_ ?_
    · rw [split_row]
      exact (flat_row i).symm
    · rw [split_col]
      show 2048 + (i 1).val = (1 + 0) * 2048 + (idx_main_v10 (idx_main_v18 i) 3).val
      rw [flat_col]
  · refine (val_main_v15_apply _ _ _).trans (Finset.sum_congr rfl fun k _ => congrArg₂ (· * ·) ?_ ?_)
    · refine (rowsB_at x4 _ _ ?_ rfl).symm
      show (i 0).val = ((i 0).val * 2048 + (i 1).val) / 8388608 * 4096 + ((i 0).val * 2048 + (i 1).val) / 2048 % 4096
      omega
    · refine congrArg x5 (funext fun b => Fin.ext ?_)
      match b with
      | ⟨0, _⟩ => rfl
      | ⟨1, _⟩ =>
        show ((i 0).val * 2048 + (i 1).val) % 2048 = (i 1).val
        omega

end Ref

end Cert.Merge

end
-- ==== Proof.Lin.OutProj.lean ====
/-
  The output projection: the two arrays that the tiled kernel leaves are the residual sum under its norm and gate, and that
  sum's own norm with the scale and shift of its batch, as the reference states them.
-/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.MatmulPlain
public import Idealize.ShloMosaic.Lib.ValueIdx

@[expose] public section

set_option maxRecDepth 16384

noncomputable section

namespace Cert.OutProj

open Cert.Kernel3Ideal Cert.Kernel3Ideal.Gen Idealize.ShloMosaic Idealize.ShloMosaic.TcCoe Idealize.SL.Sem
open scoped BigOperators

variable (m : (ℓ : Loc nD τ sig) → Buf (Elt Ideal) ℓ) (c : Dev nD)

/-- One over the root mean square of a row. -/
def inv (y : Fin 2048 → EReal) : EReal :=
  Ideal.rsqrt (Ideal.div (∑ k, y k * y k) (Ideal.ofBits .f32 0x45000000#32) + Ideal.ofBits .f32 0x358637BD#32)

/-- A row of the residual sum. -/
def resid (y g gt x : Fin 2048 → EReal) (e : Fin 2048) : EReal := x e + gt e * (y e * inv y * g e)

/-- A row of the modulated norm. -/
def modul (z g sc sh : Fin 2048 → EReal) (e : Fin 2048) : EReal :=
  z e * inv z * g e * (Ideal.ofBits .f32 0x3F800000#32 + sc e) + sh e

theorem resid_congr {y y' g g' gt gt' x x' : Fin 2048 → EReal} (e : Fin 2048) (hy : ∀ k, y k = y' k) (hg : ∀ k, g k = g' k)
    (hgt : ∀ k, gt k = gt' k) (hx : ∀ k, x k = x' k) : resid y g gt x e = resid y' g' gt' x' e := by
  rw [funext hy, funext hg, funext hgt, funext hx]

theorem modul_congr {z z' g g' sc sc' sh sh' : Fin 2048 → EReal} (e : Fin 2048) (hz : ∀ k, z k = z' k) (hg : ∀ k, g k = g' k)
    (hsc : ∀ k, sc k = sc' k) (hsh : ∀ k, sh k = sh' k) : modul z g sc sh e = modul z' g' sc' sh' e := by
  rw [funext hz, funext hg, funext hsc, funext hsh]

/-- A row of an array times a column of another. -/
def dotE {M K N : ℕ} (x : (⟨2, ![M, K]⟩ : Shape).Idx → EReal) (w : (⟨2, ![K, N]⟩ : Shape).Idx → EReal) (r : Fin M) (e : Fin N) : EReal :=
  ∑ k : Fin K, x (ValueIdx.ix2 r k) * w (ValueIdx.ix2 k e)

/-- The activations, one row per token. -/
def rows (x : Vec Ideal S4x4096x2048 .f32) : Vec Ideal S16384x2048 .f32 := shapeCast S16384x2048 x shapeCasts_S4x4096x2048_S16384x2048
/-- A norm's weights, as one row. -/
def lane (x : Vec Ideal S2048 .f32) : Vec Ideal S1x2048 .f32 := shapeCast S1x2048 x shapeCasts_S2048_S1x2048
/-- A batch's vector, as one row each. -/
def lanes (x : Vec Ideal S4x2048 .f32) : Vec Ideal S4x1x2048 .f32 := shapeCast S4x1x2048 x shapeCasts_S4x2048_S4x1x2048

theorem V_m : V m c main_v1 = rows (m ((c : Thread nD τ).loc main_arg0)) := by
  unfold_abbrev_sides
  after_results
  rfl
theorem V_w : V m c main_v2 = m ((c : Thread nD τ).loc main_arg1) := by
  unfold_abbrev_sides
  after_results
  rfl
theorem V_x : V m c main_v3 = rows (m ((c : Thread nD τ).loc main_arg2)) := by
  unfold_abbrev_sides
  after_results
  rfl
theorem V_pg : V m c main_v4 = lane (m ((c : Thread nD τ).loc main_arg3)) := by
  unfold_abbrev_sides
  after_results
  rfl
theorem V_gt : V m c main_v5 = lanes (m ((c : Thread nD τ).loc main_arg4)) := by
  unfold_abbrev_sides
  after_results
  rfl
theorem V_ng : V m c main_v6 = lane (m ((c : Thread nD τ).loc main_arg5)) := by
  unfold_abbrev_sides
  after_results
  rfl
theorem V_sc : V m c main_v7 = lanes (m ((c : Thread nD τ).loc main_arg6)) := by
  unfold_abbrev_sides
  after_results
  rfl
theorem V_sh : V m c main_v8 = lanes (m ((c : Thread nD τ).loc main_arg7)) := by
  unfold_abbrev_sides
  after_results
  rfl

theorem rows_at (x : Vec Ideal S4x4096x2048 .f32) (i : S16384x2048.Idx) (j : S4x4096x2048.Idx)
    (h : (i 0).val = (j 0).val * 4096 + (j 1).val) (h' : (i 1).val = (j 2).val) : rows x i = x j := by
  refine shapeCast_apply (s := S4x4096x2048) (t := S16384x2048) x _ _ _ ?_
  rw [Shape.rowMajor_val_three, Shape.rowMajor_val_two]
  show ((j 0).val * 4096 + (j 1).val) * 2048 + (j 2).val = (i 0).val * 2048 + (i 1).val
  rw [h, h']

theorem lane_at (x : Vec Ideal S2048 .f32) (k : Fin 2048) : lane x (ValueIdx.ix2 (n0 := 1) (n1 := 2048) 0 k) = x (ValueIdx.ix1 k) := by
  refine shapeCast_apply (s := S2048) (t := S1x2048) x _ _ _ ?_
  rw [Shape.rowMajor_val_one, Shape.rowMajor_val_two]
  show k.val = 0 * 2048 + k.val
  omega

theorem lanes_at (x : Vec Ideal S4x2048 .f32) (b : Fin 4) (k : Fin 2048) :
    lanes x (ValueIdx.ix3 (n0 := 4) (n1 := 1) (n2 := 2048) b 0 k) = x (ValueIdx.ix2 b k) := by
  refine shapeCast_apply (s := S4x2048) (t := S4x1x2048) x _ _ _ ?_
  rw [Shape.rowMajor_val_three, Shape.rowMajor_val_two]
  show b.val * 2048 + k.val = (b.val * 1 + 0) * 2048 + k.val
  omega

/-- A row's factor as the kernel forms it. -/
theorem inv_at (y : FVec Ideal S512x2048 .f32) (r : Fin 512) (e : Fin 2048) :
    broadcastTo S512x2048 (rsqrt (F := Ideal) (addf (divf (shapeCast S512x1 (multiReduction .add [1] S512 (mulf y y) 0x00000000#32 reduces_S512x2048_S512 (.inl rfl) rfl)
      shapeCasts_S512_S512x1) (broadcast S512x1 (Scalar.ofBits (F := Ideal) .f32 0x45000000#32))) (broadcast S512x1 (Scalar.ofBits (F := Ideal) .f32 0x358637BD#32))))
      broadcasts_S512x1_S512x2048 (ValueIdx.ix2 r e) = inv fun k => y (ValueIdx.ix2 r k) := by
  refine (broadcastTo_apply (s := S512x1) (t := S512x2048) _ _ _ (ValueIdx.ix2 (n0 := 512) (n1 := 1) r 0)
    (fun a => by match a with | ⟨0, _⟩ => rfl | ⟨1, _⟩ => rfl)).trans ?_
  show Ideal.rsqrt (Ideal.div _ _ + _) = Ideal.rsqrt (Ideal.div _ _ + _)
  refine congrArg (fun u => Ideal.rsqrt (Ideal.div u _ + _)) ?_
  refine (shapeCast_apply (s := S512) (t := S512x1) _ _ _ (ValueIdx.ix1 r) ?_).trans ?_
  · refine (Shape.rowMajor_val_one _).trans ((Shape.rowMajor_val_two _).trans ?_).symm
    show r.val * 1 + 0 = r.val
    omega
  · refine (Ideal.multiReduction_add_single _ _ _ _ _ _).trans ?_
    refine Finset.sum_congr rfl fun j _ => ?_
    have ej : ∀ i : S512x2048.Idx, i = ValueIdx.ix2 r j → mulf y y i = y (ValueIdx.ix2 r j) * y (ValueIdx.ix2 r j) := fun i h => by rw [h]; rfl
    refine ej _ ?_
    funext b
    match b with
    | ⟨0, _⟩ => rfl
    | ⟨1, _⟩ => rfl

theorem down_at (v : FVec Ideal S1x2048 .f32) (r : Fin 512) (e : Fin 2048) :
    broadcastTo S512x2048 v broadcasts_S1x2048_S512x2048 (ValueIdx.ix2 r e) = v (ValueIdx.ix2 (n0 := 1) (n1 := 2048) 0 e) :=
  broadcastTo_apply (s := S1x2048) (t := S512x2048) _ _ _ (ValueIdx.ix2 (n0 := 1) (n1 := 2048) 0 e)
    (fun a => by match a with | ⟨0, _⟩ => rfl | ⟨1, _⟩ => rfl)

theorem drop_at (v : Vec Ideal S1x1x2048 .f32) (e : Fin 2048) :
    shapeCast S1x2048 v shapeCasts_S1x1x2048_S1x2048 (ValueIdx.ix2 (n0 := 1) (n1 := 2048) 0 e) = v (ValueIdx.ix3 (n0 := 1) (n1 := 1) (n2 := 2048) 0 0 e) := by
  refine shapeCast_apply (s := S1x1x2048) (t := S1x2048) v _ _ _ ?_
  rw [Shape.rowMajor_val_three, Shape.rowMajor_val_two]
  rfl

/-- A block of the residual sum, read at an index. -/
theorem sum_at (a : Vec Ideal S512x2048 .bf16) (w : Vec Ideal S2048x2048 .bf16) (x : Vec Ideal S512x2048 .f32) (gt : Vec Ideal S1x1x2048 .f32)
    (g : Vec Ideal S1x2048 .f32) (r : Fin 512) (e : Fin 2048) :
    k0_pay2 a w x gt g (ValueIdx.ix2 r e) = resid (fun k => dotE a w r k) (fun k => g (ValueIdx.ix2 (n0 := 1) (n1 := 2048) 0 k))
      (fun k => gt (ValueIdx.ix3 (n0 := 1) (n1 := 1) (n2 := 2048) 0 0 k)) (fun k => x (ValueIdx.ix2 r k)) e := by
  have mm (k : Fin 2048) : matmul (F := Ideal) (φ₁ := .bf16) (φ₂ := .bf16) dot_S512x2048_S2048x2048_S512x2048_1_0_0_1_n_n none a w
      (constant S512x2048 .f32 0x00000000#32) (ValueIdx.ix2 r k) = dotE a w r k := by
    refine (Ideal.matmul_plain_apply (M := 512) (K := 2048) (N := 2048) none _ _ _ r k).trans ?_
    show Ideal.ofBits .f32 0x00000000#32 + _ = _
    rw [Ideal.ofBits_zero_f32, zero_add]
    rfl
  unfold k0_pay2
  simp only [shapeCast_self]
  generalize matmul (F := Ideal) (φ₁ := .bf16) (φ₂ := .bf16) dot_S512x2048_S2048x2048_S512x2048_1_0_0_1_n_n none a w
      (constant S512x2048 .f32 0x00000000#32) = y at mm ⊢
  refine congrArg₂ (· + ·) rfl (congrArg₂ (· * ·) ((down_at _ r e).trans (drop_at gt e)) (congrArg₂ (· * ·) (congrArg₂ (· * ·) (mm e) ?_) (down_at g r e)))
  exact (inv_at y r e).trans (congrArg inv (funext mm))

/-- A block of the modulated norm, read at an index. -/
theorem norm_at (a : Vec Ideal S512x2048 .bf16) (w : Vec Ideal S2048x2048 .bf16) (x : Vec Ideal S512x2048 .f32) (gt : Vec Ideal S1x1x2048 .f32)
    (g ng : Vec Ideal S1x2048 .f32) (sc sh : Vec Ideal S1x1x2048 .f32) (r : Fin 512) (e : Fin 2048) :
    k0_pay1 (k0_pay2 a w x gt g) (k0_pay3 ng) (k0_pay4 a w x gt g) sc sh (ValueIdx.ix2 r e)
      = modul (fun k => k0_pay2 a w x gt g (ValueIdx.ix2 r k)) (fun k => ng (ValueIdx.ix2 (n0 := 1) (n1 := 2048) 0 k))
      (fun k => sc (ValueIdx.ix3 (n0 := 1) (n1 := 1) (n2 := 2048) 0 0 k)) (fun k => sh (ValueIdx.ix3 (n0 := 1) (n1 := 1) (n2 := 2048) 0 0 k)) e := by
  unfold k0_pay1 k0_pay3 k0_pay4
  simp only [shapeCast_self]
  generalize k0_pay2 a w x gt g = y
  refine congrArg₂ (· + ·) (congrArg₂ (· * ·) (congrArg₂ (· * ·) (congrArg₂ (· * ·) rfl (inv_at y r e)) (down_at ng r e)) ?_) ((down_at _ r e).trans (drop_at sh e))
  exact (down_at _ r e).trans (congrArg (Ideal.ofBits .f32 0x3F800000#32 + ·) (drop_at sc e))

theorem idxs : ∀ t : Fin cfg0.N, win0_0.index t = ![t.val, 0] ∧ win0_1.index t = ![0, 0] ∧ win0_2.index t = ![t.val, 0]
    ∧ win0_3.index t = ![0, 0] ∧ win0_4.index t = ![t.val / 8, 0, 0] ∧ win0_5.index t = ![0, 0] ∧ win0_6.index t = ![t.val / 8, 0, 0]
    ∧ win0_7.index t = ![t.val / 8, 0, 0] ∧ win0_8.index t = ![t.val, 0] ∧ win0_9.index t = ![t.val, 0] := by
  decide +kernel

/-- The batch of a token's row. -/
def batch (r : Fin 16384) : Fin 4 := ⟨r.val / 4096, by omega⟩

/-- A token's row of the residual sum. -/
def residAt (a : Vec Ideal S16384x2048 .bf16) (w : Vec Ideal S2048x2048 .bf16) (x : Vec Ideal S16384x2048 .f32) (g : Vec Ideal S1x2048 .f32)
    (gt : Vec Ideal S4x1x2048 .f32) (r : Fin 16384) (e : Fin 2048) : EReal :=
  resid (fun k => dotE (M := 16384) (K := 2048) (N := 2048) a w r k) (fun k => g (ValueIdx.ix2 (n0 := 1) (n1 := 2048) 0 k))
    (fun k => gt (ValueIdx.ix3 (n0 := 4) (n1 := 1) (n2 := 2048) (batch r) 0 k)) (fun k => x (ValueIdx.ix2 (n0 := 16384) (n1 := 2048) r k)) e

/-- A token's row of the modulated norm. -/
def modulAt (a : Vec Ideal S16384x2048 .bf16) (w : Vec Ideal S2048x2048 .bf16) (x : Vec Ideal S16384x2048 .f32) (g : Vec Ideal S1x2048 .f32)
    (gt : Vec Ideal S4x1x2048 .f32) (ng : Vec Ideal S1x2048 .f32) (sc sh : Vec Ideal S4x1x2048 .f32) (r : Fin 16384) (e : Fin 2048) : EReal :=
  modul (fun k => residAt a w x g gt r k) (fun k => ng (ValueIdx.ix2 (n0 := 1) (n1 := 2048) 0 k))
    (fun k => sc (ValueIdx.ix3 (n0 := 4) (n1 := 1) (n2 := 2048) (batch r) 0 k)) (fun k => sh (ValueIdx.ix3 (n0 := 4) (n1 := 1) (n2 := 2048) (batch r) 0 k)) e

section Block

variable (t : Fin cfg0.N) (r : Fin 512) (R : Fin 16384) (hR : R.val = t.val * 512 + r.val) (j k e : Fin 2048)

theorem blk1 : (iblk m c 1 t : Vec Ideal S2048x2048 .bf16) (ValueIdx.ix2 j k) = (V m c main_v2 : Vec Ideal S2048x2048 .bf16) (ValueIdx.ix2 j k) := by
  obtain ⟨e0, e1, e2, e3, e4, e5, e6, e7, e8, e9⟩ := idxs t
  blk_ext [iblk, e1]

theorem blk3 : (iblk m c 3 t : Vec Ideal S1x2048 .f32) (ValueIdx.ix2 (n0 := 1) (n1 := 2048) 0 k)
    = (V m c main_v4 : Vec Ideal S1x2048 .f32) (ValueIdx.ix2 (n0 := 1) (n1 := 2048) 0 k) := by
  obtain ⟨e0, e1, e2, e3, e4, e5, e6, e7, e8, e9⟩ := idxs t
  blk_ext [iblk, e3]

theorem blk5 : (iblk m c 5 t : Vec Ideal S1x2048 .f32) (ValueIdx.ix2 (n0 := 1) (n1 := 2048) 0 k)
    = (V m c main_v6 : Vec Ideal S1x2048 .f32) (ValueIdx.ix2 (n0 := 1) (n1 := 2048) 0 k) := by
  obtain ⟨e0, e1, e2, e3, e4, e5, e6, e7, e8, e9⟩ := idxs t
  blk_ext [iblk, e5]

include hR

theorem blk0 : (iblk m c 0 t : Vec Ideal S512x2048 .bf16) (ValueIdx.ix2 r k) = (V m c main_v1 : Vec Ideal S16384x2048 .bf16) (ValueIdx.ix2 R k) := by
  obtain ⟨e0, e1, e2, e3, e4, e5, e6, e7, e8, e9⟩ := idxs t
  blk_ext [iblk, e0]
  exact hR.symm

theorem blk2 : (iblk m c 2 t : Vec Ideal S512x2048 .f32) (ValueIdx.ix2 r k) = (V m c main_v3 : Vec Ideal S16384x2048 .f32) (ValueIdx.ix2 R k) := by
  obtain ⟨e0, e1, e2, e3, e4, e5, e6, e7, e8, e9⟩ := idxs t
  blk_ext [iblk, e2]
  exact hR.symm

theorem batch_eq : t.val / 8 = (batch R).val := by
  show t.val / 8 = R.val / 4096
  omega

theorem blk4 : (iblk m c 4 t : Vec Ideal S1x1x2048 .f32) (ValueIdx.ix3 (n0 := 1) (n1 := 1) (n2 := 2048) 0 0 k)
    = (V m c main_v5 : Vec Ideal S4x1x2048 .f32) (ValueIdx.ix3 (n0 := 4) (n1 := 1) (n2 := 2048) (batch R) 0 k) := by
  obtain ⟨e0, e1, e2, e3, e4, e5, e6, e7, e8, e9⟩ := idxs t
  blk_ext [iblk, e4]
  exact batch_eq t r R hR

theorem blk6 : (iblk m c 6 t : Vec Ideal S1x1x2048 .f32) (ValueIdx.ix3 (n0 := 1) (n1 := 1) (n2 := 2048) 0 0 k)
    = (V m c main_v7 : Vec Ideal S4x1x2048 .f32) (ValueIdx.ix3 (n0 := 4) (n1 := 1) (n2 := 2048) (batch R) 0 k) := by
  obtain ⟨e0, e1, e2, e3, e4, e5, e6, e7, e8, e9⟩ := idxs t
  blk_ext [iblk, e6]
  exact batch_eq t r R hR

theorem blk7 : (iblk m c 7 t : Vec Ideal S1x1x2048 .f32) (ValueIdx.ix3 (n0 := 1) (n1 := 1) (n2 := 2048) 0 0 k)
    = (V m c main_v8 : Vec Ideal S4x1x2048 .f32) (ValueIdx.ix3 (n0 := 4) (n1 := 1) (n2 := 2048) (batch R) 0 k) := by
  obtain ⟨e0, e1, e2, e3, e4, e5, e6, e7, e8, e9⟩ := idxs t
  blk_ext [iblk, e7]
  exact batch_eq t r R hR

theorem sum_blk : k0_pay2 (iblk m c 0 t) (iblk m c 1 t) (iblk m c 2 t) (iblk m c 4 t) (iblk m c 3 t) (ValueIdx.ix2 r e)
    = residAt (V m c main_v1) (V m c main_v2) (V m c main_v3) (V m c main_v4) (V m c main_v5) R e := by
  refine (sum_at _ _ _ _ _ r e).trans (resid_congr e (fun k => ?_) (fun k => blk3 m c t k) (fun k => blk4 m c t r R hR k) fun k => blk2 m c t r R hR k)
  exact Finset.sum_congr rfl fun q _ => congrArg₂ (· * ·) (blk0 m c t r R hR q) (blk1 m c t q k)

theorem norm_blk : k0_pay1 (k0_pay2 (iblk m c 0 t) (iblk m c 1 t) (iblk m c 2 t) (iblk m c 4 t) (iblk m c 3 t)) (k0_pay3 (iblk m c 5 t))
      (k0_pay4 (iblk m c 0 t) (iblk m c 1 t) (iblk m c 2 t) (iblk m c 4 t) (iblk m c 3 t)) (iblk m c 6 t) (iblk m c 7 t) (ValueIdx.ix2 r e)
    = modulAt (V m c main_v1) (V m c main_v2) (V m c main_v3) (V m c main_v4) (V m c main_v5) (V m c main_v6) (V m c main_v7) (V m c main_v8) R e :=
  (norm_at _ _ _ _ _ _ _ _ r e).trans (modul_congr e (fun k => sum_blk m c t r R hR k) (fun k => blk5 m c t k) (fun k => blk6 m c t r R hR k)
    fun k => blk7 m c t r R hR k)

end Block

/-- The residual sums that the kernel leaves. -/
theorem out_sum : (dats m 0 c).arrAt 8 cfg0.N = fun i : S16384x2048.Idx =>
    residAt (V m c main_v1) (V m c main_v2) (V m c main_v3) (V m c main_v4) (V m c main_v5) (i 0) (i 1) := by
  refine (dats m 0 c).arrAt_eq_of_covers 8 _ (by decide +kernel) fun t hf y => ?_
  blk_simp
  rw [after0_8]
  frame_out
  have ey : y = ValueIdx.ix2 (n0 := 512) (n1 := 2048) (y 0) (y 1) := by
    funext b
    match b with
    | ⟨0, _⟩ => rfl
    | ⟨1, _⟩ => rfl
  obtain ⟨e0, e1, e2, e3, e4, e5, e6, e7, e8, e9⟩ := idxs t
  refine (congrArg _ ey).trans ((sum_blk m c t (y 0) _ ?_ (y 1)).trans (congrArg (residAt _ _ _ _ _ _) (Fin.ext ?_)))
  · show win0_8.index t 0 * 512 + 1 * (y 0).val = _
    rw [e8, one_mul]; rfl
  · show (y 1).val = win0_8.index t 1 * 2048 + 1 * (y 1).val
    rw [e8, one_mul]; exact (Nat.zero_add _).symm

/-- The modulated norms that the kernel leaves. -/
theorem out_norm : (dats m 0 c).arrAt 9 cfg0.N = fun i : S16384x2048.Idx =>
    modulAt (V m c main_v1) (V m c main_v2) (V m c main_v3) (V m c main_v4) (V m c main_v5) (V m c main_v6) (V m c main_v7) (V m c main_v8) (i 0) (i 1) := by
  refine (dats m 0 c).arrAt_eq_of_covers 9 _ (by decide +kernel) fun t hf y => ?_
  blk_simp
  rw [after0_9]
  frame_out
  have ey : y = ValueIdx.ix2 (n0 := 512) (n1 := 2048) (y 0) (y 1) := by
    funext b
    match b with
    | ⟨0, _⟩ => rfl
    | ⟨1, _⟩ => rfl
  obtain ⟨e0, e1, e2, e3, e4, e5, e6, e7, e8, e9⟩ := idxs t
  refine (congrArg _ ey).trans ((norm_blk m c t (y 0) _ ?_ (y 1)).trans (congrArg (modulAt _ _ _ _ _ _ _ _ _) (Fin.ext ?_)))
  · show win0_9.index t 0 * 512 + 1 * (y 0).val = _
    rw [e9, one_mul]; rfl
  · show (y 1).val = win0_9.index t 1 * 2048 + 1 * (y 1).val
    rw [e9, one_mul]; exact (Nat.zero_add _).symm

/-- The residual sums as a function of the arguments. -/
def sums (a : Vec Ideal S4x4096x2048 .f32) (w : Vec Ideal S2048x2048 .f32) (x : Vec Ideal S4x4096x2048 .f32) (g : Vec Ideal S2048 .f32)
    (gt : Vec Ideal S4x2048 .f32) (i : S16384x2048.Idx) : EReal :=
  residAt (rows a) w (rows x) (lane g) (lanes gt) (i 0) (i 1)

/-- The modulated norms as a function of the arguments. -/
def norms (a : Vec Ideal S4x4096x2048 .f32) (w : Vec Ideal S2048x2048 .f32) (x : Vec Ideal S4x4096x2048 .f32) (g : Vec Ideal S2048 .f32)
    (gt : Vec Ideal S4x2048 .f32) (ng : Vec Ideal S2048 .f32) (sc sh : Vec Ideal S4x2048 .f32) (i : S16384x2048.Idx) : EReal :=
  modulAt (rows a) w (rows x) (lane g) (lanes gt) (lane ng) (lanes sc) (lanes sh) (i 0) (i 1)

theorem kernel_sums : (dats m 0 c).arrAt 8 cfg0.N
    = sums (m ((c : Thread nD τ).loc main_arg0)) (m ((c : Thread nD τ).loc main_arg1)) (m ((c : Thread nD τ).loc main_arg2))
      (m ((c : Thread nD τ).loc main_arg3)) (m ((c : Thread nD τ).loc main_arg4)) := by
  rw [out_sum, V_m, V_w, V_x, V_pg, V_gt]
  rfl

theorem kernel_norms : (dats m 0 c).arrAt 9 cfg0.N
    = norms (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  rw [out_norm, V_m, V_w, V_x, V_pg, V_gt, V_ng, V_sc, V_sh]
  rfl

section Ref

open Cert.Reference3Ideal.Read

variable (x0 x2 : Vec Ideal S4x4096x2048 .f32) (x1 : Vec Ideal S2048x2048 .f32) (x3 x5 : Vec Ideal S2048 .f32) (x4 x6 x7 : Vec Ideal S4x2048 .f32)
variable (b : Fin 4) (s : Fin 4096) (k e : Fin 2048)

/-- An index of a token's channel. -/
abbrev iT (b : Fin 4) (s : Fin 4096) (e : Fin 2048) : S4x4096x2048.Idx := ValueIdx.ix3 b s e

/-- The token's row. -/
def tok (b : Fin 4) (s : Fin 4096) : Fin 16384 := ⟨b.val * 4096 + s.val, by omega⟩

theorem batch_tok : batch (tok b s) = b := Fin.ext (by show (b.val * 4096 + s.val) / 4096 = b.val; omega)

theorem ref_dot : val_main_v0 (F := Ideal) x0 x1 (iT b s e) = dotE (M := 16384) (K := 2048) (N := 2048) (rows x0) x1 (tok b s) e := by
  refine (val_main_v0_apply _ _ _).trans (Finset.sum_congr rfl fun k _ => congrArg₂ (· * ·) ?_ ?_)
  · exact (rows_at x0 _ _ rfl rfl).symm
  · refine congrArg x1 (funext fun a => Fin.ext ?_)
    match a with
    | ⟨0, _⟩ => rfl
    | ⟨1, _⟩ => rfl

theorem ref_inv : val_main_v10 (F := Ideal) x0 x1 (iT b s e) = inv fun k => val_main_v0 (F := Ideal) x0 x1 (iT b s k) := by
  rw [val_main_v10_apply, val_main_v9_apply, val_main_v8_apply, val_main_v6_apply, val_main_v4_apply, val_main_v3_apply]
  show Ideal.rsqrt (Ideal.div (Ideal.ofBits .f32 0x00000000#32 + _) _ + _) = Ideal.rsqrt (Ideal.div _ _ + _)
  rw [Ideal.ofBits_zero_f32, zero_add]
  refine congrArg (fun u => Ideal.rsqrt (Ideal.div u _ + _)) (Finset.sum_congr rfl fun k _ => ?_)
  have ej : ∀ i : S4x4096x2048.Idx, i = iT b s k → val_main_v2 (F := Ideal) x0 x1 i
      = val_main_v0 (F := Ideal) x0 x1 (iT b s k) * val_main_v0 (F := Ideal) x0 x1 (iT b s k) := fun i h => by rw [h]; rfl
  refine ej _ ?_
  funext a
  match a with
  | ⟨0, _⟩ => rfl
  | ⟨1, _⟩ => rfl
  | ⟨2, _⟩ => rfl

theorem ref_sum : val_main_v17 (F := Ideal) x0 x1 x2 x3 x4 (iT b s e) = residAt (rows x0) x1 (rows x2) (lane x3) (lanes x4) (tok b s) e := by
  refine Eq.trans (b := resid (fun k => val_main_v0 (F := Ideal) x0 x1 (iT b s k)) (fun k => x3 (ValueIdx.ix1 k)) (fun k => x4 (ValueIdx.ix2 b k)) (fun k => x2 (iT b s k)) e) ?_ ?_
  · rw [val_main_v17_apply, val_main_v16_apply, val_main_v14_apply, val_main_v11_apply, ref_inv, val_main_v15_apply, val_main_v1_apply, val_main_v13_apply, val_main_v12_apply]
    refine congrArg₂ (· + ·) rfl (congrArg₂ (· * ·) (congrArg x4 ?_) (congrArg₂ (· * ·) rfl (congrArg x3 ?_)))
    · funext a
      match a with
      | ⟨0, _⟩ => rfl
      | ⟨1, _⟩ => rfl
    · funext a
      match a with
      | ⟨0, _⟩ => rfl
  · refine resid_congr e (fun k => ref_dot x0 x1 b s k) (fun k => (lane_at x3 k).symm) (fun k => ?_) fun k => (rows_at x2 _ _ rfl rfl).symm
    rw [batch_tok]
    exact (lanes_at x4 b k).symm

theorem ref_inv' : val_main_v26 (F := Ideal) x0 x1 x2 x3 x4 (iT b s e) = inv fun k => val_main_v17 (F := Ideal) x0 x1 x2 x3 x4 (iT b s k) := by
  rw [val_main_v26_apply, val_main_v25_apply, val_main_v24_apply, val_main_v22_apply, val_main_v20_apply, val_main_v19_apply]
  show Ideal.rsqrt (Ideal.div (Ideal.ofBits .f32 0x00000000#32 + _) _ + _) = Ideal.rsqrt (Ideal.div _ _ + _)
  rw [Ideal.ofBits_zero_f32, zero_add]
  refine congrArg (fun u => Ideal.rsqrt (Ideal.div u _ + _)) (Finset.sum_congr rfl fun k _ => ?_)
  have ej : ∀ i : S4x4096x2048.Idx, i = iT b s k → val_main_v18 (F := Ideal) x0 x1 x2 x3 x4 i
      = val_main_v17 (F := Ideal) x0 x1 x2 x3 x4 (iT b s k) * val_main_v17 (F := Ideal) x0 x1 x2 x3 x4 (iT b s k) := fun i h => by rw [h]; rfl
  refine ej _ ?_
  funext a
  match a with
  | ⟨0, _⟩ => rfl
  | ⟨1, _⟩ => rfl
  | ⟨2, _⟩ => rfl

theorem ref_norm : val_main_v38 (F := Ideal) x0 x1 x2 x3 x4 x5 x6 x7 (iT b s e)
    = modulAt (rows x0) x1 (rows x2) (lane x3) (lanes x4) (lane x5) (lanes x6) (lanes x7) (tok b s) e := by
  refine Eq.trans (b := modul (fun k => val_main_v17 (F := Ideal) x0 x1 x2 x3 x4 (iT b s k)) (fun k => x5 (ValueIdx.ix1 k)) (fun k => x6 (ValueIdx.ix2 b k)) (fun k => x7 (ValueIdx.ix2 b k)) e) ?_ ?_
  · rw [val_main_v38_apply, val_main_v35_apply, val_main_v30_apply, val_main_v27_apply, ref_inv', val_main_v29_apply, val_main_v28_apply, val_main_v34_apply,
      val_main_v33_apply, val_main_v31_apply, val_main_v37_apply, val_main_v36_apply]
    refine congrArg₂ (· + ·) (congrArg₂ (· * ·) (congrArg₂ (· * ·) rfl (congrArg x5 ?_)) (congrArg₂ (· + ·) rfl (congrArg x6 ?_))) (congrArg x7 ?_)
    · funext a
      match a with
      | ⟨0, _⟩ => rfl
    · funext a
      match a with
      | ⟨0, _⟩ => rfl
      | ⟨1, _⟩ => rfl
    · funext a
      match a with
      | ⟨0, _⟩ => rfl
      | ⟨1, _⟩ => rfl
  · refine modul_congr e (fun k => ref_sum x0 x2 x1 x3 x4 b s k) (fun k => (lane_at x5 k).symm) (fun k => ?_) fun k => ?_
    · rw [batch_tok]
      exact (lanes_at x6 b k).symm
    · rw [batch_tok]
      exact (lanes_at x7 b k).symm

/-- A row's batch and place. -/
theorem idx_row (i : S16384x2048.Idx) : ∃ (b : Fin 4) (s : Fin 4096), tok b s = i 0 ∧ idx_main_v39 i = iT b s (i 1) := by
  have i0 : (i 0).val < 16384 := (i 0).isLt
  have i1 : (i 1).val < 2048 := (i 1).isLt
  refine ⟨⟨(i 0).val / 4096, by omega⟩, ⟨(i 0).val % 4096, by omega⟩, Fin.ext ?_, ?_⟩
  · show (i 0).val / 4096 * 4096 + (i 0).val % 4096 = (i 0).val
    omega
  · funext a
    refine Fin.ext ?_
    match a with
    | ⟨0, _⟩ =>
      show ((i 0).val * 2048 + (i 1).val) / 8388608 = (i 0).val / 4096
      omega
    | ⟨1, _⟩ =>
      show ((i 0).val * 2048 + (i 1).val) / 2048 % 4096 = (i 0).val % 4096
      omega
    | ⟨2, _⟩ =>
      show ((i 0).val * 2048 + (i 1).val) % 2048 = (i 1).val
      omega

theorem ref_sums : val_main_v39 (F := Ideal) x0 x1 x2 x3 x4 = sums x0 x1 x2 x3 x4 := by
  funext i
  obtain ⟨b, s, h0, h1⟩ := idx_row i
  rw [val_main_v39_apply, h1]
  refine (ref_sum x0 x2 x1 x3 x4 b s (i 1)).trans ?_
  rw [h0]
  rfl

theorem ref_norms : val_main_v41 (F := Ideal) x0 x1 x2 x3 x4 x5 x6 x7 = norms x0 x1 x2 x3 x4 x5 x6 x7 := by
  funext i
  obtain ⟨b, s, h0, h1⟩ := idx_row i
  rw [val_main_v41_apply, val_main_v40_apply]
  refine Eq.trans (b := val_main_v38 (F := Ideal) x0 x1 x2 x3 x4 x5 x6 x7 (idx_main_v39 i)) rfl ?_
  rw [h1]
  refine (ref_norm x0 x2 x1 x3 x5 x4 x6 x7 b s (i 1)).trans ?_
  rw [h0]
  rfl

end Ref

end Cert.OutProj

end
-- ==== Proof.Lin.Query.lean ====
/-
  The experts' query projection: the array that the tiled product leaves is the product that the reference states.
-/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.MatmulPlain
public import Idealize.ShloMosaic.Lib.ValueIdx

@[expose] public section

set_option maxRecDepth 16384

noncomputable section

namespace Cert.Query

open Cert.Kernel4Ideal Cert.Kernel4Ideal.Gen Idealize.ShloMosaic Idealize.ShloMosaic.TcCoe Idealize.SL.Sem
open scoped BigOperators

variable (m : (ℓ : Loc nD τ sig) → Buf (Elt Ideal) ℓ) (c : Dev nD)

/-- The activations, one row per token. -/
def rows (x : Vec Ideal S4x4096x2048 .f32) : Vec Ideal S16384x2048 .bf16 :=
  truncf (F := Ideal) (φ := .f32) .bf16 (shapeCast S16384x2048 x shapeCasts_S4x4096x2048_S16384x2048) bitsLt_bf16_f32

theorem V_x : V m c main_v1 = rows (m ((c : Thread nD τ).loc main_arg0)) := by
  unfold_abbrev_sides
  after_results
  rfl

theorem V_w : V m c main_v2 = m ((c : Thread nD τ).loc main_arg1) := by
  unfold_abbrev_sides
  after_results
  rfl

theorem rows_at (x : Vec Ideal S4x4096x2048 .f32) (i : S16384x2048.Idx) (j : S4x4096x2048.Idx)
    (h : (i 0).val = (j 0).val * 4096 + (j 1).val) (h' : (i 1).val = (j 2).val) : rows x i = x j := by
  refine shapeCast_apply (s := S4x4096x2048) (t := S16384x2048) x _ _ _ ?_
  rw [Shape.rowMajor_val_three, Shape.rowMajor_val_two]
  show ((j 0).val * 4096 + (j 1).val) * 2048 + (j 2).val = (i 0).val * 2048 + (i 1).val
  rw [h, h']

/-- A block of the product, read at an index. -/
theorem tile_at (x : Vec Ideal S1024x2048 .bf16) (w : Vec Ideal S2048x512 .bf16) (r : Fin 1024) (e : Fin 512) :
    k0_pay1 x w (ValueIdx.ix2 r e) = ∑ k : Fin 2048, x (ValueIdx.ix2 r k) * w (ValueIdx.ix2 k e) := by
  refine (Ideal.matmul_plain_apply (M := 1024) (K := 2048) (N := 512) none _ _ _ r e).trans ?_
  show Ideal.ofBits .f32 0x00000000#32 + _ = _
  rw [Ideal.ofBits_zero_f32, zero_add]
  refine Finset.sum_congr rfl fun k _ => ?_
  rw [shapeCast_self, shapeCast_self]

theorem idxs : ∀ t : Fin cfg0.N, win0_0.index t = ![t.val / 4, 0] ∧ win0_1.index t = ![0, t.val % 4] ∧ win0_2.index t = ![t.val / 4, t.val % 4] := by
  decide +kernel

/-- The product of two arrays. -/
def prod (x : Vec Ideal S16384x2048 .bf16) (w : Vec Ideal S2048x2048 .bf16) (i : S16384x2048.Idx) : EReal :=
  ∑ k : Fin 2048, x (ValueIdx.ix2 (n0 := 16384) (n1 := 2048) (i 0) k) * w (ValueIdx.ix2 (n0 := 2048) (n1 := 2048) k (i 1))

/-- The array that the kernel leaves. -/
theorem out_at : (dats m 0 c).arrAt 2 cfg0.N = prod (V m c main_v1) (V m c main_v2) := by
  refine (dats m 0 c).arrAt_eq_of_covers 2 _ (by decide +kernel) fun t hf y => ?_
  blk_simp
  rw [after0_2]
  frame_out
  have ey : y = ValueIdx.ix2 (n0 := 1024) (n1 := 512) (y 0) (y 1) := by
    funext b
    match b with
    | ⟨0, _⟩ => rfl
    | ⟨1, _⟩ => rfl
  obtain ⟨e0, e1, e2⟩ := idxs t
  refine ((congrArg _ ey).trans (tile_at _ _ (y 0) (y 1))).trans ?_
  unfold prod
  refine Finset.sum_congr rfl fun k _ => ?_
  congr 1
  · blk_ext [iblk, e0]
    show _ + (y 0).val = win0_2.index t 0 * 1024 + 1 * (y 0).val
    rw [e2, one_mul]
    rfl
  · blk_ext [iblk, e1]
    show _ + (y 1).val = win0_2.index t 1 * 512 + 1 * (y 1).val
    rw [e2, one_mul]
    rfl

/-- The array that the reference leaves is the same product. -/
theorem ref_at (x : Vec Ideal S4x4096x2048 .f32) (w : Vec Ideal S2048x2048 .f32) :
    Cert.Reference4Ideal.Read.val_main_v2 (F := Ideal) x w = prod (rows x) w := by
  funext i
  rw [Cert.Reference4Ideal.Read.val_main_v2_apply, Cert.Reference4Ideal.Read.val_main_v1_apply]
  refine (Cert.Reference4Ideal.Read.val_main_v0_apply _ _ _).trans ?_
  unfold prod
  have i0 : (i 0).val < 16384 := (i 0).isLt
  have i1 : (i 1).val < 2048 := (i 1).isLt
  refine Finset.sum_congr rfl fun k _ => ?_
  congr 1
  · refine (rows_at x _ _ ?_ rfl).symm
    show (i 0).val = ((i 0).val * 2048 + (i 1).val) / 8388608 * 4096 + ((i 0).val * 2048 + (i 1).val) / 2048 % 4096
    omega
  · refine congrArg w (funext fun b => Fin.ext ?_)
    match b with
    | ⟨0, _⟩ => rfl
    | ⟨1, _⟩ =>
      show ((i 0).val * 2048 + (i 1).val) % 2048 = (i 1).val
      omega

theorem kernel_out : (dats m 0 c).arrAt 2 cfg0.N
    = prod (rows (m ((c : Thread nD τ).loc main_arg0))) (m ((c : Thread nD τ).loc main_arg1)) := by
  rw [out_at, V_x, V_w]

end Cert.Query

end
-- ==== Proof.Lin.Compressed.lean ====
/-
  The projection to MLA's compressed vectors: the array that the tiled product leaves is the product that the reference states.
-/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.MatmulPlain
public import Idealize.ShloMosaic.Lib.ValueIdx

@[expose] public section

set_option maxRecDepth 16384

noncomputable section

namespace Cert.Compressed

open Cert.Kernel6Ideal Cert.Kernel6Ideal.Gen Idealize.ShloMosaic Idealize.ShloMosaic.TcCoe Idealize.SL.Sem
open scoped BigOperators

variable (m : (ℓ : Loc nD τ sig) → Buf (Elt Ideal) ℓ) (c : Dev nD)

/-- The activations, one row per token. -/
def rows (x : Vec Ideal S4x4096x2048 .f32) : Vec Ideal S16384x2048 .bf16 :=
  truncf (F := Ideal) (φ := .f32) .bf16 (shapeCast S16384x2048 x shapeCasts_S4x4096x2048_S16384x2048) bitsLt_bf16_f32

/-- The compressed vectors' columns of the input projection. -/
def cols (x : Vec Ideal S2048x7504 .f32) : Vec Ideal S2048x768 .bf16 :=
  extractStridedSlice S2048x768 ![0, 2608] (truncf (F := Ideal) (φ := .f32) .bf16 x bitsLt_bf16_f32) slices_S2048x7504_S2048x768_0_2608

theorem V_x : V m c main_v3 = rows (m ((c : Thread nD τ).loc main_arg0)) := by
  unfold_abbrev_sides
  after_results
  rfl

theorem V_w : V m c main_v1 = cols (m ((c : Thread nD τ).loc main_arg1)) := by
  unfold_abbrev_sides
  after_results
  rfl

theorem rows_at (x : Vec Ideal S4x4096x2048 .f32) (i : S16384x2048.Idx) (j : S4x4096x2048.Idx)
    (h : (i 0).val = (j 0).val * 4096 + (j 1).val) (h' : (i 1).val = (j 2).val) : rows x i = x j := by
  refine shapeCast_apply (s := S4x4096x2048) (t := S16384x2048) x _ _ _ ?_
  rw [Shape.rowMajor_val_three, Shape.rowMajor_val_two]
  show ((j 0).val * 4096 + (j 1).val) * 2048 + (j 2).val = (i 0).val * 2048 + (i 1).val
  rw [h, h']

theorem cols_at (x : Vec Ideal S2048x7504 .f32) (i : S2048x768.Idx) (j : S2048x7504.Idx)
    (h : (j 0).val = (i 0).val) (h' : (j 1).val = 2608 + (i 1).val) : cols x i = x j :=
  extractStridedSlice_apply (s := S2048x7504) (t := S2048x768) _ _ _ _ _ fun b => by
    match b with
    | ⟨0, _⟩ => exact h.trans (Nat.zero_add _).symm
    | ⟨1, _⟩ => exact h'

/-- A block of the product, read at an index. -/
theorem tile_at (x : Vec Ideal S1024x2048 .bf16) (w : Vec Ideal S2048x768 .bf16) (r : Fin 1024) (e : Fin 768) :
    k0_pay1 x w (ValueIdx.ix2 r e) = ∑ k : Fin 2048, x (ValueIdx.ix2 r k) * w (ValueIdx.ix2 k e) := by
  refine (Ideal.matmul_plain_apply (M := 1024) (K := 2048) (N := 768) none _ _ _ r e).trans ?_
  show Ideal.ofBits .f32 0x00000000#32 + _ = _
  rw [Ideal.ofBits_zero_f32, zero_add]
  refine Finset.sum_congr rfl fun k _ => ?_
  rw [shapeCast_self, shapeCast_self]

theorem idxs : ∀ t : Fin cfg0.N, win0_0.index t = ![t.val, 0] ∧ win0_1.index t = ![0, 0] ∧ win0_2.index t = ![t.val, 0] := by
  decide +kernel

/-- The product of two arrays. -/
def prod (x : Vec Ideal S16384x2048 .bf16) (w : Vec Ideal S2048x768 .bf16) (i : S16384x768.Idx) : EReal :=
  ∑ k : Fin 2048, x (ValueIdx.ix2 (n0 := 16384) (n1 := 2048) (i 0) k) * w (ValueIdx.ix2 (n0 := 2048) (n1 := 768) k (i 1))

/-- The array that the kernel leaves. -/
theorem out_at : (dats m 0 c).arrAt 2 cfg0.N = prod (V m c main_v3) (V m c main_v1) := by
  refine (dats m 0 c).arrAt_eq_of_covers 2 _ (by decide +kernel) fun t hf y => ?_
  blk_simp
  rw [after0_2]
  frame_out
  have ey : y = ValueIdx.ix2 (n0 := 1024) (n1 := 768) (y 0) (y 1) := by
    funext b
    match b with
    | ⟨0, _⟩ => rfl
    | ⟨1, _⟩ => rfl
  obtain ⟨e0, e1, e2⟩ := idxs t
  refine ((congrArg _ ey).trans (tile_at _ _ (y 0) (y 1))).trans ?_
  unfold prod
  refine Finset.sum_congr rfl fun k _ => ?_
  congr 1
  · blk_ext [iblk, e0]
    show _ + (y 0).val = win0_2.index t 0 * 1024 + 1 * (y 0).val
    rw [e2, one_mul]
    rfl
  · blk_ext [iblk, e1]
    show (y 1).val = win0_2.index t 1 * 768 + 1 * (y 1).val
    rw [e2, one_mul]
    exact (Nat.zero_add _).symm

/-- The array that the reference leaves is the same product. -/
theorem ref_at (x : Vec Ideal S4x4096x2048 .f32) (w : Vec Ideal S2048x7504 .f32) :
    Cert.Reference6Ideal.Read.val_main_v2 (F := Ideal) x w = prod (rows x) (cols w) := by
  funext i
  rw [Cert.Reference6Ideal.Read.val_main_v2_apply, Cert.Reference6Ideal.Read.val_main_v1_apply]
  refine (Cert.Reference6Ideal.Read.val_main_v0_apply _ _ _).trans ?_
  unfold prod
  have i0 : (i 0).val < 16384 := (i 0).isLt
  have i1 : (i 1).val < 768 := (i 1).isLt
  refine Finset.sum_congr rfl fun k _ => ?_
  congr 1
  · refine (rows_at x _ _ ?_ rfl).symm
    show (i 0).val = ((i 0).val * 768 + (i 1).val) / 3145728 * 4096 + ((i 0).val * 768 + (i 1).val) / 768 % 4096
    omega
  · refine (cols_at w _ _ rfl ?_).symm
    show 2608 + ((i 0).val * 768 + (i 1).val) % 768 = 2608 + (i 1).val
    omega

theorem kernel_out : (dats m 0 c).arrAt 2 cfg0.N
    = prod (rows (m ((c : Thread nD τ).loc main_arg0))) (cols (m ((c : Thread nD τ).loc main_arg1))) := by
  rw [out_at, V_x, V_w]

end Cert.Compressed

end
-- ==== Proof.Lin.FirstNorm.lean ====
/-
  The first norm of a layer: the array that the kernel leaves is the tokens' norm with the scale and shift of their batch, as
  the reference states it.
-/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.ValueIdx

@[expose] public section

set_option maxRecDepth 16384

noncomputable section

namespace Cert.FirstNorm

open Cert.Kernel7Ideal Cert.Kernel7Ideal.Gen Idealize.ShloMosaic Idealize.ShloMosaic.TcCoe Idealize.SL.Sem
open scoped BigOperators

variable (m : (ℓ : Loc nD τ sig) → Buf (Elt Ideal) ℓ) (c : Dev nD)

/-- One over the root mean square of a row. -/
def inv (y : Fin 2048 → EReal) : EReal :=
  Ideal.rsqrt (Ideal.div (∑ k, y k * y k) (Ideal.ofBits .f32 0x45000000#32) + Ideal.ofBits .f32 0x358637BD#32)

/-- A row of the modulated norm. -/
def modul (z g sc sh : Fin 2048 → EReal) (e : Fin 2048) : EReal :=
  z e * inv z * g e * (Ideal.ofBits .f32 0x3F800000#32 + sc e) + sh e

theorem modul_congr {z z' g g' sc sc' sh sh' : Fin 2048 → EReal} (e : Fin 2048) (hz : ∀ k, z k = z' k) (hg : ∀ k, g k = g' k)
    (hsc : ∀ k, sc k = sc' k) (hsh : ∀ k, sh k = sh' k) : modul z g sc sh e = modul z' g' sc' sh' e := by
  rw [funext hz, funext hg, funext hsc, funext hsh]

/-- The activations, one row per token. -/
def rows (x : Vec Ideal S4x4096x2048 .f32) : Vec Ideal S16384x2048 .f32 := shapeCast S16384x2048 x shapeCasts_S4x4096x2048_S16384x2048
/-- A norm's weights, as one row. -/
def lane (x : Vec Ideal S2048 .f32) : Vec Ideal S1x2048 .f32 := shapeCast S1x2048 x shapeCasts_S2048_S1x2048
/-- A batch's vector, as one row each. -/
def lanes (x : Vec Ideal S4x2048 .f32) : Vec Ideal S4x1x2048 .f32 := shapeCast S4x1x2048 x shapeCasts_S4x2048_S4x1x2048

theorem V_x : V m c main_v0 = rows (m ((c : Thread nD τ).loc main_arg0)) := by
  unfold_abbrev_sides
  after_results
  rfl
theorem V_g : V m c main_v1 = lane (m ((c : Thread nD τ).loc main_arg1)) := by
  unfold_abbrev_sides
  after_results
  rfl
theorem V_sc : V m c main_v2 = lanes (m ((c : Thread nD τ).loc main_arg2)) := by
  unfold_abbrev_sides
  after_results
  rfl
theorem V_sh : V m c main_v3 = lanes (m ((c : Thread nD τ).loc main_arg3)) := by
  unfold_abbrev_sides
  after_results
  rfl

theorem rows_at (x : Vec Ideal S4x4096x2048 .f32) (i : S16384x2048.Idx) (j : S4x4096x2048.Idx)
    (h : (i 0).val = (j 0).val * 4096 + (j 1).val) (h' : (i 1).val = (j 2).val) : rows x i = x j := by
  refine shapeCast_apply (s := S4x4096x2048) (t := S16384x2048) x _ _ _ ?_
  rw [Shape.rowMajor_val_three, Shape.rowMajor_val_two]
  show ((j 0).val * 4096 + (j 1).val) * 2048 + (j 2).val = (i 0).val * 2048 + (i 1).val
  rw [h, h']

theorem lane_at (x : Vec Ideal S2048 .f32) (k : Fin 2048) : lane x (ValueIdx.ix2 (n0 := 1) (n1 := 2048) 0 k) = x (ValueIdx.ix1 k) := by
  refine shapeCast_apply (s := S2048) (t := S1x2048) x _ _ _ ?_
  rw [Shape.rowMajor_val_one, Shape.rowMajor_val_two]
  show k.val = 0 * 2048 + k.val
  omega

theorem lanes_at (x : Vec Ideal S4x2048 .f32) (b : Fin 4) (k : Fin 2048) :
    lanes x (ValueIdx.ix3 (n0 := 4) (n1 := 1) (n2 := 2048) b 0 k) = x (ValueIdx.ix2 b k) := by
  refine shapeCast_apply (s := S4x2048) (t := S4x1x2048) x _ _ _ ?_
  rw [Shape.rowMajor_val_three, Shape.rowMajor_val_two]
  show b.val * 2048 + k.val = (b.val * 1 + 0) * 2048 + k.val
  omega

/-- A row's factor as the kernel forms it. -/
theorem inv_at (y : FVec Ideal S512x2048 .f32) (r : Fin 512) (e : Fin 2048) :
    broadcastTo S512x2048 (rsqrt (F := Ideal) (addf (divf (shapeCast S512x1 (multiReduction .add [1] S512 (mulf y y) 0x00000000#32 reduces_S512x2048_S512 (.inl rfl) rfl)
      shapeCasts_S512_S512x1) (broadcast S512x1 (Scalar.ofBits (F := Ideal) .f32 0x45000000#32))) (broadcast S512x1 (Scalar.ofBits (F := Ideal) .f32 0x358637BD#32))))
      broadcasts_S512x1_S512x2048 (ValueIdx.ix2 r e) = inv fun k => y (ValueIdx.ix2 r k) := by
  refine (broadcastTo_apply (s := S512x1) (t := S512x2048) _ _ _ (ValueIdx.ix2 (n0 := 512) (n1 := 1) r 0)
    (fun a => by match a with | ⟨0, _⟩ => rfl | ⟨1, _⟩ => rfl)).trans ?_
  show Ideal.rsqrt (Ideal.div _ _ + _) = Ideal.rsqrt (Ideal.div _ _ + _)
  refine congrArg (fun u => Ideal.rsqrt (Ideal.div u _ + _)) ?_
  refine (shapeCast_apply (s := S512) (t := S512x1) _ _ _ (ValueIdx.ix1 r) ?_).trans ?_
  · refine (Shape.rowMajor_val_one _).trans ((Shape.rowMajor_val_two _).trans ?_).symm
    show r.val * 1 + 0 = r.val
    omega
  · refine (Ideal.multiReduction_add_single _ _ _ _ _ _).trans ?_
    refine Finset.sum_congr rfl fun j _ => ?_
    have ej : ∀ i : S512x2048.Idx, i = ValueIdx.ix2 r j → mulf y y i = y (ValueIdx.ix2 r j) * y (ValueIdx.ix2 r j) := fun i h => by rw [h]; rfl
    refine ej _ ?_
    funext b
    match b with
    | ⟨0, _⟩ => rfl
    | ⟨1, _⟩ => rfl

theorem down_at (v : FVec Ideal S1x2048 .f32) (r : Fin 512) (e : Fin 2048) :
    broadcastTo S512x2048 v broadcasts_S1x2048_S512x2048 (ValueIdx.ix2 r e) = v (ValueIdx.ix2 (n0 := 1) (n1 := 2048) 0 e) :=
  broadcastTo_apply (s := S1x2048) (t := S512x2048) _ _ _ (ValueIdx.ix2 (n0 := 1) (n1 := 2048) 0 e)
    (fun a => by match a with | ⟨0, _⟩ => rfl | ⟨1, _⟩ => rfl)

theorem drop_at (v : Vec Ideal S1x1x2048 .f32) (e : Fin 2048) :
    shapeCast S1x2048 v shapeCasts_S1x1x2048_S1x2048 (ValueIdx.ix2 (n0 := 1) (n1 := 2048) 0 e) = v (ValueIdx.ix3 (n0 := 1) (n1 := 1) (n2 := 2048) 0 0 e) := by
  refine shapeCast_apply (s := S1x1x2048) (t := S1x2048) v _ _ _ ?_
  rw [Shape.rowMajor_val_three, Shape.rowMajor_val_two]
  rfl

/-- A block of the modulated norm, read at an index. -/
theorem norm_at (x : Vec Ideal S512x2048 .f32) (g : Vec Ideal S1x2048 .f32) (sc sh : Vec Ideal S1x1x2048 .f32) (r : Fin 512) (e : Fin 2048) :
    k0_pay1 x g sc sh (ValueIdx.ix2 r e)
      = modul (fun k => x (ValueIdx.ix2 r k)) (fun k => g (ValueIdx.ix2 (n0 := 1) (n1 := 2048) 0 k))
      (fun k => sc (ValueIdx.ix3 (n0 := 1) (n1 := 1) (n2 := 2048) 0 0 k)) (fun k => sh (ValueIdx.ix3 (n0 := 1) (n1 := 1) (n2 := 2048) 0 0 k)) e := by
  unfold k0_pay1
  simp only [shapeCast_self]
  refine congrArg₂ (· + ·) (congrArg₂ (· * ·) (congrArg₂ (· * ·) (congrArg₂ (· * ·) rfl (inv_at x r e)) (down_at g r e)) ?_) ((down_at _ r e).trans (drop_at sh e))
  exact (down_at _ r e).trans (congrArg (Ideal.ofBits .f32 0x3F800000#32 + ·) (drop_at sc e))

theorem idxs : ∀ t : Fin cfg0.N, win0_0.index t = ![t.val, 0] ∧ win0_1.index t = ![0, 0] ∧ win0_2.index t = ![t.val / 8, 0, 0]
    ∧ win0_3.index t = ![t.val / 8, 0, 0] ∧ win0_4.index t = ![t.val, 0] := by
  decide +kernel

/-- The batch of a token's row. -/
def batch (r : Fin 16384) : Fin 4 := ⟨r.val / 4096, by omega⟩

/-- A token's row of the modulated norm. -/
def modulAt (x : Vec Ideal S16384x2048 .f32) (g : Vec Ideal S1x2048 .f32) (sc sh : Vec Ideal S4x1x2048 .f32) (r : Fin 16384) (e : Fin 2048) : EReal :=
  modul (fun k => x (ValueIdx.ix2 (n0 := 16384) (n1 := 2048) r k)) (fun k => g (ValueIdx.ix2 (n0 := 1) (n1 := 2048) 0 k))
    (fun k => sc (ValueIdx.ix3 (n0 := 4) (n1 := 1) (n2 := 2048) (batch r) 0 k)) (fun k => sh (ValueIdx.ix3 (n0 := 4) (n1 := 1) (n2 := 2048) (batch r) 0 k)) e

section Block

variable (t : Fin cfg0.N) (r : Fin 512) (R : Fin 16384) (hR : R.val = t.val * 512 + r.val) (k e : Fin 2048)

theorem blk1 : (iblk m c 1 t : Vec Ideal S1x2048 .f32) (ValueIdx.ix2 (n0 := 1) (n1 := 2048) 0 k)
    = (V m c main_v1 : Vec Ideal S1x2048 .f32) (ValueIdx.ix2 (n0 := 1) (n1 := 2048) 0 k) := by
  obtain ⟨e0, e1, e2, e3, e4⟩ := idxs t
  blk_ext [iblk, e1]

include hR

theorem blk0 : (iblk m c 0 t : Vec Ideal S512x2048 .f32) (ValueIdx.ix2 r k) = (V m c main_v0 : Vec Ideal S16384x2048 .f32) (ValueIdx.ix2 R k) := by
  obtain ⟨e0, e1, e2, e3, e4⟩ := idxs t
  blk_ext [iblk, e0]
  exact hR.symm

theorem batch_eq : t.val / 8 = (batch R).val := by
  show t.val / 8 = R.val / 4096
  omega

theorem blk2 : (iblk m c 2 t : Vec Ideal S1x1x2048 .f32) (ValueIdx.ix3 (n0 := 1) (n1 := 1) (n2 := 2048) 0 0 k)
    = (V m c main_v2 : Vec Ideal S4x1x2048 .f32) (ValueIdx.ix3 (n0 := 4) (n1 := 1) (n2 := 2048) (batch R) 0 k) := by
  obtain ⟨e0, e1, e2, e3, e4⟩ := idxs t
  blk_ext [iblk, e2]
  exact batch_eq t r R hR

theorem blk3 : (iblk m c 3 t : Vec Ideal S1x1x2048 .f32) (ValueIdx.ix3 (n0 := 1) (n1 := 1) (n2 := 2048) 0 0 k)
    = (V m c main_v3 : Vec Ideal S4x1x2048 .f32) (ValueIdx.ix3 (n0 := 4) (n1 := 1) (n2 := 2048) (batch R) 0 k) := by
  obtain ⟨e0, e1, e2, e3, e4⟩ := idxs t
  blk_ext [iblk, e3]
  exact batch_eq t r R hR

theorem norm_blk : k0_pay1 (iblk m c 0 t) (iblk m c 1 t) (iblk m c 2 t) (iblk m c 3 t) (ValueIdx.ix2 r e)
    = modulAt (V m c main_v0) (V m c main_v1) (V m c main_v2) (V m c main_v3) R e :=
  (norm_at _ _ _ _ r e).trans (modul_congr e (fun k => blk0 m c t r R hR k) (fun k => blk1 m c t k) (fun k => blk2 m c t r R hR k)
    fun k => blk3 m c t r R hR k)

end Block

/-- The array that the kernel leaves. -/
theorem out_norm : (dats m 0 c).arrAt 4 cfg0.N = fun i : S16384x2048.Idx =>
    modulAt (V m c main_v0) (V m c main_v1) (V m c main_v2) (V m c main_v3) (i 0) (i 1) := by
  refine (dats m 0 c).arrAt_eq_of_covers 4 _ (by decide +kernel) fun t hf y => ?_
  blk_simp
  rw [after0_4]
  frame_out
  have ey : y = ValueIdx.ix2 (n0 := 512) (n1 := 2048) (y 0) (y 1) := by
    funext b
    match b with
    | ⟨0, _⟩ => rfl
    | ⟨1, _⟩ => rfl
  obtain ⟨e0, e1, e2, e3, e4⟩ := idxs t
  refine (congrArg _ ey).trans ((norm_blk m c t (y 0) _ ?_ (y 1)).trans (congrArg (modulAt _ _ _ _ _) (Fin.ext ?_)))
  · show win0_4.index t 0 * 512 + 1 * (y 0).val = _
    rw [e4, one_mul]; rfl
  · show (y 1).val = win0_4.index t 1 * 2048 + 1 * (y 1).val
    rw [e4, one_mul]; exact (Nat.zero_add _).symm

/-- The modulated norms as a function of the arguments. -/
def norms (x : Vec Ideal S4x4096x2048 .f32) (g : Vec Ideal S2048 .f32) (sc sh : Vec Ideal S4x2048 .f32) (i : S16384x2048.Idx) : EReal :=
  modulAt (rows x) (lane g) (lanes sc) (lanes sh) (i 0) (i 1)

theorem kernel_out : (dats m 0 c).arrAt 4 cfg0.N
    = norms (m ((c : Thread nD τ).loc main_arg0)) (m ((c : Thread nD τ).loc main_arg1)) (m ((c : Thread nD τ).loc main_arg2))
      (m ((c : Thread nD τ).loc main_arg3)) := by
  rw [out_norm, V_x, V_g, V_sc, V_sh]
  rfl

section Ref

open Cert.Reference7Ideal.Read

variable (x0 : Vec Ideal S4x4096x2048 .f32) (x1 : Vec Ideal S2048 .f32) (x2 x3 : Vec Ideal S4x2048 .f32)
variable (b : Fin 4) (s : Fin 4096) (k e : Fin 2048)

/-- An index of a token's channel. -/
abbrev iT (b : Fin 4) (s : Fin 4096) (e : Fin 2048) : S4x4096x2048.Idx := ValueIdx.ix3 b s e

/-- The token's row. -/
def tok (b : Fin 4) (s : Fin 4096) : Fin 16384 := ⟨b.val * 4096 + s.val, by omega⟩

theorem batch_tok : batch (tok b s) = b := Fin.ext (by show (b.val * 4096 + s.val) / 4096 = b.val; omega)

theorem ref_inv : val_main_v8 (F := Ideal) x0 (iT b s e) = inv fun k => x0 (iT b s k) := by
  rw [val_main_v8_apply, val_main_v7_apply, val_main_v6_apply, val_main_v4_apply, val_main_v2_apply, val_main_v1_apply]
  show Ideal.rsqrt (Ideal.div (Ideal.ofBits .f32 0x00000000#32 + _) _ + _) = Ideal.rsqrt (Ideal.div _ _ + _)
  rw [Ideal.ofBits_zero_f32, zero_add]
  refine congrArg (fun u => Ideal.rsqrt (Ideal.div u _ + _)) (Finset.sum_congr rfl fun k _ => ?_)
  have ej : ∀ i : S4x4096x2048.Idx, i = iT b s k → val_main_v0 (F := Ideal) x0 i = x0 (iT b s k) * x0 (iT b s k) := fun i h => by rw [h]; rfl
  refine ej _ ?_
  funext a
  match a with
  | ⟨0, _⟩ => rfl
  | ⟨1, _⟩ => rfl
  | ⟨2, _⟩ => rfl

theorem ref_norm : val_main_v20 (F := Ideal) x0 x1 x2 x3 (iT b s e) = modulAt (rows x0) (lane x1) (lanes x2) (lanes x3) (tok b s) e := by
  refine Eq.trans (b := modul (fun k => x0 (iT b s k)) (fun k => x1 (ValueIdx.ix1 k)) (fun k => x2 (ValueIdx.ix2 b k)) (fun k => x3 (ValueIdx.ix2 b k)) e) ?_ ?_
  · rw [val_main_v20_apply, val_main_v17_apply, val_main_v12_apply, val_main_v9_apply, ref_inv, val_main_v11_apply, val_main_v10_apply, val_main_v16_apply,
      val_main_v15_apply, val_main_v13_apply, val_main_v19_apply, val_main_v18_apply]
    refine congrArg₂ (· + ·) (congrArg₂ (· * ·) (congrArg₂ (· * ·) rfl (congrArg x1 ?_)) (congrArg₂ (· + ·) rfl (congrArg x2 ?_))) (congrArg x3 ?_)
    · funext a
      match a with
      | ⟨0, _⟩ => rfl
    · funext a
      match a with
      | ⟨0, _⟩ => rfl
      | ⟨1, _⟩ => rfl
    · funext a
      match a with
      | ⟨0, _⟩ => rfl
      | ⟨1, _⟩ => rfl
  · refine modul_congr e (fun k => (rows_at x0 _ _ rfl rfl).symm) (fun k => (lane_at x1 k).symm) (fun k => ?_) fun k => ?_
    · rw [batch_tok]
      exact (lanes_at x2 b k).symm
    · rw [batch_tok]
      exact (lanes_at x3 b k).symm

/-- A row's batch and place. -/
theorem idx_row (i : S16384x2048.Idx) : ∃ (b : Fin 4) (s : Fin 4096), tok b s = i 0 ∧ idx_main_v21 i = iT b s (i 1) := by
  have i0 : (i 0).val < 16384 := (i 0).isLt
  have i1 : (i 1).val < 2048 := (i 1).isLt
  refine ⟨⟨(i 0).val / 4096, by omega⟩, ⟨(i 0).val % 4096, by omega⟩, Fin.ext ?_, ?_⟩
  · show (i 0).val / 4096 * 4096 + (i 0).val % 4096 = (i 0).val
    omega
  · funext a
    refine Fin.ext ?_
    match a with
    | ⟨0, _⟩ =>
      show ((i 0).val * 2048 + (i 1).val) / 8388608 = (i 0).val / 4096
      omega
    | ⟨1, _⟩ =>
      show ((i 0).val * 2048 + (i 1).val) / 2048 % 4096 = (i 0).val % 4096
      omega
    | ⟨2, _⟩ =>
      show ((i 0).val * 2048 + (i 1).val) % 2048 = (i 1).val
      omega

theorem ref_at : val_main_v22 (F := Ideal) x0 x1 x2 x3 = norms x0 x1 x2 x3 := by
  funext i
  obtain ⟨b, s, h0, h1⟩ := idx_row i
  rw [val_main_v22_apply, val_main_v21_apply]
  refine Eq.trans (b := val_main_v20 (F := Ideal) x0 x1 x2 x3 (idx_main_v21 i)) rfl ?_
  rw [h1]
  refine (ref_norm x0 x1 x2 x3 b s (i 1)).trans ?_
  rw [h0]
  rfl

end Ref

end Cert.FirstNorm

end
-- ==== Proof.Lin.Heads.lean ====
/-
  Heads of 64 columns, each followed by 64 zeros: as the calls' weights are laid out and as the references lay out their
  results. And a token's projection to one column.
-/
module

public import Idealize.ShloMosaic.Lib.Pipeline.ValueKit
public import Idealize.ShloMosaic.Lib.KernelVsHost
public import Idealize.ShloMosaic.Lib.MatmulPlain
public import Idealize.ShloMosaic.Lib.ValueIdx

@[expose] public section

set_option maxRecDepth 16384

noncomputable section

namespace Cert.Heads

open Idealize.ShloMosaic Idealize.SL.Sem
open scoped BigOperators

/-- The arrays' shapes. -/
abbrev SX : Shape := ⟨3, ![4, 4096, 2048]⟩
abbrev SW : Shape := ⟨2, ![2048, 7504]⟩
abbrev SA : Shape := ⟨3, ![4, 4096, 8]⟩

/-- An activation of token `r`. -/
def xn (x : SX.Idx → EReal) (r : ℕ) (k : Fin 2048) : EReal :=
  x (ValueIdx.ix3 (n0 := 4) (n1 := 4096) (n2 := 2048) ⟨r / 4096 % 4, Nat.mod_lt _ (by decide)⟩ ⟨r % 4096, Nat.mod_lt _ (by decide)⟩ k)

/-- A weight of column `c`. -/
def wn (w : SW.Idx → EReal) (k : Fin 2048) (c : ℕ) : EReal :=
  w (ValueIdx.ix2 (n0 := 2048) (n1 := 7504) k ⟨c % 7504, Nat.mod_lt _ (by decide)⟩)

/-- A cosine or a sine of token `r`. -/
def an (a : SA.Idx → EReal) (r j : ℕ) : EReal :=
  a (ValueIdx.ix3 (n0 := 4) (n1 := 4096) (n2 := 8) ⟨r / 4096 % 4, Nat.mod_lt _ (by decide)⟩ ⟨r % 4096, Nat.mod_lt _ (by decide)⟩ ⟨j % 8, Nat.mod_lt _ (by decide)⟩)

/-- Token `r` projected to column `c`. -/
def tok (x : SX.Idx → EReal) (w : SW.Idx → EReal) (r c : ℕ) : EReal := ∑ k : Fin 2048, xn x r k * wn w k c

theorem xn_eq (x : SX.Idx → EReal) (i : SX.Idx) (r : ℕ) (k : Fin 2048) (h : r = (i 0).val * 4096 + (i 1).val) (h' : k.val = (i 2).val) :
    x i = xn x r k := by
  have h0 : (i 0).val < 4 := (i 0).isLt
  have h1 : (i 1).val < 4096 := (i 1).isLt
  refine congrArg x (funext fun b => ?_)
  match b with
  | ⟨0, _⟩ => refine Fin.ext ?_; show (i 0).val = r / 4096 % 4; omega
  | ⟨1, _⟩ => refine Fin.ext ?_; show (i 1).val = r % 4096; omega
  | ⟨2, _⟩ => exact Fin.ext h'.symm

theorem wn_eq (w : SW.Idx → EReal) (i : SW.Idx) (k : Fin 2048) (c : ℕ) (h : k.val = (i 0).val) (h' : c = (i 1).val) : w i = wn w k c := by
  have h1 : (i 1).val < 7504 := (i 1).isLt
  refine congrArg w (funext fun b => ?_)
  match b with
  | ⟨0, _⟩ => exact Fin.ext h.symm
  | ⟨1, _⟩ => refine Fin.ext ?_; show (i 1).val = c % 7504; omega

theorem an_eq (a : SA.Idx → EReal) (i : SA.Idx) (r j : ℕ) (h : r = (i 0).val * 4096 + (i 1).val) (h' : j = (i 2).val) :
    a i = an a r j := by
  have h0 : (i 0).val < 4 := (i 0).isLt
  have h1 : (i 1).val < 4096 := (i 1).isLt
  have h2 : (i 2).val < 8 := (i 2).isLt
  refine congrArg a (funext fun b => ?_)
  match b with
  | ⟨0, _⟩ => refine Fin.ext ?_; show (i 0).val = r / 4096 % 4; omega
  | ⟨1, _⟩ => refine Fin.ext ?_; show (i 1).val = r % 4096; omega
  | ⟨2, _⟩ => refine Fin.ext ?_; show (i 2).val = j % 8; omega

section Slots

variable {n N1 N2 : ℕ} (y : (⟨2, ![2048, N1]⟩ : Shape).Idx → EReal) (z : (⟨0, ![]⟩ : Shape).Idx → EReal)
  (h1 : (⟨2, ![2048, N1]⟩ : Shape).ShapeCasts ⟨3, ![2048, n, 64]⟩)
  (h2 : (⟨3, ![2048, n, 64]⟩ : Shape).Pads (![0, 0, 0] : Fin 3 → ℕ) ![0, 0, 64] ![0, 0, 0] ⟨3, ![2048, n, 128]⟩)
  (h3 : (⟨3, ![2048, n, 128]⟩ : Shape).ShapeCasts ⟨2, ![2048, N2]⟩) (hu : 0 < (⟨0, ![]⟩ : Shape).numel)

/-- The columns, each head's 64 followed by 64 of the padding. -/
def slots : (⟨2, ![2048, N2]⟩ : Shape).Idx → EReal :=
  shapeCast ⟨2, ![2048, N2]⟩ (pad ⟨3, ![2048, n, 128]⟩ ![0, 0, 0] ![0, 0, 64] ![0, 0, 0] (shapeCast ⟨3, ![2048, n, 64]⟩ y h1) z h2 hu) h3

theorem slots_row (hN : N2 = n * 128) (k : Fin 2048) (a : Fin n) (d : Fin 128) (l : Fin N2) (hl : l.val = 128 * a.val + d.val) :
    slots y z h1 h2 h3 hu (ValueIdx.ix2 (n0 := 2048) (n1 := N2) k l)
      = pad ⟨3, ![2048, n, 128]⟩ ![0, 0, 0] ![0, 0, 64] ![0, 0, 0] (shapeCast ⟨3, ![2048, n, 64]⟩ y h1) z h2 hu
          (ValueIdx.ix3 (n0 := 2048) (n1 := n) (n2 := 128) k a d) := by
  refine shapeCast_apply (s := ⟨3, ![2048, n, 128]⟩) (t := ⟨2, ![2048, N2]⟩) _ _ _ _ ?_
  rw [Shape.rowMajor_val_three, Shape.rowMajor_val_two]
  show (k.val * n + a.val) * 128 + d.val = k.val * N2 + l.val
  rw [hl, hN, Nat.add_mul, Nat.mul_assoc]
  omega

theorem slots_in (hN : N2 = n * 128) (hN1 : N1 = n * 64) (k : Fin 2048) (a : Fin n) (d : Fin 64) (l : Fin N2) (c : Fin N1)
    (hl : l.val = 128 * a.val + d.val) (hc : c.val = 64 * a.val + d.val) :
    slots y z h1 h2 h3 hu (ValueIdx.ix2 (n0 := 2048) (n1 := N2) k l) = y (ValueIdx.ix2 (n0 := 2048) (n1 := N1) k c) := by
  refine (slots_row y z h1 h2 h3 hu hN k a ⟨d.val, by omega⟩ l hl).trans ?_
  refine (pad_apply_of_inside (s := ⟨3, ![2048, n, 64]⟩) (t := ⟨3, ![2048, n, 128]⟩) _ _ _ _ _ _ _ _
    (ValueIdx.ix3 (n0 := 2048) (n1 := n) (n2 := 64) k a d) (fun b => ?_)).trans ?_
  · match b with
    | ⟨0, _⟩ => show k.val = 0 + k.val * (0 + 1); omega
    | ⟨1, _⟩ => show a.val = 0 + a.val * (0 + 1); omega
    | ⟨2, _⟩ => show d.val = 0 + d.val * (0 + 1); omega
  · refine shapeCast_apply (s := ⟨2, ![2048, N1]⟩) (t := ⟨3, ![2048, n, 64]⟩) _ _ _ _ ?_
    rw [Shape.rowMajor_val_three, Shape.rowMajor_val_two]
    show k.val * N1 + c.val = (k.val * n + a.val) * 64 + d.val
    rw [hc, hN1, Nat.add_mul, Nat.mul_assoc]
    omega

theorem slots_out (hN : N2 = n * 128) (k : Fin 2048) (a : Fin n) (d : Fin 64) (l : Fin N2) (hl : l.val = 128 * a.val + (64 + d.val)) :
    slots y z h1 h2 h3 hu (ValueIdx.ix2 (n0 := 2048) (n1 := N2) k l) = z (Shape.Idx.first hu) := by
  refine (slots_row y z h1 h2 h3 hu hN k a ⟨64 + d.val, by omega⟩ l hl).trans ?_
  refine pad_apply_of_not_inside (s := ⟨3, ![2048, n, 64]⟩) (t := ⟨3, ![2048, n, 128]⟩) _ _ _ _ _ _ _ _ (2 : Fin 3) fun h => ?_
  have h' : (64 + d.val - 0) / (0 + 1) < 64 := h.2.2
  omega

end Slots

/-- The index of head `a`'s lane `d` of token `r`. -/
abbrev ih (n : ℕ) (r : Fin 16384) (a : Fin n) (d : Fin 64) : (⟨4, ![4, 4096, n, 64]⟩ : Shape).Idx :=
  ValueIdx.ix4 (n0 := 4) (n1 := 4096) (n2 := n) (n3 := 64) ⟨r.val / 4096, by omega⟩ ⟨r.val % 4096, by omega⟩ a d

section Lanes

variable {n N2 : ℕ} (y z : (⟨4, ![4, 4096, n, 64]⟩ : Shape).Idx → EReal)
  (h1 : Shape.Concatenates [⟨4, ![4, 4096, n, 64]⟩, ⟨4, ![4, 4096, n, 64]⟩] (⟨4, ![4, 4096, n, 128]⟩ : Shape) (3 : Fin 4))
  (h3 : (⟨4, ![4, 4096, n, 128]⟩ : Shape).ShapeCasts ⟨2, ![16384, N2]⟩)

/-- The heads side by side, each followed by 64 of the padding. -/
def lanes : (⟨2, ![16384, N2]⟩ : Shape).Idx → EReal :=
  shapeCast ⟨2, ![16384, N2]⟩ (concatenate ⟨4, ![4, 4096, n, 128]⟩ (3 : Fin 4) [⟨⟨4, ![4, 4096, n, 64]⟩, y⟩, ⟨⟨4, ![4, 4096, n, 64]⟩, z⟩] h1) h3

theorem lanes_row (hN : N2 = n * 128) (r : Fin 16384) (a : Fin n) (d : Fin 128) (l : Fin N2) (hl : l.val = 128 * a.val + d.val) :
    lanes y z h1 h3 (ValueIdx.ix2 (n0 := 16384) (n1 := N2) r l)
      = concatenate ⟨4, ![4, 4096, n, 128]⟩ (3 : Fin 4) [⟨⟨4, ![4, 4096, n, 64]⟩, y⟩, ⟨⟨4, ![4, 4096, n, 64]⟩, z⟩] h1
          (ValueIdx.ix4 (n0 := 4) (n1 := 4096) (n2 := n) (n3 := 128) ⟨r.val / 4096, by omega⟩ ⟨r.val % 4096, by omega⟩ a d) := by
  refine shapeCast_apply (s := ⟨4, ![4, 4096, n, 128]⟩) (t := ⟨2, ![16384, N2]⟩) _ _ _ _ ?_
  rw [Shape.rowMajor_val_four, Shape.rowMajor_val_two]
  show ((r.val / 4096 * 4096 + r.val % 4096) * n + a.val) * 128 + d.val = r.val * N2 + l.val
  rw [hl, hN, Nat.div_add_mod', Nat.add_mul, Nat.mul_assoc]
  omega

theorem lanes_in (hN : N2 = n * 128) (r : Fin 16384) (a : Fin n) (d : Fin 64) (l : Fin N2) (hl : l.val = 128 * a.val + d.val) :
    lanes y z h1 h3 (ValueIdx.ix2 (n0 := 16384) (n1 := N2) r l) = y (ih n r a d) := by
  refine (lanes_row y z h1 h3 hN r a ⟨d.val, by omega⟩ l hl).trans ?_
  exact concatenate_pair_apply_left (s₁ := ⟨4, ![4, 4096, n, 64]⟩) (s₂ := ⟨4, ![4, 4096, n, 64]⟩) (t := ⟨4, ![4, 4096, n, 128]⟩) (3 : Fin 4)
    _ _ _ _ rfl (ih n r a d)
    (fun b => by match b with | ⟨0, _⟩ => rfl | ⟨1, _⟩ => rfl | ⟨2, _⟩ => rfl | ⟨3, _⟩ => rfl)

theorem lanes_out (hN : N2 = n * 128) (r : Fin 16384) (a : Fin n) (d : Fin 64) (l : Fin N2) (hl : l.val = 128 * a.val + (64 + d.val)) :
    lanes y z h1 h3 (ValueIdx.ix2 (n0 := 16384) (n1 := N2) r l) = z (ih n r a d) := by
  refine (lanes_row y z h1 h3 hN r a ⟨64 + d.val, by omega⟩ l hl).trans ?_
  exact concatenate_pair_apply_right (s₁ := ⟨4, ![4, 4096, n, 64]⟩) (s₂ := ⟨4, ![4, 4096, n, 64]⟩) (t := ⟨4, ![4, 4096, n, 128]⟩) (3 : Fin 4)
    _ _ _ _ rfl rfl (ih n r a d)
    (fun b hb => by match b with | ⟨0, _⟩ => rfl | ⟨1, _⟩ => rfl | ⟨2, _⟩ => rfl | ⟨3, _⟩ => exact absurd rfl hb)
    (by show d.val + 64 = 64 + d.val; omega)

end Lanes

/-- The columns of the keys (`q = 0`) or of the values (`q = 1`) of compression, selection or window (`p`). -/
def kvc (w : SW.Idx → EReal) (p q : ℕ) (h1 : SW.Slices ![0, 1024] (⟨2, ![2048, 1536]⟩ : Shape))
    (h2 : (⟨2, ![2048, 1536]⟩ : Shape).ShapeCasts ⟨4, ![2048, 3, 2, 256]⟩)
    (h3 : (⟨4, ![2048, 3, 2, 256]⟩ : Shape).Slices ![0, p, q, 0] ⟨4, ![2048, 1, 1, 256]⟩)
    (h4 : (⟨4, ![2048, 1, 1, 256]⟩ : Shape).ShapeCasts ⟨2, ![2048, 256]⟩) : (⟨2, ![2048, 256]⟩ : Shape).Idx → EReal :=
  shapeCast ⟨2, ![2048, 256]⟩ (extractStridedSlice ⟨4, ![2048, 1, 1, 256]⟩ ![0, p, q, 0]
    (shapeCast ⟨4, ![2048, 3, 2, 256]⟩ (extractStridedSlice ⟨2, ![2048, 1536]⟩ ![0, 1024] w h1) h2) h3) h4

theorem kvc_at (w : SW.Idx → EReal) (p q : ℕ) (hp : p < 3) (hq : q < 2) (h1 h2 h3 h4) (k : Fin 2048) (l : Fin 256) :
    kvc w p q h1 h2 h3 h4 (ValueIdx.ix2 (n0 := 2048) (n1 := 256) k l) = wn w k (1024 + 256 * (2 * p + q) + l.val) := by
  refine (shapeCast_apply (s := ⟨4, ![2048, 1, 1, 256]⟩) (t := ⟨2, ![2048, 256]⟩) _ _ _
    (ValueIdx.ix4 (n0 := 2048) (n1 := 1) (n2 := 1) (n3 := 256) k 0 0 l) ?_).trans ?_
  · rw [Shape.rowMajor_val_four, Shape.rowMajor_val_two]
    show ((k.val * 1 + 0) * 1 + 0) * 256 + l.val = k.val * 256 + l.val
    omega
  refine (extractStridedSlice_apply (s := ⟨4, ![2048, 3, 2, 256]⟩) (t := ⟨4, ![2048, 1, 1, 256]⟩) _ _ _ _
    (ValueIdx.ix4 (n0 := 2048) (n1 := 3) (n2 := 2) (n3 := 256) k ⟨p, hp⟩ ⟨q, hq⟩ l)
    (fun b => by match b with
      | ⟨0, _⟩ => exact (Nat.zero_add _).symm
      | ⟨1, _⟩ => exact (Nat.add_zero _).symm
      | ⟨2, _⟩ => exact (Nat.add_zero _).symm
      | ⟨3, _⟩ => exact (Nat.zero_add _).symm)).trans ?_
  refine (shapeCast_apply (s := ⟨2, ![2048, 1536]⟩) (t := ⟨4, ![2048, 3, 2, 256]⟩) _ _ _
    (ValueIdx.ix2 (n0 := 2048) (n1 := 1536) k ⟨256 * (2 * p + q) + l.val, by omega⟩) ?_).trans ?_
  · rw [Shape.rowMajor_val_four, Shape.rowMajor_val_two]
    show k.val * 1536 + (256 * (2 * p + q) + l.val) = ((k.val * 3 + p) * 2 + q) * 256 + l.val
    omega
  refine (extractStridedSlice_apply (s := SW) (t := ⟨2, ![2048, 1536]⟩) _ _ _ _
    (ValueIdx.ix2 (n0 := 2048) (n1 := 7504) k ⟨1024 + (256 * (2 * p + q) + l.val), by omega⟩)
    (fun b => by match b with
      | ⟨0, _⟩ => exact (Nat.zero_add _).symm
      | ⟨1, _⟩ => rfl)).trans ?_
  exact wn_eq w _ k _ rfl (Nat.add_assoc _ _ _)

/-- The activations, one row per token. -/
def rows (x : SX.Idx → EReal) (h : SX.ShapeCasts (⟨2, ![16384, 2048]⟩ : Shape)) : (⟨2, ![16384, 2048]⟩ : Shape).Idx → EReal :=
  shapeCast ⟨2, ![16384, 2048]⟩ x h

theorem rows_at (x : SX.Idx → EReal) (h) (r : Fin 16384) (k : Fin 2048) :
    rows x h (ValueIdx.ix2 (n0 := 16384) (n1 := 2048) r k) = xn x r.val k := by
  have hr := r.isLt
  refine shapeCast_apply (s := SX) (t := ⟨2, ![16384, 2048]⟩) x _ _ _ ?_
  rw [Shape.rowMajor_val_three, Shape.rowMajor_val_two]
  show (r.val / 4096 % 4 * 4096 + r.val % 4096) * 2048 + k.val = r.val * 2048 + k.val
  omega

/-- The product of two arrays. -/
def prod {N : ℕ} (x : (⟨2, ![16384, 2048]⟩ : Shape).Idx → EReal) (w : (⟨2, ![2048, N]⟩ : Shape).Idx → EReal)
    (r : Fin 16384) (l : Fin N) : EReal :=
  ∑ k : Fin 2048, x (ValueIdx.ix2 (n0 := 16384) (n1 := 2048) r k) * w (ValueIdx.ix2 (n0 := 2048) (n1 := N) k l)

theorem prod_tok {N : ℕ} (x : SX.Idx → EReal) (h) (v : SW.Idx → EReal) (w : (⟨2, ![2048, N]⟩ : Shape).Idx → EReal) (r : Fin 16384) (l : Fin N) (c : ℕ)
    (hw : ∀ k : Fin 2048, w (ValueIdx.ix2 (n0 := 2048) (n1 := N) k l) = wn v k c) : prod (rows x h) w r l = tok x v r.val c :=
  Finset.sum_congr rfl fun k _ => by rw [rows_at, hw]

theorem prod_zero {N : ℕ} (x : (⟨2, ![16384, 2048]⟩ : Shape).Idx → EReal) (w : (⟨2, ![2048, N]⟩ : Shape).Idx → EReal) (r : Fin 16384) (l : Fin N)
    (hw : ∀ k : Fin 2048, w (ValueIdx.ix2 (n0 := 2048) (n1 := N) k l) = 0) : prod x w r l = 0 :=
  Finset.sum_eq_zero fun k _ => by rw [hw, mul_zero]

/-- The padding of the weights. -/
theorem pad_zero (i : (⟨0, ![]⟩ : Shape).Idx) :
    (sitofp (F := Ideal) .bf16 (constantI (⟨0, ![]⟩ : Shape) 32 0#32) : (⟨0, ![]⟩ : Shape).Idx → EReal) i = 0 := by
  show (((0#32 : BitVec 32).toInt : ℝ) : EReal) = 0
  simp

end Cert.Heads

end
-- ==== Proof.Lin.Values.lean ====
/-
  The projection to the sparse attention's values: the array that the tiled product leaves is the one that the reference
  states, its padding lanes included.
-/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Lin.Heads

@[expose] public section

set_option maxRecDepth 16384

noncomputable section

namespace Cert.Values

open Cert.Kernel8Ideal Cert.Kernel8Ideal.Gen Idealize.ShloMosaic Idealize.ShloMosaic.TcCoe Idealize.SL.Sem Cert.Heads
open scoped BigOperators

variable (m : (ℓ : Loc nD τ sig) → Buf (Elt Ideal) ℓ) (c : Dev nD)

/-- The values' columns of compression, selection or window. -/
def vc (w : Vec Ideal S2048x7504 .f32) (p : ℕ) (h3 : S2048x3x2x256.Slices ![0, p, 1, 0] S2048x1x1x256) : Vec Ideal S2048x256 .bf16 :=
  kvc w p 1 slices_S2048x7504_S2048x1536_0_1024 shapeCasts_S2048x1536_S2048x3x2x256 h3 shapeCasts_S2048x1x1x256_S2048x256

/-- Four heads' columns, each followed by zeros. -/
def sl (y : Vec Ideal S2048x256 .bf16) : Vec Ideal S2048x512 .bf16 :=
  slots (n := 4) (N1 := 256) (N2 := 512) y (sitofp (F := Ideal) .bf16 (constantI S_ 32 0#32)) shapeCasts_S2048x256_S2048x4x64
    pads_S2048x4x64_S2048x4x128_000_000_0640 shapeCasts_S2048x4x128_S2048x512 h_S_

/-- Columns of zeros. -/
def zs : Vec Ideal S2048x256 .bf16 := broadcastInDim S2048x256 ![] bcast_S_S2048x256 (constant (F := Ideal) S_ .bf16 0x0000#16)

/-- The activations, one row per token. -/
def xs (x : Vec Ideal S4x4096x2048 .f32) : Vec Ideal S16384x2048 .bf16 := rows x shapeCasts_S4x4096x2048_S16384x2048

/-- The weights as the call reads them. -/
def wv (w : Vec Ideal S2048x7504 .f32) : Vec Ideal S2048x1536 .bf16 :=
  concatenate S2048x1536 1 [⟨S2048x512, sl (vc w 1 slices_S2048x3x2x256_S2048x1x1x256_0_1_1_0)⟩,
    ⟨S2048x512, sl (vc w 2 slices_S2048x3x2x256_S2048x1x1x256_0_2_1_0)⟩,
    ⟨S2048x256, vc w 0 slices_S2048x3x2x256_S2048x1x1x256_0_0_1_0⟩, ⟨S2048x256, zs⟩]
    concatenates_S2048x512_S2048x512_S2048x256_S2048x256_S2048x1536_d1

theorem V_x : V m c main_v18 = xs (m ((c : Thread nD τ).loc main_arg0)) := by
  unfold_abbrev_sides
  simp only [hostOps0, hostOps0_1, hostOps0_2, hostOps0_3, hostOps0_4, List.flatten_cons, List.flatten_nil, List.append_nil, List.cons_append,
    List.nil_append]
  after_results
  rfl

theorem V_w : V m c main_v16 = wv (m ((c : Thread nD τ).loc main_arg1)) := by
  unfold_abbrev_sides
  simp only [hostOps0, hostOps0_1, hostOps0_2, hostOps0_3, hostOps0_4, List.flatten_cons, List.flatten_nil, List.append_nil, List.cons_append,
    List.nil_append]
  after_results_simp
  dsimp only [Matrix.cons_val]
  rfl

theorem sl_in (y : Vec Ideal S2048x256 .bf16) (k : Fin 2048) (a : Fin 4) (d : Fin 64) :
    sl y (ValueIdx.ix2 (n0 := 2048) (n1 := 512) k ⟨128 * a.val + d.val, by omega⟩)
      = y (ValueIdx.ix2 (n0 := 2048) (n1 := 256) k ⟨64 * a.val + d.val, by omega⟩) :=
  slots_in (n := 4) (N1 := 256) (N2 := 512) y _ _ _ _ _ rfl rfl k a d _ _ rfl rfl

theorem sl_out (y : Vec Ideal S2048x256 .bf16) (k : Fin 2048) (a : Fin 4) (d : Fin 64) :
    sl y (ValueIdx.ix2 (n0 := 2048) (n1 := 512) k ⟨128 * a.val + (64 + d.val), by omega⟩) = 0 :=
  (slots_out (n := 4) (N1 := 256) (N2 := 512) y _ _ _ _ _ rfl k a d _ rfl).trans (pad_zero _)

section Weights

variable (w : Vec Ideal S2048x7504 .f32) (k : Fin 2048)

theorem wv_sel (l : Fin 512) : wv w (ValueIdx.ix2 (n0 := 2048) (n1 := 1536) k ⟨l.val, by omega⟩)
    = sl (vc w 1 slices_S2048x3x2x256_S2048x1x1x256_0_1_1_0) (ValueIdx.ix2 (n0 := 2048) (n1 := 512) k l) :=
  concatenate_apply_piece (t := S2048x1536) 1 _ _ _ 0 (by show 0 < 4; decide) S2048x512 _ rfl rfl 0 rfl _
    (fun b hb => by match b with | ⟨0, _⟩ => rfl | ⟨1, _⟩ => exact absurd rfl hb) (Nat.zero_add _)

theorem wv_win (l : Fin 512) : wv w (ValueIdx.ix2 (n0 := 2048) (n1 := 1536) k ⟨512 + l.val, by omega⟩)
    = sl (vc w 2 slices_S2048x3x2x256_S2048x1x1x256_0_2_1_0) (ValueIdx.ix2 (n0 := 2048) (n1 := 512) k l) :=
  concatenate_apply_piece (t := S2048x1536) 1 _ _ _ 1 (by show 1 < 4; decide) S2048x512 _ rfl rfl 512 rfl _
    (fun b hb => by match b with | ⟨0, _⟩ => rfl | ⟨1, _⟩ => exact absurd rfl hb) rfl

theorem wv_cmp (l : Fin 256) : wv w (ValueIdx.ix2 (n0 := 2048) (n1 := 1536) k ⟨1024 + l.val, by omega⟩)
    = vc w 0 slices_S2048x3x2x256_S2048x1x1x256_0_0_1_0 (ValueIdx.ix2 (n0 := 2048) (n1 := 256) k l) :=
  concatenate_apply_piece (t := S2048x1536) 1 _ _ _ 2 (by show 2 < 4; decide) S2048x256 _ rfl rfl 1024 rfl _
    (fun b hb => by match b with | ⟨0, _⟩ => rfl | ⟨1, _⟩ => exact absurd rfl hb) rfl

theorem wv_pad (l : Fin 256) : wv w (ValueIdx.ix2 (n0 := 2048) (n1 := 1536) k ⟨1280 + l.val, by omega⟩) = 0 := by
  refine (concatenate_apply_piece (t := S2048x1536) 1 _ _ _ 3 (by show 3 < 4; decide) S2048x256 zs rfl rfl 1280 rfl
    (ValueIdx.ix2 (n0 := 2048) (n1 := 256) k l)
    (fun b hb => by match b with | ⟨0, _⟩ => rfl | ⟨1, _⟩ => exact absurd rfl hb) rfl).trans ?_
  exact Ideal.ofBits_zero_bf16

end Weights

/-- A block of the product, read at an index. -/
theorem tile_at (x : Vec Ideal S1024x2048 .bf16) (w : Vec Ideal S2048x512 .bf16) (r : Fin 1024) (e : Fin 512) :
    k0_pay1 x w (ValueIdx.ix2 r e) = ∑ k : Fin 2048, x (ValueIdx.ix2 r k) * w (ValueIdx.ix2 k e) := by
  refine (Ideal.matmul_plain_apply (M := 1024) (K := 2048) (N := 512) none _ _ _ r e).trans ?_
  show Ideal.ofBits .f32 0x00000000#32 + _ = _
  rw [Ideal.ofBits_zero_f32, zero_add]
  refine Finset.sum_congr rfl fun k _ => ?_
  rw [shapeCast_self, shapeCast_self]

theorem idxs : ∀ t : Fin cfg0.N, win0_0.index t = ![t.val / 3, 0] ∧ win0_1.index t = ![0, t.val % 3] ∧ win0_2.index t = ![t.val / 3, t.val % 3] := by
  decide +kernel

/-- The array that the kernel leaves. -/
theorem out_at : (dats m 0 c).arrAt 2 cfg0.N
    = fun i : S16384x1536.Idx => prod (N := 1536) (V m c main_v18) (V m c main_v16) (i 0) (i 1) := by
  refine (dats m 0 c).arrAt_eq_of_covers 2 _ (by decide +kernel) fun t hf y => ?_
  blk_simp
  rw [after0_2]
  frame_out
  have ey : y = ValueIdx.ix2 (n0 := 1024) (n1 := 512) (y 0) (y 1) := by
    funext b
    match b with
    | ⟨0, _⟩ => rfl
    | ⟨1, _⟩ => rfl
  obtain ⟨e0, e1, e2⟩ := idxs t
  refine ((congrArg _ ey).trans (tile_at _ _ (y 0) (y 1))).trans ?_
  refine Finset.sum_congr rfl fun k _ => ?_
  congr 1
  · blk_ext [iblk, e0]
    show _ + (y 0).val = win0_2.index t 0 * 1024 + 1 * (y 0).val
    rw [e2, one_mul]
    rfl
  · blk_ext [iblk, e1]
    show _ + (y 1).val = win0_2.index t 1 * 512 + 1 * (y 1).val
    rw [e2, one_mul]
    rfl

section Reference

open Cert.Reference8Ideal.Read

variable (x : Vec Ideal S4x4096x2048 .f32) (w : Vec Ideal S2048x7504 .f32) (r : Fin 16384)

theorem proj_at (j : Cert.Reference8Ideal.S4x4096x7504.Idx) :
    val_main_v0 (F := Ideal) x w j = tok x w ((j 0).val * 4096 + (j 1).val) (j 2).val := by
  refine (val_main_v0_apply x w j).trans (Finset.sum_congr rfl fun k _ => ?_)
  exact congrArg₂ (· * ·) (xn_eq x _ _ k rfl rfl) (wn_eq w _ k _ rfl rfl)

theorem sel_at (a : Fin 4) (d : Fin 64) : val_main_v4 (F := Ideal) x w (ih 4 r a d) = tok x w r.val (1792 + 64 * a.val + d.val) := by
  rw [val_main_v4_apply, val_main_v3_apply, proj_at]
  have hr := r.isLt
  congr 1
  · show (((r.val / 4096 * 4096 + r.val % 4096) * 4 + a.val) * 64 + d.val) / 1048576 * 4096
      + (((r.val / 4096 * 4096 + r.val % 4096) * 4 + a.val) * 64 + d.val) / 256 % 4096 = r.val
    omega
  · show 1792 + (((r.val / 4096 * 4096 + r.val % 4096) * 4 + a.val) * 64 + d.val) % 256 = _
    omega

theorem win_at (a : Fin 4) (d : Fin 64) : val_main_v6 (F := Ideal) x w (ih 4 r a d) = tok x w r.val (2304 + 64 * a.val + d.val) := by
  rw [val_main_v6_apply, val_main_v5_apply, proj_at]
  have hr := r.isLt
  congr 1
  · show (((r.val / 4096 * 4096 + r.val % 4096) * 4 + a.val) * 64 + d.val) / 1048576 * 4096
      + (((r.val / 4096 * 4096 + r.val % 4096) * 4 + a.val) * 64 + d.val) / 256 % 4096 = r.val
    omega
  · show 2304 + (((r.val / 4096 * 4096 + r.val % 4096) * 4 + a.val) * 64 + d.val) % 256 = _
    omega

theorem cmp_at (l : Fin 256) : val_main_v2 (F := Ideal) x w (ValueIdx.ix2 (n0 := 16384) (n1 := 256) r l) = tok x w r.val (1280 + l.val) := by
  rw [val_main_v2_apply, val_main_v1_apply, proj_at]
  have hr := r.isLt
  congr 1
  · show (r.val * 256 + l.val) / 1048576 * 4096 + (r.val * 256 + l.val) / 256 % 4096 = r.val
    omega
  · show 1280 + (r.val * 256 + l.val) % 256 = _
    omega

theorem ref_sel (l : Fin 512) : val_main_v14 (F := Ideal) x w (ValueIdx.ix2 (n0 := 16384) (n1 := 1536) r ⟨l.val, by omega⟩)
    = lanes (n := 4) (N2 := 512) (val_main_v4 (F := Ideal) x w) (val_main_v7 (F := Ideal))
        Cert.Reference8Ideal.Gen.concatenates_S4x4096x4x64_S4x4096x4x64_S4x4096x4x128_d3 Cert.Reference8Ideal.Gen.shapeCasts_S4x4096x4x128_S16384x512
        (ValueIdx.ix2 (n0 := 16384) (n1 := 512) r l) :=
  concatenate_apply_piece (t := Cert.Reference8Ideal.S16384x1536) 1 _ _ _ 0 (by show 0 < 4; decide) Cert.Reference8Ideal.S16384x512 _ rfl rfl 0 rfl
    (ValueIdx.ix2 (n0 := 16384) (n1 := 512) r l)
    (fun b hb => by match b with | ⟨0, _⟩ => rfl | ⟨1, _⟩ => exact absurd rfl hb) (Nat.zero_add _)

theorem ref_win (l : Fin 512) : val_main_v14 (F := Ideal) x w (ValueIdx.ix2 (n0 := 16384) (n1 := 1536) r ⟨512 + l.val, by omega⟩)
    = lanes (n := 4) (N2 := 512) (val_main_v6 (F := Ideal) x w) (val_main_v10 (F := Ideal))
        Cert.Reference8Ideal.Gen.concatenates_S4x4096x4x64_S4x4096x4x64_S4x4096x4x128_d3 Cert.Reference8Ideal.Gen.shapeCasts_S4x4096x4x128_S16384x512
        (ValueIdx.ix2 (n0 := 16384) (n1 := 512) r l) :=
  concatenate_apply_piece (t := Cert.Reference8Ideal.S16384x1536) 1 _ _ _ 1 (by show 1 < 4; decide) Cert.Reference8Ideal.S16384x512 _ rfl rfl 512 rfl
    (ValueIdx.ix2 (n0 := 16384) (n1 := 512) r l)
    (fun b hb => by match b with | ⟨0, _⟩ => rfl | ⟨1, _⟩ => exact absurd rfl hb) rfl

theorem ref_cmp (l : Fin 256) : val_main_v14 (F := Ideal) x w (ValueIdx.ix2 (n0 := 16384) (n1 := 1536) r ⟨1024 + l.val, by omega⟩)
    = val_main_v2 (F := Ideal) x w (ValueIdx.ix2 (n0 := 16384) (n1 := 256) r l) :=
  concatenate_apply_piece (t := Cert.Reference8Ideal.S16384x1536) 1 _ _ _ 2 (by show 2 < 4; decide) Cert.Reference8Ideal.S16384x256 _ rfl rfl 1024 rfl
    (ValueIdx.ix2 (n0 := 16384) (n1 := 256) r l)
    (fun b hb => by match b with | ⟨0, _⟩ => rfl | ⟨1, _⟩ => exact absurd rfl hb) rfl

theorem ref_pad (l : Fin 256) : val_main_v14 (F := Ideal) x w (ValueIdx.ix2 (n0 := 16384) (n1 := 1536) r ⟨1280 + l.val, by omega⟩) = 0 := by
  refine (concatenate_apply_piece (t := Cert.Reference8Ideal.S16384x1536) 1 _ _ _ 3 (by show 3 < 4; decide) Cert.Reference8Ideal.S16384x256
    (val_main_v13 (F := Ideal)) rfl rfl 1280 rfl (ValueIdx.ix2 (n0 := 16384) (n1 := 256) r l)
    (fun b hb => by match b with | ⟨0, _⟩ => rfl | ⟨1, _⟩ => exact absurd rfl hb) rfl).trans ?_
  rw [val_main_v13_apply, val_main_cst_1_apply]
  exact Ideal.ofBits_zero_f32

/-- The array that the reference leaves is the product with the call's weights. -/
theorem ref_at : val_main_v15 (F := Ideal) x w = fun i : S16384x1536.Idx => prod (N := 1536) (xs x) (wv w) (i 0) (i 1) := by
  funext i
  obtain ⟨r, l, rfl⟩ : ∃ (r : Fin 16384) (l : Fin 1536), i = ValueIdx.ix2 (n0 := 16384) (n1 := 1536) r l :=
    ⟨i 0, i 1, funext fun b => by match b with | ⟨0, _⟩ => rfl | ⟨1, _⟩ => rfl⟩
  rw [val_main_v15_apply]
  show val_main_v14 (F := Ideal) x w (ValueIdx.ix2 (n0 := 16384) (n1 := 1536) r l) = prod (N := 1536) (rows x _) (wv w) r l
  have hl := l.isLt
  by_cases h1 : l.val < 512
  · obtain ⟨a, d, e⟩ : ∃ (a : Fin 4) (d : Fin 128), l.val = 128 * a.val + d.val :=
      ⟨⟨l.val / 128, by omega⟩, ⟨l.val % 128, by omega⟩, by show l.val = 128 * (l.val / 128) + l.val % 128; omega⟩
    by_cases hd : d.val < 64
    · rw [show l = ⟨128 * a.val + (⟨d.val, hd⟩ : Fin 64).val, by omega⟩ from Fin.ext e]
      refine (ref_sel x w r ⟨128 * a.val + d.val, by omega⟩).trans ((lanes_in (n := 4) (N2 := 512) _ _ _ _ rfl r a ⟨d.val, hd⟩ _ rfl).trans ?_)
      refine (sel_at x w r a ⟨d.val, hd⟩).trans (prod_tok x _ w _ r _ _ fun k => ?_).symm
      refine (wv_sel w k ⟨128 * a.val + d.val, by omega⟩).trans ((sl_in _ k a ⟨d.val, hd⟩).trans ((kvc_at w 1 1 (by decide) (by decide) _ _ _ _ k _).trans ?_))
      exact congrArg (wn w k) (by show 1024 + 256 * (2 * 1 + 1) + (64 * a.val + d.val) = 1792 + 64 * a.val + d.val; omega)
    · rw [show l = ⟨128 * a.val + (64 + (⟨d.val - 64, by omega⟩ : Fin 64).val), by show 128 * a.val + (64 + (d.val - 64)) < 1536; omega⟩ from
        Fin.ext (by show l.val = 128 * a.val + (64 + (d.val - 64)); omega)]
      refine (ref_sel x w r ⟨128 * a.val + (64 + (d.val - 64)), by omega⟩).trans
        ((lanes_out (n := 4) (N2 := 512) _ _ _ _ rfl r a ⟨d.val - 64, by omega⟩ _ rfl).trans ?_)
      rw [val_main_v7_apply, val_main_cst_apply]
      refine Eq.trans Ideal.ofBits_zero_f32 (prod_zero _ _ r _ fun k => ?_).symm
      exact (wv_sel w k ⟨128 * a.val + (64 + (d.val - 64)), by omega⟩).trans (sl_out _ k a ⟨d.val - 64, by omega⟩)
  by_cases h2 : l.val < 1024
  · obtain ⟨a, d, e⟩ : ∃ (a : Fin 4) (d : Fin 128), l.val = 512 + (128 * a.val + d.val) :=
      ⟨⟨(l.val - 512) / 128, by omega⟩, ⟨(l.val - 512) % 128, by omega⟩, by show l.val = 512 + (128 * ((l.val - 512) / 128) + (l.val - 512) % 128); omega⟩
    by_cases hd : d.val < 64
    · rw [show l = ⟨512 + (128 * a.val + (⟨d.val, hd⟩ : Fin 64).val), by omega⟩ from Fin.ext e]
      refine (ref_win x w r ⟨128 * a.val + d.val, by omega⟩).trans ((lanes_in (n := 4) (N2 := 512) _ _ _ _ rfl r a ⟨d.val, hd⟩ _ rfl).trans ?_)
      refine (win_at x w r a ⟨d.val, hd⟩).trans (prod_tok x _ w _ r _ _ fun k => ?_).symm
      refine (wv_win w k ⟨128 * a.val + d.val, by omega⟩).trans ((sl_in _ k a ⟨d.val, hd⟩).trans ((kvc_at w 2 1 (by decide) (by decide) _ _ _ _ k _).trans ?_))
      exact congrArg (wn w k) (by show 1024 + 256 * (2 * 2 + 1) + (64 * a.val + d.val) = 2304 + 64 * a.val + d.val; omega)
    · rw [show l = ⟨512 + (128 * a.val + (64 + (⟨d.val - 64, by omega⟩ : Fin 64).val)), by show 512 + (128 * a.val + (64 + (d.val - 64))) < 1536; omega⟩ from
        Fin.ext (by show l.val = 512 + (128 * a.val + (64 + (d.val - 64))); omega)]
      refine (ref_win x w r ⟨128 * a.val + (64 + (d.val - 64)), by omega⟩).trans
        ((lanes_out (n := 4) (N2 := 512) _ _ _ _ rfl r a ⟨d.val - 64, by omega⟩ _ rfl).trans ?_)
      rw [val_main_v10_apply, val_main_cst_0_apply]
      refine Eq.trans Ideal.ofBits_zero_f32 (prod_zero _ _ r _ fun k => ?_).symm
      exact (wv_win w k ⟨128 * a.val + (64 + (d.val - 64)), by omega⟩).trans (sl_out _ k a ⟨d.val - 64, by omega⟩)
  by_cases h3 : l.val < 1280
  · obtain ⟨d, e⟩ : ∃ d : Fin 256, l = ⟨1024 + d.val, by omega⟩ := ⟨⟨l.val - 1024, by omega⟩, Fin.ext (by show l.val = 1024 + (l.val - 1024); omega)⟩
    rw [e]
    refine (ref_cmp x w r d).trans ((cmp_at x w r d).trans (prod_tok x _ w _ r _ _ fun k => ?_).symm)
    exact (wv_cmp w k d).trans (kvc_at w 0 1 (by decide) (by decide) _ _ _ _ k d)
  · obtain ⟨d, e⟩ : ∃ d : Fin 256, l = ⟨1280 + d.val, by omega⟩ := ⟨⟨l.val - 1280, by omega⟩, Fin.ext (by show l.val = 1280 + (l.val - 1280); omega)⟩
    rw [e]
    exact (ref_pad x w r d).trans (prod_zero _ _ r _ fun k => wv_pad w k d).symm

end Reference

theorem kernel_out : (dats m 0 c).arrAt 2 cfg0.N
    = fun i : S16384x1536.Idx => prod (N := 1536) (xs (m ((c : Thread nD τ).loc main_arg0))) (wv (m ((c : Thread nD τ).loc main_arg1))) (i 0) (i 1) := by
  rw [out_at, V_x, V_w]

end Cert.Values

end
-- ==== Proof.Lin.Rope.lean ====
/-
  A head's rotation: the first sixteen columns turned by a token's angles, the others kept. As the calls compute it, from a
  table and two shifts of a head's lanes, and as the references state it, by the two halves.
-/
module

public import proofs.«01_k».proof.Proof.Lin.Heads

@[expose] public section

set_option maxRecDepth 16384

noncomputable section

namespace Cert.Rope

open Idealize.ShloMosaic Idealize.SL.Sem Cert.Heads
open scoped BigOperators

abbrev SB : Shape := ⟨2, ![1024, 512]⟩
abbrev SL : Shape := ⟨2, ![1024, 128]⟩
abbrev S1 : Shape := ⟨2, ![1, 128]⟩
abbrev S8 : Shape := ⟨2, ![16384, 8]⟩
abbrev SR : Shape := ⟨2, ![16384, 112]⟩
abbrev SH : Shape := ⟨2, ![16384, 128]⟩
abbrev SQ : Shape := ⟨2, ![16384, 256]⟩
abbrev ST : Shape := ⟨2, ![16384, 512]⟩
abbrev S0 : Shape := ⟨0, ![]⟩

/-! ## The shifts of the lanes -/

/-- The lane that a lane is turned with. -/
def par (l : ℕ) : ℕ := if l < 8 then l + 8 else (l + 120) % 128

theorem par_lt (l : ℕ) : par l < 128 := by
  unfold par
  split <;> omega

section Rot

variable (a cs sn : FVec Ideal SL .f32) (hi : S1.Iotas .tc 32 [1]) (hr : SL.Rotates 1 none) (hc : S1.ShapeCasts S1) (hb : S1.Broadcasts SL)

/-- The turned lanes, as the calls compute them. -/
def rot : FVec Ideal SL .f32 :=
  addf (mulf a cs) (mulf (select
    (broadcastTo SL (shapeCast S1 (cmpi .slt (subi (iota .tc S1 32 [1] hi) (broadcast S1 0#32)) (broadcast S1 8#32)) hc) hb)
    (dynamicRotate 1 120#32 none a hr) (dynamicRotate 1 8#32 none a hr)) sn)

theorem low_lane : ∀ l : Fin 128, IntOp.cmpi .slt (IntOp.subi (BitVec.ofNat 32 l.val) 0#32) 8#32 = if l.val < 8 then 1#1 else 0#1 := by
  decide +kernel

theorem rot_at (r : Fin 1024) (l : Fin 128) : rot a cs sn hi hr hc hb (ValueIdx.ix2 (n0 := 1024) (n1 := 128) r l)
    = a (ValueIdx.ix2 (n0 := 1024) (n1 := 128) r l) * cs (ValueIdx.ix2 (n0 := 1024) (n1 := 128) r l)
      + a (ValueIdx.ix2 (n0 := 1024) (n1 := 128) r ⟨par l.val, par_lt _⟩) * sn (ValueIdx.ix2 (n0 := 1024) (n1 := 128) r l) := by
  have hm : broadcastTo SL (shapeCast S1 (cmpi .slt (subi (iota .tc S1 32 [1] hi) (broadcast S1 0#32)) (broadcast S1 8#32)) hc) hb
      (ValueIdx.ix2 (n0 := 1024) (n1 := 128) r l) = if l.val < 8 then 1#1 else 0#1 := by
    refine (broadcastTo_apply (s := S1) (t := SL) _ _ _ (ValueIdx.ix2 (n0 := 1) (n1 := 128) 0 l)
      (fun b => by match b with | ⟨0, _⟩ => rfl | ⟨1, _⟩ => rfl)).trans ?_
    rw [shapeCast_self]
    show IntOp.cmpi .slt (IntOp.subi (iota .tc S1 32 [1] hi (ValueIdx.ix2 (n0 := 1) (n1 := 128) 0 l)) 0#32) 8#32 = _
    rw [iota_single_apply]
    exact low_lane l
  show _ + (if _ = 1#1 then _ else _) * _ = _
  rw [hm]
  refine congrArg₂ (· + ·) rfl (congrArg₂ (· * ·) ?_ rfl)
  have hl := l.isLt
  by_cases h : l.val < 8
  · rw [if_pos h, if_pos rfl]
    refine dynamicRotate_apply (s := SL) 1 120#32 a hr _ _ fun b => ?_
    match b with
    | ⟨0, _⟩ => rfl
    | ⟨1, _⟩ => show par l.val = (l.val + 128 - 120 % 128) % 128; unfold par; rw [if_pos h]; omega
  · rw [if_neg h, if_neg (by decide)]
    refine dynamicRotate_apply (s := SL) 1 8#32 a hr _ _ fun b => ?_
    match b with
    | ⟨0, _⟩ => rfl
    | ⟨1, _⟩ => show par l.val = (l.val + 128 - 8 % 128) % 128; unfold par; rw [if_neg h]; omega

end Rot

/-! ## A block of four heads -/

/-- The lane of a block that a lane is turned with. -/
def parb (l : ℕ) : ℕ := 128 * (l / 128) + par (l % 128)

theorem parb_lt (l : Fin 512) : parb l.val < 512 := by
  have h := par_lt (l.val % 128)
  have hl := l.isLt
  unfold parb
  omega

/-- The block turned by the table's lanes. -/
def turnb (T t : SB.Idx → EReal) (r : Fin 1024) (l : Fin 512) : EReal :=
  T (ValueIdx.ix2 (n0 := 1024) (n1 := 512) r l) * t (ValueIdx.ix2 (n0 := 1024) (n1 := 512) r ⟨l.val % 128, by omega⟩)
    + T (ValueIdx.ix2 (n0 := 1024) (n1 := 512) r ⟨parb l.val, parb_lt l⟩) * t (ValueIdx.ix2 (n0 := 1024) (n1 := 512) r ⟨128 + l.val % 128, by omega⟩)

theorem piece_at (T t : SB.Idx → EReal) (cs sn : FVec Ideal SL .f32) (hi hr hc hb) (o : ℕ) (h : SB.Slices ![0, o] SL) (ho : o % 128 = 0)
    (hcs : ∀ (r : Fin 1024) (l : Fin 128), cs (ValueIdx.ix2 (n0 := 1024) (n1 := 128) r l) = t (ValueIdx.ix2 (n0 := 1024) (n1 := 512) r ⟨l.val, by omega⟩))
    (hsn : ∀ (r : Fin 1024) (l : Fin 128), sn (ValueIdx.ix2 (n0 := 1024) (n1 := 128) r l) = t (ValueIdx.ix2 (n0 := 1024) (n1 := 512) r ⟨128 + l.val, by omega⟩))
    (r : Fin 1024) (l : Fin 128) (e : Fin 512) (he : e.val = o + l.val) :
    rot (extractStridedSlice SL ![0, o] T h) cs sn hi hr hc hb (ValueIdx.ix2 (n0 := 1024) (n1 := 128) r l) = turnb T t r e := by
  rw [rot_at, hcs, hsn]
  have hl := l.isLt
  have e1 : e.val % 128 = l.val := by omega
  unfold turnb
  refine congrArg₂ (· + ·) (congrArg₂ (· * ·) ?_ ?_) (congrArg₂ (· * ·) ?_ ?_)
  · refine extractStridedSlice_apply (s := SB) (t := SL) _ _ _ _ _ fun b => ?_
    match b with
    | ⟨0, _⟩ => exact (Nat.zero_add _).symm
    | ⟨1, _⟩ => exact he
  · exact congrArg t (congrArg (ValueIdx.ix2 (n0 := 1024) (n1 := 512) r) (Fin.ext e1.symm))
  · refine extractStridedSlice_apply (s := SB) (t := SL) _ _ _ _ _ fun b => ?_
    match b with
    | ⟨0, _⟩ => exact (Nat.zero_add _).symm
    | ⟨1, _⟩ => show parb e.val = o + par l.val; unfold parb; rw [e1]; omega
  · exact congrArg t (congrArg (ValueIdx.ix2 (n0 := 1024) (n1 := 512) r) (Fin.ext (congrArg (128 + ·) e1.symm)))

/-- A block stored by heads: off a head the earlier stores, on it the head. -/
theorem canon_head (G : Fin 1024 → Fin 512 → EReal) (y : SB.Idx) (o : ℕ) (inb) (w : SL.Idx → Elt Ideal .bf16) (L : List (View.Piece (Elt Ideal) SB .bf16))
    (hw : ∀ (r : Fin 1024) (l : Fin 128) (e : Fin 512), e.val = o + l.val → w (ValueIdx.ix2 (n0 := 1024) (n1 := 128) r l) = G r e)
    (hQ : ¬(o ≤ (y 1).val ∧ (y 1).val < o + 128) → View.canon L y = G (y 0) (y 1)) :
    View.canon ((⟨Rect.unit (s := SB) ![0, o] SL.size inb, w⟩ : View.Piece (Elt Ideal) SB .bf16) :: L) y = G (y 0) (y 1) := by
  by_cases hy : o ≤ (y 1).val ∧ (y 1).val < o + 128
  · have e : (Rect.unit (s := SB) ![0, o] SL.size inb).emb (ValueIdx.ix2 (n0 := 1024) (n1 := 128) (y 0) ⟨(y 1).val - o, by omega⟩) = y := by
      funext b
      match b with
      | ⟨0, _⟩ => refine Fin.ext ?_; show 0 + 1 * (y 0).val = (y 0).val; omega
      | ⟨1, _⟩ => refine Fin.ext ?_; show o + 1 * ((y 1).val - o) = (y 1).val; omega
    refine (congrArg (View.canon _) e.symm).trans ((View.canon_cons_emb _ _ _ _).trans ?_)
    exact hw (y 0) ⟨(y 1).val - o, by omega⟩ (y 1) (by show (y 1).val = o + ((y 1).val - o); omega)
  · rw [View.canon_cons_of_not_mem]
    · exact hQ hy
    · intro hm
      exact hy ((Rect.mem_set_unit (inb := inb)).mp hm 1)

/-! ## The table -/

section Table

variable (u v : S8.Idx → EReal) (z : SR.Idx → EReal) (h : Shape.Concatenates [S8, S8, SR] SH 1)

/-- A head's lanes: eight, eight and the rest. -/
def three : SH.Idx → EReal := concatenate SH 1 [⟨S8, u⟩, ⟨S8, v⟩, ⟨SR, z⟩] h

theorem three_fst (r : Fin 16384) (d : Fin 8) : three u v z h (ValueIdx.ix2 (n0 := 16384) (n1 := 128) r ⟨d.val, by omega⟩)
    = u (ValueIdx.ix2 (n0 := 16384) (n1 := 8) r d) :=
  concatenate_apply_piece (t := SH) 1 _ _ _ 0 (by show 0 < 3; decide) S8 _ rfl rfl 0 rfl _
    (fun b hb => by match b with | ⟨0, _⟩ => rfl | ⟨1, _⟩ => exact absurd rfl hb) (Nat.zero_add _)

theorem three_snd (r : Fin 16384) (d : Fin 8) : three u v z h (ValueIdx.ix2 (n0 := 16384) (n1 := 128) r ⟨8 + d.val, by omega⟩)
    = v (ValueIdx.ix2 (n0 := 16384) (n1 := 8) r d) :=
  concatenate_apply_piece (t := SH) 1 _ _ _ 1 (by show 1 < 3; decide) S8 _ rfl rfl 8 rfl _
    (fun b hb => by match b with | ⟨0, _⟩ => rfl | ⟨1, _⟩ => exact absurd rfl hb) rfl

theorem three_rest (r : Fin 16384) (d : Fin 112) : three u v z h (ValueIdx.ix2 (n0 := 16384) (n1 := 128) r ⟨16 + d.val, by omega⟩)
    = z (ValueIdx.ix2 (n0 := 16384) (n1 := 112) r d) :=
  concatenate_apply_piece (t := SH) 1 _ _ _ 2 (by show 2 < 3; decide) SR _ rfl rfl 16 rfl _
    (fun b hb => by match b with | ⟨0, _⟩ => rfl | ⟨1, _⟩ => exact absurd rfl hb) rfl

end Table

section Tab

variable (c s : FVec Ideal SA .f32) (h1 : SA.ShapeCasts S8) (h2 : S0.BroadcastsInDim SR (![] : Fin 0 → Fin SR.rank))
  (h3 : Shape.Concatenates [S8, S8, SR] SH 1) (h4 : S0.BroadcastsInDim SQ (![] : Fin 0 → Fin SQ.rank)) (h5 : Shape.Concatenates [SH, SH, SQ] ST 1)

/-- The table of the cosines and the signed sines. -/
def tab : FVec Ideal ST .f32 :=
  concatenate ST 1 [
    ⟨SH, three (shapeCast S8 c h1) (shapeCast S8 c h1) (broadcastInDim SR ![] h2 (constant (F := Ideal) S0 .f32 0x3F800000#32)) h3⟩,
    ⟨SH, three (Host.negf (F := Ideal) (φ := .f32) (shapeCast S8 s h1)) (shapeCast S8 s h1) (broadcastInDim SR ![] h2 (constant (F := Ideal) S0 .f32 0x00000000#32)) h3⟩,
    ⟨SQ, broadcastInDim SQ ![] h4 (constant (F := Ideal) S0 .f32 0x00000000#32)⟩] h5

/-- A lane's cosine. -/
def cosl (r l : ℕ) : EReal := if l < 8 then an c r l else if l < 16 then an c r (l - 8) else 1

/-- A lane's signed sine. -/
def sinl (r l : ℕ) : EReal := if l < 8 then -an s r l else if l < 16 then an s r (l - 8) else 0

theorem angle_at (a : FVec Ideal SA .f32) (r : Fin 16384) (d : Fin 8) :
    shapeCast S8 a h1 (ValueIdx.ix2 (n0 := 16384) (n1 := 8) r d) = an a r.val d.val := by
  have hr := r.isLt
  have hd := d.isLt
  refine shapeCast_apply (s := SA) (t := S8) a _ _ _ ?_
  rw [Shape.rowMajor_val_three, Shape.rowMajor_val_two]
  show (r.val / 4096 % 4 * 4096 + r.val % 4096) * 8 + d.val % 8 = r.val * 8 + d.val
  omega

theorem one_f32 : Ideal.ofBits .f32 0x3F800000#32 = 1 := by
  simp [Ideal.ofBits, Ideal.ieee]
  rw [← EReal.coe_mul]
  norm_num

theorem tab_cos (r : Fin 16384) (l : Fin 128) : tab c s h1 h2 h3 h4 h5 (ValueIdx.ix2 (n0 := 16384) (n1 := 512) r ⟨l.val, by omega⟩) = cosl c r.val l.val := by
  refine (concatenate_apply_piece (t := ST) 1 _ _ _ 0 (by show 0 < 3; decide) SH _ rfl rfl 0 rfl (ValueIdx.ix2 (n0 := 16384) (n1 := 128) r l)
    (fun b hb => by match b with | ⟨0, _⟩ => rfl | ⟨1, _⟩ => exact absurd rfl hb) (Nat.zero_add _)).trans ?_
  have hl := l.isLt
  unfold cosl
  by_cases h : l.val < 8
  · rw [if_pos h]
    exact (three_fst _ _ _ _ r ⟨l.val, h⟩).trans (angle_at h1 c r ⟨l.val, h⟩)
  rw [if_neg h]
  by_cases h' : l.val < 16
  · rw [if_pos h', show l = ⟨8 + (l.val - 8), by omega⟩ from Fin.ext (by show l.val = 8 + (l.val - 8); omega)]
    refine (three_snd _ _ _ _ r ⟨l.val - 8, by omega⟩).trans ((angle_at h1 c r ⟨l.val - 8, by omega⟩).trans ?_)
    exact congrArg (an c r.val) (by show l.val - 8 = 8 + (l.val - 8) - 8; omega)
  · rw [if_neg h', show l = ⟨16 + (l.val - 16), by omega⟩ from Fin.ext (by show l.val = 16 + (l.val - 16); omega)]
    exact (three_rest _ _ _ _ r ⟨l.val - 16, by omega⟩).trans one_f32

theorem tab_sin (r : Fin 16384) (l : Fin 128) : tab c s h1 h2 h3 h4 h5 (ValueIdx.ix2 (n0 := 16384) (n1 := 512) r ⟨128 + l.val, by omega⟩) = sinl s r.val l.val := by
  refine (concatenate_apply_piece (t := ST) 1 _ _ _ 1 (by show 1 < 3; decide) SH _ rfl rfl 128 rfl (ValueIdx.ix2 (n0 := 16384) (n1 := 128) r l)
    (fun b hb => by match b with | ⟨0, _⟩ => rfl | ⟨1, _⟩ => exact absurd rfl hb) rfl).trans ?_
  have hl := l.isLt
  unfold sinl
  by_cases h : l.val < 8
  · rw [if_pos h]
    exact (three_fst _ _ _ _ r ⟨l.val, h⟩).trans (congrArg Neg.neg (angle_at h1 s r ⟨l.val, h⟩))
  rw [if_neg h]
  by_cases h' : l.val < 16
  · rw [if_pos h', show l = ⟨8 + (l.val - 8), by omega⟩ from Fin.ext (by show l.val = 8 + (l.val - 8); omega)]
    refine (three_snd _ _ _ _ r ⟨l.val - 8, by omega⟩).trans ((angle_at h1 s r ⟨l.val - 8, by omega⟩).trans ?_)
    exact congrArg (an s r.val) (by show l.val - 8 = 8 + (l.val - 8) - 8; omega)
  · rw [if_neg h', show l = ⟨16 + (l.val - 16), by omega⟩ from Fin.ext (by show l.val = 16 + (l.val - 16); omega)]
    exact (three_rest _ _ _ _ r ⟨l.val - 16, by omega⟩).trans Ideal.ofBits_zero_f32

end Tab

/-! ## The array of the turned heads -/

/-- A column of the product. -/
def pn {N : ℕ} (x : (⟨2, ![16384, 2048]⟩ : Shape).Idx → EReal) (w : (⟨2, ![2048, N]⟩ : Shape).Idx → EReal) (r : Fin 16384) (l : ℕ) : EReal :=
  if h : l < N then prod x w r ⟨l, h⟩ else 0

/-- A lane of the table. -/
def tn (t : ST.Idx → EReal) (r : Fin 16384) (l : ℕ) : EReal := t (ValueIdx.ix2 (n0 := 16384) (n1 := 512) r ⟨l % 512, Nat.mod_lt _ (by decide)⟩)

/-- The product's heads turned by the table's lanes. -/
def turn {N : ℕ} (x : (⟨2, ![16384, 2048]⟩ : Shape).Idx → EReal) (w : (⟨2, ![2048, N]⟩ : Shape).Idx → EReal) (t : ST.Idx → EReal)
    (r : Fin 16384) (l : ℕ) : EReal :=
  pn x w r l * tn t r (l % 128) + pn x w r (parb l) * tn t r (128 + l % 128)

/-- A head turned by a token's angles. -/
def headv (T : ℕ → EReal) (c s : SA.Idx → EReal) (r d : ℕ) : EReal :=
  if d < 8 then T d * an c r d - T (8 + d) * an s r d
  else if d < 16 then T d * an c r (d - 8) + T (d - 8) * an s r (d - 8) else T d

section Turn

variable {N : ℕ} (x : (⟨2, ![16384, 2048]⟩ : Shape).Idx → EReal) (w : (⟨2, ![2048, N]⟩ : Shape).Idx → EReal) (t : ST.Idx → EReal)
  (c s : SA.Idx → EReal) (r : Fin 16384) (a : ℕ) (T : ℕ → EReal)
  (hc : ∀ l, l < 128 → tn t r l = cosl c r.val l) (hs : ∀ l, l < 128 → tn t r (128 + l) = sinl s r.val l)

include hc hs

theorem turn_lane (d : ℕ) (hd : d < 128) : turn x w t r (128 * a + d)
    = pn x w r (128 * a + d) * cosl c r.val d + pn x w r (128 * a + par d) * sinl s r.val d := by
  unfold turn parb
  rw [show (128 * a + d) % 128 = d by omega, show (128 * a + d) / 128 = a by omega, hc d hd, hs d hd]

variable (hT : ∀ d, d < 64 → pn x w r (128 * a + d) = T d)

include hT

theorem turn_in (d : ℕ) (hd : d < 64) : turn x w t r (128 * a + d) = headv T c s r.val d := by
  rw [turn_lane x w t c s r a hc hs d (by omega), hT d hd]
  unfold headv cosl sinl par
  by_cases h : d < 8
  · rw [if_pos h, if_pos h, if_pos h, if_pos h, hT _ (by omega), mul_neg, ← sub_eq_add_neg, Nat.add_comm 8 d]
  rw [if_neg h, if_neg h, if_neg h, if_neg h]
  by_cases h' : d < 16
  · rw [if_pos h', if_pos h', if_pos h', show (d + 120) % 128 = d - 8 by omega, hT _ (by omega)]
  · rw [if_neg h', if_neg h', if_neg h', mul_one, mul_zero, add_zero]

omit hT
theorem turn_out (hz : ∀ d, d < 64 → pn x w r (128 * a + (64 + d)) = 0) (d : ℕ) (hd : d < 64) : turn x w t r (128 * a + (64 + d)) = 0 := by
  rw [turn_lane x w t c s r a hc hs (64 + d) (by omega), hz d hd, zero_mul, zero_add]
  unfold sinl
  rw [if_neg (by omega), if_neg (by omega), mul_zero]

end Turn

/-! ## As the references state it -/

section Ref

variable {n : ℕ} (y : FVec Ideal ⟨4, ![4, 4096, n, 64]⟩ .f32) (c s : FVec Ideal SA .f32)
  (b1 : SA.BroadcastsInDim (⟨4, ![4, 4096, 1, 8]⟩ : Shape) (![0, 1, 3] : Fin 3 → Fin 4))
  (b2 : (⟨4, ![4, 4096, 1, 8]⟩ : Shape).BroadcastsInDim (⟨4, ![4, 4096, n, 8]⟩ : Shape) (![0, 1, 2, 3] : Fin 4 → Fin 4))
  (s0 : (⟨4, ![4, 4096, n, 64]⟩ : Shape).Slices ![0, 0, 0, 0] ⟨4, ![4, 4096, n, 8]⟩)
  (s8 : (⟨4, ![4, 4096, n, 64]⟩ : Shape).Slices ![0, 0, 0, 8] ⟨4, ![4, 4096, n, 8]⟩)
  (s16 : (⟨4, ![4, 4096, n, 64]⟩ : Shape).Slices ![0, 0, 0, 16] ⟨4, ![4, 4096, n, 48]⟩)
  (hc : Shape.Concatenates [(⟨4, ![4, 4096, n, 8]⟩ : Shape), ⟨4, ![4, 4096, n, 8]⟩, ⟨4, ![4, 4096, n, 48]⟩] (⟨4, ![4, 4096, n, 64]⟩ : Shape) (3 : Fin 4))

/-- The angles, for every head. -/
def heads8 (v : FVec Ideal SA .f32) : FVec Ideal ⟨4, ![4, 4096, n, 8]⟩ .f32 :=
  broadcastInDim ⟨4, ![4, 4096, n, 8]⟩ ![0, 1, 2, 3] b2 (broadcastInDim ⟨4, ![4, 4096, 1, 8]⟩ ![0, 1, 3] b1 v)

/-- The turned heads. -/
def rotd : FVec Ideal ⟨4, ![4, 4096, n, 64]⟩ .f32 :=
  concatenate ⟨4, ![4, 4096, n, 64]⟩ (3 : Fin 4) [
    ⟨⟨4, ![4, 4096, n, 8]⟩, subf (mulf (extractStridedSlice ⟨4, ![4, 4096, n, 8]⟩ ![0, 0, 0, 0] y s0) (heads8 b1 b2 c))
      (mulf (extractStridedSlice ⟨4, ![4, 4096, n, 8]⟩ ![0, 0, 0, 8] y s8) (heads8 b1 b2 s))⟩,
    ⟨⟨4, ![4, 4096, n, 8]⟩, addf (mulf (extractStridedSlice ⟨4, ![4, 4096, n, 8]⟩ ![0, 0, 0, 8] y s8) (heads8 b1 b2 c))
      (mulf (extractStridedSlice ⟨4, ![4, 4096, n, 8]⟩ ![0, 0, 0, 0] y s0) (heads8 b1 b2 s))⟩,
    ⟨⟨4, ![4, 4096, n, 48]⟩, extractStridedSlice ⟨4, ![4, 4096, n, 48]⟩ ![0, 0, 0, 16] y s16⟩] hc

/-- The index of head `a`'s lane `d` of token `r`, of a part of the heads. -/
abbrev ip (n p : ℕ) (r : Fin 16384) (a : Fin n) (d : Fin p) : (⟨4, ![4, 4096, n, p]⟩ : Shape).Idx :=
  ValueIdx.ix4 (n0 := 4) (n1 := 4096) (n2 := n) (n3 := p) ⟨r.val / 4096, by omega⟩ ⟨r.val % 4096, by omega⟩ a d

theorem heads8_at (v : FVec Ideal SA .f32) (r : Fin 16384) (a : Fin n) (d : Fin 8) : heads8 b1 b2 v (ip n 8 r a d) = an v r.val d.val := by
  have hr := r.isLt
  have hd := d.isLt
  refine (broadcastInDim_apply (s := ⟨4, ![4, 4096, 1, 8]⟩) (t := ⟨4, ![4, 4096, n, 8]⟩) _ _ _ _ (ip 1 8 r 0 d)
    (fun b => by match b with | ⟨0, _⟩ => rfl | ⟨1, _⟩ => rfl | ⟨2, _⟩ => rfl | ⟨3, _⟩ => rfl)).trans ?_
  refine broadcastInDim_apply (s := SA) (t := ⟨4, ![4, 4096, 1, 8]⟩) _ _ _ _ _ fun b => ?_
  match b with
  | ⟨0, _⟩ => show r.val / 4096 % 4 = r.val / 4096; omega
  | ⟨1, _⟩ => rfl
  | ⟨2, _⟩ => show d.val % 8 = d.val; omega

theorem cut_at (o p : ℕ) (h : (⟨4, ![4, 4096, n, 64]⟩ : Shape).Slices ![0, 0, 0, o] ⟨4, ![4, 4096, n, p]⟩) (r : Fin 16384) (a : Fin n) (d : Fin p)
    (e : Fin 64) (he : e.val = o + d.val) : extractStridedSlice ⟨4, ![4, 4096, n, p]⟩ ![0, 0, 0, o] y h (ip n p r a d) = y (ih n r a e) :=
  extractStridedSlice_apply (s := ⟨4, ![4, 4096, n, 64]⟩) (t := ⟨4, ![4, 4096, n, p]⟩) _ _ _ _ _ fun b => by
    match b with
    | ⟨0, _⟩ => exact (Nat.zero_add _).symm
    | ⟨1, _⟩ => exact (Nat.zero_add _).symm
    | ⟨2, _⟩ => exact (Nat.zero_add _).symm
    | ⟨3, _⟩ => exact he

theorem rotd_at (T : ℕ → EReal) (r : Fin 16384) (a : Fin n) (hT : ∀ d : Fin 64, y (ih n r a d) = T d.val) (d : Fin 64) :
    rotd y c s b1 b2 s0 s8 s16 hc (ih n r a d) = headv T c s r.val d.val := by
  have hd := d.isLt
  unfold headv
  by_cases h : d.val < 8
  · rw [if_pos h]
    refine (concatenate_apply_piece (t := ⟨4, ![4, 4096, n, 64]⟩) (3 : Fin 4) _ _ _ 0 (by show 0 < 3; decide) ⟨4, ![4, 4096, n, 8]⟩ _ rfl rfl 0 rfl
      (ip n 8 r a ⟨d.val, h⟩)
      (fun b hb => by match b with | ⟨0, _⟩ => rfl | ⟨1, _⟩ => rfl | ⟨2, _⟩ => rfl | ⟨3, _⟩ => exact absurd rfl hb) (Nat.zero_add _)).trans ?_
    show _ * heads8 b1 b2 c (ip n 8 r a ⟨d.val, h⟩) - _ * heads8 b1 b2 s (ip n 8 r a ⟨d.val, h⟩) = _
    rw [heads8_at, heads8_at, cut_at y 0 8 s0 r a ⟨d.val, h⟩ d (Nat.zero_add _).symm, cut_at y 8 8 s8 r a ⟨d.val, h⟩ ⟨8 + d.val, by omega⟩ rfl, hT, hT]
  rw [if_neg h]
  by_cases h' : d.val < 16
  · rw [if_pos h']
    refine (concatenate_apply_piece (t := ⟨4, ![4, 4096, n, 64]⟩) (3 : Fin 4) _ _ _ 1 (by show 1 < 3; decide) ⟨4, ![4, 4096, n, 8]⟩ _ rfl rfl 8 rfl
      (ip n 8 r a ⟨d.val - 8, by omega⟩)
      (fun b hb => by match b with | ⟨0, _⟩ => rfl | ⟨1, _⟩ => rfl | ⟨2, _⟩ => rfl | ⟨3, _⟩ => exact absurd rfl hb)
      (by show 8 + (d.val - 8) = d.val; omega)).trans ?_
    show _ * heads8 b1 b2 c (ip n 8 r a ⟨d.val - 8, by omega⟩) + _ * heads8 b1 b2 s (ip n 8 r a ⟨d.val - 8, by omega⟩) = _
    rw [heads8_at, heads8_at, cut_at y 8 8 s8 r a ⟨d.val - 8, by omega⟩ d (by show d.val = 8 + (d.val - 8); omega),
      cut_at y 0 8 s0 r a ⟨d.val - 8, by omega⟩ ⟨d.val - 8, by omega⟩ (Nat.zero_add _).symm, hT, hT]
  · rw [if_neg h']
    refine (concatenate_apply_piece (t := ⟨4, ![4, 4096, n, 64]⟩) (3 : Fin 4) _ _ _ 2 (by show 2 < 3; decide) ⟨4, ![4, 4096, n, 48]⟩ _ rfl rfl 16 rfl
      (ip n 48 r a ⟨d.val - 16, by omega⟩)
      (fun b hb => by match b with | ⟨0, _⟩ => rfl | ⟨1, _⟩ => rfl | ⟨2, _⟩ => rfl | ⟨3, _⟩ => exact absurd rfl hb)
      (by show 16 + (d.val - 16) = d.val; omega)).trans ?_
    rw [cut_at y 16 48 s16 r a ⟨d.val - 16, by omega⟩ d (by show d.val = 16 + (d.val - 16); omega), hT]

end Ref

end Cert.Rope

end
-- ==== Proof.Lin.Keys.lean ====
/-
  The projection to the sparse attention's keys of compression and of the window: the array that the tiled product, its
  heads turned by the tokens' angles, leaves is the one that the reference states, its padding lanes included.
-/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Lin.Rope

@[expose] public section

set_option maxRecDepth 16384

noncomputable section

namespace Cert.Keys

open Cert.Kernel9Ideal Cert.Kernel9Ideal.Gen Idealize.ShloMosaic Idealize.ShloMosaic.TcCoe Idealize.SL.Sem Cert.Heads Cert.Rope
open scoped BigOperators

variable (m : (ℓ : Loc nD τ sig) → Buf (Elt Ideal) ℓ) (c : Dev nD)

/-- The keys' columns of compression or window. -/
def kc (w : Vec Ideal S2048x7504 .f32) (p : ℕ) (h3 : S2048x3x2x256.Slices ![0, p, 0, 0] S2048x1x1x256) : Vec Ideal S2048x256 .bf16 :=
  kvc w p 0 slices_S2048x7504_S2048x1536_0_1024 shapeCasts_S2048x1536_S2048x3x2x256 h3 shapeCasts_S2048x1x1x256_S2048x256

/-- Four heads' columns, each followed by zeros. -/
def sl (y : Vec Ideal S2048x256 .bf16) : Vec Ideal S2048x512 .bf16 :=
  slots (n := 4) (N1 := 256) (N2 := 512) y (sitofp (F := Ideal) .bf16 (constantI S_ 32 0#32)) shapeCasts_S2048x256_S2048x4x64
    pads_S2048x4x64_S2048x4x128_000_000_0640 shapeCasts_S2048x4x128_S2048x512 h_S_

/-- The activations, one row per token. -/
def xs (x : Vec Ideal S4x4096x2048 .f32) : Vec Ideal S16384x2048 .bf16 := rows x shapeCasts_S4x4096x2048_S16384x2048

/-- The weights as the call reads them. -/
def wk (w : Vec Ideal S2048x7504 .f32) : Vec Ideal S2048x1024 .bf16 :=
  concatenate S2048x1024 1 [⟨S2048x512, sl (kc w 0 slices_S2048x3x2x256_S2048x1x1x256_0_0_0_0)⟩,
    ⟨S2048x512, sl (kc w 2 slices_S2048x3x2x256_S2048x1x1x256_0_2_0_0)⟩] concatenates_S2048x512_S2048x512_S2048x1024_d1

/-- The table as the call reads it. -/
def tb (a s : Vec Ideal S4x4096x8 .f32) : Vec Ideal S16384x512 .f32 :=
  tab a s shapeCasts_S4x4096x8_S16384x8 bcast_S_S16384x112 concatenates_S16384x8_S16384x8_S16384x112_S16384x128_d1 bcast_S_S16384x256
    concatenates_S16384x128_S16384x128_S16384x256_S16384x512_d1

theorem V_x : V m c main_v24 = xs (m ((c : Thread nD τ).loc main_arg0)) := by
  unfold_abbrev_sides
  simp only [hostOps0, hostOps0_1, hostOps0_2, hostOps0_3, hostOps0_4, List.flatten_cons, List.flatten_nil, List.append_nil, List.cons_append,
    List.nil_append]
  after_results
  rfl

theorem V_w : V m c main_v22 = wk (m ((c : Thread nD τ).loc main_arg1)) := by
  unfold_abbrev_sides
  simp only [hostOps0, hostOps0_1, hostOps0_2, hostOps0_3, hostOps0_4, List.flatten_cons, List.flatten_nil, List.append_nil, List.cons_append,
    List.nil_append]
  after_results
  rfl

theorem V_t : V m c main_v8 = tb (m ((c : Thread nD τ).loc main_arg2)) (m ((c : Thread nD τ).loc main_arg3)) := by
  unfold_abbrev_sides
  simp only [hostOps0, hostOps0_1, hostOps0_2, hostOps0_3, hostOps0_4, List.flatten_cons, List.flatten_nil, List.append_nil, List.cons_append,
    List.nil_append]
  after_results_simp
  dsimp only [Matrix.cons_val]
  rfl

section Weights

variable (w : Vec Ideal S2048x7504 .f32) (k : Fin 2048)

theorem sl_in (y : Vec Ideal S2048x256 .bf16) (a : Fin 4) (d : Fin 64) :
    sl y (ValueIdx.ix2 (n0 := 2048) (n1 := 512) k ⟨128 * a.val + d.val, by omega⟩)
      = y (ValueIdx.ix2 (n0 := 2048) (n1 := 256) k ⟨64 * a.val + d.val, by omega⟩) :=
  slots_in (n := 4) (N1 := 256) (N2 := 512) y _ _ _ _ _ rfl rfl k a d _ _ rfl rfl

theorem sl_out (y : Vec Ideal S2048x256 .bf16) (a : Fin 4) (d : Fin 64) :
    sl y (ValueIdx.ix2 (n0 := 2048) (n1 := 512) k ⟨128 * a.val + (64 + d.val), by omega⟩) = 0 :=
  (slots_out (n := 4) (N1 := 256) (N2 := 512) y _ _ _ _ _ rfl k a d _ rfl).trans (pad_zero _)

theorem wk_cmp (l : Fin 512) : wk w (ValueIdx.ix2 (n0 := 2048) (n1 := 1024) k ⟨l.val, by omega⟩)
    = sl (kc w 0 slices_S2048x3x2x256_S2048x1x1x256_0_0_0_0) (ValueIdx.ix2 (n0 := 2048) (n1 := 512) k l) :=
  concatenate_apply_piece (t := S2048x1024) 1 _ _ _ 0 (by show 0 < 2; decide) S2048x512 _ rfl rfl 0 rfl _
    (fun b hb => by match b with | ⟨0, _⟩ => rfl | ⟨1, _⟩ => exact absurd rfl hb) (Nat.zero_add _)

theorem wk_win (l : Fin 512) : wk w (ValueIdx.ix2 (n0 := 2048) (n1 := 1024) k ⟨512 + l.val, by omega⟩)
    = sl (kc w 2 slices_S2048x3x2x256_S2048x1x1x256_0_2_0_0) (ValueIdx.ix2 (n0 := 2048) (n1 := 512) k l) :=
  concatenate_apply_piece (t := S2048x1024) 1 _ _ _ 1 (by show 1 < 2; decide) S2048x512 _ rfl rfl 512 rfl _
    (fun b hb => by match b with | ⟨0, _⟩ => rfl | ⟨1, _⟩ => exact absurd rfl hb) rfl

/-- The first column of a head. -/
def col (h : ℕ) : ℕ := if h < 4 then 1024 + 64 * h else 2048 + 64 * (h - 4)

theorem wk_in (h : Fin 8) (d : Fin 64) : wk w (ValueIdx.ix2 (n0 := 2048) (n1 := 1024) k ⟨128 * h.val + d.val, by omega⟩) = wn w k (col h.val + d.val) := by
  unfold col
  by_cases hh : h.val < 4
  · rw [if_pos hh]
    refine (wk_cmp w k ⟨128 * h.val + d.val, by omega⟩).trans ((sl_in k _ ⟨h.val, hh⟩ d).trans ((kvc_at w 0 0 (by decide) (by decide) _ _ _ _ k _).trans ?_))
    exact congrArg (wn w k) (by show 1024 + 256 * (2 * 0 + 0) + (64 * h.val + d.val) = 1024 + 64 * h.val + d.val; omega)
  · rw [if_neg hh]
    refine (congrArg (fun e => wk w (ValueIdx.ix2 (n0 := 2048) (n1 := 1024) k e)) (Fin.ext (by
      show 128 * h.val + d.val = 512 + (128 * (h.val - 4) + d.val); omega))).trans ((wk_win w k ⟨128 * (h.val - 4) + d.val, by omega⟩).trans
        ((sl_in k _ ⟨h.val - 4, by omega⟩ d).trans ((kvc_at w 2 0 (by decide) (by decide) _ _ _ _ k _).trans ?_)))
    exact congrArg (wn w k) (by show 1024 + 256 * (2 * 2 + 0) + (64 * (h.val - 4) + d.val) = 2048 + 64 * (h.val - 4) + d.val; omega)

theorem wk_out (h : Fin 8) (d : Fin 64) : wk w (ValueIdx.ix2 (n0 := 2048) (n1 := 1024) k ⟨128 * h.val + (64 + d.val), by omega⟩) = 0 := by
  by_cases hh : h.val < 4
  · exact (wk_cmp w k ⟨128 * h.val + (64 + d.val), by omega⟩).trans (sl_out k _ ⟨h.val, hh⟩ d)
  · exact (congrArg (fun e => wk w (ValueIdx.ix2 (n0 := 2048) (n1 := 1024) k e)) (Fin.ext (by
      show 128 * h.val + (64 + d.val) = 512 + (128 * (h.val - 4) + (64 + d.val)); omega))).trans
        ((wk_win w k ⟨128 * (h.val - 4) + (64 + d.val), by omega⟩).trans (sl_out k _ ⟨h.val - 4, by omega⟩ d))

end Weights

/-! ## The kernel -/

/-- A block of the product, read at an index. -/
theorem tile_at (x : Vec Ideal S1024x2048 .bf16) (w : Vec Ideal S2048x512 .bf16) (r : Fin 1024) (e : Fin 512) :
    k0_pay4 x w (ValueIdx.ix2 r e) = ∑ k : Fin 2048, x (ValueIdx.ix2 r k) * w (ValueIdx.ix2 k e) := by
  refine (Ideal.matmul_plain_apply (M := 1024) (K := 2048) (N := 512) none _ _ _ r e).trans ?_
  show Ideal.ofBits .f32 0x00000000#32 + _ = _
  rw [Ideal.ofBits_zero_f32, zero_add]
  refine Finset.sum_congr rfl fun k _ => ?_
  rw [shapeCast_self, shapeCast_self]

theorem cos_at (t : Vec Ideal S1024x512 .f32) (r : Fin 1024) (l : Fin 128) :
    k0_pay5 (View.ld t r0_2) (ValueIdx.ix2 (n0 := 1024) (n1 := 128) r l) = t (ValueIdx.ix2 (n0 := 1024) (n1 := 512) r ⟨l.val, by omega⟩) := by
  have e : ∀ u : Vec Ideal S1024x128 .f32, k0_pay5 u = u := fun u => shapeCast_self _ _
  rw [e]
  refine congrArg t (funext fun b => ?_)
  match b with
  | ⟨0, _⟩ => refine Fin.ext ?_; show 0 + 1 * r.val = r.val; omega
  | ⟨1, _⟩ => refine Fin.ext ?_; show 0 + 1 * l.val = l.val; omega

theorem sin_at (t : Vec Ideal S1024x512 .f32) (r : Fin 1024) (l : Fin 128) :
    k0_pay6 (View.ld t r0_3) (ValueIdx.ix2 (n0 := 1024) (n1 := 128) r l) = t (ValueIdx.ix2 (n0 := 1024) (n1 := 512) r ⟨128 + l.val, by omega⟩) := by
  have e : ∀ u : Vec Ideal S1024x128 .f32, k0_pay6 u = u := fun u => shapeCast_self _ _
  rw [e]
  refine congrArg t (funext fun b => ?_)
  match b with
  | ⟨0, _⟩ => refine Fin.ext ?_; show 0 + 1 * r.val = r.val; omega
  | ⟨1, _⟩ => refine Fin.ext ?_; show 128 + 1 * l.val = 128 + l.val; omega

theorem ld_x (x : Vec Ideal S1024x2048 .bf16) : View.ld x r0_0 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

theorem ld_w (x : Vec Ideal S2048x512 .bf16) : View.ld x r0_1 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

/-- A block of the result: the product's heads, turned. -/
theorem block_at (x : Vec Ideal S1024x2048 .bf16) (w : Vec Ideal S2048x512 .bf16) (t : Vec Ideal S1024x512 .f32) (y : S1024x512.Idx) :
    out0_3 x w t y = turnb (k0_pay4 x w) t (y 0) (y 1) := by
  have h1 : (y 1).val < 512 := (y 1).isLt
  unfold_out out0_3
  rw [ld_x, ld_w]
  refine canon_head (fun r e => turnb (k0_pay4 x w) t r e) y 384 _ _ _ (fun r l e he => ?_) fun n3 =>
    canon_head (fun r e => turnb (k0_pay4 x w) t r e) y 256 _ _ _ (fun r l e he => ?_) fun n2 =>
    canon_head (fun r e => turnb (k0_pay4 x w) t r e) y 128 _ _ _ (fun r l e he => ?_) fun n1 =>
    canon_head (fun r e => turnb (k0_pay4 x w) t r e) y 0 _ _ _ (fun r l e he => ?_) fun n0 => absurd h1 (by omega)
  · exact piece_at (k0_pay4 x w) t (k0_pay5 (View.ld t r0_2)) (k0_pay6 (View.ld t r0_3)) iota_S1x128_d1_w32 rotates_S1024x128_d1 shapeCasts_S1x128_S1x128
      broadcasts_S1x128_S1024x128 384 slices_S1024x512_o0_384_S1024x128 rfl (cos_at t) (sin_at t) r l e he
  · exact piece_at (k0_pay4 x w) t (k0_pay5 (View.ld t r0_2)) (k0_pay6 (View.ld t r0_3)) iota_S1x128_d1_w32 rotates_S1024x128_d1 shapeCasts_S1x128_S1x128
      broadcasts_S1x128_S1024x128 256 slices_S1024x512_o0_256_S1024x128 rfl (cos_at t) (sin_at t) r l e he
  · exact piece_at (k0_pay4 x w) t (k0_pay5 (View.ld t r0_2)) (k0_pay6 (View.ld t r0_3)) iota_S1x128_d1_w32 rotates_S1024x128_d1 shapeCasts_S1x128_S1x128
      broadcasts_S1x128_S1024x128 128 slices_S1024x512_o0_128_S1024x128 rfl (cos_at t) (sin_at t) r l e he
  · exact piece_at (k0_pay4 x w) t (k0_pay5 (View.ld t r0_2)) (k0_pay6 (View.ld t r0_3)) iota_S1x128_d1_w32 rotates_S1024x128_d1 shapeCasts_S1x128_S1x128
      broadcasts_S1x128_S1024x128 0 slices_S1024x512_o0_0_S1024x128 rfl (cos_at t) (sin_at t) r l e he

theorem idxs : ∀ t : Fin cfg0.N, win0_0.index t = ![t.val / 2, 0] ∧ win0_1.index t = ![0, t.val % 2] ∧ win0_2.index t = ![t.val / 2, 0]
    ∧ win0_3.index t = ![t.val / 2, t.val % 2] := by
  decide +kernel

/-- The product's block at a point of the grid. -/
theorem tile_blk (t : Fin cfg0.N) (r : Fin 1024) (e : Fin 512) (R : Fin 16384) (l : ℕ) (hR : R.val = t.val / 2 * 1024 + r.val)
    (hl : l = t.val % 2 * 512 + e.val) : k0_pay4 (iblk m c 0 t) (iblk m c 1 t) (ValueIdx.ix2 r e) = pn (V m c main_v24) (V m c main_v22) R l := by
  have hlt : l < 1024 := by have := e.isLt; omega
  obtain ⟨e0, e1, e2, e3⟩ := idxs t
  have e4 : pn (V m c main_v24) (V m c main_v22) R l = prod (N := 1024) (V m c main_v24) (V m c main_v22) R ⟨l, hlt⟩ := dif_pos hlt
  rw [e4]
  refine (tile_at (iblk m c 0 t) (iblk m c 1 t) r e).trans (Finset.sum_congr rfl fun k _ => congrArg₂ (· * ·) ?_ ?_)
  · blk_ext [iblk, e0]
    show t.val / 2 * 1024 + r.val = R.val
    exact hR.symm
  · blk_ext [iblk, e1]
    show t.val % 2 * 512 + e.val = l
    exact hl.symm

/-- The table's block at a point of the grid. -/
theorem tab_blk (t : Fin cfg0.N) (r : Fin 1024) (e : Fin 512) (R : Fin 16384) (hR : R.val = t.val / 2 * 1024 + r.val) :
    iblk m c 2 t (ValueIdx.ix2 (n0 := 1024) (n1 := 512) r e) = tn (V m c main_v8) R e.val := by
  obtain ⟨e0, e1, e2, e3⟩ := idxs t
  have he := e.isLt
  blk_ext [iblk, e2]
  · exact hR.symm
  · show e.val = e.val % 512
    omega

/-- The array that the kernel leaves. -/
theorem out_at : (dats m 0 c).arrAt 3 cfg0.N
    = fun i : S16384x1024.Idx => turn (V m c main_v24) (V m c main_v22) (V m c main_v8) (i 0) (i 1).val := by
  refine (dats m 0 c).arrAt_eq_of_covers 3 _ (by decide +kernel) fun t hf y => ?_
  blk_simp
  rw [after0_3]
  obtain ⟨e0, e1, e2, e3⟩ := idxs t
  have h1 : (y 1).val < 512 := (y 1).isLt
  refine (block_at _ _ _ y).trans ?_
  have eR : ((win0_3.blk t).view.emb y 0).val = t.val / 2 * 1024 + (y 0).val := by
    show win0_3.index t 0 * 1024 + 1 * (y 0).val = _
    rw [e3, one_mul]
    rfl
  have eL : win0_3.index t 1 * 512 + (y 1).val = t.val % 2 * 512 + (y 1).val := by
    rw [e3]
    rfl
  generalize hR : (win0_3.blk t).view.emb y 0 = R at eR ⊢
  unfold turnb turn
  rw [eL]
  have hm : (t.val % 2 * 512 + (y 1).val) % 128 = (y 1).val % 128 := by omega
  have hp : parb (t.val % 2 * 512 + (y 1).val) = t.val % 2 * 512 + parb (y 1).val := by
    unfold parb
    rw [hm]
    omega
  rw [hm, hp]
  exact congrArg₂ (· + ·) (congrArg₂ (· * ·) (tile_blk m c t (y 0) (y 1) R _ eR rfl) (tab_blk m c t (y 0) ⟨(y 1).val % 128, by omega⟩ R eR))
    (congrArg₂ (· * ·) (tile_blk m c t (y 0) ⟨parb (y 1).val, parb_lt (y 1)⟩ R _ eR rfl) (tab_blk m c t (y 0) ⟨128 + (y 1).val % 128, by omega⟩ R eR))

section Turned

variable (x : Vec Ideal S4x4096x2048 .f32) (w : Vec Ideal S2048x7504 .f32) (a s : Vec Ideal S4x4096x8 .f32) (r : Fin 16384)

theorem tb_cos (l : ℕ) (hl : l < 128) : tn (tb a s) r l = cosl a r.val l :=
  (congrArg (fun e => tb a s (ValueIdx.ix2 (n0 := 16384) (n1 := 512) r e)) (Fin.ext (by show l % 512 = l; omega))).trans
    (tab_cos a s _ _ _ _ _ r ⟨l, hl⟩)

theorem tb_sin (l : ℕ) (hl : l < 128) : tn (tb a s) r (128 + l) = sinl s r.val l :=
  (congrArg (fun e => tb a s (ValueIdx.ix2 (n0 := 16384) (n1 := 512) r e)) (Fin.ext (by show (128 + l) % 512 = 128 + l; omega))).trans
    (tab_sin a s _ _ _ _ _ r ⟨l, hl⟩)

theorem head_in (h : Fin 8) (d : Fin 64) : turn (xs x) (wk w) (tb a s) r (128 * h.val + d.val)
    = headv (fun e => tok x w r.val (col h.val + e)) a s r.val d.val := by
  refine turn_in _ _ _ a s r h.val _ (tb_cos a s r) (tb_sin a s r) (fun e he => ?_) d.val d.isLt
  have hlt : 128 * h.val + e < 1024 := by have := h.isLt; omega
  exact (dif_pos hlt).trans (prod_tok x _ w _ r _ _ fun k => wk_in w k h ⟨e, he⟩)

theorem head_out (h : Fin 8) (d : Fin 64) : turn (xs x) (wk w) (tb a s) r (128 * h.val + (64 + d.val)) = 0 := by
  refine turn_out _ _ _ a s r h.val (tb_cos a s r) (tb_sin a s r) (fun e he => ?_) d.val d.isLt
  have hlt : 128 * h.val + (64 + e) < 1024 := by have := h.isLt; omega
  exact (dif_pos hlt).trans (prod_zero _ _ r _ fun k => wk_out w k h ⟨e, he⟩)

end Turned

/-! ## The reference -/

section Reference

open Cert.Reference9Ideal.Read

variable (x : Vec Ideal S4x4096x2048 .f32) (w : Vec Ideal S2048x7504 .f32) (a s : Vec Ideal S4x4096x8 .f32) (r : Fin 16384)

theorem proj_at (j : Cert.Reference9Ideal.S4x4096x7504.Idx) :
    val_main_v0 (F := Ideal) x w j = tok x w ((j 0).val * 4096 + (j 1).val) (j 2).val := by
  refine (val_main_v0_apply x w j).trans (Finset.sum_congr rfl fun k _ => ?_)
  exact congrArg₂ (· * ·) (xn_eq x _ _ k rfl rfl) (wn_eq w _ k _ rfl rfl)

theorem cmp_at (h : Fin 4) (d : Fin 64) : val_main_v2 (F := Ideal) x w (ih 4 r h d) = tok x w r.val (col h.val + d.val) := by
  rw [val_main_v2_apply, val_main_v1_apply, proj_at]
  have hr := r.isLt
  unfold col
  rw [if_pos h.isLt]
  congr 1
  · show (((r.val / 4096 * 4096 + r.val % 4096) * 4 + h.val) * 64 + d.val) / 1048576 * 4096
      + (((r.val / 4096 * 4096 + r.val % 4096) * 4 + h.val) * 64 + d.val) / 256 % 4096 = r.val
    omega
  · show 1024 + (((r.val / 4096 * 4096 + r.val % 4096) * 4 + h.val) * 64 + d.val) % 256 = _
    omega

theorem win_at (h : Fin 4) (d : Fin 64) : val_main_v20 (F := Ideal) x w (ih 4 r h d) = tok x w r.val (col (4 + h.val) + d.val) := by
  rw [val_main_v20_apply, val_main_v19_apply, proj_at]
  have hr := r.isLt
  unfold col
  rw [if_neg (by omega)]
  congr 1
  · show (((r.val / 4096 * 4096 + r.val % 4096) * 4 + h.val) * 64 + d.val) / 1048576 * 4096
      + (((r.val / 4096 * 4096 + r.val % 4096) * 4 + h.val) * 64 + d.val) / 256 % 4096 = r.val
    omega
  · show 2048 + (((r.val / 4096 * 4096 + r.val % 4096) * 4 + h.val) * 64 + d.val) % 256 = _
    omega

/-- The reference's heads, turned. -/
def turned (y : Vec Ideal Cert.Reference9Ideal.S4x4096x4x64 .f32) : Vec Ideal Cert.Reference9Ideal.S4x4096x4x64 .f32 :=
  rotd (n := 4) y a s Cert.Reference9Ideal.Gen.bcast_S4x4096x8_S4x4096x1x8_0_1_3 Cert.Reference9Ideal.Gen.bcast_S4x4096x1x8_S4x4096x4x8_0_1_2_3
    Cert.Reference9Ideal.Gen.slices_S4x4096x4x64_S4x4096x4x8_0_0_0_0 Cert.Reference9Ideal.Gen.slices_S4x4096x4x64_S4x4096x4x8_0_0_0_8
    Cert.Reference9Ideal.Gen.slices_S4x4096x4x64_S4x4096x4x48_0_0_0_16
    Cert.Reference9Ideal.Gen.concatenates_S4x4096x4x8_S4x4096x4x8_S4x4096x4x48_S4x4096x4x64_d3

theorem turned_cmp : val_main_v18 (F := Ideal) x w a s = turned a s (val_main_v2 (F := Ideal) x w) := rfl

theorem turned_win : val_main_v36 (F := Ideal) x w a s = turned a s (val_main_v20 (F := Ideal) x w) := rfl

theorem ref_cmp (l : Fin 512) : val_main_v43 (F := Ideal) x w a s (ValueIdx.ix2 (n0 := 16384) (n1 := 1024) r ⟨l.val, by omega⟩)
    = lanes (n := 4) (N2 := 512) (val_main_v18 (F := Ideal) x w a s) (val_main_v37 (F := Ideal))
        Cert.Reference9Ideal.Gen.concatenates_S4x4096x4x64_S4x4096x4x64_S4x4096x4x128_d3 Cert.Reference9Ideal.Gen.shapeCasts_S4x4096x4x128_S16384x512
        (ValueIdx.ix2 (n0 := 16384) (n1 := 512) r l) :=
  concatenate_apply_piece (t := Cert.Reference9Ideal.S16384x1024) 1 _ _ _ 0 (by show 0 < 2; decide) Cert.Reference9Ideal.S16384x512 _ rfl rfl 0 rfl
    (ValueIdx.ix2 (n0 := 16384) (n1 := 512) r l)
    (fun b hb => by match b with | ⟨0, _⟩ => rfl | ⟨1, _⟩ => exact absurd rfl hb) (Nat.zero_add _)

theorem ref_win (l : Fin 512) : val_main_v43 (F := Ideal) x w a s (ValueIdx.ix2 (n0 := 16384) (n1 := 1024) r ⟨512 + l.val, by omega⟩)
    = lanes (n := 4) (N2 := 512) (val_main_v36 (F := Ideal) x w a s) (val_main_v40 (F := Ideal))
        Cert.Reference9Ideal.Gen.concatenates_S4x4096x4x64_S4x4096x4x64_S4x4096x4x128_d3 Cert.Reference9Ideal.Gen.shapeCasts_S4x4096x4x128_S16384x512
        (ValueIdx.ix2 (n0 := 16384) (n1 := 512) r l) :=
  concatenate_apply_piece (t := Cert.Reference9Ideal.S16384x1024) 1 _ _ _ 1 (by show 1 < 2; decide) Cert.Reference9Ideal.S16384x512 _ rfl rfl 512 rfl
    (ValueIdx.ix2 (n0 := 16384) (n1 := 512) r l)
    (fun b hb => by match b with | ⟨0, _⟩ => rfl | ⟨1, _⟩ => exact absurd rfl hb) rfl

/-- The array that the reference leaves is the product with the call's weights, its heads turned. -/
theorem ref_at : val_main_v44 (F := Ideal) x w a s = fun i : S16384x1024.Idx => turn (xs x) (wk w) (tb a s) (i 0) (i 1).val := by
  funext i
  obtain ⟨r, l, rfl⟩ : ∃ (r : Fin 16384) (l : Fin 1024), i = ValueIdx.ix2 (n0 := 16384) (n1 := 1024) r l :=
    ⟨i 0, i 1, funext fun b => by match b with | ⟨0, _⟩ => rfl | ⟨1, _⟩ => rfl⟩
  rw [val_main_v44_apply]
  show val_main_v43 (F := Ideal) x w a s (ValueIdx.ix2 (n0 := 16384) (n1 := 1024) r l) = turn (xs x) (wk w) (tb a s) r l.val
  have hl := l.isLt
  by_cases h1 : l.val < 512
  · obtain ⟨h, d, e⟩ : ∃ (h : Fin 4) (d : Fin 128), l.val = 128 * h.val + d.val :=
      ⟨⟨l.val / 128, by omega⟩, ⟨l.val % 128, by omega⟩, by show l.val = 128 * (l.val / 128) + l.val % 128; omega⟩
    rw [show l = ⟨(⟨128 * h.val + d.val, by omega⟩ : Fin 512).val, by show 128 * h.val + d.val < 1024; omega⟩ from Fin.ext e]
    refine (ref_cmp x w a s r _).trans ?_
    by_cases hd : d.val < 64
    · refine (lanes_in (n := 4) (N2 := 512) _ _ _ _ rfl r h ⟨d.val, hd⟩ _ rfl).trans ?_
      rw [turned_cmp]
      exact (rotd_at _ a s _ _ _ _ _ _ _ r h (cmp_at x w r h) ⟨d.val, hd⟩).trans (head_in x w a s r ⟨h.val, by omega⟩ ⟨d.val, hd⟩).symm
    · have ed : d.val = 64 + (d.val - 64) := by omega
      refine (lanes_out (n := 4) (N2 := 512) _ _ _ _ rfl r h ⟨d.val - 64, by omega⟩ _ (congrArg (128 * h.val + ·) ed)).trans ?_
      rw [val_main_v37_apply, val_main_cst_apply]
      refine Eq.trans Ideal.ofBits_zero_f32 ?_
      refine (head_out x w a s r ⟨h.val, by omega⟩ ⟨d.val - 64, by omega⟩).symm.trans ?_
      exact congrArg (turn (xs x) (wk w) (tb a s) r) (congrArg (128 * h.val + ·) ed.symm)
  · obtain ⟨h, d, e⟩ : ∃ (h : Fin 4) (d : Fin 128), l.val = 512 + (128 * h.val + d.val) :=
      ⟨⟨(l.val - 512) / 128, by omega⟩, ⟨(l.val - 512) % 128, by omega⟩, by show l.val = 512 + (128 * ((l.val - 512) / 128) + (l.val - 512) % 128); omega⟩
    rw [show l = ⟨512 + (⟨128 * h.val + d.val, by omega⟩ : Fin 512).val, by show 512 + (128 * h.val + d.val) < 1024; omega⟩ from Fin.ext e]
    refine (ref_win x w a s r _).trans ?_
    have e4 : ∀ n, 128 * (4 + h.val) + n = 512 + (128 * h.val + n) := fun n => by omega
    by_cases hd : d.val < 64
    · refine (lanes_in (n := 4) (N2 := 512) _ _ _ _ rfl r h ⟨d.val, hd⟩ _ rfl).trans ?_
      rw [turned_win]
      refine (rotd_at _ a s _ _ _ _ _ _ _ r h (win_at x w r h) ⟨d.val, hd⟩).trans ((head_in x w a s r ⟨4 + h.val, by omega⟩ ⟨d.val, hd⟩).symm.trans ?_)
      exact congrArg (turn (xs x) (wk w) (tb a s) r) (e4 d.val)
    · have ed : d.val = 64 + (d.val - 64) := by omega
      refine (lanes_out (n := 4) (N2 := 512) _ _ _ _ rfl r h ⟨d.val - 64, by omega⟩ _ (congrArg (128 * h.val + ·) ed)).trans ?_
      rw [val_main_v40_apply, val_main_cst_0_apply]
      refine Eq.trans Ideal.ofBits_zero_f32 ?_
      refine (head_out x w a s r ⟨4 + h.val, by omega⟩ ⟨d.val - 64, by omega⟩).symm.trans ?_
      exact congrArg (turn (xs x) (wk w) (tb a s) r) ((e4 _).trans (congrArg (fun n => 512 + (128 * h.val + n)) ed.symm))

end Reference

theorem kernel_out : (dats m 0 c).arrAt 3 cfg0.N
    = fun i : S16384x1024.Idx => turn (xs (m ((c : Thread nD τ).loc main_arg0))) (wk (m ((c : Thread nD τ).loc main_arg1)))
        (tb (m ((c : Thread nD τ).loc main_arg2)) (m ((c : Thread nD τ).loc main_arg3))) (i 0) (i 1).val := by
  rw [out_at, V_x, V_w, V_t]

end Cert.Keys

end
-- ==== Proof.Lin.Queries.lean ====
/-
  The projection to the sparse attention's queries: the array that the tiled product, its heads turned by the tokens' angles
  and scaled, leaves is the one that the reference states, its padding lanes included.
-/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Lin.Rope

@[expose] public section

set_option maxRecDepth 16384

noncomputable section

namespace Cert.Queries

open Cert.Kernel10Ideal Cert.Kernel10Ideal.Gen Idealize.ShloMosaic Idealize.ShloMosaic.TcCoe Idealize.SL.Sem Cert.Heads Cert.Rope
open scoped BigOperators

variable (m : (ℓ : Loc nD τ sig) → Buf (Elt Ideal) ℓ) (c : Dev nD)

/-- The scale of the queries. -/
def sc : EReal := Named.named (F := Ideal) κ "scale" (φ := .f32) 0x3E38AA3B#32

theorem sc_eq : sc = ((1 / 8 * (Real.log 2)⁻¹ : ℝ) : EReal) := rfl

/-- The queries' columns. -/
def qc (w : Vec Ideal S2048x7504 .f32) : Vec Ideal S2048x1024 .bf16 :=
  extractStridedSlice S2048x1024 ![0, 0] (truncf (F := Ideal) .bf16 w bitsLt_bf16_f32) slices_S2048x7504_S2048x1024_0_0

/-- The activations, one row per token. -/
def xs (x : Vec Ideal S4x4096x2048 .f32) : Vec Ideal S16384x2048 .bf16 := rows x shapeCasts_S4x4096x2048_S16384x2048

/-- The weights as the call reads them: the heads' columns, each head's followed by zeros. -/
def wq (w : Vec Ideal S2048x7504 .f32) : Vec Ideal S2048x2048 .bf16 :=
  slots (n := 16) (N1 := 1024) (N2 := 2048) (qc w) (sitofp (F := Ideal) .bf16 (constantI S_ 32 0#32)) shapeCasts_S2048x1024_S2048x16x64
    pads_S2048x16x64_S2048x16x128_000_000_0640 shapeCasts_S2048x16x128_S2048x2048 h_S_

/-- The table as the call reads it. -/
def tb (a s : Vec Ideal S4x4096x8 .f32) : Vec Ideal S16384x512 .f32 :=
  tab a s shapeCasts_S4x4096x8_S16384x8 bcast_S_S16384x112 concatenates_S16384x8_S16384x8_S16384x112_S16384x128_d1 bcast_S_S16384x256
    concatenates_S16384x128_S16384x128_S16384x256_S16384x512_d1

theorem V_x : V m c main_v15 = xs (m ((c : Thread nD τ).loc main_arg0)) := by
  unfold_abbrev_sides
  simp only [hostOps0, hostOps0_1, hostOps0_2, List.flatten_cons, List.flatten_nil, List.append_nil, List.cons_append, List.nil_append]
  after_results
  rfl

theorem V_w : V m c main_v13 = wq (m ((c : Thread nD τ).loc main_arg1)) := by
  unfold_abbrev_sides
  simp only [hostOps0, hostOps0_1, hostOps0_2, List.flatten_cons, List.flatten_nil, List.append_nil, List.cons_append, List.nil_append]
  after_results
  rfl

theorem V_t : V m c main_v8 = tb (m ((c : Thread nD τ).loc main_arg2)) (m ((c : Thread nD τ).loc main_arg3)) := by
  unfold_abbrev_sides
  simp only [hostOps0, hostOps0_1, hostOps0_2, List.flatten_cons, List.flatten_nil, List.append_nil, List.cons_append, List.nil_append]
  after_results_simp
  dsimp only [Matrix.cons_val]
  rfl

section Weights

variable (w : Vec Ideal S2048x7504 .f32) (k : Fin 2048)

theorem qc_at (l : Fin 1024) : qc w (ValueIdx.ix2 (n0 := 2048) (n1 := 1024) k l) = wn w k l.val := by
  refine (extractStridedSlice_apply (s := S2048x7504) (t := S2048x1024) _ _ _ _
    (ValueIdx.ix2 (n0 := 2048) (n1 := 7504) k ⟨l.val, by omega⟩) (fun b => by match b with
      | ⟨0, _⟩ => exact (Nat.zero_add _).symm
      | ⟨1, _⟩ => exact (Nat.zero_add _).symm)).trans ?_
  exact wn_eq w _ k _ rfl rfl

theorem wq_in (h : Fin 16) (d : Fin 64) : wq w (ValueIdx.ix2 (n0 := 2048) (n1 := 2048) k ⟨128 * h.val + d.val, by omega⟩) = wn w k (64 * h.val + d.val) :=
  (slots_in (n := 16) (N1 := 1024) (N2 := 2048) _ _ _ _ _ _ rfl rfl k h d _ ⟨64 * h.val + d.val, by omega⟩ rfl rfl).trans (qc_at w k _)

theorem wq_out (h : Fin 16) (d : Fin 64) : wq w (ValueIdx.ix2 (n0 := 2048) (n1 := 2048) k ⟨128 * h.val + (64 + d.val), by omega⟩) = 0 :=
  (slots_out (n := 16) (N1 := 1024) (N2 := 2048) _ _ _ _ _ _ rfl k h d _ rfl).trans (pad_zero _)

end Weights

/-! ## The kernel -/

/-- A block of the product, read at an index. -/
theorem tile_at (x : Vec Ideal S1024x2048 .bf16) (w : Vec Ideal S2048x512 .bf16) (r : Fin 1024) (e : Fin 512) :
    k0_pay1 x w (ValueIdx.ix2 r e) = ∑ k : Fin 2048, x (ValueIdx.ix2 r k) * w (ValueIdx.ix2 k e) := by
  refine (Ideal.matmul_plain_apply (M := 1024) (K := 2048) (N := 512) none _ _ _ r e).trans ?_
  show Ideal.ofBits .f32 0x00000000#32 + _ = _
  rw [Ideal.ofBits_zero_f32, zero_add]
  refine Finset.sum_congr rfl fun k _ => ?_
  rw [shapeCast_self, shapeCast_self]

theorem cos_at (t : Vec Ideal S1024x512 .f32) (r : Fin 1024) (l : Fin 128) :
    k0_pay2 (View.ld t r0_2) (ValueIdx.ix2 (n0 := 1024) (n1 := 128) r l) = t (ValueIdx.ix2 (n0 := 1024) (n1 := 512) r ⟨l.val, by omega⟩) := by
  have e : ∀ u : Vec Ideal S1024x128 .f32, k0_pay2 u = u := fun u => shapeCast_self _ _
  rw [e]
  refine congrArg t (funext fun b => ?_)
  match b with
  | ⟨0, _⟩ => refine Fin.ext ?_; show 0 + 1 * r.val = r.val; omega
  | ⟨1, _⟩ => refine Fin.ext ?_; show 0 + 1 * l.val = l.val; omega

theorem sin_at (t : Vec Ideal S1024x512 .f32) (r : Fin 1024) (l : Fin 128) :
    k0_pay3 (View.ld t r0_3) (ValueIdx.ix2 (n0 := 1024) (n1 := 128) r l) = t (ValueIdx.ix2 (n0 := 1024) (n1 := 512) r ⟨128 + l.val, by omega⟩) := by
  have e : ∀ u : Vec Ideal S1024x128 .f32, k0_pay3 u = u := fun u => shapeCast_self _ _
  rw [e]
  refine congrArg t (funext fun b => ?_)
  match b with
  | ⟨0, _⟩ => refine Fin.ext ?_; show 0 + 1 * r.val = r.val; omega
  | ⟨1, _⟩ => refine Fin.ext ?_; show 128 + 1 * l.val = 128 + l.val; omega

theorem ld_x (x : Vec Ideal S1024x2048 .bf16) : View.ld x r0_0 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

theorem ld_w (x : Vec Ideal S2048x512 .bf16) : View.ld x r0_1 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

/-- A block of the result: the product's heads, turned and scaled. -/
theorem block_at (x : Vec Ideal S1024x2048 .bf16) (w : Vec Ideal S2048x512 .bf16) (t : Vec Ideal S1024x512 .f32) (y : S1024x512.Idx) :
    out0_3 x w t y = turnb (k0_pay1 x w) t (y 0) (y 1) * sc := by
  have h1 : (y 1).val < 512 := (y 1).isLt
  unfold_out out0_3
  rw [ld_x, ld_w]
  refine canon_head (fun r e => turnb (k0_pay1 x w) t r e * sc) y 384 _ _ _ (fun r l e he => ?_) fun n3 =>
    canon_head (fun r e => turnb (k0_pay1 x w) t r e * sc) y 256 _ _ _ (fun r l e he => ?_) fun n2 =>
    canon_head (fun r e => turnb (k0_pay1 x w) t r e * sc) y 128 _ _ _ (fun r l e he => ?_) fun n1 =>
    canon_head (fun r e => turnb (k0_pay1 x w) t r e * sc) y 0 _ _ _ (fun r l e he => ?_) fun n0 => absurd h1 (by omega)
  · exact congrArg (· * sc) (piece_at (k0_pay1 x w) t (k0_pay2 (View.ld t r0_2)) (k0_pay3 (View.ld t r0_3)) iota_S1x128_d1_w32 rotates_S1024x128_d1
      shapeCasts_S1x128_S1x128 broadcasts_S1x128_S1024x128 384 slices_S1024x512_o0_384_S1024x128 rfl (cos_at t) (sin_at t) r l e he)
  · exact congrArg (· * sc) (piece_at (k0_pay1 x w) t (k0_pay2 (View.ld t r0_2)) (k0_pay3 (View.ld t r0_3)) iota_S1x128_d1_w32 rotates_S1024x128_d1
      shapeCasts_S1x128_S1x128 broadcasts_S1x128_S1024x128 256 slices_S1024x512_o0_256_S1024x128 rfl (cos_at t) (sin_at t) r l e he)
  · exact congrArg (· * sc) (piece_at (k0_pay1 x w) t (k0_pay2 (View.ld t r0_2)) (k0_pay3 (View.ld t r0_3)) iota_S1x128_d1_w32 rotates_S1024x128_d1
      shapeCasts_S1x128_S1x128 broadcasts_S1x128_S1024x128 128 slices_S1024x512_o0_128_S1024x128 rfl (cos_at t) (sin_at t) r l e he)
  · exact congrArg (· * sc) (piece_at (k0_pay1 x w) t (k0_pay2 (View.ld t r0_2)) (k0_pay3 (View.ld t r0_3)) iota_S1x128_d1_w32 rotates_S1024x128_d1
      shapeCasts_S1x128_S1x128 broadcasts_S1x128_S1024x128 0 slices_S1024x512_o0_0_S1024x128 rfl (cos_at t) (sin_at t) r l e he)

theorem idxs : ∀ t : Fin cfg0.N, win0_0.index t = ![t.val / 4, 0] ∧ win0_1.index t = ![0, t.val % 4] ∧ win0_2.index t = ![t.val / 4, 0]
    ∧ win0_3.index t = ![t.val / 4, t.val % 4] := by
  decide +kernel

/-- The product's block at a point of the grid. -/
theorem tile_blk (t : Fin cfg0.N) (r : Fin 1024) (e : Fin 512) (R : Fin 16384) (l : ℕ) (hR : R.val = t.val / 4 * 1024 + r.val)
    (hl : l = t.val % 4 * 512 + e.val) : k0_pay1 (iblk m c 0 t) (iblk m c 1 t) (ValueIdx.ix2 r e) = pn (V m c main_v15) (V m c main_v13) R l := by
  have hlt : l < 2048 := by have := e.isLt; omega
  obtain ⟨e0, e1, e2, e3⟩ := idxs t
  have e4 : pn (V m c main_v15) (V m c main_v13) R l = prod (N := 2048) (V m c main_v15) (V m c main_v13) R ⟨l, hlt⟩ := dif_pos hlt
  rw [e4]
  refine (tile_at (iblk m c 0 t) (iblk m c 1 t) r e).trans (Finset.sum_congr rfl fun k _ => congrArg₂ (· * ·) ?_ ?_)
  · blk_ext [iblk, e0]
    show t.val / 4 * 1024 + r.val = R.val
    exact hR.symm
  · blk_ext [iblk, e1]
    show t.val % 4 * 512 + e.val = l
    exact hl.symm

/-- The table's block at a point of the grid. -/
theorem tab_blk (t : Fin cfg0.N) (r : Fin 1024) (e : Fin 512) (R : Fin 16384) (hR : R.val = t.val / 4 * 1024 + r.val) :
    iblk m c 2 t (ValueIdx.ix2 (n0 := 1024) (n1 := 512) r e) = tn (V m c main_v8) R e.val := by
  obtain ⟨e0, e1, e2, e3⟩ := idxs t
  have he := e.isLt
  blk_ext [iblk, e2]
  · exact hR.symm
  · show e.val = e.val % 512
    omega

/-- The array that the kernel leaves. -/
theorem out_at : (dats m 0 c).arrAt 3 cfg0.N
    = fun i : S16384x2048.Idx => turn (V m c main_v15) (V m c main_v13) (V m c main_v8) (i 0) (i 1).val * sc := by
  refine (dats m 0 c).arrAt_eq_of_covers 3 _ (by decide +kernel) fun t hf y => ?_
  blk_simp
  rw [after0_3]
  obtain ⟨e0, e1, e2, e3⟩ := idxs t
  have h1 : (y 1).val < 512 := (y 1).isLt
  refine (block_at _ _ _ y).trans ?_
  have eR : ((win0_3.blk t).view.emb y 0).val = t.val / 4 * 1024 + (y 0).val := by
    show win0_3.index t 0 * 1024 + 1 * (y 0).val = _
    rw [e3, one_mul]
    rfl
  have eL : win0_3.index t 1 * 512 + (y 1).val = t.val % 4 * 512 + (y 1).val := by
    rw [e3]
    rfl
  generalize hR : (win0_3.blk t).view.emb y 0 = R at eR ⊢
  unfold turnb turn
  rw [eL]
  have hm : (t.val % 4 * 512 + (y 1).val) % 128 = (y 1).val % 128 := by omega
  have hp : parb (t.val % 4 * 512 + (y 1).val) = t.val % 4 * 512 + parb (y 1).val := by
    unfold parb
    rw [hm]
    omega
  rw [hm, hp]
  exact congrArg (· * sc) (congrArg₂ (· + ·) (congrArg₂ (· * ·) (tile_blk m c t (y 0) (y 1) R _ eR rfl) (tab_blk m c t (y 0) ⟨(y 1).val % 128, by omega⟩ R eR))
    (congrArg₂ (· * ·) (tile_blk m c t (y 0) ⟨parb (y 1).val, parb_lt (y 1)⟩ R _ eR rfl) (tab_blk m c t (y 0) ⟨128 + (y 1).val % 128, by omega⟩ R eR)))

section Turned

variable (x : Vec Ideal S4x4096x2048 .f32) (w : Vec Ideal S2048x7504 .f32) (a s : Vec Ideal S4x4096x8 .f32) (r : Fin 16384)

theorem tb_cos (l : ℕ) (hl : l < 128) : tn (tb a s) r l = cosl a r.val l :=
  (congrArg (fun e => tb a s (ValueIdx.ix2 (n0 := 16384) (n1 := 512) r e)) (Fin.ext (by show l % 512 = l; omega))).trans
    (tab_cos a s _ _ _ _ _ r ⟨l, hl⟩)

theorem tb_sin (l : ℕ) (hl : l < 128) : tn (tb a s) r (128 + l) = sinl s r.val l :=
  (congrArg (fun e => tb a s (ValueIdx.ix2 (n0 := 16384) (n1 := 512) r e)) (Fin.ext (by show (128 + l) % 512 = 128 + l; omega))).trans
    (tab_sin a s _ _ _ _ _ r ⟨l, hl⟩)

theorem head_in (h : Fin 16) (d : Fin 64) : turn (xs x) (wq w) (tb a s) r (128 * h.val + d.val)
    = headv (fun e => tok x w r.val (64 * h.val + e)) a s r.val d.val := by
  refine turn_in _ _ _ a s r h.val _ (tb_cos a s r) (tb_sin a s r) (fun e he => ?_) d.val d.isLt
  have hlt : 128 * h.val + e < 2048 := by have := h.isLt; omega
  exact (dif_pos hlt).trans (prod_tok x _ w _ r _ _ fun k => wq_in w k h ⟨e, he⟩)

theorem head_out (h : Fin 16) (d : Fin 64) : turn (xs x) (wq w) (tb a s) r (128 * h.val + (64 + d.val)) = 0 := by
  refine turn_out _ _ _ a s r h.val (tb_cos a s r) (tb_sin a s r) (fun e he => ?_) d.val d.isLt
  have hlt : 128 * h.val + (64 + e) < 2048 := by have := h.isLt; omega
  exact (dif_pos hlt).trans (prod_zero _ _ r _ fun k => wq_out w k h ⟨e, he⟩)

end Turned

/-! ## The reference -/

section Reference

open Cert.Reference10Ideal.Read

variable (x : Vec Ideal S4x4096x2048 .f32) (w : Vec Ideal S2048x7504 .f32) (a s : Vec Ideal S4x4096x8 .f32) (r : Fin 16384)

theorem proj_at (j : Cert.Reference10Ideal.S4x4096x7504.Idx) :
    val_main_v0 (F := Ideal) x w j = tok x w ((j 0).val * 4096 + (j 1).val) (j 2).val := by
  refine (val_main_v0_apply x w j).trans (Finset.sum_congr rfl fun k _ => ?_)
  exact congrArg₂ (· * ·) (xn_eq x _ _ k rfl rfl) (wn_eq w _ k _ rfl rfl)

theorem qry_at (h : Fin 16) (d : Fin 64) : val_main_v2 (F := Ideal) x w (ih 16 r h d) = tok x w r.val (64 * h.val + d.val) := by
  rw [val_main_v2_apply, val_main_v1_apply, proj_at]
  have hr := r.isLt
  congr 1
  · show (((r.val / 4096 * 4096 + r.val % 4096) * 16 + h.val) * 64 + d.val) / 4194304 * 4096
      + (((r.val / 4096 * 4096 + r.val % 4096) * 16 + h.val) * 64 + d.val) / 1024 % 4096 = r.val
    omega
  · show (((r.val / 4096 * 4096 + r.val % 4096) * 16 + h.val) * 64 + d.val) % 1024 = _
    omega

/-- The reference's scale: an eighth divided by the logarithm of two. -/
theorem scale_at (i : Cert.Reference10Ideal.S4x4096x16x64.Idx) : val_main_v21 (F := Ideal) i = sc := by
  have e8 : Ideal.ofBits .f32 0x3E000000#32 = ((1 / 8 : ℝ) : EReal) := by
    simp [Ideal.ofBits, Ideal.ieee]
    rw [← EReal.coe_mul]; norm_num
  have e2 : Ideal.ofBits .f32 0x40000000#32 = ((2 : ℝ) : EReal) := by
    simp [Ideal.ofBits, Ideal.ieee]
    rw [← EReal.coe_mul]; norm_num
  rw [val_main_v21_apply, sc_eq]
  show Ideal.div (Ideal.ofBits .f32 0x3E000000#32) (Ideal.log (Ideal.ofBits .f32 0x40000000#32)) = _
  have h2 : (0 : ℝ) < Real.log 2 := Real.log_pos (by norm_num)
  rw [e8, e2, Ideal.log_coe, if_neg (by norm_num), Ideal.div_coe h2.ne', ← EReal.coe_mul, one_div (Real.log 2)]

/-- The reference's heads, turned. -/
def turned (y : Vec Ideal Cert.Reference10Ideal.S4x4096x16x64 .f32) : Vec Ideal Cert.Reference10Ideal.S4x4096x16x64 .f32 :=
  rotd (n := 16) y a s Cert.Reference10Ideal.Gen.bcast_S4x4096x8_S4x4096x1x8_0_1_3 Cert.Reference10Ideal.Gen.bcast_S4x4096x1x8_S4x4096x16x8_0_1_2_3
    Cert.Reference10Ideal.Gen.slices_S4x4096x16x64_S4x4096x16x8_0_0_0_0 Cert.Reference10Ideal.Gen.slices_S4x4096x16x64_S4x4096x16x8_0_0_0_8
    Cert.Reference10Ideal.Gen.slices_S4x4096x16x64_S4x4096x16x48_0_0_0_16
    Cert.Reference10Ideal.Gen.concatenates_S4x4096x16x8_S4x4096x16x8_S4x4096x16x48_S4x4096x16x64_d3

theorem turned_qry : val_main_v18 (F := Ideal) x w a s = turned a s (val_main_v2 (F := Ideal) x w) := rfl

theorem ref_lanes : val_main_v25 (F := Ideal) x w a s = lanes (n := 16) (N2 := 2048) (val_main_v22 (F := Ideal) x w a s) (val_main_v23 (F := Ideal))
    Cert.Reference10Ideal.Gen.concatenates_S4x4096x16x64_S4x4096x16x64_S4x4096x16x128_d3 Cert.Reference10Ideal.Gen.shapeCasts_S4x4096x16x128_S16384x2048 := rfl

/-- The array that the reference leaves is the product with the call's weights, its heads turned and scaled. -/
theorem ref_at : val_main_v26 (F := Ideal) x w a s = fun i : S16384x2048.Idx => turn (xs x) (wq w) (tb a s) (i 0) (i 1).val * sc := by
  funext i
  obtain ⟨r, l, rfl⟩ : ∃ (r : Fin 16384) (l : Fin 2048), i = ValueIdx.ix2 (n0 := 16384) (n1 := 2048) r l :=
    ⟨i 0, i 1, funext fun b => by match b with | ⟨0, _⟩ => rfl | ⟨1, _⟩ => rfl⟩
  rw [val_main_v26_apply]
  show val_main_v25 (F := Ideal) x w a s (ValueIdx.ix2 (n0 := 16384) (n1 := 2048) r l) = turn (xs x) (wq w) (tb a s) r l.val * sc
  have hl := l.isLt
  obtain ⟨h, d, e⟩ : ∃ (h : Fin 16) (d : Fin 128), l.val = 128 * h.val + d.val :=
    ⟨⟨l.val / 128, by omega⟩, ⟨l.val % 128, by omega⟩, by show l.val = 128 * (l.val / 128) + l.val % 128; omega⟩
  rw [ref_lanes, show l = ⟨128 * h.val + d.val, by omega⟩ from Fin.ext e]
  by_cases hd : d.val < 64
  · refine (lanes_in (n := 16) (N2 := 2048) _ _ _ _ rfl r h ⟨d.val, hd⟩ _ rfl).trans ?_
    rw [val_main_v22_apply, scale_at, turned_qry]
    exact congrArg (· * sc) ((rotd_at _ a s _ _ _ _ _ _ _ r h (qry_at x w r h) ⟨d.val, hd⟩).trans (head_in x w a s r h ⟨d.val, hd⟩).symm)
  · have ed : d.val = 64 + (d.val - 64) := by omega
    refine (lanes_out (n := 16) (N2 := 2048) _ _ _ _ rfl r h ⟨d.val - 64, by omega⟩ _ (congrArg (128 * h.val + ·) ed)).trans ?_
    rw [val_main_v23_apply, val_main_cst_1_apply]
    refine Eq.trans Ideal.ofBits_zero_f32 ?_
    have e0 : turn (xs x) (wq w) (tb a s) r (128 * h.val + d.val) = 0 :=
      (congrArg (turn (xs x) (wq w) (tb a s) r) (congrArg (128 * h.val + ·) ed)).trans (head_out x w a s r h ⟨d.val - 64, by omega⟩)
    exact ((congrArg (· * sc) e0).trans (zero_mul sc)).symm

end Reference

theorem kernel_out : (dats m 0 c).arrAt 3 cfg0.N
    = fun i : S16384x2048.Idx => turn (xs (m ((c : Thread nD τ).loc main_arg0))) (wq (m ((c : Thread nD τ).loc main_arg1)))
        (tb (m ((c : Thread nD τ).loc main_arg2)) (m ((c : Thread nD τ).loc main_arg3))) (i 0) (i 1).val * sc := by
  rw [out_at, V_x, V_w, V_t]

end Cert.Queries
-- ==== Proof.Lin.Selected.lean ====
/-
  The projection to the sparse attention's keys of the selected blocks: the array that the tiled product leaves, its heads turned
  by the tokens' angles and followed by the unit vector of the token's block, is the one that the reference states.
-/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Lin.Rope

@[expose] public section

set_option maxRecDepth 16384

noncomputable section

namespace Cert.Selected

open Cert.Kernel11Ideal Cert.Kernel11Ideal.Gen Idealize.ShloMosaic Idealize.ShloMosaic.TcCoe Idealize.SL.Sem Cert.Heads Cert.Rope
open scoped BigOperators

variable (m : (ℓ : Loc nD τ sig) → Buf (Elt Ideal) ℓ) (c : Dev nD)

/-- The activations, one row per token. -/
def xs (x : Vec Ideal S4x4096x2048 .f32) : Vec Ideal S16384x2048 .bf16 := rows x shapeCasts_S4x4096x2048_S16384x2048

/-- The keys' columns of the selected blocks. -/
def kc (w : Vec Ideal S2048x7504 .f32) : Vec Ideal S2048x256 .bf16 :=
  kvc w 1 0 slices_S2048x7504_S2048x1536_0_1024 shapeCasts_S2048x1536_S2048x3x2x256 slices_S2048x3x2x256_S2048x1x1x256_0_1_0_0
    shapeCasts_S2048x1x1x256_S2048x256

/-- The weights as the call reads them. -/
def wk (w : Vec Ideal S2048x7504 .f32) : Vec Ideal S2048x512 .bf16 :=
  slots (n := 4) (N1 := 256) (N2 := 512) (kc w) (sitofp (F := Ideal) .bf16 (constantI S_ 32 0#32)) shapeCasts_S2048x256_S2048x4x64
    pads_S2048x4x64_S2048x4x128_000_000_0640 shapeCasts_S2048x4x128_S2048x512 h_S_

/-- The table as the call reads it. -/
def tb (a s : Vec Ideal S4x4096x8 .f32) : Vec Ideal S16384x512 .f32 :=
  tab a s shapeCasts_S4x4096x8_S16384x8 bcast_S_S16384x112 concatenates_S16384x8_S16384x8_S16384x112_S16384x128_d1 bcast_S_S16384x256
    concatenates_S16384x128_S16384x128_S16384x256_S16384x512_d1

theorem V_x : V m c main_v18 = xs (m ((c : Thread nD τ).loc main_arg0)) := by
  unfold_abbrev_sides
  simp only [hostOps0, hostOps0_1, hostOps0_2, List.flatten_cons, List.flatten_nil, List.append_nil, List.cons_append, List.nil_append]
  after_results
  rfl

theorem V_w : V m c main_v16 = wk (m ((c : Thread nD τ).loc main_arg1)) := by
  unfold_abbrev_sides
  simp only [hostOps0, hostOps0_1, hostOps0_2, List.flatten_cons, List.flatten_nil, List.append_nil, List.cons_append, List.nil_append]
  after_results
  rfl

theorem V_t : V m c main_v8 = tb (m ((c : Thread nD τ).loc main_arg2)) (m ((c : Thread nD τ).loc main_arg3)) := by
  unfold_abbrev_sides
  simp only [hostOps0, hostOps0_1, hostOps0_2, List.flatten_cons, List.flatten_nil, List.append_nil, List.cons_append, List.nil_append]
  after_results_simp
  dsimp only [Matrix.cons_val]
  rfl

section Weights

variable (w : Vec Ideal S2048x7504 .f32) (k : Fin 2048)

theorem wk_in (h : Fin 4) (d : Fin 64) :
    wk w (ValueIdx.ix2 (n0 := 2048) (n1 := 512) k ⟨128 * h.val + d.val, by omega⟩) = wn w k (1536 + 64 * h.val + d.val) := by
  refine (slots_in (n := 4) (N1 := 256) (N2 := 512) (kc w) _ _ _ _ _ rfl rfl k h d _ ⟨64 * h.val + d.val, by omega⟩ rfl rfl).trans ?_
  refine (kvc_at w 1 0 (by decide) (by decide) _ _ _ _ k _).trans ?_
  exact congrArg (wn w k) (by show 1024 + 256 * (2 * 1 + 0) + (64 * h.val + d.val) = 1536 + 64 * h.val + d.val; omega)

theorem wk_out (h : Fin 4) (d : Fin 64) : wk w (ValueIdx.ix2 (n0 := 2048) (n1 := 512) k ⟨128 * h.val + (64 + d.val), by omega⟩) = 0 :=
  (slots_out (n := 4) (N1 := 256) (N2 := 512) (kc w) _ _ _ _ _ rfl k h d _ rfl).trans (pad_zero _)

end Weights

/-! ## The block of a token -/

/-- The unit vector of token `r`'s block, in the second half of a head's lanes. -/
def hot (r l : ℕ) : EReal := if l % 128 = 64 + r % 4096 / 64 then 1 else 0

theorem base : ∀ p : Fin 16, Scalar.remsi (Scalar.muli (BitVec.ofNat 32 p.val) 1024#32) 4096#32 = BitVec.ofNat 32 (p.val % 4 * 1024) := by
  decide +kernel

theorem shift : ∀ t : Fin 4096, IntOp.shrsi .vector (BitVec.ofNat 32 t.val) 6#32 = BitVec.ofNat 32 (t.val / 64) := by
  decide +kernel

theorem lane : ∀ (l : Fin 128) (b : Fin 64), IntOp.cmpi .eq (IntOp.subi (BitVec.ofNat 32 l.val) 64#32) (BitVec.ofNat 32 b.val)
    = if l.val = 64 + b.val then 1#1 else 0#1 := by
  decide +kernel

theorem hot_at (i : grid0.Coords) (r : Fin 1024) (l : Fin 128) :
    k0_pay5 (F := Ideal) i (ValueIdx.ix2 (n0 := 1024) (n1 := 128) r l) = hot ((i 0).val * 1024 + r.val) l.val := by
  have hi : (i 0).val < 16 := (i 0).isLt
  have hr := r.isLt
  have hl := l.isLt
  show (if IntOp.cmpi .eq (IntOp.subi (iota .tc S1024x128 32 [1] iota_S1024x128_d1_w32 (ValueIdx.ix2 (n0 := 1024) (n1 := 128) r l)) 64#32)
    (IntOp.shrsi .vector (IntOp.addi (Scalar.remsi (Scalar.muli (BitVec.ofNat 32 (i 0).val) 1024#32) 4096#32)
      (iota .tc S1024x128 32 [0] iota_S1024x128_d0_w32 (ValueIdx.ix2 (n0 := 1024) (n1 := 128) r l))) 6#32) = 1#1
    then Ideal.ofBits .f32 0x3F800000#32 else Ideal.ofBits .f32 0x00000000#32) = _
  rw [iota_single_apply, iota_single_apply, base ⟨(i 0).val, hi⟩, one_f32, Ideal.ofBits_zero_f32]
  have e1 : IntOp.addi (BitVec.ofNat 32 ((i 0).val % 4 * 1024)) (BitVec.ofNat 32 r.val) = BitVec.ofNat 32 ((i 0).val % 4 * 1024 + r.val) :=
    (BitVec.ofNat_add _ _).symm
  show (if IntOp.cmpi .eq (IntOp.subi (BitVec.ofNat 32 l.val) 64#32)
    (IntOp.shrsi .vector (IntOp.addi (BitVec.ofNat 32 ((i 0).val % 4 * 1024)) (BitVec.ofNat 32 r.val)) 6#32) = 1#1 then (1 : EReal) else 0) = _
  rw [e1, shift ⟨(i 0).val % 4 * 1024 + r.val, by omega⟩, lane l ⟨((i 0).val % 4 * 1024 + r.val) / 64, by omega⟩]
  unfold hot
  have e2 : l.val % 128 = 64 + ((i 0).val * 1024 + r.val) % 4096 / 64 ↔ l.val = 64 + ((i 0).val % 4 * 1024 + r.val) / 64 := by omega
  by_cases h : l.val = 64 + ((i 0).val % 4 * 1024 + r.val) / 64
  · rw [if_pos h, if_pos rfl, if_pos (e2.mpr h)]
  · rw [if_neg h, if_neg (by decide), if_neg fun h' => h (e2.mp h')]

/-! ## The kernel -/

/-- A block of the product, read at an index. -/
theorem tile_at (x : Vec Ideal S1024x2048 .bf16) (w : Vec Ideal S2048x512 .bf16) (r : Fin 1024) (e : Fin 512) :
    k0_pay2 x w (ValueIdx.ix2 r e) = ∑ k : Fin 2048, x (ValueIdx.ix2 r k) * w (ValueIdx.ix2 k e) := by
  refine (Ideal.matmul_plain_apply (M := 1024) (K := 2048) (N := 512) none _ _ _ r e).trans ?_
  show Ideal.ofBits .f32 0x00000000#32 + _ = _
  rw [Ideal.ofBits_zero_f32, zero_add]
  refine Finset.sum_congr rfl fun k _ => ?_
  rw [shapeCast_self, shapeCast_self]

theorem cos_at (t : Vec Ideal S1024x512 .f32) (r : Fin 1024) (l : Fin 128) :
    k0_pay3 (View.ld t r0_2) (ValueIdx.ix2 (n0 := 1024) (n1 := 128) r l) = t (ValueIdx.ix2 (n0 := 1024) (n1 := 512) r ⟨l.val, by omega⟩) := by
  have e : ∀ u : Vec Ideal S1024x128 .f32, k0_pay3 u = u := fun u => shapeCast_self _ _
  rw [e]
  refine congrArg t (funext fun b => ?_)
  match b with
  | ⟨0, _⟩ => refine Fin.ext ?_; show 0 + 1 * r.val = r.val; omega
  | ⟨1, _⟩ => refine Fin.ext ?_; show 0 + 1 * l.val = l.val; omega

theorem sin_at (t : Vec Ideal S1024x512 .f32) (r : Fin 1024) (l : Fin 128) :
    k0_pay4 (View.ld t r0_3) (ValueIdx.ix2 (n0 := 1024) (n1 := 128) r l) = t (ValueIdx.ix2 (n0 := 1024) (n1 := 512) r ⟨128 + l.val, by omega⟩) := by
  have e : ∀ u : Vec Ideal S1024x128 .f32, k0_pay4 u = u := fun u => shapeCast_self _ _
  rw [e]
  refine congrArg t (funext fun b => ?_)
  match b with
  | ⟨0, _⟩ => refine Fin.ext ?_; show 0 + 1 * r.val = r.val; omega
  | ⟨1, _⟩ => refine Fin.ext ?_; show 128 + 1 * l.val = 128 + l.val; omega

theorem ld_x (x : Vec Ideal S1024x2048 .bf16) : View.ld x r0_0 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

theorem ld_w (x : Vec Ideal S2048x512 .bf16) : View.ld x r0_1 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

/-- A block of the result: the product's heads, turned, and the tokens' blocks. -/
theorem block_at (i : grid0.Coords) (x : Vec Ideal S1024x2048 .bf16) (w : Vec Ideal S2048x512 .bf16) (t : Vec Ideal S1024x512 .f32) (y : S1024x512.Idx) :
    out0_3 i x w t y = turnb (k0_pay2 x w) t (y 0) (y 1) + hot ((i 0).val * 1024 + (y 0).val) (y 1).val := by
  have h1 : (y 1).val < 512 := (y 1).isLt
  have hh : ∀ (o : ℕ) (_ : o % 128 = 0) (r : Fin 1024) (l : Fin 128) (e : Fin 512) (_ : e.val = o + l.val),
      k0_pay5 (F := Ideal) i (ValueIdx.ix2 (n0 := 1024) (n1 := 128) r l) = hot ((i 0).val * 1024 + r.val) e.val := fun o ho r l e he => by
    have hl := l.isLt
    refine (hot_at i r l).trans ?_
    unfold hot
    rw [he, show (o + l.val) % 128 = l.val % 128 by omega]
  unfold_out out0_3
  rw [ld_x, ld_w]
  refine canon_head (fun r e => turnb (k0_pay2 x w) t r e + hot ((i 0).val * 1024 + r.val) e.val) y 384 _ _ _ (fun r l e he => ?_) fun n384 =>
    canon_head (fun r e => turnb (k0_pay2 x w) t r e + hot ((i 0).val * 1024 + r.val) e.val) y 256 _ _ _ (fun r l e he => ?_) fun n256 =>
    canon_head (fun r e => turnb (k0_pay2 x w) t r e + hot ((i 0).val * 1024 + r.val) e.val) y 128 _ _ _ (fun r l e he => ?_) fun n128 =>
    canon_head (fun r e => turnb (k0_pay2 x w) t r e + hot ((i 0).val * 1024 + r.val) e.val) y 0 _ _ _ (fun r l e he => ?_) fun n0 => absurd h1 (by omega)
  · exact congrArg₂ (· + ·) (piece_at (k0_pay2 x w) t (k0_pay3 (View.ld t r0_2)) (k0_pay4 (View.ld t r0_3)) iota_S1x128_d1_w32 rotates_S1024x128_d1
      shapeCasts_S1x128_S1x128 broadcasts_S1x128_S1024x128 384 slices_S1024x512_o0_384_S1024x128 rfl (cos_at t) (sin_at t) r l e he) (hh 384 rfl r l e he)
  · exact congrArg₂ (· + ·) (piece_at (k0_pay2 x w) t (k0_pay3 (View.ld t r0_2)) (k0_pay4 (View.ld t r0_3)) iota_S1x128_d1_w32 rotates_S1024x128_d1
      shapeCasts_S1x128_S1x128 broadcasts_S1x128_S1024x128 256 slices_S1024x512_o0_256_S1024x128 rfl (cos_at t) (sin_at t) r l e he) (hh 256 rfl r l e he)
  · exact congrArg₂ (· + ·) (piece_at (k0_pay2 x w) t (k0_pay3 (View.ld t r0_2)) (k0_pay4 (View.ld t r0_3)) iota_S1x128_d1_w32 rotates_S1024x128_d1
      shapeCasts_S1x128_S1x128 broadcasts_S1x128_S1024x128 128 slices_S1024x512_o0_128_S1024x128 rfl (cos_at t) (sin_at t) r l e he) (hh 128 rfl r l e he)
  · exact congrArg₂ (· + ·) (piece_at (k0_pay2 x w) t (k0_pay3 (View.ld t r0_2)) (k0_pay4 (View.ld t r0_3)) iota_S1x128_d1_w32 rotates_S1024x128_d1
      shapeCasts_S1x128_S1x128 broadcasts_S1x128_S1024x128 0 slices_S1024x512_o0_0_S1024x128 rfl (cos_at t) (sin_at t) r l e he) (hh 0 rfl r l e he)

theorem idxs : ∀ t : Fin cfg0.N, win0_0.index t = ![t.val, 0] ∧ win0_1.index t = ![0, 0] ∧ win0_2.index t = ![t.val, 0]
    ∧ win0_3.index t = ![t.val, 0] := by
  decide +kernel

/-- The product's block at a point of the grid. -/
theorem tile_blk (t : Fin cfg0.N) (r : Fin 1024) (e : Fin 512) (R : Fin 16384) (l : ℕ) (hR : R.val = t.val * 1024 + r.val)
    (hl : l = e.val) : k0_pay2 (iblk m c 0 t) (iblk m c 1 t) (ValueIdx.ix2 r e) = pn (V m c main_v18) (V m c main_v16) R l := by
  have hlt : l < 512 := by have := e.isLt; omega
  obtain ⟨e0, e1, e2, e3⟩ := idxs t
  have e4 : pn (V m c main_v18) (V m c main_v16) R l = prod (N := 512) (V m c main_v18) (V m c main_v16) R ⟨l, hlt⟩ := dif_pos hlt
  rw [e4]
  refine (tile_at (iblk m c 0 t) (iblk m c 1 t) r e).trans (Finset.sum_congr rfl fun k _ => congrArg₂ (· * ·) ?_ ?_)
  · blk_ext [iblk, e0]
    show t.val * 1024 + r.val = R.val
    exact hR.symm
  · blk_ext [iblk, e1]
    show e.val = l
    exact hl.symm

/-- The table's block at a point of the grid. -/
theorem tab_blk (t : Fin cfg0.N) (r : Fin 1024) (e : Fin 512) (R : Fin 16384) (hR : R.val = t.val * 1024 + r.val) :
    iblk m c 2 t (ValueIdx.ix2 (n0 := 1024) (n1 := 512) r e) = tn (V m c main_v8) R e.val := by
  obtain ⟨e0, e1, e2, e3⟩ := idxs t
  have he := e.isLt
  blk_ext [iblk, e2]
  · exact hR.symm
  · show e.val = e.val % 512
    omega

theorem coord : ∀ t : Fin cfg0.N, (grid0.coords t 0).val = t.val := by
  decide +kernel

/-- The array that the kernel leaves. -/
theorem out_at : (dats m 0 c).arrAt 3 cfg0.N
    = fun i : S16384x512.Idx => turn (V m c main_v18) (V m c main_v16) (V m c main_v8) (i 0) (i 1).val + hot (i 0).val (i 1).val := by
  refine (dats m 0 c).arrAt_eq_of_covers 3 _ (by decide +kernel) fun t hf y => ?_
  blk_simp
  rw [after0_3]
  obtain ⟨e0, e1, e2, e3⟩ := idxs t
  have h1 : (y 1).val < 512 := (y 1).isLt
  refine (block_at _ _ _ _ y).trans ?_
  have eR : ((win0_3.blk t).view.emb y 0).val = t.val * 1024 + (y 0).val := by
    show win0_3.index t 0 * 1024 + 1 * (y 0).val = _
    rw [e3, one_mul]
    rfl
  have eL : win0_3.index t 1 * 512 + (y 1).val = (y 1).val := by
    rw [e3]
    exact Nat.zero_add _
  generalize hR : (win0_3.blk t).view.emb y 0 = R at eR ⊢
  unfold turnb turn
  rw [eL, coord t]
  have eH : hot (t.val * 1024 + (y 0).val) (y 1).val = hot R.val (y 1).val := congrArg (hot · (y 1).val) eR.symm
  refine congrArg₂ (· + ·) (congrArg₂ (· + ·)
    (congrArg₂ (· * ·) (tile_blk m c t (y 0) (y 1) R _ eR rfl) (tab_blk m c t (y 0) ⟨(y 1).val % 128, by omega⟩ R eR))
    (congrArg₂ (· * ·) (tile_blk m c t (y 0) ⟨parb (y 1).val, parb_lt (y 1)⟩ R _ eR rfl) (tab_blk m c t (y 0) ⟨128 + (y 1).val % 128, by omega⟩ R eR))) (eH.trans ?_)
  exact congrArg (hot · (y 1).val) (eR.trans (congrArg (· * 1024 + (y 0).val) (congrFun e3 0).symm))

section Turned

variable (x : Vec Ideal S4x4096x2048 .f32) (w : Vec Ideal S2048x7504 .f32) (a s : Vec Ideal S4x4096x8 .f32) (r : Fin 16384)

theorem tb_cos (l : ℕ) (hl : l < 128) : tn (tb a s) r l = cosl a r.val l :=
  (congrArg (fun e => tb a s (ValueIdx.ix2 (n0 := 16384) (n1 := 512) r e)) (Fin.ext (by show l % 512 = l; omega))).trans
    (tab_cos a s _ _ _ _ _ r ⟨l, hl⟩)

theorem tb_sin (l : ℕ) (hl : l < 128) : tn (tb a s) r (128 + l) = sinl s r.val l :=
  (congrArg (fun e => tb a s (ValueIdx.ix2 (n0 := 16384) (n1 := 512) r e)) (Fin.ext (by show (128 + l) % 512 = 128 + l; omega))).trans
    (tab_sin a s _ _ _ _ _ r ⟨l, hl⟩)

theorem head_in (h : Fin 4) (d : Fin 64) : turn (xs x) (wk w) (tb a s) r (128 * h.val + d.val)
    = headv (fun e => tok x w r.val (1536 + 64 * h.val + e)) a s r.val d.val := by
  refine turn_in _ _ _ a s r h.val _ (tb_cos a s r) (tb_sin a s r) (fun e he => ?_) d.val d.isLt
  have hlt : 128 * h.val + e < 512 := by have := h.isLt; omega
  exact (dif_pos hlt).trans (prod_tok x _ w _ r _ _ fun k => wk_in w k h ⟨e, he⟩)

theorem head_out (h : Fin 4) (d : Fin 64) : turn (xs x) (wk w) (tb a s) r (128 * h.val + (64 + d.val)) = 0 := by
  refine turn_out _ _ _ a s r h.val (tb_cos a s r) (tb_sin a s r) (fun e he => ?_) d.val d.isLt
  have hlt : 128 * h.val + (64 + e) < 512 := by have := h.isLt; omega
  exact (dif_pos hlt).trans (prod_zero _ _ r _ fun k => wk_out w k h ⟨e, he⟩)

end Turned

/-! ## The reference -/

section Reference

open Cert.Reference11Ideal.Read

variable (x : Vec Ideal S4x4096x2048 .f32) (w : Vec Ideal S2048x7504 .f32) (a s : Vec Ideal S4x4096x8 .f32) (r : Fin 16384)

theorem proj_at (j : Cert.Reference11Ideal.S4x4096x7504.Idx) :
    val_main_v0 (F := Ideal) x w j = tok x w ((j 0).val * 4096 + (j 1).val) (j 2).val := by
  refine (val_main_v0_apply x w j).trans (Finset.sum_congr rfl fun k _ => ?_)
  exact congrArg₂ (· * ·) (xn_eq x _ _ k rfl rfl) (wn_eq w _ k _ rfl rfl)

theorem sel_at (h : Fin 4) (d : Fin 64) : val_main_v2 (F := Ideal) x w (ih 4 r h d) = tok x w r.val (1536 + 64 * h.val + d.val) := by
  rw [val_main_v2_apply, val_main_v1_apply, proj_at]
  have hr := r.isLt
  congr 1
  · show (((r.val / 4096 * 4096 + r.val % 4096) * 4 + h.val) * 64 + d.val) / 1048576 * 4096
      + (((r.val / 4096 * 4096 + r.val % 4096) * 4 + h.val) * 64 + d.val) / 256 % 4096 = r.val
    omega
  · show 1536 + (((r.val / 4096 * 4096 + r.val % 4096) * 4 + h.val) * 64 + d.val) % 256 = _
    omega

/-- The reference's heads, turned. -/
def turned (y : Vec Ideal Cert.Reference11Ideal.S4x4096x4x64 .f32) : Vec Ideal Cert.Reference11Ideal.S4x4096x4x64 .f32 :=
  rotd (n := 4) y a s Cert.Reference11Ideal.Gen.bcast_S4x4096x8_S4x4096x1x8_0_1_3 Cert.Reference11Ideal.Gen.bcast_S4x4096x1x8_S4x4096x4x8_0_1_2_3
    Cert.Reference11Ideal.Gen.slices_S4x4096x4x64_S4x4096x4x8_0_0_0_0 Cert.Reference11Ideal.Gen.slices_S4x4096x4x64_S4x4096x4x8_0_0_0_8
    Cert.Reference11Ideal.Gen.slices_S4x4096x4x64_S4x4096x4x48_0_0_0_16
    Cert.Reference11Ideal.Gen.concatenates_S4x4096x4x8_S4x4096x4x8_S4x4096x4x48_S4x4096x4x64_d3

theorem turned_sel : val_main_v18 (F := Ideal) x w a s = turned a s (val_main_v2 (F := Ideal) x w) := rfl

theorem eye : ∀ p q : Fin 64, IntOp.cmpi .eq (IntOp.addi (BitVec.ofNat 32 p.val) 0#32) (BitVec.ofNat 32 q.val) = if p.val = q.val then 1#1 else 0#1 := by
  decide +kernel

/-- The unit vectors. -/
theorem unit_at (p q : Fin 64) : val_main_v24 (F := Ideal) (ValueIdx.ix2 (n0 := 64) (n1 := 64) p q) = if p.val = q.val then 1 else 0 := by
  rw [val_main_v24_apply, val_main_v23_apply, val_main_v22_apply, val_main_v21_apply, val_main_c_apply, val_main_v19_apply, val_main_v20_apply]
  refine (congrArg (fun b : BitVec 1 => ((b.toNat : ℝ) : EReal)) (eye p q)).trans ?_
  by_cases h : p.val = q.val
  · rw [if_pos h, if_pos h]
    show (((1 : ℕ) : ℝ) : EReal) = 1
    simp
  · rw [if_neg h, if_neg h]
    show (((0 : ℕ) : ℝ) : EReal) = 0
    simp

theorem block_unit (h : Fin 4) (d : Fin 64) : val_main_v27 (F := Ideal) (ih 4 r h d) = hot r.val (128 * h.val + (64 + d.val)) := by
  have hr := r.isLt
  have hd := d.isLt
  have hh := h.isLt
  rw [val_main_v27_apply, val_main_v26_apply, val_main_v25_apply]
  refine (congrArg (val_main_v24 (F := Ideal)) (funext fun b => ?_)).trans ((unit_at ⟨r.val % 4096 / 64, by omega⟩ d).trans ?_)
  · match b with
    | ⟨0, _⟩ =>
      refine Fin.ext ?_
      show (((r.val / 4096 * 4096 + r.val % 4096) * 4 + h.val) * 64 + d.val) / 16384 % 64 = r.val % 4096 / 64
      omega
    | ⟨1, _⟩ =>
      refine Fin.ext ?_
      show (((r.val / 4096 * 4096 + r.val % 4096) * 4 + h.val) * 64 + d.val) % 64 = d.val
      omega
  · unfold hot
    have e : (128 * h.val + (64 + d.val)) % 128 = 64 + r.val % 4096 / 64 ↔ r.val % 4096 / 64 = d.val := by omega
    show (if r.val % 4096 / 64 = d.val then (1 : EReal) else 0) = _
    by_cases h' : r.val % 4096 / 64 = d.val
    · rw [if_pos h', if_pos (e.mpr h')]
    · rw [if_neg h', if_neg fun h2 => h' (e.mp h2)]

theorem no_unit (h : Fin 4) (d : Fin 64) : hot r.val (128 * h.val + d.val) = 0 := if_neg (by omega)

theorem ref_rows : val_main_v29 (F := Ideal) x w a s
    = lanes (n := 4) (N2 := 512) (val_main_v18 (F := Ideal) x w a s) (val_main_v27 (F := Ideal))
        Cert.Reference11Ideal.Gen.concatenates_S4x4096x4x64_S4x4096x4x64_S4x4096x4x128_d3 Cert.Reference11Ideal.Gen.shapeCasts_S4x4096x4x128_S16384x512 := rfl

/-- The array that the reference leaves is the product with the call's weights, its heads turned, and the tokens' blocks. -/
theorem ref_at : val_main_v30 (F := Ideal) x w a s
    = fun i : S16384x512.Idx => turn (xs x) (wk w) (tb a s) (i 0) (i 1).val + hot (i 0).val (i 1).val := by
  funext i
  obtain ⟨r, l, rfl⟩ : ∃ (r : Fin 16384) (l : Fin 512), i = ValueIdx.ix2 (n0 := 16384) (n1 := 512) r l :=
    ⟨i 0, i 1, funext fun b => by match b with | ⟨0, _⟩ => rfl | ⟨1, _⟩ => rfl⟩
  rw [val_main_v30_apply]
  show val_main_v29 (F := Ideal) x w a s (ValueIdx.ix2 (n0 := 16384) (n1 := 512) r l) = turn (xs x) (wk w) (tb a s) r l.val + hot r.val l.val
  rw [ref_rows]
  have hl := l.isLt
  obtain ⟨h, d, e⟩ : ∃ (h : Fin 4) (d : Fin 128), l.val = 128 * h.val + d.val :=
    ⟨⟨l.val / 128, by omega⟩, ⟨l.val % 128, by omega⟩, by show l.val = 128 * (l.val / 128) + l.val % 128; omega⟩
  by_cases hd : d.val < 64
  · refine (lanes_in (n := 4) (N2 := 512) _ _ _ _ rfl r h ⟨d.val, hd⟩ l e).trans ?_
    rw [turned_sel, e]
    refine (rotd_at _ a s _ _ _ _ _ _ _ r h (sel_at x w r h) ⟨d.val, hd⟩).trans ((head_in x w a s r h ⟨d.val, hd⟩).symm.trans ?_)
    exact ((congrArg (_ + ·) (no_unit r h ⟨d.val, hd⟩)).trans (add_zero _)).symm
  · have ed : d.val = 64 + (d.val - 64) := by omega
    refine (lanes_out (n := 4) (N2 := 512) _ _ _ _ rfl r h ⟨d.val - 64, by omega⟩ l (e.trans (congrArg (128 * h.val + ·) ed))).trans ?_
    refine (block_unit r h ⟨d.val - 64, by omega⟩).trans ?_
    rw [show l.val = 128 * h.val + (64 + (d.val - 64)) from e.trans (congrArg (128 * h.val + ·) ed)]
    exact ((congrArg (· + hot r.val (128 * h.val + (64 + (d.val - 64)))) (head_out x w a s r h ⟨d.val - 64, by omega⟩)).trans (zero_add _)).symm

end Reference

theorem kernel_out : (dats m 0 c).arrAt 3 cfg0.N
    = fun i : S16384x512.Idx => turn (xs (m ((c : Thread nD τ).loc main_arg0))) (wk (m ((c : Thread nD τ).loc main_arg1)))
        (tb (m ((c : Thread nD τ).loc main_arg2)) (m ((c : Thread nD τ).loc main_arg3))) (i 0) (i 1).val + hot (i 0).val (i 1).val := by
  rw [out_at, V_x, V_w, V_t]

end Cert.Selected

end
-- ==== Proof.Lin.LatentValues.lean ====
/-
  The values of the latent attention: the array that the norm of the compressed row and its tiled product leave, heads of 64
  columns each followed by 64 zeros, is the one that the reference states.
-/
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Lin.Heads

@[expose] public section

set_option maxRecDepth 16384

noncomputable section

namespace Cert.LatentValues

open Cert.Kernel12Ideal Cert.Kernel12Ideal.Gen Idealize.ShloMosaic Idealize.ShloMosaic.TcCoe Idealize.SL.Sem Cert.Heads
open scoped BigOperators

variable (m : (ℓ : Loc nD τ sig) → Buf (Elt Ideal) ℓ) (c : Dev nD)

/-- One over the root mean square of a row. -/
def inv (y : Fin 256 → EReal) : EReal :=
  Ideal.rsqrt (Ideal.div (∑ k, y k * y k) (Ideal.ofBits .f32 0x43800000#32) + Ideal.ofBits .f32 0x358637BD#32)

/-- A row's norm. -/
def normed (y g : Fin 256 → EReal) (k : Fin 256) : EReal := y k * inv y * g k

theorem normed_congr {y y' g g' : Fin 256 → EReal} (k : Fin 256) (hy : ∀ k, y k = y' k) (hg : ∀ k, g k = g' k) : normed y g k = normed y' g' k := by
  rw [funext hy, funext hg]

/-- The compressed activations, one row per token. -/
def xs (x : Vec Ideal S4x4096x768 .f32) : Vec Ideal S16384x768 .f32 := shapeCast S16384x768 x shapeCasts_S4x4096x768_S16384x768

/-- The norm's weights, as one row. -/
def lane (g : Vec Ideal S256 .f32) : Vec Ideal S1x256 .f32 := shapeCast S1x256 g shapeCasts_S256_S1x256

/-- The values' columns of every head. -/
def vc (w : Vec Ideal S256x2048 .f32) : Vec Ideal S256x16x64 .bf16 :=
  shapeCast S256x16x64 (shapeCast S256x1024 (extractStridedSlice S256x16x64 ![0, 0, 64] (shapeCast S256x16x128 (w : S256x2048.Idx → EReal) shapeCasts_S256x2048_S256x16x128)
    slices_S256x16x128_S256x16x64_0_0_64) shapeCasts_S256x16x64_S256x1024) shapeCasts_S256x1024_S256x16x64

/-- The weights as the call reads them. -/
def wk (w : Vec Ideal S256x2048 .f32) : Vec Ideal S256x2048 .bf16 :=
  shapeCast S256x2048 (pad S256x16x128 ![0, 0, 0] ![0, 0, 64] ![0, 0, 0] (vc w) (sitofp (F := Ideal) .bf16 (constantI S_ 32 0#32))
    pads_S256x16x64_S256x16x128_000_000_0640 h_S_) shapeCasts_S256x16x128_S256x2048

theorem V_x : V m c main_v7 = xs (m ((c : Thread nD τ).loc main_arg0)) := by
  unfold_abbrev_sides
  simp only [hostOps0, hostOps0_1, hostOps0_2, List.flatten_cons, List.flatten_nil, List.append_nil, List.cons_append, List.nil_append]
  after_results
  rfl

theorem V_g : V m c main_v8 = lane (m ((c : Thread nD τ).loc main_arg1)) := by
  unfold_abbrev_sides
  simp only [hostOps0, hostOps0_1, hostOps0_2, List.flatten_cons, List.flatten_nil, List.append_nil, List.cons_append, List.nil_append]
  after_results
  rfl

theorem V_w : V m c main_v6 = wk (m ((c : Thread nD τ).loc main_arg2)) := by
  unfold_abbrev_sides
  simp only [hostOps0, hostOps0_1, hostOps0_2, List.flatten_cons, List.flatten_nil, List.append_nil, List.cons_append, List.nil_append]
  after_results
  rfl

theorem xs_at (x : Vec Ideal S4x4096x768 .f32) (r : Fin 16384) (b : Fin 4) (s : Fin 4096) (e : Fin 768)
    (h : r.val = b.val * 4096 + s.val) : xs x (ValueIdx.ix2 (n0 := 16384) (n1 := 768) r e) = x (ValueIdx.ix3 (n0 := 4) (n1 := 4096) (n2 := 768) b s e) := by
  refine shapeCast_apply (s := S4x4096x768) (t := S16384x768) x _ _ _ ?_
  rw [Shape.rowMajor_val_three, Shape.rowMajor_val_two]
  show (b.val * 4096 + s.val) * 768 + e.val = r.val * 768 + e.val
  rw [h]

theorem lane_at (g : Vec Ideal S256 .f32) (k : Fin 256) : lane g (ValueIdx.ix2 (n0 := 1) (n1 := 256) 0 k) = g (ValueIdx.ix1 k) := by
  refine shapeCast_apply (s := S256) (t := S1x256) g _ _ _ ?_
  rw [Shape.rowMajor_val_one, Shape.rowMajor_val_two]
  show k.val = 0 * 256 + k.val
  omega

section Weights

variable (w : Vec Ideal S256x2048 .f32) (k : Fin 256)

theorem vc_at (h : Fin 16) (d : Fin 64) : vc w (ValueIdx.ix3 (n0 := 256) (n1 := 16) (n2 := 64) k h d)
    = w (ValueIdx.ix2 (n0 := 256) (n1 := 2048) k ⟨128 * h.val + (64 + d.val), by omega⟩) := by
  refine (shapeCast_apply (s := S256x1024) (t := S256x16x64) _ _ _ (ValueIdx.ix2 (n0 := 256) (n1 := 1024) k ⟨64 * h.val + d.val, by omega⟩) ?_).trans ?_
  · rw [Shape.rowMajor_val_three, Shape.rowMajor_val_two]
    show k.val * 1024 + (64 * h.val + d.val) = (k.val * 16 + h.val) * 64 + d.val
    omega
  refine (shapeCast_apply (s := S256x16x64) (t := S256x1024) _ _ _ (ValueIdx.ix3 (n0 := 256) (n1 := 16) (n2 := 64) k h d) ?_).trans ?_
  · rw [Shape.rowMajor_val_three, Shape.rowMajor_val_two]
    show (k.val * 16 + h.val) * 64 + d.val = k.val * 1024 + (64 * h.val + d.val)
    omega
  refine (extractStridedSlice_apply (s := S256x16x128) (t := S256x16x64) _ _ _ _
    (ValueIdx.ix3 (n0 := 256) (n1 := 16) (n2 := 128) k h ⟨64 + d.val, by omega⟩)
    (fun b => by match b with
      | ⟨0, _⟩ => exact (Nat.zero_add _).symm
      | ⟨1, _⟩ => exact (Nat.zero_add _).symm
      | ⟨2, _⟩ => rfl)).trans ?_
  refine shapeCast_apply (s := S256x2048) (t := S256x16x128) _ _ _ _ ?_
  rw [Shape.rowMajor_val_three, Shape.rowMajor_val_two]
  show k.val * 2048 + (128 * h.val + (64 + d.val)) = (k.val * 16 + h.val) * 128 + (64 + d.val)
  omega

theorem wk_row (h : Fin 16) (d : Fin 128) (l : Fin 2048) (hl : l.val = 128 * h.val + d.val) : wk w (ValueIdx.ix2 (n0 := 256) (n1 := 2048) k l)
    = pad S256x16x128 ![0, 0, 0] ![0, 0, 64] ![0, 0, 0] (vc w) (sitofp (F := Ideal) .bf16 (constantI S_ 32 0#32))
        pads_S256x16x64_S256x16x128_000_000_0640 h_S_ (ValueIdx.ix3 (n0 := 256) (n1 := 16) (n2 := 128) k h d) := by
  refine shapeCast_apply (s := S256x16x128) (t := S256x2048) _ _ _ _ ?_
  rw [Shape.rowMajor_val_three, Shape.rowMajor_val_two]
  show (k.val * 16 + h.val) * 128 + d.val = k.val * 2048 + l.val
  omega

theorem wk_in (h : Fin 16) (d : Fin 64) (l : Fin 2048) (hl : l.val = 128 * h.val + d.val) : wk w (ValueIdx.ix2 (n0 := 256) (n1 := 2048) k l)
    = w (ValueIdx.ix2 (n0 := 256) (n1 := 2048) k ⟨128 * h.val + (64 + d.val), by omega⟩) := by
  refine (wk_row w k h ⟨d.val, by omega⟩ l hl).trans ?_
  refine (pad_apply_of_inside (s := S256x16x64) (t := S256x16x128) _ _ _ _ _ _ _ _
    (ValueIdx.ix3 (n0 := 256) (n1 := 16) (n2 := 64) k h d) (fun b => ?_)).trans (vc_at w k h d)
  match b with
  | ⟨0, _⟩ => show k.val = 0 + k.val * (0 + 1); omega
  | ⟨1, _⟩ => show h.val = 0 + h.val * (0 + 1); omega
  | ⟨2, _⟩ => show d.val = 0 + d.val * (0 + 1); omega

theorem wk_out (h : Fin 16) (d : Fin 64) (l : Fin 2048) (hl : l.val = 128 * h.val + (64 + d.val)) :
    wk w (ValueIdx.ix2 (n0 := 256) (n1 := 2048) k l) = 0 := by
  refine (wk_row w k h ⟨64 + d.val, by omega⟩ l hl).trans ?_
  refine (pad_apply_of_not_inside (s := S256x16x64) (t := S256x16x128) _ _ _ _ _ _ _ _ (2 : Fin 3) fun h => ?_).trans (pad_zero _)
  have h' : (64 + d.val - 0) / (0 + 1) < 64 := h.2.2
  omega

end Weights

/-! ## The kernel -/

/-- A row's factor as the kernel forms it. -/
theorem inv_at (y : FVec Ideal S1024x256 .f32) (r : Fin 1024) (e : Fin 256) :
    broadcastTo S1024x256 (rsqrt (F := Ideal) (addf (divf (shapeCast S1024x1 (multiReduction .add [1] S1024 (mulf y y) 0x00000000#32 reduces_S1024x256_S1024 (.inl rfl) rfl)
      shapeCasts_S1024_S1024x1) (broadcast S1024x1 (Scalar.ofBits (F := Ideal) .f32 0x43800000#32))) (broadcast S1024x1 (Scalar.ofBits (F := Ideal) .f32 0x358637BD#32))))
      broadcasts_S1024x1_S1024x256 (ValueIdx.ix2 r e) = inv fun k => y (ValueIdx.ix2 r k) := by
  refine (broadcastTo_apply (s := S1024x1) (t := S1024x256) _ _ _ (ValueIdx.ix2 (n0 := 1024) (n1 := 1) r 0)
    (fun a => by match a with | ⟨0, _⟩ => rfl | ⟨1, _⟩ => rfl)).trans ?_
  show Ideal.rsqrt (Ideal.div _ _ + _) = Ideal.rsqrt (Ideal.div _ _ + _)
  refine congrArg (fun u => Ideal.rsqrt (Ideal.div u _ + _)) ?_
  refine (shapeCast_apply (s := S1024) (t := S1024x1) _ _ _ (ValueIdx.ix1 r) ?_).trans ?_
  · refine (Shape.rowMajor_val_one _).trans ((Shape.rowMajor_val_two _).trans ?_).symm
    show r.val * 1 + 0 = r.val
    omega
  · refine (Ideal.multiReduction_add_single _ _ _ _ _ _).trans ?_
    refine Finset.sum_congr rfl fun j _ => ?_
    have ej : ∀ i : S1024x256.Idx, i = ValueIdx.ix2 r j → mulf y y i = y (ValueIdx.ix2 r j) * y (ValueIdx.ix2 r j) := fun i h => by rw [h]; rfl
    refine ej _ ?_
    funext b
    match b with
    | ⟨0, _⟩ => rfl
    | ⟨1, _⟩ => rfl

theorem down_at (v : FVec Ideal S1x256 .f32) (r : Fin 1024) (e : Fin 256) :
    broadcastTo S1024x256 v broadcasts_S1x256_S1024x256 (ValueIdx.ix2 r e) = v (ValueIdx.ix2 (n0 := 1) (n1 := 256) 0 e) :=
  broadcastTo_apply (s := S1x256) (t := S1024x256) _ _ _ (ValueIdx.ix2 (n0 := 1) (n1 := 256) 0 e)
    (fun a => by match a with | ⟨0, _⟩ => rfl | ⟨1, _⟩ => rfl)

/-- A block of the result, read at an index. -/
theorem tile_at (x : Vec Ideal S1024x256 .f32) (g : Vec Ideal S1x256 .f32) (w : Vec Ideal S256x512 .bf16) (r : Fin 1024) (e : Fin 512) :
    k0_pay1 x g w (ValueIdx.ix2 r e) = ∑ k : Fin 256, normed (fun k => x (ValueIdx.ix2 r k)) (fun k => g (ValueIdx.ix2 (n0 := 1) (n1 := 256) 0 k)) k
      * w (ValueIdx.ix2 k e) := by
  unfold k0_pay1
  simp only [shapeCast_self]
  refine (Ideal.matmul_plain_apply (M := 1024) (K := 256) (N := 512) (φ₁ := .bf16) (φ₂ := .bf16) none _ _ _ r e).trans ?_
  show Ideal.ofBits .f32 0x00000000#32 + _ = _
  rw [Ideal.ofBits_zero_f32, zero_add]
  refine Finset.sum_congr rfl fun k _ => congrArg (· * w (ValueIdx.ix2 k e)) ?_
  exact congrArg₂ (· * ·) (congrArg₂ (· * ·) rfl (inv_at x r k)) (down_at g r k)

theorem idxs : ∀ t : Fin cfg0.N, win0_0.index t = ![t.val / 4, 2] ∧ win0_1.index t = ![0, t.val % 4] ∧ win0_2.index t = ![0, 0]
    ∧ win0_3.index t = ![t.val / 4, t.val % 4] := by
  decide +kernel

/-- A token's column of the values. -/
def val (x : Vec Ideal S16384x768 .f32) (g : Vec Ideal S1x256 .f32) (w : Vec Ideal S256x2048 .bf16) (r : Fin 16384) (l : Fin 2048) : EReal :=
  ∑ k : Fin 256, normed (fun k => x (ValueIdx.ix2 (n0 := 16384) (n1 := 768) r ⟨512 + k.val, by omega⟩)) (fun k => g (ValueIdx.ix2 (n0 := 1) (n1 := 256) 0 k)) k
    * w (ValueIdx.ix2 (n0 := 256) (n1 := 2048) k l)

theorem tile_blk (t : Fin cfg0.N) (r : Fin 1024) (e : Fin 512) (R : Fin 16384) (l : Fin 2048) (hR : R.val = t.val / 4 * 1024 + r.val)
    (hl : l.val = t.val % 4 * 512 + e.val) : k0_pay1 (iblk m c 0 t) (iblk m c 2 t) (iblk m c 1 t) (ValueIdx.ix2 r e)
      = val (V m c main_v7) (V m c main_v8) (V m c main_v6) R l := by
  obtain ⟨e0, e1, e2, e3⟩ := idxs t
  refine (tile_at (iblk m c 0 t) (iblk m c 2 t) (iblk m c 1 t) r e).trans (Finset.sum_congr rfl fun k _ =>
    congrArg₂ (· * ·) (normed_congr k (fun k => ?_) fun k => ?_) ?_)
  · blk_ext [iblk, e0]
    exact hR.symm
  · blk_ext [iblk, e2]
  · blk_ext [iblk, e1]
    exact hl.symm

/-- The array that the kernel leaves. -/
theorem out_at : (dats m 0 c).arrAt 3 cfg0.N
    = fun i : S16384x2048.Idx => val (V m c main_v7) (V m c main_v8) (V m c main_v6) (i 0) (i 1) := by
  refine (dats m 0 c).arrAt_eq_of_covers 3 _ (by decide +kernel) fun t hf y => ?_
  blk_simp
  rw [after0_3]
  frame_out
  have ey : y = ValueIdx.ix2 (n0 := 1024) (n1 := 512) (y 0) (y 1) := by
    funext b
    match b with
    | ⟨0, _⟩ => rfl
    | ⟨1, _⟩ => rfl
  obtain ⟨e0, e1, e2, e3⟩ := idxs t
  refine (congrArg _ ey).trans (tile_blk m c t (y 0) (y 1) _ _ ?_ ?_)
  · show win0_3.index t 0 * 1024 + 1 * (y 0).val = _
    rw [e3, one_mul]; rfl
  · show win0_3.index t 1 * 512 + 1 * (y 1).val = _
    rw [e3, one_mul]; rfl

/-! ## The reference -/

section Reference

open Cert.Reference12Ideal.Read

variable (x : Vec Ideal S4x4096x768 .f32) (g : Vec Ideal S256 .f32) (w : Vec Ideal S256x2048 .f32)
variable (b : Fin 4) (s : Fin 4096) (k e : Fin 256)

/-- An index of a token's channel. -/
abbrev iT (b : Fin 4) (s : Fin 4096) (e : Fin 256) : Cert.Reference12Ideal.S4x4096x256.Idx := ValueIdx.ix3 b s e

theorem ref_inv : val_main_v9 (F := Ideal) x (iT b s e) = inv fun k => val_main_v0 (F := Ideal) x (iT b s k) := by
  rw [val_main_v9_apply, val_main_v8_apply, val_main_v7_apply, val_main_v5_apply, val_main_v3_apply, val_main_v2_apply]
  show Ideal.rsqrt (Ideal.div (Ideal.ofBits .f32 0x00000000#32 + _) _ + _) = Ideal.rsqrt (Ideal.div _ _ + _)
  rw [Ideal.ofBits_zero_f32, zero_add]
  refine congrArg (fun u => Ideal.rsqrt (Ideal.div u _ + _)) (Finset.sum_congr rfl fun k _ => ?_)
  have ej : ∀ i : Cert.Reference12Ideal.S4x4096x256.Idx, i = iT b s k
      → val_main_v1 (F := Ideal) x i = val_main_v0 (F := Ideal) x (iT b s k) * val_main_v0 (F := Ideal) x (iT b s k) := fun i h => by rw [h]; rfl
  refine ej _ ?_
  funext a
  match a with
  | ⟨0, _⟩ => rfl
  | ⟨1, _⟩ => rfl
  | ⟨2, _⟩ => rfl

theorem ref_norm (r : Fin 16384) (hr : r.val = b.val * 4096 + s.val) : val_main_v13 (F := Ideal) x g (iT b s k)
    = normed (fun k => xs x (ValueIdx.ix2 (n0 := 16384) (n1 := 768) r ⟨512 + k.val, by omega⟩)) (fun k => lane g (ValueIdx.ix2 (n0 := 1) (n1 := 256) 0 k)) k := by
  refine Eq.trans (b := normed (fun k => val_main_v0 (F := Ideal) x (iT b s k)) (fun k => g (ValueIdx.ix1 k)) k) ?_ ?_
  · rw [val_main_v13_apply, val_main_v10_apply, ref_inv, val_main_v12_apply, val_main_v11_apply]
    unfold normed
    generalize val_main_v0 (F := Ideal) x = v
    refine congrArg (v (iT b s k) * inv (fun k => v (iT b s k)) * ·) (congrArg g ?_)
    funext a
    match a with
    | ⟨0, _⟩ => rfl
  · refine normed_congr k (fun k => ?_) fun k => (lane_at g k).symm
    rw [val_main_v0_apply]
    refine (congrArg x (funext fun a => ?_)).trans (xs_at x r b s ⟨512 + k.val, by omega⟩ hr).symm
    match a with
    | ⟨0, _⟩ => rfl
    | ⟨1, _⟩ => rfl
    | ⟨2, _⟩ => rfl

theorem ref_val (r : Fin 16384) (h : Fin 16) (d : Fin 64) (l : Fin 2048) (hl : l.val = 128 * h.val + d.val) :
    val_main_v16 (F := Ideal) x g w (ih 16 r h d) = val (xs x) (lane g) (wk w) r l := by
  have hr := r.isLt
  have hh := h.isLt
  have hd := d.isLt
  rw [val_main_v16_apply, val_main_v15_apply, val_main_v14_apply]
  refine Finset.sum_congr rfl fun k _ => congrArg₂ (· * ·) ?_ ?_
  · refine (congrArg (val_main_v13 (F := Ideal) x g) (funext fun a => ?_)).trans
      (ref_norm x g ⟨r.val / 4096, by omega⟩ ⟨r.val % 4096, by omega⟩ k r (by show r.val = r.val / 4096 * 4096 + r.val % 4096; omega))
    match a with
    | ⟨0, _⟩ =>
      refine Fin.ext ?_
      show (((r.val / 4096 * 4096 + r.val % 4096) * 16 + h.val) * 128 + (64 + d.val)) / 8388608 = r.val / 4096
      omega
    | ⟨1, _⟩ =>
      refine Fin.ext ?_
      show (((r.val / 4096 * 4096 + r.val % 4096) * 16 + h.val) * 128 + (64 + d.val)) / 2048 % 4096 = r.val % 4096
      omega
    | ⟨2, _⟩ => rfl
  · refine Eq.trans (congrArg w (funext fun a => ?_)) (wk_in w k h d l hl).symm
    match a with
    | ⟨0, _⟩ => rfl
    | ⟨1, _⟩ =>
      refine Fin.ext ?_
      show (((r.val / 4096 * 4096 + r.val % 4096) * 16 + h.val) * 128 + (64 + d.val)) % 2048 = 128 * h.val + (64 + d.val)
      omega

theorem ref_rows : val_main_v19 (F := Ideal) x g w
    = lanes (n := 16) (N2 := 2048) (val_main_v16 (F := Ideal) x g w) (val_main_v17 (F := Ideal))
        Cert.Reference12Ideal.Gen.concatenates_S4x4096x16x64_S4x4096x16x64_S4x4096x16x128_d3 Cert.Reference12Ideal.Gen.shapeCasts_S4x4096x16x128_S16384x2048 := rfl

/-- The array that the reference leaves is the norm's product with the call's weights. -/
theorem ref_at : val_main_v20 (F := Ideal) x g w = fun i : S16384x2048.Idx => val (xs x) (lane g) (wk w) (i 0) (i 1) := by
  funext i
  obtain ⟨r, l, rfl⟩ : ∃ (r : Fin 16384) (l : Fin 2048), i = ValueIdx.ix2 (n0 := 16384) (n1 := 2048) r l :=
    ⟨i 0, i 1, funext fun b => by match b with | ⟨0, _⟩ => rfl | ⟨1, _⟩ => rfl⟩
  rw [val_main_v20_apply]
  show val_main_v19 (F := Ideal) x g w (ValueIdx.ix2 (n0 := 16384) (n1 := 2048) r l) = val (xs x) (lane g) (wk w) r l
  rw [ref_rows]
  have hl := l.isLt
  obtain ⟨h, d, e⟩ : ∃ (h : Fin 16) (d : Fin 128), l.val = 128 * h.val + d.val :=
    ⟨⟨l.val / 128, by omega⟩, ⟨l.val % 128, by omega⟩, by show l.val = 128 * (l.val / 128) + l.val % 128; omega⟩
  by_cases hd : d.val < 64
  · exact (lanes_in (n := 16) (N2 := 2048) _ _ _ _ rfl r h ⟨d.val, hd⟩ l e).trans (ref_val x g w r h ⟨d.val, hd⟩ l e)
  · have ed : l.val = 128 * h.val + (64 + (d.val - 64)) := by omega
    refine (lanes_out (n := 16) (N2 := 2048) _ _ _ _ rfl r h ⟨d.val - 64, by omega⟩ l ed).trans ?_
    rw [val_main_v17_apply]
    refine Ideal.ofBits_zero_f32.trans (Finset.sum_eq_zero fun k _ => ?_).symm
    rw [wk_out w k h ⟨d.val - 64, by omega⟩ l ed, mul_zero]

end Reference

theorem kernel_out : (dats m 0 c).arrAt 3 cfg0.N
    = fun i : S16384x2048.Idx => val (xs (m ((c : Thread nD τ).loc main_arg0))) (lane (m ((c : Thread nD τ).loc main_arg1)))
        (wk (m ((c : Thread nD τ).loc main_arg2))) (i 0) (i 1) := by
  rw [out_at, V_x, V_g, V_w]

end Cert.LatentValues

end
-- ==== Proof.Lin.LatentKeys.lean ====
/-
  The keys of the latent attention: the array that the norm of the compressed row, its tiled product and the shared rotated key
  leave, heads of 64 columns each followed by the shared key, is the one that the reference states.
-/
module

public import proofs.«01_k».proof.Proof.Gen.Kernel13Ideal.Value
public import proofs.«01_k».proof.Proof.Gen.Reference13Ideal.Run
public import proofs.«01_k».proof.Proof.Gen.Reference13Ideal.Read
public import proofs.«01_k».proof.Proof.Lin.Rope

@[expose] public section

set_option maxRecDepth 16384

noncomputable section

namespace Cert.LatentKeys

open Cert.Kernel13Ideal Cert.Kernel13Ideal.Gen Idealize.ShloMosaic Idealize.ShloMosaic.TcCoe Idealize.SL.Sem Cert.Heads Cert.Rope
open scoped BigOperators

variable (m : (ℓ : Loc nD τ sig) → Buf (Elt Ideal) ℓ) (c : Dev nD)

/-- One over the root mean square of a row. -/
def inv (y : Fin 256 → EReal) : EReal :=
  Ideal.rsqrt (Ideal.div (∑ k, y k * y k) (Ideal.ofBits .f32 0x43800000#32) + Ideal.ofBits .f32 0x358637BD#32)

/-- A row's norm. -/
def normed (y g : Fin 256 → EReal) (k : Fin 256) : EReal := y k * inv y * g k

theorem normed_congr {y y' g g' : Fin 256 → EReal} (k : Fin 256) (hy : ∀ k, y k = y' k) (hg : ∀ k, g k = g' k) : normed y g k = normed y' g' k := by
  rw [funext hy, funext hg]

/-- The compressed activations, one row per token. -/
def xs (x : Vec Ideal S4x4096x768 .f32) : Vec Ideal S16384x768 .f32 := shapeCast S16384x768 x shapeCasts_S4x4096x768_S16384x768

/-- The norm's weights, as one row. -/
def lane (g : Vec Ideal S256 .f32) : Vec Ideal S1x256 .f32 := shapeCast S1x256 g shapeCasts_S256_S1x256

/-- The shared key, one row per token, after 192 zeros and before 32. -/
def gk (u : Vec Ideal S4x4096x32 .f32) : Vec Ideal S16384x256 .bf16 :=
  (concatenate S16384x256 1 [⟨S16384x192, (broadcastInDim S16384x192 ![] bcast_S_S16384x192 (constant (F := Ideal) S_ .f32 0x00000000#32) : S16384x192.Idx → EReal)⟩,
    ⟨S16384x32, (shapeCast S16384x32 u shapeCasts_S4x4096x32_S16384x32 : S16384x32.Idx → EReal)⟩,
    ⟨S16384x32, (broadcastInDim S16384x32 ![] bcast_S_S16384x32 (constant (F := Ideal) S_ .f32 0x00000000#32) : S16384x32.Idx → EReal)⟩]
    concatenates_S16384x192_S16384x32_S16384x32_S16384x256_d1 : S16384x256.Idx → EReal)

/-- The keys' columns of every head. -/
def vc (w : Vec Ideal S256x2048 .f32) : Vec Ideal S256x16x64 .bf16 :=
  shapeCast S256x16x64 (shapeCast S256x1024 (extractStridedSlice S256x16x64 ![0, 0, 0] (shapeCast S256x16x128 (w : S256x2048.Idx → EReal) shapeCasts_S256x2048_S256x16x128)
    slices_S256x16x128_S256x16x64_0_0_0) shapeCasts_S256x16x64_S256x1024) shapeCasts_S256x1024_S256x16x64

/-- The weights as the call reads them. -/
def wk (w : Vec Ideal S256x2048 .f32) : Vec Ideal S256x2048 .bf16 :=
  shapeCast S256x2048 (pad S256x16x128 ![0, 0, 0] ![0, 0, 64] ![0, 0, 0] (vc w) (sitofp (F := Ideal) .bf16 (constantI S_ 32 0#32))
    pads_S256x16x64_S256x16x128_000_000_0640 h_S_) shapeCasts_S256x16x128_S256x2048

theorem V_x : V m c main_v12 = xs (m ((c : Thread nD τ).loc main_arg0)) := by
  unfold_abbrev_sides
  simp only [hostOps0, hostOps0_1, hostOps0_2, List.flatten_cons, List.flatten_nil, List.append_nil, List.cons_append, List.nil_append]
  after_results
  rfl

theorem V_g : V m c main_v13 = lane (m ((c : Thread nD τ).loc main_arg2)) := by
  unfold_abbrev_sides
  simp only [hostOps0, hostOps0_1, hostOps0_2, List.flatten_cons, List.flatten_nil, List.append_nil, List.cons_append, List.nil_append]
  after_results
  rfl

theorem V_w : V m c main_v6 = wk (m ((c : Thread nD τ).loc main_arg3)) := by
  unfold_abbrev_sides
  simp only [hostOps0, hostOps0_1, hostOps0_2, List.flatten_cons, List.flatten_nil, List.append_nil, List.cons_append, List.nil_append]
  after_results
  rfl

theorem V_k : V m c main_v11 = gk (m ((c : Thread nD τ).loc main_arg1)) := by
  unfold_abbrev_sides
  simp only [hostOps0, hostOps0_1, hostOps0_2, List.flatten_cons, List.flatten_nil, List.append_nil, List.cons_append, List.nil_append]
  after_results_simp
  dsimp only [Matrix.cons_val]
  rfl

theorem xs_at (x : Vec Ideal S4x4096x768 .f32) (r : Fin 16384) (b : Fin 4) (s : Fin 4096) (e : Fin 768)
    (h : r.val = b.val * 4096 + s.val) : xs x (ValueIdx.ix2 (n0 := 16384) (n1 := 768) r e) = x (ValueIdx.ix3 (n0 := 4) (n1 := 4096) (n2 := 768) b s e) := by
  refine shapeCast_apply (s := S4x4096x768) (t := S16384x768) x _ _ _ ?_
  rw [Shape.rowMajor_val_three, Shape.rowMajor_val_two]
  show (b.val * 4096 + s.val) * 768 + e.val = r.val * 768 + e.val
  rw [h]

theorem lane_at (g : Vec Ideal S256 .f32) (k : Fin 256) : lane g (ValueIdx.ix2 (n0 := 1) (n1 := 256) 0 k) = g (ValueIdx.ix1 k) := by
  refine shapeCast_apply (s := S256) (t := S1x256) g _ _ _ ?_
  rw [Shape.rowMajor_val_one, Shape.rowMajor_val_two]
  show k.val = 0 * 256 + k.val
  omega

section Shared

variable (u : Vec Ideal S4x4096x32 .f32) (r : Fin 16384)

theorem gk_fst (d : Fin 64) : gk u (ValueIdx.ix2 (n0 := 16384) (n1 := 256) r ⟨128 + d.val, by omega⟩) = 0 :=
  (concatenate_apply_piece (t := S16384x256) 1 _ _ _ 0 (by show 0 < 3; decide) S16384x192 _ rfl rfl 0 rfl
    (ValueIdx.ix2 (n0 := 16384) (n1 := 192) r ⟨128 + d.val, by omega⟩)
    (fun b hb => by match b with | ⟨0, _⟩ => rfl | ⟨1, _⟩ => exact absurd rfl hb) (Nat.zero_add _)).trans Ideal.ofBits_zero_f32

theorem gk_snd (b : Fin 4) (s : Fin 4096) (d : Fin 32) (h : r.val = b.val * 4096 + s.val) :
    gk u (ValueIdx.ix2 (n0 := 16384) (n1 := 256) r ⟨128 + (64 + d.val), by omega⟩) = u (ValueIdx.ix3 (n0 := 4) (n1 := 4096) (n2 := 32) b s d) := by
  refine (concatenate_apply_piece (t := S16384x256) 1 _ _ _ 1 (by show 1 < 3; decide) S16384x32 _ rfl rfl 192 rfl
    (ValueIdx.ix2 (n0 := 16384) (n1 := 32) r d)
    (fun b hb => by match b with | ⟨0, _⟩ => rfl | ⟨1, _⟩ => exact absurd rfl hb) (by show 192 + d.val = 128 + (64 + d.val); omega)).trans ?_
  refine shapeCast_apply (s := S4x4096x32) (t := S16384x32) u _ _ _ ?_
  rw [Shape.rowMajor_val_three, Shape.rowMajor_val_two]
  show (b.val * 4096 + s.val) * 32 + d.val = r.val * 32 + d.val
  rw [h]

theorem gk_rest (d : Fin 32) : gk u (ValueIdx.ix2 (n0 := 16384) (n1 := 256) r ⟨128 + (64 + (32 + d.val)), by omega⟩) = 0 :=
  (concatenate_apply_piece (t := S16384x256) 1 _ _ _ 2 (by show 2 < 3; decide) S16384x32 _ rfl rfl 224 rfl
    (ValueIdx.ix2 (n0 := 16384) (n1 := 32) r d)
    (fun b hb => by match b with | ⟨0, _⟩ => rfl | ⟨1, _⟩ => exact absurd rfl hb)
    (by show 224 + d.val = 128 + (64 + (32 + d.val)); omega)).trans Ideal.ofBits_zero_f32

end Shared

section Weights

variable (w : Vec Ideal S256x2048 .f32) (k : Fin 256)

theorem vc_at (h : Fin 16) (d : Fin 64) : vc w (ValueIdx.ix3 (n0 := 256) (n1 := 16) (n2 := 64) k h d)
    = w (ValueIdx.ix2 (n0 := 256) (n1 := 2048) k ⟨128 * h.val + d.val, by omega⟩) := by
  refine (shapeCast_apply (s := S256x1024) (t := S256x16x64) _ _ _ (ValueIdx.ix2 (n0 := 256) (n1 := 1024) k ⟨64 * h.val + d.val, by omega⟩) ?_).trans ?_
  · rw [Shape.rowMajor_val_three, Shape.rowMajor_val_two]
    show k.val * 1024 + (64 * h.val + d.val) = (k.val * 16 + h.val) * 64 + d.val
    omega
  refine (shapeCast_apply (s := S256x16x64) (t := S256x1024) _ _ _ (ValueIdx.ix3 (n0 := 256) (n1 := 16) (n2 := 64) k h d) ?_).trans ?_
  · rw [Shape.rowMajor_val_three, Shape.rowMajor_val_two]
    show (k.val * 16 + h.val) * 64 + d.val = k.val * 1024 + (64 * h.val + d.val)
    omega
  refine (extractStridedSlice_apply (s := S256x16x128) (t := S256x16x64) _ _ _ _
    (ValueIdx.ix3 (n0 := 256) (n1 := 16) (n2 := 128) k h ⟨d.val, by omega⟩)
    (fun b => by match b with
      | ⟨0, _⟩ => exact (Nat.zero_add _).symm
      | ⟨1, _⟩ => exact (Nat.zero_add _).symm
      | ⟨2, _⟩ => exact (Nat.zero_add _).symm)).trans ?_
  refine shapeCast_apply (s := S256x2048) (t := S256x16x128) _ _ _ _ ?_
  rw [Shape.rowMajor_val_three, Shape.rowMajor_val_two]
  show k.val * 2048 + (128 * h.val + d.val) = (k.val * 16 + h.val) * 128 + d.val
  omega

theorem wk_row (h : Fin 16) (d : Fin 128) (l : Fin 2048) (hl : l.val = 128 * h.val + d.val) : wk w (ValueIdx.ix2 (n0 := 256) (n1 := 2048) k l)
    = pad S256x16x128 ![0, 0, 0] ![0, 0, 64] ![0, 0, 0] (vc w) (sitofp (F := Ideal) .bf16 (constantI S_ 32 0#32))
        pads_S256x16x64_S256x16x128_000_000_0640 h_S_ (ValueIdx.ix3 (n0 := 256) (n1 := 16) (n2 := 128) k h d) := by
  refine shapeCast_apply (s := S256x16x128) (t := S256x2048) _ _ _ _ ?_
  rw [Shape.rowMajor_val_three, Shape.rowMajor_val_two]
  show (k.val * 16 + h.val) * 128 + d.val = k.val * 2048 + l.val
  omega

theorem wk_in (h : Fin 16) (d : Fin 64) (l : Fin 2048) (hl : l.val = 128 * h.val + d.val) : wk w (ValueIdx.ix2 (n0 := 256) (n1 := 2048) k l)
    = w (ValueIdx.ix2 (n0 := 256) (n1 := 2048) k ⟨128 * h.val + d.val, by omega⟩) := by
  refine (wk_row w k h ⟨d.val, by omega⟩ l hl).trans ?_
  refine (pad_apply_of_inside (s := S256x16x64) (t := S256x16x128) _ _ _ _ _ _ _ _
    (ValueIdx.ix3 (n0 := 256) (n1 := 16) (n2 := 64) k h d) (fun b => ?_)).trans (vc_at w k h d)
  match b with
  | ⟨0, _⟩ => show k.val = 0 + k.val * (0 + 1); omega
  | ⟨1, _⟩ => show h.val = 0 + h.val * (0 + 1); omega
  | ⟨2, _⟩ => show d.val = 0 + d.val * (0 + 1); omega

theorem wk_out (h : Fin 16) (d : Fin 64) (l : Fin 2048) (hl : l.val = 128 * h.val + (64 + d.val)) :
    wk w (ValueIdx.ix2 (n0 := 256) (n1 := 2048) k l) = 0 := by
  refine (wk_row w k h ⟨64 + d.val, by omega⟩ l hl).trans ?_
  refine (pad_apply_of_not_inside (s := S256x16x64) (t := S256x16x128) _ _ _ _ _ _ _ _ (2 : Fin 3) fun h => ?_).trans (pad_zero _)
  have h' : (64 + d.val - 0) / (0 + 1) < 64 := h.2.2
  omega

end Weights

/-! ## The kernel -/

/-- A row's factor as the kernel forms it. -/
theorem inv_at (y : FVec Ideal S1024x256 .f32) (r : Fin 1024) (e : Fin 256) :
    broadcastTo S1024x256 (rsqrt (F := Ideal) (addf (divf (shapeCast S1024x1 (multiReduction .add [1] S1024 (mulf y y) 0x00000000#32 reduces_S1024x256_S1024 (.inl rfl) rfl)
      shapeCasts_S1024_S1024x1) (broadcast S1024x1 (Scalar.ofBits (F := Ideal) .f32 0x43800000#32))) (broadcast S1024x1 (Scalar.ofBits (F := Ideal) .f32 0x358637BD#32))))
      broadcasts_S1024x1_S1024x256 (ValueIdx.ix2 r e) = inv fun k => y (ValueIdx.ix2 r k) := by
  refine (broadcastTo_apply (s := S1024x1) (t := S1024x256) _ _ _ (ValueIdx.ix2 (n0 := 1024) (n1 := 1) r 0)
    (fun a => by match a with | ⟨0, _⟩ => rfl | ⟨1, _⟩ => rfl)).trans ?_
  show Ideal.rsqrt (Ideal.div _ _ + _) = Ideal.rsqrt (Ideal.div _ _ + _)
  refine congrArg (fun u => Ideal.rsqrt (Ideal.div u _ + _)) ?_
  refine (shapeCast_apply (s := S1024) (t := S1024x1) _ _ _ (ValueIdx.ix1 r) ?_).trans ?_
  · refine (Shape.rowMajor_val_one _).trans ((Shape.rowMajor_val_two _).trans ?_).symm
    show r.val * 1 + 0 = r.val
    omega
  · refine (Ideal.multiReduction_add_single _ _ _ _ _ _).trans ?_
    refine Finset.sum_congr rfl fun j _ => ?_
    have ej : ∀ i : S1024x256.Idx, i = ValueIdx.ix2 r j → mulf y y i = y (ValueIdx.ix2 r j) * y (ValueIdx.ix2 r j) := fun i h => by rw [h]; rfl
    refine ej _ ?_
    funext b
    match b with
    | ⟨0, _⟩ => rfl
    | ⟨1, _⟩ => rfl

theorem down_at (v : FVec Ideal S1x256 .f32) (r : Fin 1024) (e : Fin 256) :
    broadcastTo S1024x256 v broadcasts_S1x256_S1024x256 (ValueIdx.ix2 r e) = v (ValueIdx.ix2 (n0 := 1) (n1 := 256) 0 e) :=
  broadcastTo_apply (s := S1x256) (t := S1024x256) _ _ _ (ValueIdx.ix2 (n0 := 1) (n1 := 256) 0 e)
    (fun a => by match a with | ⟨0, _⟩ => rfl | ⟨1, _⟩ => rfl)

/-- A block of the result, read at an index. -/
theorem tile_at (x : Vec Ideal S1024x256 .f32) (g : Vec Ideal S1x256 .f32) (w : Vec Ideal S256x512 .bf16) (r : Fin 1024) (e : Fin 512) :
    k0_pay2 x g w (ValueIdx.ix2 r e) = ∑ k : Fin 256, normed (fun k => x (ValueIdx.ix2 r k)) (fun k => g (ValueIdx.ix2 (n0 := 1) (n1 := 256) 0 k)) k
      * w (ValueIdx.ix2 k e) := by
  unfold k0_pay2
  simp only [shapeCast_self]
  refine (Ideal.matmul_plain_apply (M := 1024) (K := 256) (N := 512) (φ₁ := .bf16) (φ₂ := .bf16) none _ _ _ r e).trans ?_
  show Ideal.ofBits .f32 0x00000000#32 + _ = _
  rw [Ideal.ofBits_zero_f32, zero_add]
  refine Finset.sum_congr rfl fun k _ => congrArg (· * w (ValueIdx.ix2 k e)) ?_
  exact congrArg₂ (· * ·) (congrArg₂ (· * ·) rfl (inv_at x r k)) (down_at g r k)

/-- A block's head, with the shared key added. -/
theorem head_at (T : FVec Ideal S1024x512 .f32) (v : Vec Ideal S1024x128 .bf16) (o : ℕ) (h : S1024x512.Slices ![0, o] S1024x128) (ho : o % 128 = 0)
    (r : Fin 1024) (l : Fin 128) (e : Fin 512) (he : e.val = o + l.val) :
    addf (extractStridedSlice S1024x128 ![0, o] T h) (k0_pay3 v) (ValueIdx.ix2 (n0 := 1024) (n1 := 128) r l)
      = T (ValueIdx.ix2 (n0 := 1024) (n1 := 512) r e) + v (ValueIdx.ix2 (n0 := 1024) (n1 := 128) r ⟨e.val % 128, by omega⟩) := by
  have hl := l.isLt
  have e1 : e.val % 128 = l.val := by omega
  refine congrArg₂ (· + ·) ?_ ?_
  · refine extractStridedSlice_apply (s := SB) (t := SL) _ _ _ _ _ fun b => ?_
    match b with
    | ⟨0, _⟩ => exact (Nat.zero_add _).symm
    | ⟨1, _⟩ => exact he
  · unfold k0_pay3
    rw [shapeCast_self]
    exact congrArg v (congrArg (ValueIdx.ix2 (n0 := 1024) (n1 := 128) r) (Fin.ext e1.symm))

theorem ld_x (x : Vec Ideal S1024x256 .f32) : View.ld x r0_0 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

theorem ld_g (x : Vec Ideal S1x256 .f32) : View.ld x r0_1 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

theorem ld_w (x : Vec Ideal S256x512 .bf16) : View.ld x r0_2 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

theorem ld_k (x : Vec Ideal S1024x128 .bf16) : View.ld x r0_3 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

/-- The block's heads, with the shared key added. -/
def heads (x : Vec Ideal S1024x256 .f32) (w : Vec Ideal S256x512 .bf16) (g : Vec Ideal S1x256 .f32) (v : Vec Ideal S1024x128 .bf16) (r : Fin 1024) (e : Fin 512) : EReal :=
  k0_pay2 x g w (ValueIdx.ix2 (n0 := 1024) (n1 := 512) r e) + v (ValueIdx.ix2 (n0 := 1024) (n1 := 128) r ⟨e.val % 128, by omega⟩)

theorem block_at (x : Vec Ideal S1024x256 .f32) (w : Vec Ideal S256x512 .bf16) (g : Vec Ideal S1x256 .f32) (v : Vec Ideal S1024x128 .bf16) (y : S1024x512.Idx) :
    out0_4 x w g v y = heads x w g v (y 0) (y 1) := by
  have h1 : (y 1).val < 512 := (y 1).isLt
  unfold out0_4
  rw [ld_x, ld_g, ld_w, ld_k]
  refine canon_head (heads x w g v) y 384 _ _ _ (fun r l e he => ?_) fun n3 =>
    canon_head (heads x w g v) y 256 _ _ _ (fun r l e he => ?_) fun n2 =>
    canon_head (heads x w g v) y 128 _ _ _ (fun r l e he => ?_) fun n1 =>
    canon_head (heads x w g v) y 0 _ _ _ (fun r l e he => ?_) fun n0 => absurd h1 (by omega)
  · exact head_at (k0_pay2 x g w) v 384 slices_S1024x512_o0_384_S1024x128 rfl r l e he
  · exact head_at (k0_pay2 x g w) v 256 slices_S1024x512_o0_256_S1024x128 rfl r l e he
  · exact head_at (k0_pay2 x g w) v 128 slices_S1024x512_o0_128_S1024x128 rfl r l e he
  · exact head_at (k0_pay2 x g w) v 0 slices_S1024x512_o0_0_S1024x128 rfl r l e he

theorem idxs : ∀ t : Fin cfg0.N, win0_0.index t = ![t.val / 4, 2] ∧ win0_1.index t = ![0, t.val % 4] ∧ win0_2.index t = ![0, 0]
    ∧ win0_3.index t = ![t.val / 4, 1] ∧ win0_4.index t = ![t.val / 4, t.val % 4] := by
  decide +kernel

/-- A token's column of the keys' product. -/
def val (x : Vec Ideal S16384x768 .f32) (g : Vec Ideal S1x256 .f32) (w : Vec Ideal S256x2048 .bf16) (r : Fin 16384) (l : Fin 2048) : EReal :=
  ∑ k : Fin 256, normed (fun k => x (ValueIdx.ix2 (n0 := 16384) (n1 := 768) r ⟨512 + k.val, by omega⟩)) (fun k => g (ValueIdx.ix2 (n0 := 1) (n1 := 256) 0 k)) k
    * w (ValueIdx.ix2 (n0 := 256) (n1 := 2048) k l)

/-- A token's column of the keys. -/
def key (x : Vec Ideal S16384x768 .f32) (g : Vec Ideal S1x256 .f32) (w : Vec Ideal S256x2048 .bf16) (v : Vec Ideal S16384x256 .bf16) (r : Fin 16384) (l : Fin 2048) : EReal :=
  val x g w r l + v (ValueIdx.ix2 (n0 := 16384) (n1 := 256) r ⟨128 + l.val % 128, by omega⟩)

theorem tile_blk (t : Fin cfg0.N) (r : Fin 1024) (e : Fin 512) (R : Fin 16384) (l : Fin 2048) (hR : R.val = t.val / 4 * 1024 + r.val)
    (hl : l.val = t.val % 4 * 512 + e.val) : heads (iblk m c 0 t) (iblk m c 1 t) (iblk m c 2 t) (iblk m c 3 t) r e
      = key (V m c main_v12) (V m c main_v13) (V m c main_v6) (V m c main_v11) R l := by
  obtain ⟨e0, e1, e2, e3, e4⟩ := idxs t
  refine congrArg₂ (· + ·) ((tile_at (iblk m c 0 t) (iblk m c 2 t) (iblk m c 1 t) r e).trans (Finset.sum_congr rfl fun k _ =>
    congrArg₂ (· * ·) (normed_congr k (fun k => ?_) fun k => ?_) ?_)) ?_
  · blk_ext [iblk, e0]
    exact hR.symm
  · blk_ext [iblk, e2]
  · blk_ext [iblk, e1]
    exact hl.symm
  · blk_ext [iblk, e3]
    exact hR.symm

/-- The array that the kernel leaves. -/
theorem out_at : (dats m 0 c).arrAt 4 cfg0.N
    = fun i : S16384x2048.Idx => key (V m c main_v12) (V m c main_v13) (V m c main_v6) (V m c main_v11) (i 0) (i 1) := by
  refine (dats m 0 c).arrAt_eq_of_covers 4 _ (by decide +kernel) fun t hf y => ?_
  blk_simp
  rw [after0_4]
  obtain ⟨e0, e1, e2, e3, e4⟩ := idxs t
  refine (block_at _ _ _ _ y).trans (tile_blk m c t (y 0) (y 1) _ _ ?_ ?_)
  · show win0_4.index t 0 * 1024 + 1 * (y 0).val = _
    rw [e4, one_mul]; rfl
  · show win0_4.index t 1 * 512 + 1 * (y 1).val = _
    rw [e4, one_mul]; rfl

/-! ## The reference -/

section Reference

open Cert.Reference13Ideal.Read

variable (x : Vec Ideal S4x4096x768 .f32) (g : Vec Ideal S256 .f32) (w : Vec Ideal S256x2048 .f32)
variable (b : Fin 4) (s : Fin 4096) (k e : Fin 256)

/-- An index of a token's channel. -/
abbrev iT (b : Fin 4) (s : Fin 4096) (e : Fin 256) : Cert.Reference13Ideal.S4x4096x256.Idx := ValueIdx.ix3 b s e

theorem ref_inv : val_main_v9 (F := Ideal) x (iT b s e) = inv fun k => val_main_v0 (F := Ideal) x (iT b s k) := by
  rw [val_main_v9_apply, val_main_v8_apply, val_main_v7_apply, val_main_v5_apply, val_main_v3_apply, val_main_v2_apply]
  show Ideal.rsqrt (Ideal.div (Ideal.ofBits .f32 0x00000000#32 + _) _ + _) = Ideal.rsqrt (Ideal.div _ _ + _)
  rw [Ideal.ofBits_zero_f32, zero_add]
  refine congrArg (fun u => Ideal.rsqrt (Ideal.div u _ + _)) (Finset.sum_congr rfl fun k _ => ?_)
  have ej : ∀ i : Cert.Reference13Ideal.S4x4096x256.Idx, i = iT b s k
      → val_main_v1 (F := Ideal) x i = val_main_v0 (F := Ideal) x (iT b s k) * val_main_v0 (F := Ideal) x (iT b s k) := fun i h => by rw [h]; rfl
  refine ej _ ?_
  funext a
  match a with
  | ⟨0, _⟩ => rfl
  | ⟨1, _⟩ => rfl
  | ⟨2, _⟩ => rfl

theorem ref_norm (r : Fin 16384) (hr : r.val = b.val * 4096 + s.val) : val_main_v13 (F := Ideal) x g (iT b s k)
    = normed (fun k => xs x (ValueIdx.ix2 (n0 := 16384) (n1 := 768) r ⟨512 + k.val, by omega⟩)) (fun k => lane g (ValueIdx.ix2 (n0 := 1) (n1 := 256) 0 k)) k := by
  refine Eq.trans (b := normed (fun k => val_main_v0 (F := Ideal) x (iT b s k)) (fun k => g (ValueIdx.ix1 k)) k) ?_ ?_
  · rw [val_main_v13_apply, val_main_v10_apply, ref_inv, val_main_v12_apply, val_main_v11_apply]
    unfold normed
    generalize val_main_v0 (F := Ideal) x = v
    refine congrArg (v (iT b s k) * inv (fun k => v (iT b s k)) * ·) (congrArg g ?_)
    funext a
    match a with
    | ⟨0, _⟩ => rfl
  · refine normed_congr k (fun k => ?_) fun k => (lane_at g k).symm
    rw [val_main_v0_apply]
    refine (congrArg x (funext fun a => ?_)).trans (xs_at x r b s ⟨512 + k.val, by omega⟩ hr).symm
    match a with
    | ⟨0, _⟩ => rfl
    | ⟨1, _⟩ => rfl
    | ⟨2, _⟩ => rfl

theorem ref_val (r : Fin 16384) (h : Fin 16) (d : Fin 64) (l : Fin 2048) (hl : l.val = 128 * h.val + d.val) :
    val_main_v18 (F := Ideal) x g w (ih 16 r h d) = val (xs x) (lane g) (wk w) r l := by
  have hr := r.isLt
  have hh := h.isLt
  have hd := d.isLt
  rw [val_main_v18_apply, val_main_v15_apply, val_main_v14_apply]
  refine Finset.sum_congr rfl fun k _ => congrArg₂ (· * ·) ?_ ?_
  · refine (congrArg (val_main_v13 (F := Ideal) x g) (funext fun a => ?_)).trans
      (ref_norm x g ⟨r.val / 4096, by omega⟩ ⟨r.val % 4096, by omega⟩ k r (by show r.val = r.val / 4096 * 4096 + r.val % 4096; omega))
    match a with
    | ⟨0, _⟩ =>
      refine Fin.ext ?_
      show (((r.val / 4096 * 4096 + r.val % 4096) * 16 + h.val) * 128 + d.val) / 8388608 = r.val / 4096
      omega
    | ⟨1, _⟩ =>
      refine Fin.ext ?_
      show (((r.val / 4096 * 4096 + r.val % 4096) * 16 + h.val) * 128 + d.val) / 2048 % 4096 = r.val % 4096
      omega
    | ⟨2, _⟩ => rfl
  · refine Eq.trans (congrArg w (funext fun a => ?_)) (wk_in w k h d l hl).symm
    match a with
    | ⟨0, _⟩ => rfl
    | ⟨1, _⟩ =>
      refine Fin.ext ?_
      show (((r.val / 4096 * 4096 + r.val % 4096) * 16 + h.val) * 128 + d.val) % 2048 = 128 * h.val + d.val
      omega

variable (u : Vec Ideal S4x4096x32 .f32)

theorem ref_key (r : Fin 16384) (h : Fin 16) (d : Fin 64) : val_main_v20 (F := Ideal) u (ih 16 r h d)
    = gk u (ValueIdx.ix2 (n0 := 16384) (n1 := 256) r ⟨128 + (64 + d.val), by omega⟩) := by
  have hr := r.isLt
  have hd := d.isLt
  rw [val_main_v20_apply, val_main_v19_apply]
  by_cases h32 : d.val < 32
  · refine Eq.trans ?_ (gk_snd u r ⟨r.val / 4096, by omega⟩ ⟨r.val % 4096, by omega⟩ ⟨d.val, h32⟩
      (by show r.val = r.val / 4096 * 4096 + r.val % 4096; omega)).symm
    exact concatenate_pair_apply_left (s₁ := Cert.Reference13Ideal.S4x4096x32) (s₂ := Cert.Reference13Ideal.S4x4096x32) (t := Cert.Reference13Ideal.S4x4096x64) (2 : Fin 3)
      _ _ _ _ rfl (ValueIdx.ix3 (n0 := 4) (n1 := 4096) (n2 := 32) ⟨r.val / 4096, by omega⟩ ⟨r.val % 4096, by omega⟩ ⟨d.val, h32⟩)
      (fun b => by match b with | ⟨0, _⟩ => rfl | ⟨1, _⟩ => rfl | ⟨2, _⟩ => rfl)
  · have e := gk_rest u r ⟨d.val - 32, by omega⟩
    have e1 : gk u (ValueIdx.ix2 (n0 := 16384) (n1 := 256) r ⟨128 + (64 + d.val), by omega⟩) = 0 := by
      refine Eq.trans (congrArg (gk u) (congrArg (ValueIdx.ix2 (n0 := 16384) (n1 := 256) r) (Fin.ext ?_))) e
      show 128 + (64 + d.val) = 128 + (64 + (32 + (d.val - 32)))
      omega
    rw [e1]
    refine (concatenate_pair_apply_right (s₁ := Cert.Reference13Ideal.S4x4096x32) (s₂ := Cert.Reference13Ideal.S4x4096x32) (t := Cert.Reference13Ideal.S4x4096x64) (2 : Fin 3)
      _ _ _ _ rfl rfl (ValueIdx.ix3 (n0 := 4) (n1 := 4096) (n2 := 32) ⟨r.val / 4096, by omega⟩ ⟨r.val % 4096, by omega⟩ ⟨d.val - 32, by omega⟩)
      (fun b hb => by match b with | ⟨0, _⟩ => rfl | ⟨1, _⟩ => rfl | ⟨2, _⟩ => exact absurd rfl hb)
      (by show d.val - 32 + 32 = d.val; omega)).trans ?_
    exact Ideal.ofBits_zero_f32

theorem ref_rows : val_main_v22 (F := Ideal) x u g w
    = lanes (n := 16) (N2 := 2048) (val_main_v18 (F := Ideal) x g w) (val_main_v20 (F := Ideal) u)
        Cert.Reference13Ideal.Gen.concatenates_S4x4096x16x64_S4x4096x16x64_S4x4096x16x128_d3 Cert.Reference13Ideal.Gen.shapeCasts_S4x4096x16x128_S16384x2048 := rfl

/-- The array that the reference leaves is the norm's product with the call's weights, and the shared key. -/
theorem ref_at : val_main_v23 (F := Ideal) x u g w = fun i : S16384x2048.Idx => key (xs x) (lane g) (wk w) (gk u) (i 0) (i 1) := by
  funext i
  obtain ⟨r, l, rfl⟩ : ∃ (r : Fin 16384) (l : Fin 2048), i = ValueIdx.ix2 (n0 := 16384) (n1 := 2048) r l :=
    ⟨i 0, i 1, funext fun b => by match b with | ⟨0, _⟩ => rfl | ⟨1, _⟩ => rfl⟩
  rw [val_main_v23_apply]
  show val_main_v22 (F := Ideal) x u g w (ValueIdx.ix2 (n0 := 16384) (n1 := 2048) r l) = key (xs x) (lane g) (wk w) (gk u) r l
  rw [ref_rows]
  have hl := l.isLt
  obtain ⟨h, d, e⟩ : ∃ (h : Fin 16) (d : Fin 128), l.val = 128 * h.val + d.val :=
    ⟨⟨l.val / 128, by omega⟩, ⟨l.val % 128, by omega⟩, by show l.val = 128 * (l.val / 128) + l.val % 128; omega⟩
  have hm : ∀ q : ℕ, q = d.val → ∀ hq : 128 + q < 256, gk u (ValueIdx.ix2 (n0 := 16384) (n1 := 256) r ⟨128 + l.val % 128, by omega⟩)
      = gk u (ValueIdx.ix2 (n0 := 16384) (n1 := 256) r ⟨128 + q, hq⟩) := fun q h hq =>
    congrArg (gk u) (congrArg (ValueIdx.ix2 (n0 := 16384) (n1 := 256) r) (Fin.ext (by show 128 + l.val % 128 = 128 + q; omega)))
  unfold key
  by_cases hd : d.val < 64
  · refine (lanes_in (n := 16) (N2 := 2048) _ _ _ _ rfl r h ⟨d.val, hd⟩ l e).trans ?_
    rw [hm d.val rfl (by omega)]
    refine Eq.trans ?_ (congrArg (val (xs x) (lane g) (wk w) r l + ·) (gk_fst u r ⟨d.val, hd⟩)).symm
    exact (ref_val x g w r h ⟨d.val, hd⟩ l e).trans (add_zero _).symm
  · have ed : l.val = 128 * h.val + (64 + (d.val - 64)) := by omega
    refine (lanes_out (n := 16) (N2 := 2048) _ _ _ _ rfl r h ⟨d.val - 64, by omega⟩ l ed).trans ?_
    rw [hm (64 + (d.val - 64)) (by omega) (by omega)]
    have ez : val (xs x) (lane g) (wk w) r l = 0 := Finset.sum_eq_zero fun k _ => by
      rw [wk_out w k h ⟨d.val - 64, by omega⟩ l ed, mul_zero]
    rw [ez, zero_add]
    exact ref_key u r h ⟨d.val - 64, by omega⟩

end Reference

theorem kernel_out : (dats m 0 c).arrAt 4 cfg0.N
    = fun i : S16384x2048.Idx => key (xs (m ((c : Thread nD τ).loc main_arg0))) (lane (m ((c : Thread nD τ).loc main_arg2)))
        (wk (m ((c : Thread nD τ).loc main_arg3))) (gk (m ((c : Thread nD τ).loc main_arg1))) (i 0) (i 1) := by
  rw [out_at, V_x, V_g, V_w, V_k]

end Cert.LatentKeys

end
-- ==== Proof.Lin.LatentQueries.lean ====
/-
  The queries of the latent attention: the array that the norm of the compressed row, its tiled product, the rotation of every
  head's 32 columns after its first 64 and the scale leave, heads of 96 columns in 128 lanes, is the one that the reference states.
-/
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Lin.Rope

@[expose] public section

set_option maxRecDepth 16384

noncomputable section

namespace Cert.LatentQueries

open Cert.Kernel14Ideal Cert.Kernel14Ideal.Gen Idealize.ShloMosaic Idealize.ShloMosaic.TcCoe Idealize.ShloMosaic.Tactic Idealize.SL.Sem Cert.Heads
open Cert.Rope (SB SL S1 S0 ip canon_head)
open scoped BigOperators

variable (m : (ℓ : Loc nD τ sig) → Buf (Elt Ideal) ℓ) (c : Dev nD)

/-- The queries' scale. -/
def sc : EReal := Named.named (F := Ideal) κ "scale" (φ := .f32) 0x3E16C740#32

theorem sc_eq : sc = (((Real.sqrt 96 * Real.log 2)⁻¹ : ℝ) : EReal) := rfl

/-- One over the root mean square of a row. -/
def inv (y : Fin 512 → EReal) : EReal :=
  Ideal.rsqrt (Ideal.div (∑ k, y k * y k) (Ideal.ofBits .f32 0x44000000#32) + Ideal.ofBits .f32 0x358637BD#32)

/-- A row's norm. -/
def normed (y g : Fin 512 → EReal) (k : Fin 512) : EReal := y k * inv y * g k

theorem normed_congr {y y' g g' : Fin 512 → EReal} (k : Fin 512) (hy : ∀ k, y k = y' k) (hg : ∀ k, g k = g' k) : normed y g k = normed y' g' k := by
  rw [funext hy, funext hg]

/-! ## The host's arrays -/

/-- The compressed activations, one row per token. -/
def xs (x : Vec Ideal S4x4096x768 .f32) : Vec Ideal S16384x768 .f32 := shapeCast S16384x768 x shapeCasts_S4x4096x768_S16384x768

/-- The norm's weights, as one row. -/
def lane (g : Vec Ideal S512 .f32) : Vec Ideal S1x512 .f32 := shapeCast S1x512 g shapeCasts_S512_S1x512

/-- The weights as the call reads them. -/
def wq (w : Vec Ideal S512x1536 .f32) : Vec Ideal S512x2048 .bf16 :=
  shapeCast S512x2048 (pad S512x16x128 ![0, 0, 0] ![0, 0, 32] ![0, 0, 0] (shapeCast S512x16x96 (w : S512x1536.Idx → EReal) shapeCasts_S512x1536_S512x16x96 : Vec Ideal S512x16x96 .bf16)
    (sitofp (F := Ideal) .bf16 (constantI S_ 32 0#32)) pads_S512x16x96_S512x16x128_000_000_0320 h_S_) shapeCasts_S512x16x128_S512x2048

/-- The angles, one row per token. -/
def ar (a : Vec Ideal S4x4096x16 .f32) : Vec Ideal S16384x16 .f32 := shapeCast S16384x16 a shapeCasts_S4x4096x16_S16384x16

/-- A head's lanes: 64, 16, 16 and the rest. -/
def four (z : S16384x64.Idx → EReal) (u v : S16384x16.Idx → EReal) (y : S16384x32.Idx → EReal) : S16384x128.Idx → EReal :=
  concatenate S16384x128 1 [⟨S16384x64, z⟩, ⟨S16384x16, u⟩, ⟨S16384x16, v⟩, ⟨S16384x32, y⟩] concatenates_S16384x64_S16384x16_S16384x16_S16384x32_S16384x128_d1

/-- The table of the cosines and the signed sines, after 256 zeros. -/
def tb (a s : Vec Ideal S4x4096x16 .f32) : Vec Ideal S16384x512 .f32 :=
  concatenate S16384x512 1 [
    ⟨S16384x256, (broadcastInDim S16384x256 ![] bcast_S_S16384x256 (constant (F := Ideal) S_ .f32 0x00000000#32) : S16384x256.Idx → EReal)⟩,
    ⟨S16384x128, four (broadcastInDim S16384x64 ![] bcast_S_S16384x64 (constant (F := Ideal) S_ .f32 0x3F800000#32)) (ar a) (ar a)
      (broadcastInDim S16384x32 ![] bcast_S_S16384x32 (constant (F := Ideal) S_ .f32 0x3F800000#32))⟩,
    ⟨S16384x128, four (broadcastInDim S16384x64 ![] bcast_S_S16384x64 (constant (F := Ideal) S_ .f32 0x00000000#32))
      (Host.negf (F := Ideal) (φ := .f32) (ar s)) (ar s)
      (broadcastInDim S16384x32 ![] bcast_S_S16384x32 (constant (F := Ideal) S_ .f32 0x00000000#32))⟩]
    concatenates_S16384x256_S16384x128_S16384x128_S16384x512_d1

theorem V_x : V m c main_v15 = xs (m ((c : Thread nD τ).loc main_arg0)) := by
  unfold_abbrev_sides
  simp only [hostOps0, hostOps0_1, hostOps0_2, List.flatten_cons, List.flatten_nil, List.append_nil, List.cons_append, List.nil_append]
  after_results
  rfl

theorem V_g : V m c main_v16 = lane (m ((c : Thread nD τ).loc main_arg1)) := by
  unfold_abbrev_sides
  simp only [hostOps0, hostOps0_1, hostOps0_2, List.flatten_cons, List.flatten_nil, List.append_nil, List.cons_append, List.nil_append]
  after_results
  rfl

theorem V_w : V m c main_v14 = wq (m ((c : Thread nD τ).loc main_arg2)) := by
  unfold_abbrev_sides
  simp only [hostOps0, hostOps0_1, hostOps0_2, List.flatten_cons, List.flatten_nil, List.append_nil, List.cons_append, List.nil_append]
  after_results
  rfl

theorem V_t : V m c main_v10 = tb (m ((c : Thread nD τ).loc main_arg3)) (m ((c : Thread nD τ).loc main_arg4)) := by
  unfold_abbrev_sides
  simp only [hostOps0, hostOps0_1, hostOps0_2, List.flatten_cons, List.flatten_nil, List.append_nil, List.cons_append, List.nil_append]
  after_results_simp
  dsimp only [Matrix.cons_val]
  rfl

theorem xs_at (x : Vec Ideal S4x4096x768 .f32) (r : Fin 16384) (b : Fin 4) (s : Fin 4096) (e : Fin 768)
    (h : r.val = b.val * 4096 + s.val) : xs x (ValueIdx.ix2 (n0 := 16384) (n1 := 768) r e) = x (ValueIdx.ix3 (n0 := 4) (n1 := 4096) (n2 := 768) b s e) := by
  refine shapeCast_apply (s := S4x4096x768) (t := S16384x768) x _ _ _ ?_
  rw [Shape.rowMajor_val_three, Shape.rowMajor_val_two]
  show (b.val * 4096 + s.val) * 768 + e.val = r.val * 768 + e.val
  rw [h]

theorem lane_at (g : Vec Ideal S512 .f32) (k : Fin 512) : lane g (ValueIdx.ix2 (n0 := 1) (n1 := 512) 0 k) = g (ValueIdx.ix1 k) := by
  refine shapeCast_apply (s := S512) (t := S1x512) g _ _ _ ?_
  rw [Shape.rowMajor_val_one, Shape.rowMajor_val_two]
  show k.val = 0 * 512 + k.val
  omega

section Weights

variable (w : Vec Ideal S512x1536 .f32) (k : Fin 512)

theorem wq_row (h : Fin 16) (d : Fin 128) (l : Fin 2048) (hl : l.val = 128 * h.val + d.val) : wq w (ValueIdx.ix2 (n0 := 512) (n1 := 2048) k l)
    = pad S512x16x128 ![0, 0, 0] ![0, 0, 32] ![0, 0, 0] (shapeCast S512x16x96 (w : S512x1536.Idx → EReal) shapeCasts_S512x1536_S512x16x96 : Vec Ideal S512x16x96 .bf16)
        (sitofp (F := Ideal) .bf16 (constantI S_ 32 0#32))
        pads_S512x16x96_S512x16x128_000_000_0320 h_S_ (ValueIdx.ix3 (n0 := 512) (n1 := 16) (n2 := 128) k h d) := by
  refine shapeCast_apply (s := S512x16x128) (t := S512x2048) _ _ _ _ ?_
  rw [Shape.rowMajor_val_three, Shape.rowMajor_val_two]
  show (k.val * 16 + h.val) * 128 + d.val = k.val * 2048 + l.val
  omega

theorem wq_in (h : Fin 16) (d : Fin 96) (l : Fin 2048) (hl : l.val = 128 * h.val + d.val) : wq w (ValueIdx.ix2 (n0 := 512) (n1 := 2048) k l)
    = w (ValueIdx.ix2 (n0 := 512) (n1 := 1536) k ⟨96 * h.val + d.val, by omega⟩) := by
  refine (wq_row w k h ⟨d.val, by omega⟩ l hl).trans ?_
  refine (pad_apply_of_inside (s := S512x16x96) (t := S512x16x128) _ _ _ _ _ _ _ _
    (ValueIdx.ix3 (n0 := 512) (n1 := 16) (n2 := 96) k h d) (fun b => ?_)).trans ?_
  · match b with
    | ⟨0, _⟩ => show k.val = 0 + k.val * (0 + 1); omega
    | ⟨1, _⟩ => show h.val = 0 + h.val * (0 + 1); omega
    | ⟨2, _⟩ => show d.val = 0 + d.val * (0 + 1); omega
  · refine shapeCast_apply (s := S512x1536) (t := S512x16x96) _ _ _ _ ?_
    rw [Shape.rowMajor_val_three, Shape.rowMajor_val_two]
    show k.val * 1536 + (96 * h.val + d.val) = (k.val * 16 + h.val) * 96 + d.val
    omega

theorem wq_out (h : Fin 16) (d : Fin 32) (l : Fin 2048) (hl : l.val = 128 * h.val + (96 + d.val)) :
    wq w (ValueIdx.ix2 (n0 := 512) (n1 := 2048) k l) = 0 := by
  refine (wq_row w k h ⟨96 + d.val, by omega⟩ l hl).trans ?_
  refine (pad_apply_of_not_inside (s := S512x16x96) (t := S512x16x128) _ _ _ _ _ _ _ _ (2 : Fin 3) fun h => ?_).trans (pad_zero _)
  have h' : (96 + d.val - 0) / (0 + 1) < 96 := h.2.2
  omega

end Weights

section Table

/-- A token's angle. -/
def an (a : S4x4096x16.Idx → EReal) (r : Fin 16384) (d : ℕ) : EReal :=
  a (ValueIdx.ix3 (n0 := 4) (n1 := 4096) (n2 := 16) ⟨r.val / 4096, by omega⟩ ⟨r.val % 4096, by omega⟩ ⟨d % 16, Nat.mod_lt _ (by decide)⟩)

theorem ar_at (a : Vec Ideal S4x4096x16 .f32) (r : Fin 16384) (d : Fin 16) : ar a (ValueIdx.ix2 (n0 := 16384) (n1 := 16) r d) = an a r d.val := by
  have hr := r.isLt
  have hd := d.isLt
  refine shapeCast_apply (s := S4x4096x16) (t := S16384x16) a _ _ _ ?_
  rw [Shape.rowMajor_val_three, Shape.rowMajor_val_two]
  show (r.val / 4096 * 4096 + r.val % 4096) * 16 + d.val % 16 = r.val * 16 + d.val
  omega

/-- A head's lane: 64, 16, 16 and the rest. -/
def lane4 (z : EReal) (u v : ℕ → EReal) (l : ℕ) : EReal := if l < 64 then z else if l < 80 then u (l - 64) else if l < 96 then v (l - 80) else z

theorem four_at (z : S16384x64.Idx → EReal) (u v : S16384x16.Idx → EReal) (y : S16384x32.Idx → EReal) (e : EReal) (hz : ∀ i, z i = e) (hy : ∀ i, y i = e)
    (U W : ℕ → EReal) (r : Fin 16384) (hu : ∀ d : Fin 16, u (ValueIdx.ix2 (n0 := 16384) (n1 := 16) r d) = U d.val)
    (hv : ∀ d : Fin 16, v (ValueIdx.ix2 (n0 := 16384) (n1 := 16) r d) = W d.val) (l : Fin 128) :
    four z u v y (ValueIdx.ix2 (n0 := 16384) (n1 := 128) r l) = lane4 e U W l.val := by
  have hl := l.isLt
  unfold lane4
  by_cases h1 : l.val < 64
  · rw [if_pos h1]
    exact (concatenate_apply_piece (t := S16384x128) 1 _ _ _ 0 (by show 0 < 4; decide) S16384x64 _ rfl rfl 0 rfl
      (ValueIdx.ix2 (n0 := 16384) (n1 := 64) r ⟨l.val, h1⟩)
      (fun b hb => by match b with | ⟨0, _⟩ => rfl | ⟨1, _⟩ => exact absurd rfl hb) (Nat.zero_add _)).trans (hz _)
  rw [if_neg h1]
  by_cases h2 : l.val < 80
  · rw [if_pos h2]
    exact (concatenate_apply_piece (t := S16384x128) 1 _ _ _ 1 (by show 1 < 4; decide) S16384x16 _ rfl rfl 64 rfl
      (ValueIdx.ix2 (n0 := 16384) (n1 := 16) r ⟨l.val - 64, by omega⟩)
      (fun b hb => by match b with | ⟨0, _⟩ => rfl | ⟨1, _⟩ => exact absurd rfl hb) (by show 64 + (l.val - 64) = l.val; omega)).trans (hu _)
  rw [if_neg h2]
  by_cases h3 : l.val < 96
  · rw [if_pos h3]
    exact (concatenate_apply_piece (t := S16384x128) 1 _ _ _ 2 (by show 2 < 4; decide) S16384x16 _ rfl rfl 80 rfl
      (ValueIdx.ix2 (n0 := 16384) (n1 := 16) r ⟨l.val - 80, by omega⟩)
      (fun b hb => by match b with | ⟨0, _⟩ => rfl | ⟨1, _⟩ => exact absurd rfl hb) (by show 80 + (l.val - 80) = l.val; omega)).trans (hv _)
  rw [if_neg h3]
  exact (concatenate_apply_piece (t := S16384x128) 1 _ _ _ 3 (by show 3 < 4; decide) S16384x32 _ rfl rfl 96 rfl
    (ValueIdx.ix2 (n0 := 16384) (n1 := 32) r ⟨l.val - 96, by omega⟩)
    (fun b hb => by match b with | ⟨0, _⟩ => rfl | ⟨1, _⟩ => exact absurd rfl hb) (by show 96 + (l.val - 96) = l.val; omega)).trans (hy _)

/-- A lane's cosine. -/
def cosl (a : S4x4096x16.Idx → EReal) (r : Fin 16384) : ℕ → EReal := lane4 1 (an a r) (an a r)

/-- A lane's signed sine. -/
def sinl (s : S4x4096x16.Idx → EReal) (r : Fin 16384) : ℕ → EReal := lane4 0 (fun d => -an s r d) (an s r)

variable (a s : Vec Ideal S4x4096x16 .f32) (r : Fin 16384) (l : Fin 128)

theorem tb_cos : tb a s (ValueIdx.ix2 (n0 := 16384) (n1 := 512) r ⟨256 + l.val, by omega⟩) = cosl a r l.val :=
  (concatenate_apply_piece (t := S16384x512) 1 _ _ _ 1 (by show 1 < 3; decide) S16384x128 _ rfl rfl 256 rfl (ValueIdx.ix2 (n0 := 16384) (n1 := 128) r l)
    (fun b hb => by match b with | ⟨0, _⟩ => rfl | ⟨1, _⟩ => exact absurd rfl hb) rfl).trans
    (four_at _ _ _ _ 1 (fun _ => Cert.Rope.one_f32) (fun _ => Cert.Rope.one_f32) _ _ r (ar_at a r) (ar_at a r) l)

theorem tb_sin : tb a s (ValueIdx.ix2 (n0 := 16384) (n1 := 512) r ⟨384 + l.val, by omega⟩) = sinl s r l.val :=
  (concatenate_apply_piece (t := S16384x512) 1 _ _ _ 2 (by show 2 < 3; decide) S16384x128 _ rfl rfl 384 rfl (ValueIdx.ix2 (n0 := 16384) (n1 := 128) r l)
    (fun b hb => by match b with | ⟨0, _⟩ => rfl | ⟨1, _⟩ => exact absurd rfl hb) rfl).trans
    (four_at _ _ _ _ 0 (fun _ => Ideal.ofBits_zero_f32) (fun _ => Ideal.ofBits_zero_f32) (fun d => -an s r d) _ r (fun d => congrArg Neg.neg (ar_at s r d)) (ar_at s r) l)

end Table

/-! ## The shifts of the lanes -/

/-- The lane that a lane is turned with. -/
def par (l : ℕ) : ℕ := if l < 80 then (l + 16) % 128 else l - 16

theorem par_lt (l : Fin 128) : par l.val < 128 := by
  have hl := l.isLt
  unfold par
  split <;> omega

section Rot

variable (a cs sn : FVec Ideal SL .f32) (hi : S1.Iotas .tc 32 [1]) (hr : SL.Rotates 1 none) (hc : S1.ShapeCasts S1) (hb : S1.Broadcasts SL)

/-- The turned lanes, as the call computes them. -/
def rot : FVec Ideal SL .f32 :=
  addf (mulf a cs) (mulf (select
    (broadcastTo SL (shapeCast S1 (cmpi .slt (subi (iota .tc S1 32 [1] hi) (broadcast S1 64#32)) (broadcast S1 16#32)) hc) hb)
    (dynamicRotate 1 112#32 none a hr) (dynamicRotate 1 16#32 none a hr)) sn)

theorem low_lane : ∀ l : Fin 128, IntOp.cmpi .slt (IntOp.subi (BitVec.ofNat 32 l.val) 64#32) 16#32 = if l.val < 80 then 1#1 else 0#1 := by
  decide +kernel

theorem rot_at (r : Fin 1024) (l : Fin 128) : rot a cs sn hi hr hc hb (ValueIdx.ix2 (n0 := 1024) (n1 := 128) r l)
    = a (ValueIdx.ix2 (n0 := 1024) (n1 := 128) r l) * cs (ValueIdx.ix2 (n0 := 1024) (n1 := 128) r l)
      + a (ValueIdx.ix2 (n0 := 1024) (n1 := 128) r ⟨par l.val, par_lt l⟩) * sn (ValueIdx.ix2 (n0 := 1024) (n1 := 128) r l) := by
  have hm : broadcastTo SL (shapeCast S1 (cmpi .slt (subi (iota .tc S1 32 [1] hi) (broadcast S1 64#32)) (broadcast S1 16#32)) hc) hb
      (ValueIdx.ix2 (n0 := 1024) (n1 := 128) r l) = if l.val < 80 then 1#1 else 0#1 := by
    refine (broadcastTo_apply (s := S1) (t := SL) _ _ _ (ValueIdx.ix2 (n0 := 1) (n1 := 128) 0 l)
      (fun b => by match b with | ⟨0, _⟩ => rfl | ⟨1, _⟩ => rfl)).trans ?_
    rw [shapeCast_self]
    show IntOp.cmpi .slt (IntOp.subi (iota .tc S1 32 [1] hi (ValueIdx.ix2 (n0 := 1) (n1 := 128) 0 l)) 64#32) 16#32 = _
    rw [iota_single_apply]
    exact low_lane l
  show _ + (if _ = 1#1 then _ else _) * _ = _
  rw [hm]
  refine congrArg₂ (· + ·) rfl (congrArg₂ (· * ·) ?_ rfl)
  have hl := l.isLt
  by_cases h : l.val < 80
  · rw [if_pos h, if_pos rfl]
    refine dynamicRotate_apply (s := SL) 1 112#32 a hr _ _ fun b => ?_
    match b with
    | ⟨0, _⟩ => rfl
    | ⟨1, _⟩ => show par l.val = (l.val + 128 - 112 % 128) % 128; unfold par; rw [if_pos h]; omega
  · rw [if_neg h, if_neg (by decide)]
    refine dynamicRotate_apply (s := SL) 1 16#32 a hr _ _ fun b => ?_
    match b with
    | ⟨0, _⟩ => rfl
    | ⟨1, _⟩ => show par l.val = (l.val + 128 - 16 % 128) % 128; unfold par; rw [if_neg h]; omega

end Rot

/-- The lane of a block that a lane is turned with. -/
def parb (l : ℕ) : ℕ := 128 * (l / 128) + par (l % 128)

theorem parb_lt (l : Fin 512) : parb l.val < 512 := by
  have h := par_lt ⟨l.val % 128, by omega⟩
  have hl := l.isLt
  unfold parb
  show 128 * (l.val / 128) + par (l.val % 128) < 512
  have h' : par (l.val % 128) < 128 := h
  omega

theorem parb_lt' (l : Fin 2048) : parb l.val < 2048 := by
  have h := par_lt ⟨l.val % 128, by omega⟩
  have hl := l.isLt
  unfold parb
  show 128 * (l.val / 128) + par (l.val % 128) < 2048
  have h' : par (l.val % 128) < 128 := h
  omega

/-- The block turned by the table's lanes. -/
def turnb (T t : SB.Idx → EReal) (r : Fin 1024) (l : Fin 512) : EReal :=
  T (ValueIdx.ix2 (n0 := 1024) (n1 := 512) r l) * t (ValueIdx.ix2 (n0 := 1024) (n1 := 512) r ⟨256 + l.val % 128, by omega⟩)
    + T (ValueIdx.ix2 (n0 := 1024) (n1 := 512) r ⟨parb l.val, parb_lt l⟩) * t (ValueIdx.ix2 (n0 := 1024) (n1 := 512) r ⟨384 + l.val % 128, by omega⟩)

theorem piece_at (T t : SB.Idx → EReal) (cs sn : FVec Ideal SL .f32) (hi hr hc hb) (o : ℕ) (h : SB.Slices ![0, o] SL) (ho : o % 128 = 0)
    (hcs : ∀ (r : Fin 1024) (l : Fin 128), cs (ValueIdx.ix2 (n0 := 1024) (n1 := 128) r l) = t (ValueIdx.ix2 (n0 := 1024) (n1 := 512) r ⟨256 + l.val, by omega⟩))
    (hsn : ∀ (r : Fin 1024) (l : Fin 128), sn (ValueIdx.ix2 (n0 := 1024) (n1 := 128) r l) = t (ValueIdx.ix2 (n0 := 1024) (n1 := 512) r ⟨384 + l.val, by omega⟩))
    (r : Fin 1024) (l : Fin 128) (e : Fin 512) (he : e.val = o + l.val) :
    rot (extractStridedSlice SL ![0, o] T h) cs sn hi hr hc hb (ValueIdx.ix2 (n0 := 1024) (n1 := 128) r l) = turnb T t r e := by
  rw [rot_at, hcs, hsn]
  have hl := l.isLt
  have e1 : e.val % 128 = l.val := by omega
  unfold turnb
  refine congrArg₂ (· + ·) (congrArg₂ (· * ·) ?_ ?_) (congrArg₂ (· * ·) ?_ ?_)
  · refine extractStridedSlice_apply (s := SB) (t := SL) _ _ _ _ _ fun b => ?_
    match b with
    | ⟨0, _⟩ => exact (Nat.zero_add _).symm
    | ⟨1, _⟩ => exact he
  · exact congrArg t (congrArg (ValueIdx.ix2 (n0 := 1024) (n1 := 512) r) (Fin.ext (congrArg (256 + ·) e1.symm)))
  · refine extractStridedSlice_apply (s := SB) (t := SL) _ _ _ _ _ fun b => ?_
    match b with
    | ⟨0, _⟩ => exact (Nat.zero_add _).symm
    | ⟨1, _⟩ => show parb e.val = o + par l.val; unfold parb; rw [e1]; omega
  · exact congrArg t (congrArg (ValueIdx.ix2 (n0 := 1024) (n1 := 512) r) (Fin.ext (congrArg (384 + ·) e1.symm)))

/-! ## The kernel -/

/-- A row's factor as the kernel forms it. -/
theorem inv_at (y : FVec Ideal S1024x512 .f32) (r : Fin 1024) (e : Fin 512) :
    broadcastTo S1024x512 (rsqrt (F := Ideal) (addf (divf (shapeCast S1024x1 (multiReduction .add [1] S1024 (mulf y y) 0x00000000#32 reduces_S1024x512_S1024 (.inl rfl) rfl)
      shapeCasts_S1024_S1024x1) (broadcast S1024x1 (Scalar.ofBits (F := Ideal) .f32 0x44000000#32))) (broadcast S1024x1 (Scalar.ofBits (F := Ideal) .f32 0x358637BD#32))))
      broadcasts_S1024x1_S1024x512 (ValueIdx.ix2 r e) = inv fun k => y (ValueIdx.ix2 r k) := by
  refine (broadcastTo_apply (s := S1024x1) (t := S1024x512) _ _ _ (ValueIdx.ix2 (n0 := 1024) (n1 := 1) r 0)
    (fun a => by match a with | ⟨0, _⟩ => rfl | ⟨1, _⟩ => rfl)).trans ?_
  show Ideal.rsqrt (Ideal.div _ _ + _) = Ideal.rsqrt (Ideal.div _ _ + _)
  refine congrArg (fun u => Ideal.rsqrt (Ideal.div u _ + _)) ?_
  refine (shapeCast_apply (s := S1024) (t := S1024x1) _ _ _ (ValueIdx.ix1 r) ?_).trans ?_
  · refine (Shape.rowMajor_val_one _).trans ((Shape.rowMajor_val_two _).trans ?_).symm
    show r.val * 1 + 0 = r.val
    omega
  · refine (Ideal.multiReduction_add_single _ _ _ _ _ _).trans ?_
    refine Finset.sum_congr rfl fun j _ => ?_
    have ej : ∀ i : S1024x512.Idx, i = ValueIdx.ix2 r j → mulf y y i = y (ValueIdx.ix2 r j) * y (ValueIdx.ix2 r j) := fun i h => by rw [h]; rfl
    refine ej _ ?_
    funext b
    match b with
    | ⟨0, _⟩ => rfl
    | ⟨1, _⟩ => rfl

theorem down_at (v : FVec Ideal S1x512 .f32) (r : Fin 1024) (e : Fin 512) :
    broadcastTo S1024x512 v broadcasts_S1x512_S1024x512 (ValueIdx.ix2 r e) = v (ValueIdx.ix2 (n0 := 1) (n1 := 512) 0 e) :=
  broadcastTo_apply (s := S1x512) (t := S1024x512) _ _ _ (ValueIdx.ix2 (n0 := 1) (n1 := 512) 0 e)
    (fun a => by match a with | ⟨0, _⟩ => rfl | ⟨1, _⟩ => rfl)

/-- A block of the result, read at an index. -/
theorem tile_at (x : Vec Ideal S1024x512 .f32) (g : Vec Ideal S1x512 .f32) (w : Vec Ideal S512x512 .bf16) (r : Fin 1024) (e : Fin 512) :
    k0_pay2 x g w (ValueIdx.ix2 r e) = ∑ k : Fin 512, normed (fun k => x (ValueIdx.ix2 r k)) (fun k => g (ValueIdx.ix2 (n0 := 1) (n1 := 512) 0 k)) k
      * w (ValueIdx.ix2 k e) := by
  unfold k0_pay2
  simp only [shapeCast_self]
  refine (Ideal.matmul_plain_apply (M := 1024) (K := 512) (N := 512) (φ₁ := .bf16) (φ₂ := .bf16) none _ _ _ r e).trans ?_
  show Ideal.ofBits .f32 0x00000000#32 + _ = _
  rw [Ideal.ofBits_zero_f32, zero_add]
  refine Finset.sum_congr rfl fun k _ => congrArg (· * w (ValueIdx.ix2 k e)) ?_
  exact congrArg₂ (· * ·) (congrArg₂ (· * ·) rfl (inv_at x r k)) (down_at g r k)

/-- What a load of a whole block reads. -/
theorem ld_x (x : Vec Ideal S1024x512 .f32) : View.ld x (Rect.unit (s := S1024x512) ![0, 0] ![1024, 512] inb_S1024x512_S1024x512_0_0) = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

theorem ld_g (x : Vec Ideal S1x512 .f32) : View.ld x (Rect.unit (s := S1x512) ![0, 0] ![1, 512] inb_S1x512_S1x512_0_0) = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

theorem ld_w (x : Vec Ideal S512x512 .bf16) : View.ld x (Rect.unit (s := S512x512) ![0, 0] ![512, 512] inb_S512x512_S512x512_0_0) = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

/-- The table's cosines. -/
theorem ld_cos (t : Vec Ideal S1024x512 .f32) (r : Fin 1024) (l : Fin 128) :
    k0_pay3 (View.ld t (Rect.unit (s := S1024x512) ![0, 256] ![1024, 128] inb_S1024x512_S1024x128_0_256)) (ValueIdx.ix2 (n0 := 1024) (n1 := 128) r l)
      = t (ValueIdx.ix2 (n0 := 1024) (n1 := 512) r ⟨256 + l.val, by omega⟩) := by
  unfold k0_pay3
  refine (congrFun (shapeCast_self _ _) _).trans ?_
  refine congrArg t (funext fun b => ?_)
  match b with
  | ⟨0, _⟩ => refine Fin.ext ?_; show 0 + 1 * r.val = r.val; omega
  | ⟨1, _⟩ => refine Fin.ext ?_; show 256 + 1 * l.val = 256 + l.val; omega

/-- The table's signed sines. -/
theorem ld_sin (t : Vec Ideal S1024x512 .f32) (r : Fin 1024) (l : Fin 128) :
    k0_pay4 (View.ld t (Rect.unit (s := S1024x512) ![0, 384] ![1024, 128] inb_S1024x512_S1024x128_0_384)) (ValueIdx.ix2 (n0 := 1024) (n1 := 128) r l)
      = t (ValueIdx.ix2 (n0 := 1024) (n1 := 512) r ⟨384 + l.val, by omega⟩) := by
  unfold k0_pay4
  refine (congrFun (shapeCast_self _ _) _).trans ?_
  refine congrArg t (funext fun b => ?_)
  match b with
  | ⟨0, _⟩ => refine Fin.ext ?_; show 0 + 1 * r.val = r.val; omega
  | ⟨1, _⟩ => refine Fin.ext ?_; show 384 + 1 * l.val = 384 + l.val; omega

theorem block_at (i : grid0.Coords) (arg2 : Memref sig .tc .vmem S1024x512 .f32) (harg2 : arg2.IsWhole) (arg3 : Memref sig .tc .vmem S512x512 .bf16) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .bf16) (harg6 : arg6.IsWhole)
    (x : Vec Ideal S1024x512 .f32) (w : Vec Ideal S512x512 .bf16) (g : Vec Ideal S1x512 .f32) (t : Vec Ideal S1024x512 .f32) (y : S1024x512.Idx) :
    out0_A_4 c i arg2 harg2 arg3 harg3 arg4 harg4 arg5 harg5 arg6 harg6 x w g t y = turnb (k0_pay2 x g w) t (y 0) (y 1) * sc := by
  have h1 : (y 1).val < 512 := (y 1).isLt
  unfold out0_A_4
  rw [View.read_writes_junk_eq_canon]
  unfold kernelRun0_A
  dsimp only
  sl_unfold_words
  simp only [View.readAt_eq_ld, harg2.read_unread, harg3.read_unread, harg4.read_unread, harg5.read_unread]
  rw [ld_x, ld_g, ld_w]
  unfold k0_pay7 k0_pay5
  have hcs := ld_cos t
  have hsn := ld_sin t
  generalize k0_pay3 (View.ld t (Rect.unit (s := S1024x512) ![0, 256] ![1024, 128] inb_S1024x512_S1024x128_0_256)) = cs at hcs ⊢
  generalize k0_pay4 (View.ld t (Rect.unit (s := S1024x512) ![0, 384] ![1024, 128] inb_S1024x512_S1024x128_0_384)) = sn at hsn ⊢
  generalize k0_pay2 x g w = T
  refine canon_head (fun r e => turnb T t r e * sc) y 384 _ _ _ (fun r l e he => ?_) fun n3 =>
    canon_head (fun r e => turnb T t r e * sc) y 256 _ _ _ (fun r l e he => ?_) fun n2 =>
    canon_head (fun r e => turnb T t r e * sc) y 128 _ _ _ (fun r l e he => ?_) fun n1 =>
    canon_head (fun r e => turnb T t r e * sc) y 0 _ _ _ (fun r l e he => ?_) fun n0 => absurd h1 (by omega)
  · exact congrArg (· * sc) (piece_at T t cs sn iota_S1x128_d1_w32 rotates_S1024x128_d1
      shapeCasts_S1x128_S1x128 broadcasts_S1x128_S1024x128 384 slices_S1024x512_o0_384_S1024x128 rfl hcs hsn r l e he)
  · exact congrArg (· * sc) (piece_at T t cs sn iota_S1x128_d1_w32 rotates_S1024x128_d1
      shapeCasts_S1x128_S1x128 broadcasts_S1x128_S1024x128 256 slices_S1024x512_o0_256_S1024x128 rfl hcs hsn r l e he)
  · exact congrArg (· * sc) (piece_at T t cs sn iota_S1x128_d1_w32 rotates_S1024x128_d1
      shapeCasts_S1x128_S1x128 broadcasts_S1x128_S1024x128 128 slices_S1024x512_o0_128_S1024x128 rfl hcs hsn r l e he)
  · exact congrArg (· * sc) (piece_at T t cs sn iota_S1x128_d1_w32 rotates_S1024x128_d1
      shapeCasts_S1x128_S1x128 broadcasts_S1x128_S1024x128 0 slices_S1024x512_o0_0_S1024x128 rfl hcs hsn r l e he)

theorem idxs : ∀ t : Fin cfg0.N, win0_0.index t = ![t.val / 4, 0] ∧ win0_1.index t = ![0, t.val % 4] ∧ win0_2.index t = ![0, 0]
    ∧ win0_3.index t = ![t.val / 4, 0] ∧ win0_4.index t = ![t.val / 4, t.val % 4] := by
  decide +kernel

/-- A token's column of the queries' product. -/
def val (x : Vec Ideal S16384x768 .f32) (g : Vec Ideal S1x512 .f32) (w : Vec Ideal S512x2048 .bf16) (r : Fin 16384) (l : Fin 2048) : EReal :=
  ∑ k : Fin 512, normed (fun k => x (ValueIdx.ix2 (n0 := 16384) (n1 := 768) r ⟨k.val, by omega⟩)) (fun k => g (ValueIdx.ix2 (n0 := 1) (n1 := 512) 0 k)) k
    * w (ValueIdx.ix2 (n0 := 512) (n1 := 2048) k l)

/-- A token's column of the queries, turned by the table's lanes and scaled. -/
def qry (x : Vec Ideal S16384x768 .f32) (g : Vec Ideal S1x512 .f32) (w : Vec Ideal S512x2048 .bf16) (t : Vec Ideal S16384x512 .f32) (r : Fin 16384) (l : Fin 2048) : EReal :=
  (val x g w r l * t (ValueIdx.ix2 (n0 := 16384) (n1 := 512) r ⟨256 + l.val % 128, by omega⟩)
    + val x g w r ⟨parb l.val, parb_lt' l⟩ * t (ValueIdx.ix2 (n0 := 16384) (n1 := 512) r ⟨384 + l.val % 128, by omega⟩)) * sc

theorem x_blk (t : Fin cfg0.N) (r : Fin 1024) (k : Fin 512) (R : Fin 16384) (hR : R.val = t.val / 4 * 1024 + r.val) :
    X0_0 m c t (ValueIdx.ix2 (n0 := 1024) (n1 := 512) r k) = V m c main_v15 (ValueIdx.ix2 (n0 := 16384) (n1 := 768) R ⟨k.val, by omega⟩) := by
  obtain ⟨e0, e1, e2, e3, e4⟩ := idxs t
  unfold X0_0 Pipeline.Window.fill
  rw [dif_pos (moved0_0 t _)]
  blk_ext [iblk, e0]
  exact hR.symm

theorem tile_blk (t : Fin cfg0.N) (r : Fin 1024) (e : Fin 512) (R : Fin 16384) (l : Fin 2048) (hR : R.val = t.val / 4 * 1024 + r.val)
    (hl : l.val = t.val % 4 * 512 + e.val) : k0_pay2 (X0_0 m c t) (iblk m c 2 t) (iblk m c 1 t) (ValueIdx.ix2 (n0 := 1024) (n1 := 512) r e)
      = val (V m c main_v15) (V m c main_v16) (V m c main_v14) R l := by
  obtain ⟨e0, e1, e2, e3, e4⟩ := idxs t
  refine (tile_at (X0_0 m c t) (iblk m c 2 t) (iblk m c 1 t) r e).trans (Finset.sum_congr rfl fun k _ =>
    congrArg₂ (· * ·) (normed_congr k (fun k => x_blk m c t r k R hR) fun k => ?_) ?_)
  · blk_ext [iblk, e2]
  · blk_ext [iblk, e1]
    exact hl.symm

theorem tab_blk (t : Fin cfg0.N) (r : Fin 1024) (e : Fin 512) (R : Fin 16384) (hR : R.val = t.val / 4 * 1024 + r.val) :
    iblk m c 3 t (ValueIdx.ix2 (n0 := 1024) (n1 := 512) r e) = V m c main_v10 (ValueIdx.ix2 (n0 := 16384) (n1 := 512) R e) := by
  obtain ⟨e0, e1, e2, e3, e4⟩ := idxs t
  blk_ext [iblk, e3]
  exact hR.symm

theorem qry_blk (t : Fin cfg0.N) (r : Fin 1024) (e : Fin 512) (R : Fin 16384) (l : Fin 2048) (hR : R.val = t.val / 4 * 1024 + r.val)
    (hl : l.val = t.val % 4 * 512 + e.val) : turnb (k0_pay2 (X0_0 m c t) (iblk m c 2 t) (iblk m c 1 t)) (iblk m c 3 t) r e * sc
      = qry (V m c main_v15) (V m c main_v16) (V m c main_v14) (V m c main_v10) R l := by
  have em : l.val % 128 = e.val % 128 := by omega
  have hp : parb l.val = t.val % 4 * 512 + parb e.val := by unfold parb; rw [em]; omega
  unfold turnb qry
  refine congrArg (· * sc) (congrArg₂ (· + ·) (congrArg₂ (· * ·) (tile_blk m c t r e R l hR hl) ((tab_blk m c t r _ R hR).trans ?_))
    (congrArg₂ (· * ·) (tile_blk m c t r _ R _ hR hp) ((tab_blk m c t r _ R hR).trans ?_)))
  · exact congrArg (V m c main_v10) (congrArg (ValueIdx.ix2 (n0 := 16384) (n1 := 512) R) (Fin.ext (congrArg (256 + ·) em.symm)))
  · exact congrArg (V m c main_v10) (congrArg (ValueIdx.ix2 (n0 := 16384) (n1 := 512) R) (Fin.ext (congrArg (384 + ·) em.symm)))

/-- The array that the kernel leaves. -/
theorem out_at : (dats m 0 c).arrAt 4 cfg0.N
    = fun i : S16384x2048.Idx => qry (V m c main_v15) (V m c main_v16) (V m c main_v14) (V m c main_v10) (i 0) (i 1) := by
  refine (dats m 0 c).arrAt_eq_of_covers 4 _ (by decide +kernel) fun t hf y => ?_
  blk_simp
  rw [after0_4]
  obtain ⟨e0, e1, e2, e3, e4⟩ := idxs t
  refine (block_at c _ _ _ _ _ _ _ _ _ _ _ _ _ _ _ y).trans (qry_blk m c t (y 0) (y 1) _ _ ?_ ?_)
  · show win0_4.index t 0 * 1024 + 1 * (y 0).val = _
    rw [e4, one_mul]; rfl
  · show win0_4.index t 1 * 512 + 1 * (y 1).val = _
    rw [e4, one_mul]; rfl

/-! ## The reference -/

section Reference

open Cert.Reference14Ideal.Read

variable (x : Vec Ideal S4x4096x768 .f32) (g : Vec Ideal S512 .f32) (w : Vec Ideal S512x1536 .f32) (a z : Vec Ideal S4x4096x16 .f32)

variable (b : Fin 4) (s : Fin 4096) (k e : Fin 512)

/-- An index of a token's channel. -/
abbrev iT (b : Fin 4) (s : Fin 4096) (e : Fin 512) : Cert.Reference14Ideal.S4x4096x512.Idx := ValueIdx.ix3 b s e

theorem ref_inv : val_main_v9 (F := Ideal) x (iT b s e) = inv fun k => val_main_v0 (F := Ideal) x (iT b s k) := by
  rw [val_main_v9_apply, val_main_v8_apply, val_main_v7_apply, val_main_v5_apply, val_main_v3_apply, val_main_v2_apply]
  show Ideal.rsqrt (Ideal.div (Ideal.ofBits .f32 0x00000000#32 + _) _ + _) = Ideal.rsqrt (Ideal.div _ _ + _)
  rw [Ideal.ofBits_zero_f32, zero_add]
  refine congrArg (fun u => Ideal.rsqrt (Ideal.div u _ + _)) (Finset.sum_congr rfl fun k _ => ?_)
  have ej : ∀ i : Cert.Reference14Ideal.S4x4096x512.Idx, i = iT b s k
      → val_main_v1 (F := Ideal) x i = val_main_v0 (F := Ideal) x (iT b s k) * val_main_v0 (F := Ideal) x (iT b s k) := fun i h => by rw [h]; rfl
  refine ej _ ?_
  funext a
  match a with
  | ⟨0, _⟩ => rfl
  | ⟨1, _⟩ => rfl
  | ⟨2, _⟩ => rfl

theorem ref_norm (r : Fin 16384) (hr : r.val = b.val * 4096 + s.val) : val_main_v13 (F := Ideal) x g (iT b s k)
    = normed (fun k => xs x (ValueIdx.ix2 (n0 := 16384) (n1 := 768) r ⟨k.val, by omega⟩)) (fun k => lane g (ValueIdx.ix2 (n0 := 1) (n1 := 512) 0 k)) k := by
  refine Eq.trans (b := normed (fun k => val_main_v0 (F := Ideal) x (iT b s k)) (fun k => g (ValueIdx.ix1 k)) k) ?_ ?_
  · rw [val_main_v13_apply, val_main_v10_apply, ref_inv, val_main_v12_apply, val_main_v11_apply]
    unfold normed
    generalize val_main_v0 (F := Ideal) x = v
    refine congrArg (v (iT b s k) * inv (fun k => v (iT b s k)) * ·) (congrArg g ?_)
    funext a
    match a with
    | ⟨0, _⟩ => rfl
  · refine normed_congr k (fun k => ?_) fun k => (lane_at g k).symm
    rw [val_main_v0_apply]
    refine (congrArg x (funext fun a => ?_)).trans (xs_at x r b s ⟨k.val, by omega⟩ hr).symm
    match a with
    | ⟨0, _⟩ => rfl
    | ⟨1, _⟩ => rfl
    | ⟨2, _⟩ => rfl

/-- The product's column of head `h`'s lane `d`. -/
def vn (r : Fin 16384) (h : Fin 16) (d : ℕ) : EReal :=
  val (xs x) (lane g) (wq w) r ⟨128 * h.val + d % 128, by omega⟩

theorem vn_out (r : Fin 16384) (h : Fin 16) (d : ℕ) (h1 : 96 ≤ d) (h2 : d < 128) : vn x g w r h d = 0 := by
  unfold vn val
  refine Finset.sum_eq_zero fun k _ => ?_
  rw [wq_out w k h ⟨d - 96, by omega⟩ _ (by show 128 * h.val + d % 128 = 128 * h.val + (96 + (d - 96)); omega), mul_zero]

theorem ref_val (r : Fin 16384) (h : Fin 16) (d : Fin 96) : val_main_v15 (F := Ideal) x g w (ip 16 96 r h d) = vn x g w r h d.val := by
  have hr := r.isLt
  have hh := h.isLt
  have hd := d.isLt
  rw [val_main_v15_apply, val_main_v14_apply]
  unfold vn val
  refine Finset.sum_congr rfl fun k _ => congrArg₂ (· * ·) ?_ ?_
  · refine (congrArg (val_main_v13 (F := Ideal) x g) (funext fun a => ?_)).trans
      (ref_norm x g ⟨r.val / 4096, by omega⟩ ⟨r.val % 4096, by omega⟩ k r (by show r.val = r.val / 4096 * 4096 + r.val % 4096; omega))
    match a with
    | ⟨0, _⟩ =>
      refine Fin.ext ?_
      show (((r.val / 4096 * 4096 + r.val % 4096) * 16 + h.val) * 96 + d.val) / 6291456 = r.val / 4096
      omega
    | ⟨1, _⟩ =>
      refine Fin.ext ?_
      show (((r.val / 4096 * 4096 + r.val % 4096) * 16 + h.val) * 96 + d.val) / 1536 % 4096 = r.val % 4096
      omega
    | ⟨2, _⟩ => rfl
  · refine Eq.trans (congrArg w (funext fun a => ?_)) (wq_in w k h d _ (by show 128 * h.val + d.val % 128 = 128 * h.val + d.val; omega)).symm
    match a with
    | ⟨0, _⟩ => rfl
    | ⟨1, _⟩ =>
      refine Fin.ext ?_
      show (((r.val / 4096 * 4096 + r.val % 4096) * 16 + h.val) * 96 + d.val) % 1536 = 96 * h.val + d.val
      omega

/-- Head `h`'s lane `d`, turned by a token's angles. -/
def headv (r : Fin 16384) (h : Fin 16) (d : ℕ) : EReal :=
  if d < 64 then vn x g w r h d
  else if d < 80 then vn x g w r h d * an a r (d - 64) - vn x g w r h (16 + d) * an z r (d - 64)
  else if d < 96 then vn x g w r h d * an a r (d - 80) + vn x g w r h (d - 16) * an z r (d - 80)
  else 0

theorem ref_x1 (r : Fin 16384) (h : Fin 16) (d : Fin 16) : val_main_v18 (F := Ideal) x g w (ip 16 16 r h d) = vn x g w r h (64 + d.val) := by
  rw [val_main_v18_apply]
  refine (congrArg (val_main_v15 (F := Ideal) x g w) (funext fun a => ?_)).trans (ref_val x g w r h ⟨64 + d.val, by omega⟩)
  match a with
  | ⟨0, _⟩ => rfl
  | ⟨1, _⟩ => rfl
  | ⟨2, _⟩ => rfl
  | ⟨3, _⟩ => rfl

theorem ref_x2 (r : Fin 16384) (h : Fin 16) (d : Fin 16) : val_main_v19 (F := Ideal) x g w (ip 16 16 r h d) = vn x g w r h (80 + d.val) := by
  rw [val_main_v19_apply]
  refine (congrArg (val_main_v15 (F := Ideal) x g w) (funext fun a => ?_)).trans (ref_val x g w r h ⟨80 + d.val, by omega⟩)
  match a with
  | ⟨0, _⟩ => rfl
  | ⟨1, _⟩ => rfl
  | ⟨2, _⟩ => rfl
  | ⟨3, _⟩ => rfl

theorem ref_x0 (r : Fin 16384) (h : Fin 16) (d : Fin 64) : val_main_v20 (F := Ideal) x g w (ip 16 64 r h d) = vn x g w r h d.val := by
  rw [val_main_v20_apply]
  refine (congrArg (val_main_v15 (F := Ideal) x g w) (funext fun a => ?_)).trans (ref_val x g w r h ⟨d.val, by omega⟩)
  match a with
  | ⟨0, _⟩ => rfl
  | ⟨1, _⟩ => rfl
  | ⟨2, _⟩ => rfl
  | ⟨3, _⟩ => rfl

theorem ang_at (i : S4x4096x16.Idx) (r : Fin 16384) (d : Fin 16) (h0 : (i 0).val = r.val / 4096) (h1 : (i 1).val = r.val % 4096) (h2 : (i 2).val = d.val) :
    a i = an a r d.val := by
  have hd := d.isLt
  refine congrArg a (funext fun b => ?_)
  match b with
  | ⟨0, _⟩ => exact Fin.ext h0
  | ⟨1, _⟩ => exact Fin.ext h1
  | ⟨2, _⟩ => refine Fin.ext (h2.trans ?_); show d.val = d.val % 16; omega

theorem ref_c (r : Fin 16384) (h : Fin 16) (d : Fin 16) : val_main_v21 (F := Ideal) a (ip 16 16 r h d) = an a r d.val := by
  rw [val_main_v21_apply, val_main_v16_apply]
  exact ang_at a _ r d rfl rfl rfl

theorem ref_s (r : Fin 16384) (h : Fin 16) (d : Fin 16) : val_main_v23 (F := Ideal) a (ip 16 16 r h d) = an a r d.val := by
  rw [val_main_v23_apply, val_main_v17_apply]
  exact ang_at a _ r d rfl rfl rfl

theorem ref_c' (r : Fin 16384) (h : Fin 16) (d : Fin 16) : val_main_v26 (F := Ideal) a (ip 16 16 r h d) = an a r d.val := by
  rw [val_main_v26_apply, val_main_v16_apply]
  exact ang_at a _ r d rfl rfl rfl

theorem ref_s' (r : Fin 16384) (h : Fin 16) (d : Fin 16) : val_main_v28 (F := Ideal) a (ip 16 16 r h d) = an a r d.val := by
  rw [val_main_v28_apply, val_main_v17_apply]
  exact ang_at a _ r d rfl rfl rfl

theorem ref_head (r : Fin 16384) (h : Fin 16) (d : Fin 128) : val_main_v32 (F := Ideal) x g w a z (ip 16 128 r h d) = headv x g w a z r h d.val := by
  have hd := d.isLt
  unfold headv val_main_v32
  by_cases h1 : d.val < 64
  · rw [if_pos h1]
    exact (concatenate_apply_piece (t := Cert.Reference14Ideal.S4x4096x16x128) 3 _ _ _ 0 (by show 0 < 4; decide) Cert.Reference14Ideal.S4x4096x16x64 _ rfl rfl 0 rfl
      (ip 16 64 r h ⟨d.val, h1⟩)
      (fun b hb => by match b with | ⟨0, _⟩ => rfl | ⟨1, _⟩ => rfl | ⟨2, _⟩ => rfl | ⟨3, _⟩ => exact absurd rfl hb) (Nat.zero_add _)).trans (ref_x0 x g w r h ⟨d.val, h1⟩)
  rw [if_neg h1]
  by_cases h2 : d.val < 80
  · rw [if_pos h2]
    refine (concatenate_apply_piece (t := Cert.Reference14Ideal.S4x4096x16x128) 3 _ _ _ 1 (by show 1 < 4; decide) Cert.Reference14Ideal.S4x4096x16x16 _ rfl rfl 64 rfl
      (ip 16 16 r h ⟨d.val - 64, by omega⟩)
      (fun b hb => by match b with | ⟨0, _⟩ => rfl | ⟨1, _⟩ => rfl | ⟨2, _⟩ => rfl | ⟨3, _⟩ => exact absurd rfl hb)
      (by show 64 + (d.val - 64) = d.val; omega)).trans ?_
    rw [val_main_v25_apply, val_main_v22_apply, val_main_v24_apply, ref_x1, ref_x2, ref_c, ref_s]
    show vn x g w r h (64 + (d.val - 64)) * an a r (d.val - 64) - vn x g w r h (80 + (d.val - 64)) * an z r (d.val - 64) = _
    rw [show 64 + (d.val - 64) = d.val by omega, show 80 + (d.val - 64) = 16 + d.val by omega]
  rw [if_neg h2]
  by_cases h3 : d.val < 96
  · rw [if_pos h3]
    refine (concatenate_apply_piece (t := Cert.Reference14Ideal.S4x4096x16x128) 3 _ _ _ 2 (by show 2 < 4; decide) Cert.Reference14Ideal.S4x4096x16x16 _ rfl rfl 80 rfl
      (ip 16 16 r h ⟨d.val - 80, by omega⟩)
      (fun b hb => by match b with | ⟨0, _⟩ => rfl | ⟨1, _⟩ => rfl | ⟨2, _⟩ => rfl | ⟨3, _⟩ => exact absurd rfl hb)
      (by show 80 + (d.val - 80) = d.val; omega)).trans ?_
    rw [val_main_v30_apply, val_main_v27_apply, val_main_v29_apply, ref_x1, ref_x2, ref_c', ref_s']
    show vn x g w r h (80 + (d.val - 80)) * an a r (d.val - 80) + vn x g w r h (64 + (d.val - 80)) * an z r (d.val - 80) = _
    rw [show 80 + (d.val - 80) = d.val by omega, show 64 + (d.val - 80) = d.val - 16 by omega]
  rw [if_neg h3]
  refine (concatenate_apply_piece (t := Cert.Reference14Ideal.S4x4096x16x128) 3 _ _ _ 3 (by show 3 < 4; decide) Cert.Reference14Ideal.S4x4096x16x32 _ rfl rfl 96 rfl
    (ip 16 32 r h ⟨d.val - 96, by omega⟩)
    (fun b hb => by match b with | ⟨0, _⟩ => rfl | ⟨1, _⟩ => rfl | ⟨2, _⟩ => rfl | ⟨3, _⟩ => exact absurd rfl hb)
    (by show 96 + (d.val - 96) = d.val; omega)).trans ?_
  rw [val_main_v31_apply, val_main_cst_2_apply]
  exact Ideal.ofBits_zero_f32

/-- The turned head as the table's lanes give it. -/
theorem head_turn (r : Fin 16384) (h : Fin 16) (d : Fin 128) :
    vn x g w r h d.val * cosl a r d.val + vn x g w r h (par d.val) * sinl z r d.val = headv x g w a z r h d.val := by
  have hd := d.isLt
  unfold cosl sinl headv lane4
  by_cases h1 : d.val < 64
  · rw [if_pos h1, if_pos h1, if_pos h1, mul_one, mul_zero, add_zero]
  rw [if_neg h1, if_neg h1, if_neg h1]
  by_cases h2 : d.val < 80
  · rw [if_pos h2, if_pos h2, if_pos h2]
    unfold par
    rw [if_pos h2, show (d.val + 16) % 128 = 16 + d.val by omega, mul_neg, ← sub_eq_add_neg]
  rw [if_neg h2, if_neg h2, if_neg h2]
  by_cases h3 : d.val < 96
  · rw [if_pos h3, if_pos h3, if_pos h3]
    unfold par
    rw [if_neg h2]
  rw [if_neg h3, if_neg h3, if_neg h3, mul_one, mul_zero, add_zero]
  exact vn_out x g w r h d.val (by omega) hd

theorem scale_at (i : Cert.Reference14Ideal.S4x4096x16x128.Idx) : val_main_v37 (F := Ideal) i = sc := by
  have e96 : Ideal.ofBits .f32 0x42C00000#32 = ((96 : ℝ) : EReal) := by
    simp [Ideal.ofBits, Ideal.ieee]
    rw [← EReal.coe_mul]; norm_num
  have e2 : Ideal.ofBits .f32 0x40000000#32 = ((2 : ℝ) : EReal) := by
    simp [Ideal.ofBits, Ideal.ieee]
    rw [← EReal.coe_mul]; norm_num
  rw [val_main_v37_apply, sc_eq]
  show Ideal.div (Ideal.ofBits .f32 0x3F800000#32) (Ideal.sqrt (Ideal.ofBits .f32 0x42C00000#32) * Ideal.log (Ideal.ofBits .f32 0x40000000#32)) = _
  have h1 : (0 : ℝ) < Real.sqrt 96 := Real.sqrt_pos.mpr (by norm_num)
  have h2 : (0 : ℝ) < Real.log 2 := Real.log_pos (by norm_num)
  rw [e96, e2, Ideal.sqrt_coe, if_neg (by norm_num), Ideal.log_coe, if_neg (by norm_num), ← EReal.coe_mul,
    Ideal.div_coe (mul_pos h1 h2).ne', Ideal.ofBits_one_f32, one_mul, one_div]

/-- The array that the reference leaves is the norm's product with the call's weights, turned by the call's table and scaled. -/
theorem ref_at : val_main_v40 (F := Ideal) x g w a z = fun i : S16384x2048.Idx => qry (xs x) (lane g) (wq w) (tb a z) (i 0) (i 1) := by
  funext i
  obtain ⟨r, l, rfl⟩ : ∃ (r : Fin 16384) (l : Fin 2048), i = ValueIdx.ix2 (n0 := 16384) (n1 := 2048) r l :=
    ⟨i 0, i 1, funext fun b => by match b with | ⟨0, _⟩ => rfl | ⟨1, _⟩ => rfl⟩
  rw [val_main_v40_apply]
  show val_main_v39 (F := Ideal) x g w a z (ValueIdx.ix2 (n0 := 16384) (n1 := 2048) r l) = qry (xs x) (lane g) (wq w) (tb a z) r l
  have hr := r.isLt
  have hl := l.isLt
  obtain ⟨h, d, e⟩ : ∃ (h : Fin 16) (d : Fin 128), l.val = 128 * h.val + d.val :=
    ⟨⟨l.val / 128, by omega⟩, ⟨l.val % 128, by omega⟩, by show l.val = 128 * (l.val / 128) + l.val % 128; omega⟩
  have hh := h.isLt
  have hd := d.isLt
  rw [val_main_v39_apply, val_main_v38_apply, scale_at]
  refine Eq.trans (b := headv x g w a z r h d.val * sc) (congrArg (· * sc) ?_) ?_
  · refine (congrArg (val_main_v32 (F := Ideal) x g w a z) (funext fun b => ?_)).trans (ref_head x g w a z r h d)
    match b with
    | ⟨0, _⟩ =>
      refine Fin.ext ?_
      show (r.val * 2048 + l.val) / 8388608 = r.val / 4096
      omega
    | ⟨1, _⟩ =>
      refine Fin.ext ?_
      show (r.val * 2048 + l.val) / 2048 % 4096 = r.val % 4096
      omega
    | ⟨2, _⟩ =>
      refine Fin.ext ?_
      show (r.val * 2048 + l.val) / 128 % 16 = h.val
      omega
    | ⟨3, _⟩ =>
      refine Fin.ext ?_
      show (r.val * 2048 + l.val) % 128 = d.val
      omega
  · rw [← head_turn, ← tb_cos a z r d, ← tb_sin a z r d]
    unfold qry vn
    have ep := par_lt d
    refine congrArg (· * sc) (congrArg₂ (· + ·) (congrArg₂ (· * ·) (congrArg (val (xs x) (lane g) (wq w) r) (Fin.ext ?_))
        (congrArg (tb a z) (congrArg (ValueIdx.ix2 (n0 := 16384) (n1 := 512) r) (Fin.ext ?_))))
      (congrArg₂ (· * ·) (congrArg (val (xs x) (lane g) (wq w) r) (Fin.ext ?_))
        (congrArg (tb a z) (congrArg (ValueIdx.ix2 (n0 := 16384) (n1 := 512) r) (Fin.ext ?_)))))
    · show 128 * h.val + d.val % 128 = l.val
      omega
    · show 256 + d.val = 256 + l.val % 128
      omega
    · show 128 * h.val + par d.val % 128 = parb l.val
      unfold parb
      rw [show l.val % 128 = d.val by omega, show l.val / 128 = h.val by omega, Nat.mod_eq_of_lt ep]
    · show 384 + d.val = 384 + l.val % 128
      omega

end Reference

theorem kernel_out : (dats m 0 c).arrAt 4 cfg0.N
    = fun i : S16384x2048.Idx => qry (xs (m ((c : Thread nD τ).loc main_arg0))) (lane (m ((c : Thread nD τ).loc main_arg1)))
        (wq (m ((c : Thread nD τ).loc main_arg2))) (tb (m ((c : Thread nD τ).loc main_arg3)) (m ((c : Thread nD τ).loc main_arg4))) (i 0) (i 1) := by
  rw [out_at, V_x, V_g, V_w, V_t]

end Cert.LatentQueries

end
-- ==== Proof.Lin.GateKey.lean ====
/-
  The projection to the sparse attention's branch gates and to the key that the latent attention's heads share: the array that
  the tiled product leaves, the sigmoid on its first half and the rotation on its second, is the one that the reference states.
-/
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Lin.LatentQueries

@[expose] public section

set_option maxRecDepth 16384

noncomputable section

namespace Cert.GateKey

open Cert.Kernel15Ideal Cert.Kernel15Ideal.Gen Idealize.ShloMosaic Idealize.ShloMosaic.TcCoe Idealize.ShloMosaic.Tactic Idealize.SL.Sem Cert.Heads
open Cert.Rope (pn tn)
open Cert.LatentQueries (cosl sinl lane4 par par_lt tb tb_cos tb_sin ang_at)
open scoped BigOperators

variable (m : (ℓ : Loc nD τ sig) → Buf (Elt Ideal) ℓ) (c : Dev nD)

/-- A row of the result, of a row of the product and the table's cosines and signed sines. -/
def row (p cs sn : ℕ → EReal) (l : ℕ) : EReal :=
  if l < 128 then Ideal.logistic (p l) else p l * cs (l - 128) + p (128 + par (l - 128)) * sn (l - 128)

theorem row_congr {p p' cs cs' sn sn' : ℕ → EReal} (hp : ∀ l, l < 256 → p l = p' l) (hc : ∀ d, d < 128 → cs d = cs' d) (hs : ∀ d, d < 128 → sn d = sn' d)
    (l : ℕ) (hl : l < 256) : row p cs sn l = row p' cs' sn' l := by
  unfold row
  by_cases h : l < 128
  · rw [if_pos h, if_pos h, hp l hl]
  · have h' : par (l - 128) < 128 := par_lt ⟨l - 128, by omega⟩
    rw [if_neg h, if_neg h, hp l hl, hc _ (by omega), hs _ (by omega), hp _ (by omega)]

/-! ## The host's arrays -/

/-- The activations, one row per token. -/
def xs (x : Vec Ideal S4x4096x2048 .f32) : Vec Ideal S16384x2048 .bf16 := rows x shapeCasts_S4x4096x2048_S16384x2048

/-- The gates' columns, before zeros. -/
def wg (w : Vec Ideal S2048x7504 .f32) : Vec Ideal S2048x128 .bf16 :=
  pad S2048x128 ![0, 0] ![0, 80] ![0, 0] (extractStridedSlice S2048x48 ![0, 2560] (w : S2048x7504.Idx → EReal) slices_S2048x7504_S2048x48_0_2560 : Vec Ideal S2048x48 .bf16)
    (sitofp (F := Ideal) .bf16 (constantI S_ 32 0#32)) pads_S2048x48_S2048x128_000_0800 h_S_

/-- The key's columns, between zeros. -/
def wk (w : Vec Ideal S2048x7504 .f32) : Vec Ideal S2048x128 .bf16 :=
  shapeCast S2048x128 (pad S2048x1x128 ![0, 0, 64] ![0, 0, 32] ![0, 0, 0]
    (shapeCast S2048x1x32 (extractStridedSlice S2048x32 ![0, 3376] (w : S2048x7504.Idx → EReal) slices_S2048x7504_S2048x32_0_3376) shapeCasts_S2048x32_S2048x1x32 : Vec Ideal S2048x1x32 .bf16)
    (sitofp (F := Ideal) .bf16 (constantI S_ 32 0#32)) pads_S2048x1x32_S2048x1x128_000_000_64320 h_S_) shapeCasts_S2048x1x128_S2048x128

/-- The weights as the call reads them. -/
def ws (w : Vec Ideal S2048x7504 .f32) : Vec Ideal S2048x256 .bf16 :=
  concatenate S2048x256 1 [⟨S2048x128, wg w⟩, ⟨S2048x128, wk w⟩] concatenates_S2048x128_S2048x128_S2048x256_d1

theorem V_x : V m c main_v20 = xs (m ((c : Thread nD τ).loc main_arg0)) := by
  unfold_abbrev_sides
  simp only [hostOps0, hostOps0_1, hostOps0_2, hostOps0_3, hostOps0_4, List.flatten_cons, List.flatten_nil, List.append_nil, List.cons_append,
    List.nil_append]
  after_results
  rfl

theorem V_w : V m c main_v18 = ws (m ((c : Thread nD τ).loc main_arg1)) := by
  unfold_abbrev_sides
  simp only [hostOps0, hostOps0_1, hostOps0_2, hostOps0_3, hostOps0_4, List.flatten_cons, List.flatten_nil, List.append_nil, List.cons_append,
    List.nil_append]
  after_results
  rfl

theorem V_t : V m c main_v10 = tb (m ((c : Thread nD τ).loc main_arg2)) (m ((c : Thread nD τ).loc main_arg3)) := by
  unfold_abbrev_sides
  simp only [hostOps0, hostOps0_1, hostOps0_2, hostOps0_3, hostOps0_4, List.flatten_cons, List.flatten_nil, List.append_nil, List.cons_append,
    List.nil_append]
  after_results_simp
  dsimp only [Matrix.cons_val]
  rfl

section Weights

variable (w : Vec Ideal S2048x7504 .f32) (k : Fin 2048)

theorem wg_in (d : Fin 128) (h : d.val < 48) : wg w (ValueIdx.ix2 (n0 := 2048) (n1 := 128) k d) = wn w k (2560 + d.val) := by
  refine (pad_apply_of_inside (s := S2048x48) (t := S2048x128) _ _ _ _ _ _ _ _
    (ValueIdx.ix2 (n0 := 2048) (n1 := 48) k ⟨d.val, h⟩) (fun b => ?_)).trans ?_
  · match b with
    | ⟨0, _⟩ => show k.val = 0 + k.val * (0 + 1); omega
    | ⟨1, _⟩ => show d.val = 0 + d.val * (0 + 1); omega
  · refine (extractStridedSlice_apply (s := S2048x7504) (t := S2048x48) _ _ _ _
      (ValueIdx.ix2 (n0 := 2048) (n1 := 7504) k ⟨2560 + d.val, by omega⟩)
      (fun b => by match b with
        | ⟨0, _⟩ => exact (Nat.zero_add _).symm
        | ⟨1, _⟩ => rfl)).trans ?_
    exact wn_eq w _ k _ rfl rfl

theorem wg_out (d : Fin 128) (h : ¬d.val < 48) : wg w (ValueIdx.ix2 (n0 := 2048) (n1 := 128) k d) = 0 := by
  refine (pad_apply_of_not_inside (s := S2048x48) (t := S2048x128) _ _ _ _ _ _ _ _ (1 : Fin 2) fun h' => ?_).trans (pad_zero _)
  have h'' : (d.val - 0) / (0 + 1) < 48 := h'.2.2
  omega

theorem wk_row (d : Fin 128) : wk w (ValueIdx.ix2 (n0 := 2048) (n1 := 128) k d)
    = pad S2048x1x128 ![0, 0, 64] ![0, 0, 32] ![0, 0, 0]
        (shapeCast S2048x1x32 (extractStridedSlice S2048x32 ![0, 3376] (w : S2048x7504.Idx → EReal) slices_S2048x7504_S2048x32_0_3376) shapeCasts_S2048x32_S2048x1x32 : Vec Ideal S2048x1x32 .bf16)
        (sitofp (F := Ideal) .bf16 (constantI S_ 32 0#32)) pads_S2048x1x32_S2048x1x128_000_000_64320 h_S_
        (ValueIdx.ix3 (n0 := 2048) (n1 := 1) (n2 := 128) k 0 d) := by
  refine shapeCast_apply (s := S2048x1x128) (t := S2048x128) _ _ _ _ ?_
  rw [Shape.rowMajor_val_three, Shape.rowMajor_val_two]
  show (k.val * 1 + 0) * 128 + d.val = k.val * 128 + d.val
  omega

theorem wk_in (d : Fin 128) (h : 64 ≤ d.val ∧ d.val < 96) : wk w (ValueIdx.ix2 (n0 := 2048) (n1 := 128) k d) = wn w k (3312 + d.val) := by
  refine (wk_row w k d).trans ?_
  refine (pad_apply_of_inside (s := S2048x1x32) (t := S2048x1x128) _ _ _ _ _ _ _ _
    (ValueIdx.ix3 (n0 := 2048) (n1 := 1) (n2 := 32) k 0 ⟨d.val - 64, by omega⟩) (fun b => ?_)).trans ?_
  · match b with
    | ⟨0, _⟩ => show k.val = 0 + k.val * (0 + 1); omega
    | ⟨1, _⟩ => rfl
    | ⟨2, _⟩ => show d.val = 64 + (d.val - 64) * (0 + 1); omega
  · refine (shapeCast_apply (s := S2048x32) (t := S2048x1x32) _ _ _ (ValueIdx.ix2 (n0 := 2048) (n1 := 32) k ⟨d.val - 64, by omega⟩) ?_).trans ?_
    · rw [Shape.rowMajor_val_three, Shape.rowMajor_val_two]
      show k.val * 32 + (d.val - 64) = (k.val * 1 + 0) * 32 + (d.val - 64)
      omega
    refine (extractStridedSlice_apply (s := S2048x7504) (t := S2048x32) _ _ _ _
      (ValueIdx.ix2 (n0 := 2048) (n1 := 7504) k ⟨3312 + d.val, by omega⟩)
      (fun b => by match b with
        | ⟨0, _⟩ => exact (Nat.zero_add _).symm
        | ⟨1, _⟩ => show 3312 + d.val = 3376 + (d.val - 64); omega)).trans ?_
    exact wn_eq w _ k _ rfl rfl

theorem wk_out (d : Fin 128) (h : ¬(64 ≤ d.val ∧ d.val < 96)) : wk w (ValueIdx.ix2 (n0 := 2048) (n1 := 128) k d) = 0 := by
  refine (wk_row w k d).trans ?_
  refine (pad_apply_of_not_inside (s := S2048x1x32) (t := S2048x1x128) _ _ _ _ _ _ _ _ (2 : Fin 3) fun h' => ?_).trans (pad_zero _)
  have h1 : 64 ≤ d.val := h'.1
  have h2 : (d.val - 64) / (0 + 1) < 32 := h'.2.2
  omega

theorem ws_fst (l : Fin 256) (h : l.val < 128) : ws w (ValueIdx.ix2 (n0 := 2048) (n1 := 256) k l)
    = wg w (ValueIdx.ix2 (n0 := 2048) (n1 := 128) k ⟨l.val, h⟩) :=
  concatenate_apply_piece (t := S2048x256) 1 _ _ _ 0 (by show 0 < 2; decide) S2048x128 _ rfl rfl 0 rfl _
    (fun b hb => by match b with | ⟨0, _⟩ => rfl | ⟨1, _⟩ => exact absurd rfl hb) (Nat.zero_add _)

theorem ws_snd (l : Fin 256) (h : ¬l.val < 128) : ws w (ValueIdx.ix2 (n0 := 2048) (n1 := 256) k l)
    = wk w (ValueIdx.ix2 (n0 := 2048) (n1 := 128) k ⟨l.val - 128, by omega⟩) :=
  concatenate_apply_piece (t := S2048x256) 1 _ _ _ 1 (by show 1 < 2; decide) S2048x128 _ rfl rfl 128 rfl _
    (fun b hb => by match b with | ⟨0, _⟩ => rfl | ⟨1, _⟩ => exact absurd rfl hb) (by show 128 + (l.val - 128) = l.val; omega)

end Weights

/-- A token's projections as the call lays them out. -/
def pt (x : SX.Idx → EReal) (w : SW.Idx → EReal) (r l : ℕ) : EReal :=
  if l < 48 then tok x w r (2560 + l) else if 192 ≤ l ∧ l < 224 then tok x w r (3184 + l) else 0

theorem pn_at (x : Vec Ideal S4x4096x2048 .f32) (w : Vec Ideal S2048x7504 .f32) (r : Fin 16384) (l : ℕ) (hl : l < 256) :
    pn (xs x) (ws w) r l = pt x w r.val l := by
  refine (dif_pos hl).trans ?_
  unfold pt
  by_cases h : l < 48
  · rw [if_pos h]
    exact prod_tok x _ w _ r _ _ fun k => (ws_fst w k ⟨l, hl⟩ (by show l < 128; omega)).trans (wg_in w k ⟨l, by omega⟩ h)
  rw [if_neg h]
  by_cases h' : 192 ≤ l ∧ l < 224
  · rw [if_pos h']
    refine prod_tok x _ w _ r _ _ fun k => (ws_snd w k ⟨l, hl⟩ (by show ¬l < 128; omega)).trans
      ((wk_in w k ⟨l - 128, by omega⟩ (by show 64 ≤ l - 128 ∧ l - 128 < 96; omega)).trans ?_)
    exact congrArg (wn w k) (by show 3312 + (l - 128) = 3184 + l; omega)
  rw [if_neg h']
  refine prod_zero _ _ r _ fun k => ?_
  by_cases h1 : l < 128
  · exact (ws_fst w k ⟨l, hl⟩ h1).trans (wg_out w k ⟨l, h1⟩ h)
  · exact (ws_snd w k ⟨l, hl⟩ h1).trans (wk_out w k ⟨l - 128, by omega⟩ (by show ¬(64 ≤ l - 128 ∧ l - 128 < 96); omega))

/-! ## The kernel -/

/-- A block of the product, read at an index. -/
theorem tile_at (x : Vec Ideal S1024x2048 .bf16) (w : Vec Ideal S2048x256 .bf16) (r : Fin 1024) (e : Fin 256) :
    k0_pay1 x w (ValueIdx.ix2 r e) = ∑ k : Fin 2048, x (ValueIdx.ix2 r k) * w (ValueIdx.ix2 k e) := by
  refine (Ideal.matmul_plain_apply (M := 1024) (K := 2048) (N := 256) none _ _ _ r e).trans ?_
  show Ideal.ofBits .f32 0x00000000#32 + _ = _
  rw [Ideal.ofBits_zero_f32, zero_add]
  refine Finset.sum_congr rfl fun k _ => ?_
  rw [shapeCast_self, shapeCast_self]

theorem ld_cos (t : Vec Ideal S1024x512 .f32) (r : Fin 1024) (l : Fin 128) : View.ld t r0_3 (ValueIdx.ix2 (n0 := 1024) (n1 := 128) r l)
    = t (ValueIdx.ix2 (n0 := 1024) (n1 := 512) r ⟨256 + l.val, by omega⟩) := by
  refine congrArg t (funext fun b => ?_)
  match b with
  | ⟨0, _⟩ => refine Fin.ext ?_; show 0 + 1 * r.val = r.val; omega
  | ⟨1, _⟩ => refine Fin.ext ?_; show 256 + 1 * l.val = 256 + l.val; omega

theorem ld_sin (t : Vec Ideal S1024x512 .f32) (r : Fin 1024) (l : Fin 128) : View.ld t r0_4 (ValueIdx.ix2 (n0 := 1024) (n1 := 128) r l)
    = t (ValueIdx.ix2 (n0 := 1024) (n1 := 512) r ⟨384 + l.val, by omega⟩) := by
  refine congrArg t (funext fun b => ?_)
  match b with
  | ⟨0, _⟩ => refine Fin.ext ?_; show 0 + 1 * r.val = r.val; omega
  | ⟨1, _⟩ => refine Fin.ext ?_; show 384 + 1 * l.val = 384 + l.val; omega

theorem ld_x (x : Vec Ideal S1024x2048 .bf16) : View.ld x r0_0 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

theorem ld_w (x : Vec Ideal S2048x256 .bf16) : View.ld x r0_1 = x := by
  funext i
  refine congrArg x (funext fun b => ?_)
  match b with
  | ⟨0, _⟩ => refine Fin.ext ?_; show 0 + 1 * (i 0).val = (i 0).val; omega
  | ⟨1, _⟩ => refine Fin.ext ?_; show 0 + 1 * (i 1).val = (i 1).val; omega

/-- A row of a block, counted by naturals. -/
def nat (N : ℕ) (T : (⟨2, ![1024, N]⟩ : Shape).Idx → EReal) (r : Fin 1024) (l : ℕ) : EReal :=
  if h : l < N then T (ValueIdx.ix2 (n0 := 1024) (n1 := N) r ⟨l, h⟩) else 0

theorem nat_eq (N : ℕ) (T : (⟨2, ![1024, N]⟩ : Shape).Idx → EReal) (r : Fin 1024) (l : ℕ) (h : l < N) :
    nat N T r l = T (ValueIdx.ix2 (n0 := 1024) (n1 := N) r ⟨l, h⟩) := dif_pos h

/-- The row of the block that the call forms. -/
def rowb (T : Vec Ideal S1024x256 .f32) (t : Vec Ideal S1024x512 .f32) (r : Fin 1024) (l : ℕ) : EReal :=
  row (nat 256 T r) (fun d => nat 512 t r (256 + d)) (fun d => nat 512 t r (384 + d)) l

/-- The block's first half, read at an index. -/
theorem gate_at (x : Vec Ideal S1024x2048 .bf16) (w : Vec Ideal S2048x256 .bf16) (t : Vec Ideal S1024x512 .f32) (r : Fin 1024) (l : Fin 128) :
    k0_pay2 x w (ValueIdx.ix2 (n0 := 1024) (n1 := 128) r l) = rowb (k0_pay1 x w) t r l.val := by
  unfold rowb row k0_pay2
  rw [if_pos l.isLt]
  refine congrArg Ideal.logistic ((extractStridedSlice_apply (s := S1024x256) (t := S1024x128) _ _ _ _
    (ValueIdx.ix2 (n0 := 1024) (n1 := 256) r ⟨l.val, by omega⟩) fun b => ?_).trans
    (nat_eq 256 _ r l.val (by omega)).symm)
  match b with
  | ⟨0, _⟩ => exact (Nat.zero_add _).symm
  | ⟨1, _⟩ => exact (Nat.zero_add _).symm

theorem half_at (T : Vec Ideal S1024x256 .f32) (r : Fin 1024) (l : ℕ) (hl : l < 128) :
    extractStridedSlice S1024x128 ![0, 128] T slices_S1024x256_o0_128_S1024x128 (ValueIdx.ix2 (n0 := 1024) (n1 := 128) r ⟨l, hl⟩)
      = nat 256 T r (128 + l) := by
  refine (extractStridedSlice_apply (s := S1024x256) (t := S1024x128) _ _ _ _
    (ValueIdx.ix2 (n0 := 1024) (n1 := 256) r ⟨128 + l, by omega⟩) fun b => ?_).trans
    (nat_eq 256 T r (128 + l) (by omega)).symm
  match b with
  | ⟨0, _⟩ => exact (Nat.zero_add _).symm
  | ⟨1, _⟩ => rfl

/-- The block's second half, read at an index. -/
theorem key_at (x : Vec Ideal S1024x2048 .bf16) (w : Vec Ideal S2048x256 .bf16) (t : Vec Ideal S1024x512 .f32) (r : Fin 1024) (l : Fin 128) :
    k0_pay3 x w (View.ld t r0_3) (View.ld t r0_4) (ValueIdx.ix2 (n0 := 1024) (n1 := 128) r l) = rowb (k0_pay1 x w) t r (128 + l.val) := by
  have hl := l.isLt
  unfold rowb row
  rw [if_neg (by omega), show 128 + l.val - 128 = l.val by omega]
  have e1 : shapeCast S1024x128 (View.ld t r0_3) shapeCasts_S1024x128_S1024x128 = View.ld t r0_3 := shapeCast_self _ _
  have e2 : shapeCast S1024x128 (View.ld t r0_4) shapeCasts_S1024x128_S1024x128 = View.ld t r0_4 := shapeCast_self _ _
  unfold k0_pay3
  generalize k0_pay1 x w = T
  show Cert.LatentQueries.rot (extractStridedSlice S1024x128 ![0, 128] T slices_S1024x256_o0_128_S1024x128)
    (shapeCast S1024x128 (View.ld t r0_3) shapeCasts_S1024x128_S1024x128) (shapeCast S1024x128 (View.ld t r0_4) shapeCasts_S1024x128_S1024x128)
    iota_S1x128_d1_w32 rotates_S1024x128_d1 shapeCasts_S1x128_S1x128 broadcasts_S1x128_S1024x128 (ValueIdx.ix2 (n0 := 1024) (n1 := 128) r l) = _
  rw [e1, e2]
  refine (Cert.LatentQueries.rot_at _ _ _ _ _ _ _ r l).trans ?_
  refine congrArg₂ (· + ·) (congrArg₂ (· * ·) (half_at _ r l.val hl) ?_) (congrArg₂ (· * ·) (half_at _ r _ (par_lt l)) ?_)
  · exact (ld_cos t r l).trans (nat_eq 512 t r (256 + l.val) (by omega)).symm
  · exact (ld_sin t r l).trans (nat_eq 512 t r (384 + l.val) (by omega)).symm

/-- A half of a block stored: off it the earlier stores, on it the half. -/
theorem canon_half (G : Fin 1024 → ℕ → EReal) (y : S1024x256.Idx) (o : ℕ) (inb) (w : S1024x128.Idx → Elt Ideal .bf16)
    (L : List (View.Piece (Elt Ideal) S1024x256 .bf16))
    (hw : ∀ (r : Fin 1024) (l : Fin 128), w (ValueIdx.ix2 (n0 := 1024) (n1 := 128) r l) = G r (o + l.val))
    (hQ : ¬(o ≤ (y 1).val ∧ (y 1).val < o + 128) → View.canon L y = G (y 0) (y 1).val) :
    View.canon ((⟨Rect.unit (s := S1024x256) ![0, o] S1024x128.size inb, w⟩ : View.Piece (Elt Ideal) S1024x256 .bf16) :: L) y = G (y 0) (y 1).val := by
  by_cases hy : o ≤ (y 1).val ∧ (y 1).val < o + 128
  · have e : (Rect.unit (s := S1024x256) ![0, o] S1024x128.size inb).emb (ValueIdx.ix2 (n0 := 1024) (n1 := 128) (y 0) ⟨(y 1).val - o, by omega⟩) = y := by
      funext b
      match b with
      | ⟨0, _⟩ => refine Fin.ext ?_; show 0 + 1 * (y 0).val = (y 0).val; omega
      | ⟨1, _⟩ => refine Fin.ext ?_; show o + 1 * ((y 1).val - o) = (y 1).val; omega
    refine (congrArg (View.canon _) e.symm).trans ((View.canon_cons_emb _ _ _ _).trans ?_)
    refine (hw (y 0) ⟨(y 1).val - o, by omega⟩).trans (congrArg (G (y 0)) ?_)
    show o + ((y 1).val - o) = (y 1).val
    omega
  · rw [View.canon_cons_of_not_mem]
    · exact hQ hy
    · intro hm
      exact hy ((Rect.mem_set_unit (inb := inb)).mp hm 1)

/-- A block of the result. -/
theorem block_at (x : Vec Ideal S1024x2048 .bf16) (w : Vec Ideal S2048x256 .bf16) (t : Vec Ideal S1024x512 .f32) (y : S1024x256.Idx) :
    out0_3 x w t y = rowb (k0_pay1 x w) t (y 0) (y 1).val := by
  have h1 : (y 1).val < 256 := (y 1).isLt
  unfold out0_3
  rw [ld_x, ld_w]
  exact canon_half (rowb (k0_pay1 x w) t) y 128 _ _ _ (fun r l => key_at x w t r l) fun n1 =>
    canon_half (rowb (k0_pay1 x w) t) y 0 _ _ _ (fun r l => (gate_at x w t r l).trans (congrArg (rowb (k0_pay1 x w) t r) (Nat.zero_add _).symm))
      fun n0 => absurd h1 (by omega)

theorem idxs : ∀ t : Fin cfg0.N, win0_0.index t = ![t.val, 0] ∧ win0_1.index t = ![0, 0] ∧ win0_2.index t = ![t.val, 0]
    ∧ win0_3.index t = ![t.val, 0] := by
  decide +kernel

/-- The product's row at a point of the grid. -/
theorem tile_blk (t : Fin cfg0.N) (r : Fin 1024) (R : Fin 16384) (hR : R.val = t.val * 1024 + r.val) (l : ℕ) (hl : l < 256) :
    nat 256 (k0_pay1 (iblk m c 0 t) (iblk m c 1 t)) r l = pn (V m c main_v20) (V m c main_v18) R l := by
  obtain ⟨e0, e1, e2, e3⟩ := idxs t
  have e4 : pn (V m c main_v20) (V m c main_v18) R l = prod (N := 256) (V m c main_v20) (V m c main_v18) R ⟨l, hl⟩ := dif_pos hl
  rw [e4]
  refine (nat_eq 256 _ r l hl).trans ((tile_at (iblk m c 0 t) (iblk m c 1 t) r ⟨l, hl⟩).trans (Finset.sum_congr rfl fun k _ => congrArg₂ (· * ·) ?_ ?_))
  · blk_ext [iblk, e0]
    exact hR.symm
  · blk_ext [iblk, e1]

/-- The table's row at a point of the grid. -/
theorem tab_blk (t : Fin cfg0.N) (r : Fin 1024) (R : Fin 16384) (hR : R.val = t.val * 1024 + r.val) (l : ℕ) (hl : l < 512) :
    nat 512 (iblk m c 2 t) r l = tn (V m c main_v10) R l := by
  obtain ⟨e0, e1, e2, e3⟩ := idxs t
  refine (nat_eq 512 _ r l hl).trans ?_
  blk_ext [iblk, e2]
  exact hR.symm

/-- The array that the kernel leaves. -/
theorem out_at : (dats m 0 c).arrAt 3 cfg0.N
    = fun i : S16384x256.Idx => row (pn (V m c main_v20) (V m c main_v18) (i 0)) (fun d => tn (V m c main_v10) (i 0) (256 + d))
        (fun d => tn (V m c main_v10) (i 0) (384 + d)) (i 1).val := by
  refine (dats m 0 c).arrAt_eq_of_covers 3 _ (by decide +kernel) fun t hf y => ?_
  blk_simp
  rw [after0_3]
  obtain ⟨e0, e1, e2, e3⟩ := idxs t
  have h1 : (y 1).val < 256 := (y 1).isLt
  refine (block_at _ _ _ y).trans ?_
  have eR : ((win0_3.blk t).view.emb y 0).val = t.val * 1024 + (y 0).val := by
    show win0_3.index t 0 * 1024 + 1 * (y 0).val = _
    rw [e3, one_mul]
    rfl
  have eL : win0_3.index t 1 * 256 + (y 1).val = (y 1).val := by
    rw [e3]
    show 0 * 256 + (y 1).val = (y 1).val
    omega
  generalize hR : (win0_3.blk t).view.emb y 0 = R at eR ⊢
  rw [eL]
  exact row_congr (tile_blk m c t (y 0) R eR) (fun d hd => tab_blk m c t (y 0) R eR _ (by omega)) (fun d hd => tab_blk m c t (y 0) R eR _ (by omega)) _ h1

/-! ## The reference -/

section Reference

open Cert.Reference15Ideal.Read

variable (x : Vec Ideal S4x4096x2048 .f32) (w : Vec Ideal S2048x7504 .f32) (a s : Vec Ideal S4x4096x16 .f32) (r : Fin 16384)

/-- The index of column `d` of token `r`, of a part of `n` columns. -/
abbrev it (n : ℕ) (r : Fin 16384) (d : Fin n) : (⟨3, ![4, 4096, n]⟩ : Shape).Idx :=
  ValueIdx.ix3 (n0 := 4) (n1 := 4096) (n2 := n) ⟨r.val / 4096, by omega⟩ ⟨r.val % 4096, by omega⟩ d

theorem proj_at (j : Cert.Reference15Ideal.S4x4096x7504.Idx) (h : (j 0).val * 4096 + (j 1).val = r.val) :
    val_main_v0 (F := Ideal) x w j = tok x w r.val (j 2).val := by
  refine (val_main_v0_apply x w j).trans (Finset.sum_congr rfl fun k _ => ?_)
  exact congrArg₂ (· * ·) (xn_eq x _ _ k h.symm rfl) (wn_eq w _ k _ rfl rfl)

theorem tok_row : r.val / 4096 * 4096 + r.val % 4096 = r.val := by omega

theorem ref_gate (d : Fin 48) : val_main_v7 (F := Ideal) x w (it 48 r d) = Ideal.logistic (tok x w r.val (2560 + d.val)) := by
  have e : val_main_v1 (F := Ideal) x w (it 48 r d) = tok x w r.val (2560 + d.val) := by
    rw [val_main_v1_apply]
    exact proj_at x w r _ (tok_row r)
  rw [← e]
  show Ideal.div (Ideal.ofBits .f32 0x3F800000#32) (Ideal.ofBits .f32 0x3F800000#32 + Ideal.exp (-_)) = Ideal.div 1 (1 + Ideal.exp (-_))
  rw [Ideal.ofBits_one_f32]

theorem ref_x1 (d : Fin 16) : val_main_v8 (F := Ideal) x w (it 16 r d) = tok x w r.val (3376 + d.val) := by
  rw [val_main_v8_apply]
  exact proj_at x w r _ (tok_row r)

theorem ref_x2 (d : Fin 16) : val_main_v9 (F := Ideal) x w (it 16 r d) = tok x w r.val (3392 + d.val) := by
  rw [val_main_v9_apply]
  exact proj_at x w r _ (tok_row r)

theorem ref_an (d : Fin 16) : a (it 16 r d) = Cert.LatentQueries.an a r d.val := ang_at a _ r d rfl rfl rfl

theorem half_zero : Ideal.logistic 0 = Ideal.ofBits .f32 0x3F000000#32 := by
  have e : Ideal.ofBits .f32 0x3F000000#32 = ((1 / 2 : ℝ) : EReal) := by
    simp [Ideal.ofBits, Ideal.ieee]
    rw [← EReal.coe_mul]; norm_num
  rw [e, ← EReal.coe_zero, Ideal.logistic_coe]
  norm_num

theorem ref_row (l : Fin 256) : val_main_v20 (F := Ideal) x w a s (it 256 r l) = row (pt x w r.val) (cosl a r) (sinl s r) l.val := by
  have hl := l.isLt
  unfold row val_main_v20
  by_cases h1 : l.val < 48
  · rw [if_pos (by omega)]
    unfold pt
    rw [if_pos h1]
    exact (concatenate_apply_piece (t := Cert.Reference15Ideal.S4x4096x256) 2 _ _ _ 0 (by show 0 < 6; decide) Cert.Reference15Ideal.S4x4096x48 _ rfl rfl 0 rfl
      (it 48 r ⟨l.val, h1⟩)
      (fun b hb => by match b with | ⟨0, _⟩ => rfl | ⟨1, _⟩ => rfl | ⟨2, _⟩ => exact absurd rfl hb) (Nat.zero_add _)).trans (ref_gate x w r ⟨l.val, h1⟩)
  by_cases h2 : l.val < 128
  · rw [if_pos h2]
    unfold pt
    rw [if_neg h1, if_neg (by omega), half_zero]
    exact (concatenate_apply_piece (t := Cert.Reference15Ideal.S4x4096x256) 2 _ _ _ 1 (by show 1 < 6; decide) Cert.Reference15Ideal.S4x4096x80 _ rfl rfl 48 rfl
      (it 80 r ⟨l.val - 48, by omega⟩)
      (fun b hb => by match b with | ⟨0, _⟩ => rfl | ⟨1, _⟩ => rfl | ⟨2, _⟩ => exact absurd rfl hb) (by show 48 + (l.val - 48) = l.val; omega)).trans rfl
  rw [if_neg h2]
  unfold cosl sinl lane4
  by_cases h3 : l.val < 192
  · rw [if_pos (by omega), if_pos (by omega), mul_one, mul_zero, add_zero]
    unfold pt
    rw [if_neg h1, if_neg (by omega)]
    exact (concatenate_apply_piece (t := Cert.Reference15Ideal.S4x4096x256) 2 _ _ _ 2 (by show 2 < 6; decide) Cert.Reference15Ideal.S4x4096x64 _ rfl rfl 128 rfl
      (it 64 r ⟨l.val - 128, by omega⟩)
      (fun b hb => by match b with | ⟨0, _⟩ => rfl | ⟨1, _⟩ => rfl | ⟨2, _⟩ => exact absurd rfl hb) (by show 128 + (l.val - 128) = l.val; omega)).trans
      Ideal.ofBits_zero_f32
  rw [if_neg (show ¬l.val - 128 < 64 by omega), if_neg (show ¬l.val - 128 < 64 by omega)]
  by_cases h4 : l.val < 208
  · rw [if_pos (show l.val - 128 < 80 by omega), if_pos (show l.val - 128 < 80 by omega)]
    refine (concatenate_apply_piece (t := Cert.Reference15Ideal.S4x4096x256) 2 _ _ _ 3 (by show 3 < 6; decide) Cert.Reference15Ideal.S4x4096x16 _ rfl rfl 192 rfl
      (it 16 r ⟨l.val - 192, by omega⟩)
      (fun b hb => by match b with | ⟨0, _⟩ => rfl | ⟨1, _⟩ => rfl | ⟨2, _⟩ => exact absurd rfl hb) (by show 192 + (l.val - 192) = l.val; omega)).trans ?_
    rw [val_main_v14_apply, val_main_v12_apply, val_main_v13_apply, ref_x1, ref_x2, ref_an a r, ref_an s r]
    unfold pt par
    rw [if_neg h1, if_pos (by omega), if_pos (show l.val - 128 < 80 by omega), if_neg (by omega), if_pos (by omega), mul_neg, ← sub_eq_add_neg]
    show tok x w r.val (3376 + (l.val - 192)) * Cert.LatentQueries.an a r (l.val - 192)
      - tok x w r.val (3392 + (l.val - 192)) * Cert.LatentQueries.an s r (l.val - 192) = _
    rw [show 3376 + (l.val - 192) = 3184 + l.val by omega, show 3392 + (l.val - 192) = 3184 + (128 + (l.val - 128 + 16) % 128) by omega,
      show l.val - 128 - 64 = l.val - 192 by omega]
  rw [if_neg (show ¬l.val - 128 < 80 by omega), if_neg (show ¬l.val - 128 < 80 by omega)]
  by_cases h5 : l.val < 224
  · rw [if_pos (show l.val - 128 < 96 by omega), if_pos (show l.val - 128 < 96 by omega)]
    refine (concatenate_apply_piece (t := Cert.Reference15Ideal.S4x4096x256) 2 _ _ _ 4 (by show 4 < 6; decide) Cert.Reference15Ideal.S4x4096x16 _ rfl rfl 208 rfl
      (it 16 r ⟨l.val - 208, by omega⟩)
      (fun b hb => by match b with | ⟨0, _⟩ => rfl | ⟨1, _⟩ => rfl | ⟨2, _⟩ => exact absurd rfl hb) (by show 208 + (l.val - 208) = l.val; omega)).trans ?_
    rw [val_main_v17_apply, val_main_v15_apply, val_main_v16_apply, ref_x1, ref_x2, ref_an a r, ref_an s r]
    unfold pt par
    rw [if_neg h1, if_pos (by omega), if_neg (show ¬l.val - 128 < 80 by omega), if_neg (by omega), if_pos (by omega)]
    show tok x w r.val (3392 + (l.val - 208)) * Cert.LatentQueries.an a r (l.val - 208)
      + tok x w r.val (3376 + (l.val - 208)) * Cert.LatentQueries.an s r (l.val - 208) = _
    rw [show 3392 + (l.val - 208) = 3184 + l.val by omega, show 3376 + (l.val - 208) = 3184 + (128 + (l.val - 128 - 16)) by omega,
      show l.val - 128 - 80 = l.val - 208 by omega]
  rw [if_neg (show ¬l.val - 128 < 96 by omega), if_neg (show ¬l.val - 128 < 96 by omega), mul_one, mul_zero, add_zero]
  unfold pt
  rw [if_neg h1, if_neg (by omega)]
  exact (concatenate_apply_piece (t := Cert.Reference15Ideal.S4x4096x256) 2 _ _ _ 5 (by show 5 < 6; decide) Cert.Reference15Ideal.S4x4096x32 _ rfl rfl 224 rfl
    (it 32 r ⟨l.val - 224, by omega⟩)
    (fun b hb => by match b with | ⟨0, _⟩ => rfl | ⟨1, _⟩ => rfl | ⟨2, _⟩ => exact absurd rfl hb) (by show 224 + (l.val - 224) = l.val; omega)).trans
    Ideal.ofBits_zero_f32

/-- The array that the reference leaves is the product with the call's weights, its halves under the sigmoid and turned. -/
theorem ref_at : val_main_v22 (F := Ideal) x w a s = fun i : S16384x256.Idx => row (pn (xs x) (ws w) (i 0)) (fun d => tn (tb a s) (i 0) (256 + d))
    (fun d => tn (tb a s) (i 0) (384 + d)) (i 1).val := by
  funext i
  obtain ⟨r, l, rfl⟩ : ∃ (r : Fin 16384) (l : Fin 256), i = ValueIdx.ix2 (n0 := 16384) (n1 := 256) r l :=
    ⟨i 0, i 1, funext fun b => by match b with | ⟨0, _⟩ => rfl | ⟨1, _⟩ => rfl⟩
  rw [val_main_v22_apply]
  show val_main_v21 (F := Ideal) x w a s (ValueIdx.ix2 (n0 := 16384) (n1 := 256) r l)
    = row (pn (xs x) (ws w) r) (fun d => tn (tb a s) r (256 + d)) (fun d => tn (tb a s) r (384 + d)) l.val
  have hr := r.isLt
  have hl := l.isLt
  rw [val_main_v21_apply]
  refine (congrArg (val_main_v20 (F := Ideal) x w a s) (funext fun b => ?_)).trans ((ref_row x w a s r l).trans ?_)
  · match b with
    | ⟨0, _⟩ =>
      refine Fin.ext ?_
      show (r.val * 256 + l.val) / 1048576 = r.val / 4096
      omega
    | ⟨1, _⟩ =>
      refine Fin.ext ?_
      show (r.val * 256 + l.val) / 256 % 4096 = r.val % 4096
      omega
    | ⟨2, _⟩ =>
      refine Fin.ext ?_
      show (r.val * 256 + l.val) % 256 = l.val
      omega
  · refine (row_congr (fun e he => pn_at x w r e he) (fun d hd => ?_) (fun d hd => ?_) l.val hl).symm
    · exact (congrArg (fun e => tb a s (ValueIdx.ix2 (n0 := 16384) (n1 := 512) r e)) (Fin.ext (by show (256 + d) % 512 = 256 + d; omega))).trans
        (tb_cos a s r ⟨d, hd⟩)
    · exact (congrArg (fun e => tb a s (ValueIdx.ix2 (n0 := 16384) (n1 := 512) r e)) (Fin.ext (by show (384 + d) % 512 = 384 + d; omega))).trans
        (tb_sin a s r ⟨d, hd⟩)

end Reference

theorem kernel_out : (dats m 0 c).arrAt 3 cfg0.N
    = fun i : S16384x256.Idx => row (pn (xs (m ((c : Thread nD τ).loc main_arg0))) (ws (m ((c : Thread nD τ).loc main_arg1))) (i 0))
        (fun d => tn (tb (m ((c : Thread nD τ).loc main_arg2)) (m ((c : Thread nD τ).loc main_arg3))) (i 0) (256 + d))
        (fun d => tn (tb (m ((c : Thread nD τ).loc main_arg2)) (m ((c : Thread nD τ).loc main_arg3))) (i 0) (384 + d)) (i 1).val := by
  rw [out_at, V_x, V_w, V_t]

end Cert.GateKey

end
-- ==== Proof.Lin.Modulation.lean ====
/-
  The vectors of the modulation: the array that the tiled product of the activated condition leaves, the bias added, is the one
  that the reference states.
-/
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Lin.Rope

@[expose] public section

set_option maxRecDepth 16384

noncomputable section

namespace Cert.Modulation

open Cert.Kernel16Ideal Cert.Kernel16Ideal.Gen Idealize.ShloMosaic Idealize.ShloMosaic.TcCoe Idealize.SL.Sem
open scoped BigOperators

variable (m : (ℓ : Loc nD τ sig) → Buf (Elt Ideal) ℓ) (c : Dev nD)

/-- The condition, before rows of zeros. -/
def cond (x : Vec Ideal S4x2048 .f32) : Vec Ideal S8x2048 .f32 :=
  pad S8x2048 ![0, 0] ![4, 0] ![0, 0] x (sitofp (F := Ideal) .f32 (constantI S_ 32 0#32)) pads_S4x2048_S8x2048_040_000 h_S_

/-- The bias, one row. -/
def bias (b : Vec Ideal S12288 .f32) : Vec Ideal S1x12288 .f32 := shapeCast S1x12288 b shapeCasts_S12288_S1x12288

theorem V_c : V m c main_v0 = cond (m ((c : Thread nD τ).loc main_arg0)) := by
  unfold_abbrev_sides
  simp only [hostOps0, hostOps0_1, hostOps0_2, List.flatten_cons, List.flatten_nil, List.append_nil, List.cons_append, List.nil_append]
  after_results
  rfl

theorem V_b : V m c main_v1 = bias (m ((c : Thread nD τ).loc main_arg2)) := by
  unfold_abbrev_sides
  simp only [hostOps0, hostOps0_1, hostOps0_2, List.flatten_cons, List.flatten_nil, List.append_nil, List.cons_append, List.nil_append]
  after_results
  rfl

theorem cond_in (x : Vec Ideal S4x2048 .f32) (r : Fin 8) (h : r.val < 4) (k : Fin 2048) :
    cond x (ValueIdx.ix2 (n0 := 8) (n1 := 2048) r k) = x (ValueIdx.ix2 (n0 := 4) (n1 := 2048) ⟨r.val, h⟩ k) := by
  refine pad_apply_of_inside (s := S4x2048) (t := S8x2048) _ _ _ _ _ _ _ _ (ValueIdx.ix2 (n0 := 4) (n1 := 2048) ⟨r.val, h⟩ k) fun b => ?_
  match b with
  | ⟨0, _⟩ => show r.val = 0 + r.val * (0 + 1); omega
  | ⟨1, _⟩ => show k.val = 0 + k.val * (0 + 1); omega

theorem cond_out (x : Vec Ideal S4x2048 .f32) (r : Fin 8) (h : ¬r.val < 4) (k : Fin 2048) :
    cond x (ValueIdx.ix2 (n0 := 8) (n1 := 2048) r k) = 0 := by
  refine (pad_apply_of_not_inside (s := S4x2048) (t := S8x2048) _ _ _ _ _ _ _ _ (0 : Fin 2) fun h' => ?_).trans ?_
  · have h'' : (r.val - 0) / (0 + 1) < 4 := h'.2.2
    omega
  · show (((0#32 : BitVec 32).toInt : ℝ) : EReal) = 0
    norm_num

theorem bias_at (b : Vec Ideal S12288 .f32) (e : Fin 12288) :
    bias b (ValueIdx.ix2 (n0 := 1) (n1 := 12288) 0 e) = b (ValueIdx.ix1 e) := by
  refine shapeCast_apply (s := S12288) (t := S1x12288) _ _ _ _ ?_
  refine (Shape.rowMajor_val_one _).trans ((Shape.rowMajor_val_two _).trans ?_).symm
  show 0 * 12288 + e.val = e.val
  omega

/-- A number times its logistic function. -/
def silu (u : EReal) : EReal := u * Ideal.logistic u

theorem silu_zero : silu 0 = 0 := zero_mul _

/-- The product of the activated condition, with the bias. -/
def mods (x : Vec Ideal S8x2048 .f32) (w : Vec Ideal S2048x12288 .f32) (b : Vec Ideal S1x12288 .f32) (i : S8x12288.Idx) : EReal :=
  (∑ k : Fin 2048, silu (x (ValueIdx.ix2 (n0 := 8) (n1 := 2048) (i 0) k)) * w (ValueIdx.ix2 (n0 := 2048) (n1 := 12288) k (i 1)))
    + b (ValueIdx.ix2 (n0 := 1) (n1 := 12288) 0 (i 1))

/-- A block of the result, read at an index. -/
theorem tile_at (x : Vec Ideal S8x2048 .f32) (w : Vec Ideal S2048x1024 .f32) (b : Vec Ideal S1x1024 .f32) (r : Fin 8) (e : Fin 1024) :
    k0_pay1 x w b (ValueIdx.ix2 r e) = (∑ k : Fin 2048, silu (x (ValueIdx.ix2 r k)) * w (ValueIdx.ix2 k e)) + b (ValueIdx.ix2 0 e) := by
  unfold k0_pay1
  refine congrArg₂ (· + ·) ?_ ?_
  · refine (Ideal.matmul_plain_apply (M := 8) (K := 2048) (N := 1024) none _ _ _ r e).trans ?_
    show Ideal.ofBits .f32 0x00000000#32 + _ = _
    rw [Ideal.ofBits_zero_f32, zero_add]
    refine Finset.sum_congr rfl fun k _ => ?_
    refine congrArg₂ (· * ·) ?_ rfl
    rw [shapeCast_self]
    rfl
  · refine (broadcastTo_apply (s := S1x1024) (t := S8x1024) _ _ _ (ValueIdx.ix2 (n0 := 1) (n1 := 1024) 0 e)
      (fun a => by match a with | ⟨0, _⟩ => rfl | ⟨1, _⟩ => rfl)).trans ?_
    rw [shapeCast_self]

theorem idxs : ∀ t : Fin cfg0.N, win0_0.index t = ![0, 0] ∧ win0_1.index t = ![0, t.val] ∧ win0_2.index t = ![0, t.val]
    ∧ win0_3.index t = ![0, t.val] := by
  decide +kernel

/-- The array that the kernel leaves. -/
theorem out_at : (dats m 0 c).arrAt 3 cfg0.N = mods (V m c main_v0) (V m c main_arg1) (V m c main_v1) := by
  refine (dats m 0 c).arrAt_eq_of_covers 3 _ (by decide +kernel) fun t hf y => ?_
  blk_simp
  rw [after0_3]
  frame_out
  have ey : y = ValueIdx.ix2 (n0 := 8) (n1 := 1024) (y 0) (y 1) := by
    funext b
    match b with
    | ⟨0, _⟩ => rfl
    | ⟨1, _⟩ => rfl
  obtain ⟨e0, e1, e2, e3⟩ := idxs t
  refine ((congrArg _ ey).trans (tile_at _ _ _ (y 0) (y 1))).trans ?_
  unfold mods
  refine congrArg₂ (· + ·) (Finset.sum_congr rfl fun k _ => congrArg₂ (· * ·) (congrArg silu ?_) ?_) ?_
  · blk_ext [iblk, e0]
    show (y 0).val = win0_3.index t 0 * 8 + 1 * (y 0).val
    rw [e3, one_mul]
    exact (Nat.zero_add _).symm
  · blk_ext [iblk, e1]
    show _ + (y 1).val = win0_3.index t 1 * 1024 + 1 * (y 1).val
    rw [e3, one_mul]
    rfl
  · blk_ext [iblk, e2]
    show _ + (y 1).val = win0_3.index t 1 * 1024 + 1 * (y 1).val
    rw [e3, one_mul]
    rfl

open Cert.Reference16Ideal.Read in
theorem ref_silu (x : Vec Ideal S4x2048 .f32) (j : Cert.Reference16Ideal.S4x2048.Idx) : val_main_v0 (F := Ideal) x j = silu (x j) := by
  show x j * Ideal.div (Ideal.ofBits .f32 0x3F800000#32) (Ideal.ofBits .f32 0x3F800000#32 + Ideal.exp (-x j)) = x j * Ideal.div 1 (1 + Ideal.exp (-x j))
  rw [Ideal.ofBits_one_f32]

open Cert.Reference16Ideal.Read in
/-- The array that the reference leaves is the same product, with the bias. -/
theorem ref_at (x : Vec Ideal S4x2048 .f32) (w : Vec Ideal S2048x12288 .f32) (b : Vec Ideal S12288 .f32) :
    val_main_v6 (F := Ideal) x w b = mods (cond x) w (bias b) := by
  funext i
  obtain ⟨r, e, rfl⟩ : ∃ (r : Fin 8) (e : Fin 12288), i = ValueIdx.ix2 (n0 := 8) (n1 := 12288) r e :=
    ⟨i 0, i 1, funext fun b => by match b with | ⟨0, _⟩ => rfl | ⟨1, _⟩ => rfl⟩
  have hr := r.isLt
  have eb : ∀ j : Cert.Reference16Ideal.S12288.Idx, (j 0).val = e.val → b j = bias b (ValueIdx.ix2 (n0 := 1) (n1 := 12288) 0 e) := fun j hj => by
    rw [bias_at]
    refine congrArg b (funext fun a => ?_)
    match a with
    | ⟨0, _⟩ => exact Fin.ext hj
  unfold val_main_v6
  show _ = (∑ k : Fin 2048, silu (cond x (ValueIdx.ix2 (n0 := 8) (n1 := 2048) r k)) * w (ValueIdx.ix2 (n0 := 2048) (n1 := 12288) k e))
    + bias b (ValueIdx.ix2 (n0 := 1) (n1 := 12288) 0 e)
  by_cases h : r.val < 4
  · refine (concatenate_apply_piece (t := Cert.Reference16Ideal.S8x12288) 0 _ _ _ 0 (by show 0 < 2; decide) Cert.Reference16Ideal.S4x12288 _ rfl rfl 0 rfl
      (ValueIdx.ix2 (n0 := 4) (n1 := 12288) ⟨r.val, h⟩ e)
      (fun b hb => by match b with | ⟨0, _⟩ => exact absurd rfl hb | ⟨1, _⟩ => rfl) (Nat.zero_add _)).trans ?_
    rw [val_main_v4_apply, val_main_v3_apply, val_main_v2_apply]
    refine congrArg₂ (· + ·) ((val_main_v1_apply x w _).trans (Finset.sum_congr rfl fun k _ => ?_)) (eb _ rfl)
    refine congrArg₂ (· * ·) ((ref_silu x _).trans (congrArg silu ((cond_in x r h k).trans (congrArg x (funext fun a => ?_))).symm))
      (congrArg w (funext fun a => ?_))
    · match a with
      | ⟨0, _⟩ => rfl
      | ⟨1, _⟩ => rfl
    · match a with
      | ⟨0, _⟩ => rfl
      | ⟨1, _⟩ => rfl
  · refine (concatenate_apply_piece (t := Cert.Reference16Ideal.S8x12288) 0 _ _ _ 1 (by show 1 < 2; decide) Cert.Reference16Ideal.S4x12288 _ rfl rfl 4 rfl
      (ValueIdx.ix2 (n0 := 4) (n1 := 12288) ⟨r.val - 4, by omega⟩ e)
      (fun b hb => by match b with | ⟨0, _⟩ => exact absurd rfl hb | ⟨1, _⟩ => rfl) (by show 4 + (r.val - 4) = r.val; omega)).trans ?_
    rw [val_main_v5_apply]
    refine (eb _ rfl).trans ?_
    rw [Finset.sum_eq_zero fun k _ => by rw [cond_out x r h k, silu_zero, zero_mul], zero_add]

theorem kernel_out : (dats m 0 c).arrAt 3 cfg0.N
    = mods (cond (m ((c : Thread nD τ).loc main_arg0))) (m ((c : Thread nD τ).loc main_arg1)) (bias (m ((c : Thread nD τ).loc main_arg2))) := by
  rw [out_at, V_c, V_b, V_main_arg1]

end Cert.Modulation

end
-- ==== Proof.Mla.Body.lean ====
/-
  What one grid point of the attention call leaves in its scratch and its output block, for all sixteen heads at once,
  at any arithmetic: a head's rows are `512·h …` of the scratch and its lanes `128·h …` of a window.
-/
module

public import proofs.«01_k».proof.Proof.Gen.KernelIdeal.Value
public import Idealize.ShloMosaic.Lib.Pipeline.ReadBack
public import Idealize.ShloMosaic.Lib.Pipeline.ValueKit
public import Idealize.ShloMosaic.Lib.ValueIdxCore

@[expose] public section

set_option maxRecDepth 16384

noncomputable section

namespace Cert.Mla

open Cert.KernelIdeal Cert.KernelIdeal.Gen Idealize.ShloMosaic Idealize.ShloMosaic.TcCoe Idealize.SL.Sem Idealize.ShloMosaic.Tactic

variable {F : FTy → Type} [FloatOps F] [Named F]

/-! ## One head -/

/-- The scores of one head against one key block. -/
def sFull (q k : Vec F S512x128 .bf16) : FVec F S512x512 .f32 :=
  matmul dot_S512x128_S512x128_S512x512_1_1_0_0_n_n none q (shapeCast S512x128 k shapeCasts_S512x128_S512x128)
    (constant S512x512 .f32 0x00000000#32)

/-- The same on the diagonal: a column after its row is masked. -/
def sEdge (v2 v5 : BitVec 32) (q k : Vec F S512x128 .bf16) : FVec F S512x512 .f32 :=
  select (k0_pay151 v2 v5) (sFull q k) (broadcast S512x512 (Named.named κ "mask" 0xF149F2CA#32))

/-- The new maximum, in every lane. -/
def hM (s : FVec F S512x512 .f32) (m : Vec F S512x128 .f32) : FVec F S512x128 .f32 :=
  maximumf m (broadcastTo S512x128 (shapeCast S512x1 (multiReduction .maximumf [1] S512 s 0xFF800000#32 reduces_S512x512_S512 (.inl rfl) rfl)
    shapeCasts_S512_S512x1) broadcasts_S512x1_S512x128)

/-- The powers. -/
def hP (s : FVec F S512x512 .f32) (m : Vec F S512x128 .f32) : FVec F S512x512 .f32 :=
  exp2 (subf s (concatenate S512x512 1 [⟨S512x128, hM s m⟩, ⟨S512x128, hM s m⟩, ⟨S512x128, hM s m⟩, ⟨S512x128, hM s m⟩]
    concatenates_S512x128_S512x128_S512x128_S512x128_S512x512_d1))

/-- The factor of what was summed before. -/
def hA (s : FVec F S512x512 .f32) (m : Vec F S512x128 .f32) : FVec F S512x128 .f32 := exp2 (subf m (hM s m))

/-- The maximum as stored. -/
def hMs (s : FVec F S512x512 .f32) (m : Vec F S512x128 .f32) : FVec F S512x128 .f32 :=
  shapeCast S512x128 (hM s m) shapeCasts_S512x128_S512x128

/-- The new sums. -/
def hL (s : FVec F S512x512 .f32) (m l : Vec F S512x128 .f32) : FVec F S512x128 .f32 :=
  shapeCast S512x128 (addf (mulf (hA s m) l)
    (addf (addf (addf (extractStridedSlice S512x128 ![0, 0] (hP s m) slices_S512x512_o0_0_S512x128)
      (extractStridedSlice S512x128 ![0, 128] (hP s m) slices_S512x512_o0_128_S512x128))
      (extractStridedSlice S512x128 ![0, 256] (hP s m) slices_S512x512_o0_256_S512x128))
      (extractStridedSlice S512x128 ![0, 384] (hP s m) slices_S512x512_o0_384_S512x128))) shapeCasts_S512x128_S512x128

/-- The new accumulator. -/
def hC (s : FVec F S512x512 .f32) (m a : Vec F S512x128 .f32) (v : Vec F S512x128 .bf16) : FVec F S512x128 .f32 :=
  shapeCast S512x128 (addf (mulf (hA s m) a)
    (matmul dot_S512x512_S512x128_S512x128_1_0_0_1_n_n none (truncf .bf16 (hP s m) bitsLt_bf16_f32)
      (shapeCast S512x128 v shapeCasts_S512x128_S512x128) (constant S512x128 .f32 0x00000000#32))) shapeCasts_S512x128_S512x128

/-! ## Sixteen heads -/

theorem inbR (h : Fin 16) : ∀ a, (![512 * h.val, 0] : Fin 2 → ℕ) a + S512x128.size a ≤ S8192x128.size a := by
  intro a; fin_cases a
  · show 512 * h.val + 512 ≤ 8192; omega
  · show 0 + 128 ≤ 128; omega

theorem inbC (h : Fin 16) : ∀ a, (![0, 128 * h.val] : Fin 2 → ℕ) a + S512x128.size a ≤ S512x2048.size a := by
  intro a; fin_cases a
  · show 0 + 512 ≤ 512; omega
  · show 128 * h.val + 128 ≤ 2048; omega

/-- Head `h`'s rows of a scratch array. -/
abbrev rowsOf {e : EltTy} (X : S8192x128.Idx → Elt F e) (h : Fin 16) : S512x128.Idx → Elt F e :=
  View.ld X (Rect.unit (s := S8192x128) ![512 * h.val, 0] S512x128.size (inbR h))

/-- Head `h`'s lanes of a window. -/
abbrev lanesOf {e : EltTy} (X : S512x2048.Idx → Elt F e) (h : Fin 16) : S512x128.Idx → Elt F e :=
  View.ld X (Rect.unit (s := S512x2048) ![0, 128 * h.val] S512x128.size (inbC h))

/-- The head of a scratch index. -/
def hd (y : S8192x128.Idx) : Fin 16 := ⟨(y 0).val / 512, by have h : (y 0).val < 8192 := (y 0).isLt; omega⟩

/-- The index within the head's rows. -/
def loc (y : S8192x128.Idx) : S512x128.Idx :=
  ValueIdx.ix2 (n0 := 512) (n1 := 128) ⟨(y 0).val % 512, Nat.mod_lt _ (by norm_num)⟩ (y 1)

/-- An array given head by head. -/
def glue {e : EltTy} (f : Fin 16 → S512x128.Idx → Elt F e) : S8192x128.Idx → Elt F e := fun y => f (hd y) (loc y)

theorem rowsOf_glue {e : EltTy} (f : Fin 16 → S512x128.Idx → Elt F e) (h : Fin 16) : rowsOf (glue f) h = f h := by
  funext x
  have h0 : (x 0).val < 512 := (x 0).isLt
  show f (hd _) (loc _) = f h x
  have eh : hd ((Rect.unit (s := S8192x128) ![512 * h.val, 0] S512x128.size (inbR h)).idx x) = h := by
    refine Fin.ext ?_
    show (512 * h.val + 1 * (x 0).val) / 512 = h.val
    omega
  have el : loc ((Rect.unit (s := S8192x128) ![512 * h.val, 0] S512x128.size (inbR h)).idx x) = x := by
    funext a
    match a with
    | ⟨0, _⟩ => refine Fin.ext ?_; show (512 * h.val + 1 * (x 0).val) % 512 = (x 0).val; omega
    | ⟨1, _⟩ => refine Fin.ext ?_; show 0 + 1 * (x 1).val = (x 1).val; omega
  rw [eh, el]

/-- The queries as the first step stores them. -/
def newQ (x0 : Vec F S512x2048 .bf16) : Vec F S8192x128 .bf16 := glue fun h => k0_pay8 (lanesOf x0 h)

/-- The scores of all heads. -/
def SF (qs : Vec F S8192x128 .bf16) (k : Vec F S512x2048 .bf16) : Fin 16 → FVec F S512x512 .f32 :=
  fun h => sFull (rowsOf qs h) (lanesOf k h)

/-- The scores of all heads, on the diagonal. -/
def SE (v2 v5 : BitVec 32) (qs : Vec F S8192x128 .bf16) (k : Vec F S512x2048 .bf16) : Fin 16 → FVec F S512x512 .f32 :=
  fun h => sEdge v2 v5 (rowsOf qs h) (lanesOf k h)

theorem SF_newQ (x0 k : Vec F S512x2048 .bf16) : SF (newQ x0) k = fun h => sFull (k0_pay8 (lanesOf x0 h)) (lanesOf k h) :=
  funext fun h => congrArg (fun q => sFull q (lanesOf k h)) (rowsOf_glue _ h)

theorem SE_newQ (v2 v5 : BitVec 32) (x0 k : Vec F S512x2048 .bf16) :
    SE v2 v5 (newQ x0) k = fun h => sEdge v2 v5 (k0_pay8 (lanesOf x0 h)) (lanesOf k h) :=
  funext fun h => congrArg (fun q => sEdge v2 v5 q (lanesOf k h)) (rowsOf_glue _ h)

def allM (S : Fin 16 → FVec F S512x512 .f32) (m : Vec F S8192x128 .f32) : Vec F S8192x128 .f32 :=
  glue fun h => hMs (S h) (rowsOf m h)

def allL (S : Fin 16 → FVec F S512x512 .f32) (m l : Vec F S8192x128 .f32) : Vec F S8192x128 .f32 :=
  glue fun h => hL (S h) (rowsOf m h) (rowsOf l h)

def allC (S : Fin 16 → FVec F S512x512 .f32) (m a : Vec F S8192x128 .f32) (v : Vec F S512x2048 .bf16) : Vec F S8192x128 .f32 :=
  glue fun h => hC (S h) (rowsOf m h) (rowsOf a h) (lanesOf v h)

/-! ## Reading the stores -/

section Pieces

variable {e : EltTy}

/-- One head's store, over earlier ones. -/
theorem canon_head [∀ e, Nonempty (Elt F e)] (f : Fin 16 → S512x128.Idx → Elt F e) (y : S8192x128.Idx) (a : ℕ) (inb)
    (w : S512x128.Idx → Elt F e) (L : List (View.Piece (Elt F) S8192x128 e)) (ha : a / 512 < 16) (ha' : a % 512 = 0)
    (hw : w = f ⟨a / 512, ha⟩) (hL : ¬(a ≤ (y 0).val ∧ (y 0).val < a + 512) → View.canon L y = glue f y) :
    View.canon ((⟨Rect.unit (s := S8192x128) ![a, 0] S512x128.size inb, w⟩ : View.Piece (Elt F) S8192x128 e) :: L) y = glue f y := by
  by_cases hy : a ≤ (y 0).val ∧ (y 0).val < a + 512
  · have h1 : (y 1).val < 128 := (y 1).isLt
    obtain ⟨x, rfl⟩ : ∃ x : S512x128.Idx, (Rect.unit (s := S8192x128) ![a, 0] S512x128.size inb).emb x = y := by
      refine ⟨ValueIdx.ix2 (n0 := 512) (n1 := 128) ⟨(y 0).val - a, by omega⟩ ⟨(y 1).val, h1⟩, ?_⟩
      funext b
      match b with
      | ⟨0, _⟩ => refine Fin.ext ?_; show a + 1 * ((y 0).val - a) = (y 0).val; omega
      | ⟨1, _⟩ => refine Fin.ext ?_; show 0 + 1 * (y 1).val = (y 1).val; omega
    rw [View.canon_cons_emb, hw, ← congrFun (rowsOf_glue f ⟨a / 512, ha⟩) x]
    refine congrArg (glue f) ?_
    funext b
    match b with
    | ⟨0, _⟩ => refine Fin.ext ?_; show 512 * (a / 512) + 1 * (x 0).val = a + 1 * (x 0).val; omega
    | ⟨1, _⟩ => rfl
  · rw [View.canon_cons_of_not_mem]
    · exact hL hy
    · intro hm
      exact hy ((Rect.mem_set_unit (inb := inb)).mp hm 0)

/-- A load of one head's rows does not see another head's store. -/
theorem readCov_other [∀ e, Nonempty (Elt F e)] {sig : RefSig} (v : View sig .tc .vmem S8192x128 e) (a b : ℕ) (ia ib)
    (w : S512x128.Idx → Elt F e) (L : List (View.Piece (Elt F) S8192x128 e)) (h : a + 512 ≤ b ∨ b + 512 ≤ a) :
    v.readCov ((⟨Rect.unit (s := S8192x128) ![a, 0] (no_index S512x128.size) ia, w⟩ : View.Piece (Elt F) S8192x128 e) :: L)
      (Rect.unit (s := S8192x128) ![b, 0] (no_index S512x128.size) ib).toLoadRect
    = v.readCov L (Rect.unit (s := S8192x128) ![b, 0] (no_index S512x128.size) ib).toLoadRect := by
  rw [View.readCov_eq_canon', View.readCov_eq_canon']
  funext j
  refine View.canon_cons_of_not_mem _ _ ?_
  intro hm
  have hj : (j 0).val < 512 := (j 0).isLt
  have h2 : a ≤ b + 1 * (j 0).val ∧ b + 1 * (j 0).val < a + 512 := (Rect.mem_set_unit (inb := ia)).mp hm 0
  omega

end Pieces

/-! ## The output block -/

/-- The quotients, a head's row and lane at its place in the output block. -/
def finOut (a l : Vec F S8192x128 .f32) : Vec F S512x1024 .bf16 :=
  truncf .bf16 (fun y : S512x1024.Idx => k0_pay274 a l (ValueIdx.ix2 (n0 := 8192) (n1 := 128)
    ⟨512 * ((y 1).val / 64) + (y 0).val, by have h0 : (y 0).val < 512 := (y 0).isLt; have h1 : (y 1).val < 1024 := (y 1).isLt; omega⟩
    ⟨(y 1).val % 64, by omega⟩)) bitsLt_bf16_f32

/-- Two heads side by side. -/
def pairCat (q : FVec F S8192x128 .f32) (o o' : ℕ) (h : S8192x128.Slices ![o, 0] S512x128) (h' : S8192x128.Slices ![o', 0] S512x128) :
    FVec F S512x128 .bf16 :=
  truncf .bf16 (concatenate S512x128 1
    [⟨S512x64, extractStridedSlice S512x64 ![0, 0] (extractStridedSlice S512x128 ![o, 0] q h) slices_S512x128_o0_0_S512x64⟩,
     ⟨S512x64, extractStridedSlice S512x64 ![0, 0] (extractStridedSlice S512x128 ![o', 0] q h') slices_S512x128_o0_0_S512x64⟩]
    concatenates_S512x64_S512x64_S512x128_d1) bitsLt_bf16_f32

theorem canon_pair [∀ e, Nonempty (Elt F e)] (A L : Vec F S8192x128 .f32) (y : S512x1024.Idx) (a : ℕ) (inb)
    (w : S512x128.Idx → Elt F .bf16) (Q : List (View.Piece (Elt F) S512x1024 .bf16)) (ha : a % 128 = 0) (h h')
    (hw : w = pairCat (k0_pay274 A L) (8 * a) (8 * a + 512) h h')
    (hQ : ¬(a ≤ (y 1).val ∧ (y 1).val < a + 128) → View.canon Q y = finOut A L y) :
    View.canon ((⟨Rect.unit (s := S512x1024) ![0, a] S512x128.size inb, w⟩ : View.Piece (Elt F) S512x1024 .bf16) :: Q) y = finOut A L y := by
  by_cases hy : a ≤ (y 1).val ∧ (y 1).val < a + 128
  · have h0 : (y 0).val < 512 := (y 0).isLt
    obtain ⟨x, rfl⟩ : ∃ x : S512x128.Idx, (Rect.unit (s := S512x1024) ![0, a] S512x128.size inb).emb x = y := by
      refine ⟨ValueIdx.ix2 (n0 := 512) (n1 := 128) ⟨(y 0).val, h0⟩ ⟨(y 1).val - a, by omega⟩, ?_⟩
      funext b
      match b with
      | ⟨0, _⟩ => refine Fin.ext ?_; show 0 + 1 * (y 0).val = (y 0).val; omega
      | ⟨1, _⟩ => refine Fin.ext ?_; show a + 1 * ((y 1).val - a) = (y 1).val; omega
    rw [View.canon_cons_emb, hw]
    have hx0 : (x 0).val < 512 := (x 0).isLt
    have hx1 : (x 1).val < 128 := (x 1).isLt
    refine congrArg (FloatOps.truncf .bf16 bitsLt_bf16_f32) ?_
    by_cases hlt : (x 1).val < 64
    · refine (concatenate_pair_apply_left (s₁ := S512x64) (s₂ := S512x64) (t := S512x128) 1 _ _ _ x rfl
        (ValueIdx.ix2 (n0 := 512) (n1 := 64) ⟨(x 0).val, hx0⟩ ⟨(x 1).val, hlt⟩)
        (fun b => by match b with | ⟨0, _⟩ => rfl | ⟨1, _⟩ => rfl)).trans ?_
      refine (extractStridedSlice_apply (s := S512x128) (t := S512x64) _ _ _ _
        (ValueIdx.ix2 (n0 := 512) (n1 := 128) ⟨(x 0).val, hx0⟩ ⟨(x 1).val, hx1⟩)
        (fun b => by match b with | ⟨0, _⟩ => exact (Nat.zero_add _).symm | ⟨1, _⟩ => exact (Nat.zero_add _).symm)).trans ?_
      refine extractStridedSlice_apply (s := S8192x128) (t := S512x128) _ _ _ _ _ fun b => ?_
      match b with
      | ⟨0, _⟩ => show 512 * ((a + 1 * (x 1).val) / 64) + (0 + 1 * (x 0).val) = 8 * a + (x 0).val; omega
      | ⟨1, _⟩ => show (a + 1 * (x 1).val) % 64 = 0 + (x 1).val; omega
    · refine (concatenate_pair_apply_right (s₁ := S512x64) (s₂ := S512x64) (t := S512x128) 1 _ _ _ x rfl rfl
        (ValueIdx.ix2 (n0 := 512) (n1 := 64) ⟨(x 0).val, hx0⟩ ⟨(x 1).val - 64, by omega⟩)
        (fun b hb => by match b with | ⟨0, _⟩ => rfl | ⟨1, _⟩ => exact absurd rfl hb)
        (by show (x 1).val - 64 + 64 = (x 1).val; omega)).trans ?_
      refine (extractStridedSlice_apply (s := S512x128) (t := S512x64) _ _ _ _
        (ValueIdx.ix2 (n0 := 512) (n1 := 128) ⟨(x 0).val, hx0⟩ ⟨(x 1).val - 64, by omega⟩)
        (fun b => by match b with | ⟨0, _⟩ => exact (Nat.zero_add _).symm | ⟨1, _⟩ => exact (Nat.zero_add _).symm)).trans ?_
      refine extractStridedSlice_apply (s := S8192x128) (t := S512x128) _ _ _ _ _ fun b => ?_
      match b with
      | ⟨0, _⟩ => show 512 * ((a + 1 * (x 1).val) / 64) + (0 + 1 * (x 0).val) = 8 * a + 512 + (x 0).val; omega
      | ⟨1, _⟩ => show (a + 1 * (x 1).val) % 64 = 0 + ((x 1).val - 64); omega
  · rw [View.canon_cons_of_not_mem]
    · exact hQ hy
    · intro hm
      exact hy ((Rect.mem_set_unit (inb := inb)).mp hm 1)

/-- A load of the whole of what a list of stores left. -/
theorem readCov_whole [∀ e, Nonempty (Elt F e)] {sig : RefSig} {e : EltTy} (v : View sig .tc .vmem S8192x128 e)
    (L : List (View.Piece (Elt F) S8192x128 e)) (inb) (G : S8192x128.Idx → Elt F e) (h : ∀ y, View.canon L y = G y) :
    v.readCov L (Rect.unit (s := S8192x128) ![0, 0] (no_index S8192x128.size) inb).toLoadRect = G := by
  rw [View.readCov_eq_canon']
  funext j
  refine (h _).trans (congrArg G ?_)
  funext b
  match b with
  | ⟨0, _⟩ => refine Fin.ext ?_; show 0 + 1 * (j 0).val = (j 0).val; omega
  | ⟨1, _⟩ => refine Fin.ext ?_; show 0 + 1 * (j 1).val = (j 1).val; omega

end Cert.Mla

end
-- ==== Proof.Mla.CasesAB.lean ====
/-
  What a grid point leaves that begins a row of blocks: the scratch is filled first.
-/
module

public import proofs.«01_k».proof.Proof.Mla.Body

@[expose] public section

set_option maxRecDepth 16384

noncomputable section

namespace Cert.Mla

open Cert.KernelIdeal Cert.KernelIdeal.Gen Idealize.ShloMosaic Idealize.ShloMosaic.TcCoe Idealize.SL.Sem Idealize.ShloMosaic.Tactic

variable {F : FTy → Type} [FloatOps F] [Named F]
variable (c : Dev nD) (i : grid0.Coords) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x1024 .bf16) (harg7 : arg7.IsWhole) (arg8 : Memref sig .tc .vmem S8192x128 .bf16) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x128 .f32) (harg11 : arg11.IsWhole)
  (x0 x1 x2 : Vec F S512x2048 .bf16) (xs0 : Vec F S8192x128 .bf16) (xs1 xs2 xs3 : Vec F S8192x128 .f32)

theorem sout0_A_0_eq (hc0 : cond0_0 i) (hc1 : ¬cond0_1 i) (hc2 : cond0_2 i) (hc3 : cond0_3 i) :
    sout0_A_0 (F := F) c i arg4 harg4 arg5 harg5 arg6 harg6 arg7 harg7 arg8 harg8 arg9 harg9 arg10 harg10 arg11 harg11 hc0 hc1 hc2 hc3 x0 x1 x2 = (newQ x0) := by
  funext y
  unfold sout0_A_0
  rw [View.read_writes_junk_eq_canon]
  unfold kernelRun0_A
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  try simp (disch := decide) only [↓readCov_other, View.readCov_cons_toLoadRect, View.readCov_fill]
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_A_1_eq (hc0 : cond0_0 i) (hc1 : ¬cond0_1 i) (hc2 : cond0_2 i) (hc3 : cond0_3 i) :
    sout0_A_1 (F := F) c i arg4 harg4 arg5 harg5 arg6 harg6 arg7 harg7 arg8 harg8 arg9 harg9 arg10 harg10 arg11 harg11 hc0 hc1 hc2 hc3 x0 x1 x2 = allM (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) (newQ x0) x1) k0_pay24 := by
  rw [SE_newQ]
  funext y
  unfold sout0_A_1
  rw [View.read_writes_junk_eq_canon]
  unfold kernelRun0_A
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  try simp (disch := decide) only [↓readCov_other, View.readCov_cons_toLoadRect, View.readCov_fill]
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_A_2_eq (hc0 : cond0_0 i) (hc1 : ¬cond0_1 i) (hc2 : cond0_2 i) (hc3 : cond0_3 i) :
    sout0_A_2 (F := F) c i arg4 harg4 arg5 harg5 arg6 harg6 arg7 harg7 arg8 harg8 arg9 harg9 arg10 harg10 arg11 harg11 hc0 hc1 hc2 hc3 x0 x1 x2 = allL (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) (newQ x0) x1) k0_pay24 k0_pay25 := by
  rw [SE_newQ]
  funext y
  unfold sout0_A_2
  rw [View.read_writes_junk_eq_canon]
  unfold kernelRun0_A
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  try simp (disch := decide) only [↓readCov_other, View.readCov_cons_toLoadRect, View.readCov_fill]
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_A_3_eq (hc0 : cond0_0 i) (hc1 : ¬cond0_1 i) (hc2 : cond0_2 i) (hc3 : cond0_3 i) :
    sout0_A_3 (F := F) c i arg4 harg4 arg5 harg5 arg6 harg6 arg7 harg7 arg8 harg8 arg9 harg9 arg10 harg10 arg11 harg11 hc0 hc1 hc2 hc3 x0 x1 x2 = allC (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) (newQ x0) x1) k0_pay24 (k0_pay1 k0_pay26) x2 := by
  rw [SE_newQ]
  funext y
  unfold sout0_A_3
  rw [View.read_writes_junk_eq_canon]
  unfold kernelRun0_A
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  try simp (disch := decide) only [↓readCov_other, View.readCov_cons_toLoadRect, View.readCov_fill]
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem out0_A_3_eq (hc0 : cond0_0 i) (hc1 : ¬cond0_1 i) (hc2 : cond0_2 i) (hc3 : cond0_3 i) :
    out0_A_3 (F := F) c i arg4 harg4 arg5 harg5 arg6 harg6 arg7 harg7 arg8 harg8 arg9 harg9 arg10 harg10 arg11 harg11 hc0 hc1 hc2 hc3 x0 x1 x2 = finOut (allC (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) (newQ x0) x1) k0_pay24 (k0_pay1 k0_pay26) x2) (allL (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) (newQ x0) x1) k0_pay24 k0_pay25) := by
  rw [SE_newQ]
  funext y
  unfold out0_A_3
  rw [View.read_writes_junk_eq_canon]
  unfold kernelRun0_A
  dsimp only
  sl_unfold_words
  simp only [View.readAt_eq_ld, harg4.read_unread, harg5.read_unread, harg6.read_unread, harg8.read_unread, harg9.read_unread,
    harg10.read_unread, harg11.read_unread]
  simp (disch := decide) only [↓readCov_other, View.readCov_cons_toLoadRect, View.readCov_fill]
  rw [readCov_whole arg11.view _ _ (allC (fun h => sEdge (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) (k0_pay8 (lanesOf x0 h)) (lanesOf x1 h)) k0_pay24 (k0_pay1 k0_pay26) x2) (fun y => by
    have hy : (y 0).val < 8192 := (y 0).isLt
    refine canon_head _ y 7680 _ _ _ (by decide) (by decide) rfl fun h15 => ?_
    refine canon_head _ y 7168 _ _ _ (by decide) (by decide) rfl fun h14 => ?_
    refine canon_head _ y 6656 _ _ _ (by decide) (by decide) rfl fun h13 => ?_
    refine canon_head _ y 6144 _ _ _ (by decide) (by decide) rfl fun h12 => ?_
    refine canon_head _ y 5632 _ _ _ (by decide) (by decide) rfl fun h11 => ?_
    refine canon_head _ y 5120 _ _ _ (by decide) (by decide) rfl fun h10 => ?_
    refine canon_head _ y 4608 _ _ _ (by decide) (by decide) rfl fun h9 => ?_
    refine canon_head _ y 4096 _ _ _ (by decide) (by decide) rfl fun h8 => ?_
    refine canon_head _ y 3584 _ _ _ (by decide) (by decide) rfl fun h7 => ?_
    refine canon_head _ y 3072 _ _ _ (by decide) (by decide) rfl fun h6 => ?_
    refine canon_head _ y 2560 _ _ _ (by decide) (by decide) rfl fun h5 => ?_
    refine canon_head _ y 2048 _ _ _ (by decide) (by decide) rfl fun h4 => ?_
    refine canon_head _ y 1536 _ _ _ (by decide) (by decide) rfl fun h3 => ?_
    refine canon_head _ y 1024 _ _ _ (by decide) (by decide) rfl fun h2 => ?_
    refine canon_head _ y 512 _ _ _ (by decide) (by decide) rfl fun h1 => ?_
    refine canon_head _ y 0 _ _ _ (by decide) (by decide) rfl fun h0 => ?_
    exfalso; omega)]
  rw [readCov_whole arg10.view _ _ (allL (fun h => sEdge (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) (k0_pay8 (lanesOf x0 h)) (lanesOf x1 h)) k0_pay24 k0_pay25) (fun y => by
    have hy : (y 0).val < 8192 := (y 0).isLt
    refine canon_head _ y 7680 _ _ _ (by decide) (by decide) rfl fun h15 => ?_
    refine canon_head _ y 7168 _ _ _ (by decide) (by decide) rfl fun h14 => ?_
    refine canon_head _ y 6656 _ _ _ (by decide) (by decide) rfl fun h13 => ?_
    refine canon_head _ y 6144 _ _ _ (by decide) (by decide) rfl fun h12 => ?_
    refine canon_head _ y 5632 _ _ _ (by decide) (by decide) rfl fun h11 => ?_
    refine canon_head _ y 5120 _ _ _ (by decide) (by decide) rfl fun h10 => ?_
    refine canon_head _ y 4608 _ _ _ (by decide) (by decide) rfl fun h9 => ?_
    refine canon_head _ y 4096 _ _ _ (by decide) (by decide) rfl fun h8 => ?_
    refine canon_head _ y 3584 _ _ _ (by decide) (by decide) rfl fun h7 => ?_
    refine canon_head _ y 3072 _ _ _ (by decide) (by decide) rfl fun h6 => ?_
    refine canon_head _ y 2560 _ _ _ (by decide) (by decide) rfl fun h5 => ?_
    refine canon_head _ y 2048 _ _ _ (by decide) (by decide) rfl fun h4 => ?_
    refine canon_head _ y 1536 _ _ _ (by decide) (by decide) rfl fun h3 => ?_
    refine canon_head _ y 1024 _ _ _ (by decide) (by decide) rfl fun h2 => ?_
    refine canon_head _ y 512 _ _ _ (by decide) (by decide) rfl fun h1 => ?_
    refine canon_head _ y 0 _ _ _ (by decide) (by decide) rfl fun h0 => ?_
    exfalso; omega)]
  have hy : (y 1).val < 1024 := (y 1).isLt
  refine canon_pair _ _ y 896 _ _ _ (by decide) slices_S8192x128_o7168_0_S512x128 slices_S8192x128_o7680_0_S512x128 rfl fun h7 => ?_
  refine canon_pair _ _ y 768 _ _ _ (by decide) slices_S8192x128_o6144_0_S512x128 slices_S8192x128_o6656_0_S512x128 rfl fun h6 => ?_
  refine canon_pair _ _ y 640 _ _ _ (by decide) slices_S8192x128_o5120_0_S512x128 slices_S8192x128_o5632_0_S512x128 rfl fun h5 => ?_
  refine canon_pair _ _ y 512 _ _ _ (by decide) slices_S8192x128_o4096_0_S512x128 slices_S8192x128_o4608_0_S512x128 rfl fun h4 => ?_
  refine canon_pair _ _ y 384 _ _ _ (by decide) slices_S8192x128_o3072_0_S512x128 slices_S8192x128_o3584_0_S512x128 rfl fun h3 => ?_
  refine canon_pair _ _ y 256 _ _ _ (by decide) slices_S8192x128_o2048_0_S512x128 slices_S8192x128_o2560_0_S512x128 rfl fun h2 => ?_
  refine canon_pair _ _ y 128 _ _ _ (by decide) slices_S8192x128_o1024_0_S512x128 slices_S8192x128_o1536_0_S512x128 rfl fun h1 => ?_
  refine canon_pair _ _ y 0 _ _ _ (by decide) slices_S8192x128_o0_0_S512x128 slices_S8192x128_o512_0_S512x128 rfl fun h0 => ?_
  exfalso; omega

theorem sout0_B_0_eq (hc0 : cond0_0 i) (hc1 : cond0_1 i) (hc2 : ¬cond0_2 i) (hc3 : ¬cond0_3 i) :
    sout0_B_0 (F := F) c i arg4 harg4 arg5 harg5 arg6 harg6 arg7 harg7 arg8 harg8 arg9 harg9 arg10 harg10 arg11 harg11 hc0 hc1 hc2 hc3 x0 x1 x2 = (newQ x0) := by
  funext y
  unfold sout0_B_0
  rw [View.read_writes_junk_eq_canon]
  unfold kernelRun0_B
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  try simp (disch := decide) only [↓readCov_other, View.readCov_cons_toLoadRect, View.readCov_fill]
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_B_1_eq (hc0 : cond0_0 i) (hc1 : cond0_1 i) (hc2 : ¬cond0_2 i) (hc3 : ¬cond0_3 i) :
    sout0_B_1 (F := F) c i arg4 harg4 arg5 harg5 arg6 harg6 arg7 harg7 arg8 harg8 arg9 harg9 arg10 harg10 arg11 harg11 hc0 hc1 hc2 hc3 x0 x1 x2 = allM (SF (newQ x0) x1) k0_pay24 := by
  rw [SF_newQ]
  funext y
  unfold sout0_B_1
  rw [View.read_writes_junk_eq_canon]
  unfold kernelRun0_B
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  try simp (disch := decide) only [↓readCov_other, View.readCov_cons_toLoadRect, View.readCov_fill]
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_B_2_eq (hc0 : cond0_0 i) (hc1 : cond0_1 i) (hc2 : ¬cond0_2 i) (hc3 : ¬cond0_3 i) :
    sout0_B_2 (F := F) c i arg4 harg4 arg5 harg5 arg6 harg6 arg7 harg7 arg8 harg8 arg9 harg9 arg10 harg10 arg11 harg11 hc0 hc1 hc2 hc3 x0 x1 x2 = allL (SF (newQ x0) x1) k0_pay24 k0_pay25 := by
  rw [SF_newQ]
  funext y
  unfold sout0_B_2
  rw [View.read_writes_junk_eq_canon]
  unfold kernelRun0_B
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  try simp (disch := decide) only [↓readCov_other, View.readCov_cons_toLoadRect, View.readCov_fill]
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_B_3_eq (hc0 : cond0_0 i) (hc1 : cond0_1 i) (hc2 : ¬cond0_2 i) (hc3 : ¬cond0_3 i) :
    sout0_B_3 (F := F) c i arg4 harg4 arg5 harg5 arg6 harg6 arg7 harg7 arg8 harg8 arg9 harg9 arg10 harg10 arg11 harg11 hc0 hc1 hc2 hc3 x0 x1 x2 = allC (SF (newQ x0) x1) k0_pay24 (k0_pay1 k0_pay26) x2 := by
  rw [SF_newQ]
  funext y
  unfold sout0_B_3
  rw [View.read_writes_junk_eq_canon]
  unfold kernelRun0_B
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  try simp (disch := decide) only [↓readCov_other, View.readCov_cons_toLoadRect, View.readCov_fill]
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

end Cert.Mla

end
-- ==== Proof.Mla.CasesCD.lean ====
/-
  What a grid point leaves that goes on with a row of blocks.
-/
module

public import proofs.«01_k».proof.Proof.Mla.Body

@[expose] public section

set_option maxRecDepth 16384

noncomputable section

namespace Cert.Mla

open Cert.KernelIdeal Cert.KernelIdeal.Gen Idealize.ShloMosaic Idealize.ShloMosaic.TcCoe Idealize.SL.Sem Idealize.ShloMosaic.Tactic

variable {F : FTy → Type} [FloatOps F] [Named F]
variable (c : Dev nD) (i : grid0.Coords) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x1024 .bf16) (harg7 : arg7.IsWhole) (arg8 : Memref sig .tc .vmem S8192x128 .bf16) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x128 .f32) (harg11 : arg11.IsWhole)
  (x0 x1 x2 : Vec F S512x2048 .bf16) (xs0 : Vec F S8192x128 .bf16) (xs1 xs2 xs3 : Vec F S8192x128 .f32)

theorem sout0_C_0_eq (hc0 : ¬cond0_0 i) (hc1 : cond0_1 i) (hc2 : ¬cond0_2 i) (hc3 : ¬cond0_3 i) :
    sout0_C_0 (F := F) c i arg4 harg4 arg5 harg5 arg6 harg6 arg7 harg7 arg8 harg8 arg9 harg9 arg10 harg10 arg11 harg11 hc0 hc1 hc2 hc3 x0 x1 x2 xs0 xs1 xs2 xs3 = xs0 := by
  rfl

theorem sout0_C_1_eq (hc0 : ¬cond0_0 i) (hc1 : cond0_1 i) (hc2 : ¬cond0_2 i) (hc3 : ¬cond0_3 i) :
    sout0_C_1 (F := F) c i arg4 harg4 arg5 harg5 arg6 harg6 arg7 harg7 arg8 harg8 arg9 harg9 arg10 harg10 arg11 harg11 hc0 hc1 hc2 hc3 x0 x1 x2 xs0 xs1 xs2 xs3 = allM (SF xs0 x1) xs1 := by
  funext y
  unfold sout0_C_1
  rw [View.read_writes_junk_eq_canon]
  unfold kernelRun0_C
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_C_2_eq (hc0 : ¬cond0_0 i) (hc1 : cond0_1 i) (hc2 : ¬cond0_2 i) (hc3 : ¬cond0_3 i) :
    sout0_C_2 (F := F) c i arg4 harg4 arg5 harg5 arg6 harg6 arg7 harg7 arg8 harg8 arg9 harg9 arg10 harg10 arg11 harg11 hc0 hc1 hc2 hc3 x0 x1 x2 xs0 xs1 xs2 xs3 = allL (SF xs0 x1) xs1 xs2 := by
  funext y
  unfold sout0_C_2
  rw [View.read_writes_junk_eq_canon]
  unfold kernelRun0_C
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_C_3_eq (hc0 : ¬cond0_0 i) (hc1 : cond0_1 i) (hc2 : ¬cond0_2 i) (hc3 : ¬cond0_3 i) :
    sout0_C_3 (F := F) c i arg4 harg4 arg5 harg5 arg6 harg6 arg7 harg7 arg8 harg8 arg9 harg9 arg10 harg10 arg11 harg11 hc0 hc1 hc2 hc3 x0 x1 x2 xs0 xs1 xs2 xs3 = allC (SF xs0 x1) xs1 xs3 x2 := by
  funext y
  unfold sout0_C_3
  rw [View.read_writes_junk_eq_canon]
  unfold kernelRun0_C
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_D_0_eq (hc0 : ¬cond0_0 i) (hc1 : ¬cond0_1 i) (hc2 : cond0_2 i) (hc3 : cond0_3 i) :
    sout0_D_0 (F := F) c i arg4 harg4 arg5 harg5 arg6 harg6 arg7 harg7 arg8 harg8 arg9 harg9 arg10 harg10 arg11 harg11 hc0 hc1 hc2 hc3 x0 x1 x2 xs0 xs1 xs2 xs3 = xs0 := by
  rfl

theorem sout0_D_1_eq (hc0 : ¬cond0_0 i) (hc1 : ¬cond0_1 i) (hc2 : cond0_2 i) (hc3 : cond0_3 i) :
    sout0_D_1 (F := F) c i arg4 harg4 arg5 harg5 arg6 harg6 arg7 harg7 arg8 harg8 arg9 harg9 arg10 harg10 arg11 harg11 hc0 hc1 hc2 hc3 x0 x1 x2 xs0 xs1 xs2 xs3 = allM (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) xs0 x1) xs1 := by
  funext y
  unfold sout0_D_1
  rw [View.read_writes_junk_eq_canon]
  unfold kernelRun0_D
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_D_2_eq (hc0 : ¬cond0_0 i) (hc1 : ¬cond0_1 i) (hc2 : cond0_2 i) (hc3 : cond0_3 i) :
    sout0_D_2 (F := F) c i arg4 harg4 arg5 harg5 arg6 harg6 arg7 harg7 arg8 harg8 arg9 harg9 arg10 harg10 arg11 harg11 hc0 hc1 hc2 hc3 x0 x1 x2 xs0 xs1 xs2 xs3 = allL (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) xs0 x1) xs1 xs2 := by
  funext y
  unfold sout0_D_2
  rw [View.read_writes_junk_eq_canon]
  unfold kernelRun0_D
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem sout0_D_3_eq (hc0 : ¬cond0_0 i) (hc1 : ¬cond0_1 i) (hc2 : cond0_2 i) (hc3 : cond0_3 i) :
    sout0_D_3 (F := F) c i arg4 harg4 arg5 harg5 arg6 harg6 arg7 harg7 arg8 harg8 arg9 harg9 arg10 harg10 arg11 harg11 hc0 hc1 hc2 hc3 x0 x1 x2 xs0 xs1 xs2 xs3 = allC (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) xs0 x1) xs1 xs3 x2 := by
  funext y
  unfold sout0_D_3
  rw [View.read_writes_junk_eq_canon]
  unfold kernelRun0_D
  dsimp only
  sl_unfold_words
  simp only [View.readAt_eq_ld, harg4.read_unread, harg5.read_unread, harg6.read_unread, harg8.read_unread, harg9.read_unread,
    harg10.read_unread, harg11.read_unread]
  have hy : (y 0).val < 8192 := (y 0).isLt
  refine canon_head _ y 7680 _ _ _ (by decide) (by decide) rfl fun h15 => ?_
  refine canon_head _ y 7168 _ _ _ (by decide) (by decide) rfl fun h14 => ?_
  refine canon_head _ y 6656 _ _ _ (by decide) (by decide) rfl fun h13 => ?_
  refine canon_head _ y 6144 _ _ _ (by decide) (by decide) rfl fun h12 => ?_
  refine canon_head _ y 5632 _ _ _ (by decide) (by decide) rfl fun h11 => ?_
  refine canon_head _ y 5120 _ _ _ (by decide) (by decide) rfl fun h10 => ?_
  refine canon_head _ y 4608 _ _ _ (by decide) (by decide) rfl fun h9 => ?_
  refine canon_head _ y 4096 _ _ _ (by decide) (by decide) rfl fun h8 => ?_
  refine canon_head _ y 3584 _ _ _ (by decide) (by decide) rfl fun h7 => ?_
  refine canon_head _ y 3072 _ _ _ (by decide) (by decide) rfl fun h6 => ?_
  refine canon_head _ y 2560 _ _ _ (by decide) (by decide) rfl fun h5 => ?_
  refine canon_head _ y 2048 _ _ _ (by decide) (by decide) rfl fun h4 => ?_
  refine canon_head _ y 1536 _ _ _ (by decide) (by decide) rfl fun h3 => ?_
  refine canon_head _ y 1024 _ _ _ (by decide) (by decide) rfl fun h2 => ?_
  refine canon_head _ y 512 _ _ _ (by decide) (by decide) rfl fun h1 => ?_
  refine canon_head _ y 0 _ _ _ (by decide) (by decide) rfl fun h0 => ?_
  exfalso; omega

theorem out0_D_3_eq (hc0 : ¬cond0_0 i) (hc1 : ¬cond0_1 i) (hc2 : cond0_2 i) (hc3 : cond0_3 i) :
    out0_D_3 (F := F) c i arg4 harg4 arg5 harg5 arg6 harg6 arg7 harg7 arg8 harg8 arg9 harg9 arg10 harg10 arg11 harg11 hc0 hc1 hc2 hc3 x0 x1 x2 xs0 xs1 xs2 xs3 = finOut (allC (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) xs0 x1) xs1 xs3 x2) (allL (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) xs0 x1) xs1 xs2) := by
  funext y
  unfold out0_D_3
  rw [View.read_writes_junk_eq_canon]
  unfold kernelRun0_D
  dsimp only
  sl_unfold_words
  simp only [View.readAt_eq_ld, harg4.read_unread, harg5.read_unread, harg6.read_unread, harg8.read_unread, harg9.read_unread,
    harg10.read_unread, harg11.read_unread]
  rw [readCov_whole arg11.view _ _ (allC (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) xs0 x1) xs1 xs3 x2) (fun y => by
    have hy : (y 0).val < 8192 := (y 0).isLt
    refine canon_head _ y 7680 _ _ _ (by decide) (by decide) rfl fun h15 => ?_
    refine canon_head _ y 7168 _ _ _ (by decide) (by decide) rfl fun h14 => ?_
    refine canon_head _ y 6656 _ _ _ (by decide) (by decide) rfl fun h13 => ?_
    refine canon_head _ y 6144 _ _ _ (by decide) (by decide) rfl fun h12 => ?_
    refine canon_head _ y 5632 _ _ _ (by decide) (by decide) rfl fun h11 => ?_
    refine canon_head _ y 5120 _ _ _ (by decide) (by decide) rfl fun h10 => ?_
    refine canon_head _ y 4608 _ _ _ (by decide) (by decide) rfl fun h9 => ?_
    refine canon_head _ y 4096 _ _ _ (by decide) (by decide) rfl fun h8 => ?_
    refine canon_head _ y 3584 _ _ _ (by decide) (by decide) rfl fun h7 => ?_
    refine canon_head _ y 3072 _ _ _ (by decide) (by decide) rfl fun h6 => ?_
    refine canon_head _ y 2560 _ _ _ (by decide) (by decide) rfl fun h5 => ?_
    refine canon_head _ y 2048 _ _ _ (by decide) (by decide) rfl fun h4 => ?_
    refine canon_head _ y 1536 _ _ _ (by decide) (by decide) rfl fun h3 => ?_
    refine canon_head _ y 1024 _ _ _ (by decide) (by decide) rfl fun h2 => ?_
    refine canon_head _ y 512 _ _ _ (by decide) (by decide) rfl fun h1 => ?_
    refine canon_head _ y 0 _ _ _ (by decide) (by decide) rfl fun h0 => ?_
    exfalso; omega)]
  rw [readCov_whole arg10.view _ _ (allL (SE (Scalar.select (Scalar.cmpi .sle (BitVec.ofNat 32 (i 3).val) (BitVec.ofNat 32 (i 2).val)) (BitVec.ofNat 32 (i 2).val) (Scalar.subi 7#32 (BitVec.ofNat 32 (i 2).val))) (Scalar.select (Scalar.cmpi .sle (BitVec.ofNat 32 (i 3).val) (BitVec.ofNat 32 (i 2).val)) (BitVec.ofNat 32 (i 3).val) (Scalar.subi (Scalar.subi (BitVec.ofNat 32 (i 3).val) (BitVec.ofNat 32 (i 2).val)) 1#32)) xs0 x1) xs1 xs2) (fun y => by
    have hy : (y 0).val < 8192 := (y 0).isLt
    refine canon_head _ y 7680 _ _ _ (by decide) (by decide) rfl fun h15 => ?_
    refine canon_head _ y 7168 _ _ _ (by decide) (by decide) rfl fun h14 => ?_
    refine canon_head _ y 6656 _ _ _ (by decide) (by decide) rfl fun h13 => ?_
    refine canon_head _ y 6144 _ _ _ (by decide) (by decide) rfl fun h12 => ?_
    refine canon_head _ y 5632 _ _ _ (by decide) (by decide) rfl fun h11 => ?_
    refine canon_head _ y 5120 _ _ _ (by decide) (by decide) rfl fun h10 => ?_
    refine canon_head _ y 4608 _ _ _ (by decide) (by decide) rfl fun h9 => ?_
    refine canon_head _ y 4096 _ _ _ (by decide) (by decide) rfl fun h8 => ?_
    refine canon_head _ y 3584 _ _ _ (by decide) (by decide) rfl fun h7 => ?_
    refine canon_head _ y 3072 _ _ _ (by decide) (by decide) rfl fun h6 => ?_
    refine canon_head _ y 2560 _ _ _ (by decide) (by decide) rfl fun h5 => ?_
    refine canon_head _ y 2048 _ _ _ (by decide) (by decide) rfl fun h4 => ?_
    refine canon_head _ y 1536 _ _ _ (by decide) (by decide) rfl fun h3 => ?_
    refine canon_head _ y 1024 _ _ _ (by decide) (by decide) rfl fun h2 => ?_
    refine canon_head _ y 512 _ _ _ (by decide) (by decide) rfl fun h1 => ?_
    refine canon_head _ y 0 _ _ _ (by decide) (by decide) rfl fun h0 => ?_
    exfalso; omega)]
  have hy : (y 1).val < 1024 := (y 1).isLt
  refine canon_pair _ _ y 896 _ _ _ (by decide) slices_S8192x128_o7168_0_S512x128 slices_S8192x128_o7680_0_S512x128 rfl fun h7 => ?_
  refine canon_pair _ _ y 768 _ _ _ (by decide) slices_S8192x128_o6144_0_S512x128 slices_S8192x128_o6656_0_S512x128 rfl fun h6 => ?_
  refine canon_pair _ _ y 640 _ _ _ (by decide) slices_S8192x128_o5120_0_S512x128 slices_S8192x128_o5632_0_S512x128 rfl fun h5 => ?_
  refine canon_pair _ _ y 512 _ _ _ (by decide) slices_S8192x128_o4096_0_S512x128 slices_S8192x128_o4608_0_S512x128 rfl fun h4 => ?_
  refine canon_pair _ _ y 384 _ _ _ (by decide) slices_S8192x128_o3072_0_S512x128 slices_S8192x128_o3584_0_S512x128 rfl fun h3 => ?_
  refine canon_pair _ _ y 256 _ _ _ (by decide) slices_S8192x128_o2048_0_S512x128 slices_S8192x128_o2560_0_S512x128 rfl fun h2 => ?_
  refine canon_pair _ _ y 128 _ _ _ (by decide) slices_S8192x128_o1024_0_S512x128 slices_S8192x128_o1536_0_S512x128 rfl fun h1 => ?_
  refine canon_pair _ _ y 0 _ _ _ (by decide) slices_S8192x128_o0_0_S512x128 slices_S8192x128_o512_0_S512x128 rfl fun h0 => ?_
  exfalso; omega

end Cert.Mla

end
-- ==== Proof.Mla.Online.lean ====
/-
  One row of the online softmax over the extended reals. A score is recorded by its weight: the score of weight
  `w > 0` is `log₂ w`, the score of weight `0` is `⊥` (a column that is not visible). After `n` blocks of keys the
  row's maximum has some weight `c`, its sums are the visible weights over `c`, its accumulator the weighted values
  over `c`; the quotient that the last step stores does not depend on `c`.
-/
module

public import Idealize.ShloMosaic.PureOps.Ideal
public import Idealize.ShloMosaic.PureOps.Ideal.Laws

@[expose] public section

noncomputable section

namespace Cert.Mla

open Idealize.ShloMosaic

/-- The coercion of a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A nonnegative real factor goes into a finite sum. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top _), ih]

/-- The logarithm at base two. -/
def lg (w : ℝ) : ℝ := Real.log w * (Real.log 2)⁻¹

theorem lg_le {a b : ℝ} (ha : 0 < a) (h : a ≤ b) : lg a ≤ lg b :=
  mul_le_mul_of_nonneg_right (Real.log_le_log ha h) (inv_nonneg.mpr (Real.log_pos (by norm_num)).le)

theorem rpow_lg_sub {w c : ℝ} (hw : 0 < w) (hc : 0 < c) : (2 : ℝ) ^ (lg w - lg c) = w / c := by
  have h2 : Real.log 2 ≠ 0 := (Real.log_pos (by norm_num)).ne'
  rw [Real.rpow_def_of_pos (by norm_num), lg, lg, ← sub_mul, mul_comm (Real.log w - Real.log c), ← mul_assoc,
    mul_inv_cancel₀ h2, one_mul, Real.exp_sub, Real.exp_log hw, Real.exp_log hc]

/-- The score of weight `w`. -/
def Sc (w : ℝ) (s : EReal) : Prop := (0 < w ∧ s = ((lg w : ℝ) : EReal)) ∨ (w = 0 ∧ s = ⊥)

theorem Sc.nonneg {w : ℝ} {s : EReal} (h : Sc w s) : 0 ≤ w := by
  rcases h with ⟨h, _⟩ | ⟨h, _⟩
  · exact h.le
  · exact h.ge

theorem Sc.zero : Sc 0 ⊥ := .inr ⟨rfl, rfl⟩

theorem Sc.max {a b : ℝ} {s t : EReal} (h : Sc a s) (k : Sc b t) : Sc (max a b) (max s t) := by
  rcases h with ⟨ha, rfl⟩ | ⟨rfl, rfl⟩ <;> rcases k with ⟨hb, rfl⟩ | ⟨rfl, rfl⟩
  · refine .inl ⟨lt_max_of_lt_left ha, ?_⟩
    rcases le_total a b with hab | hab
    · rw [max_eq_right hab, max_eq_right (EReal.coe_le_coe_iff.mpr (lg_le ha hab))]
    · rw [max_eq_left hab, max_eq_left (EReal.coe_le_coe_iff.mpr (lg_le hb hab))]
  · rw [max_eq_left ha.le, max_eq_left bot_le]; exact .inl ⟨ha, rfl⟩
  · rw [max_eq_right hb.le, max_eq_right bot_le]; exact .inl ⟨hb, rfl⟩
  · rw [max_self, max_self]; exact .inr ⟨rfl, rfl⟩

/-- The largest of finitely many scores is the score of some weight that bounds theirs. -/
theorem Sc.sup {ι : Type*} (f : ι → ℝ) (s : ι → EReal) (h : ∀ i, Sc (f i) (s i)) (A : Finset ι) :
    ∃ b, Sc b (A.sup s) ∧ ∀ i ∈ A, f i ≤ b := by
  classical
  induction A using Finset.induction_on with
  | empty => exact ⟨0, by simpa using Sc.zero, by simp⟩
  | insert i A hi ih =>
    obtain ⟨b, hb, hle⟩ := ih
    refine ⟨Max.max (f i) b, ?_, ?_⟩
    · rw [Finset.sup_insert]; exact (h i).max hb
    · intro j hj
      rcases Finset.mem_insert.mp hj with rfl | hj
      · exact le_max_left _ _
      · exact (hle j hj).trans (le_max_right _ _)

/-- Against a maximum of positive weight `c`, the power of a score is its weight over `c`. -/
theorem Sc.exp2 {w c : ℝ} {s m : EReal} (h : Sc w s) (k : Sc c m) (hc : 0 < c) :
    Ideal.exp2 (s - m) = ((w / c : ℝ) : EReal) := by
  rcases k with ⟨_, rfl⟩ | ⟨h0, _⟩
  swap
  · exact absurd h0 hc.ne'
  rcases h with ⟨hw, rfl⟩ | ⟨rfl, rfl⟩
  · rw [← EReal.coe_sub, Ideal.exp2_coe]
    congr 1
    exact rpow_lg_sub hw hc
  · rw [EReal.bot_sub, Ideal.exp2_bot]; simp

/-- The weight of a score in natural units. -/
theorem Sc.of_real (t : ℝ) : Sc (Real.exp t) ((t * (Real.log 2)⁻¹ : ℝ) : EReal) :=
  .inl ⟨Real.exp_pos t, by rw [lg, Real.log_exp]⟩

variable {D : Type*}

/-- Lane `y`'s part of a block of 512: the columns `y`, `y + 128`, `y + 256`, `y + 384`. -/
def lane4 (y : Fin 128) (g : Fin 4) : Fin 512 := ⟨128 * g.val + y.val, by omega⟩

theorem sum_lane4 {M : Type*} [AddCommMonoid M] (f : Fin 512 → M) : ∑ y : Fin 128, ∑ g : Fin 4, f (lane4 y g) = ∑ j, f j := by
  rw [Finset.sum_comm, ← Finset.sum_product', Finset.univ_product_univ]
  refine Finset.sum_bij' (fun p _ => lane4 p.2 p.1) (fun j _ => (⟨j.val / 128, by omega⟩, ⟨j.val % 128, by omega⟩)) ?_ ?_ ?_ ?_ ?_
  · intros; exact Finset.mem_univ _
  · intros; exact Finset.mem_univ _
  · rintro ⟨g, y⟩ _
    refine Prod.ext (Fin.ext ?_) (Fin.ext ?_)
    · show (128 * g.val + y.val) / 128 = g.val; omega
    · show (128 * g.val + y.val) % 128 = y.val; omega
  · intro j _; refine Fin.ext ?_; show 128 * (j.val / 128) + j.val % 128 = j.val; omega
  · intros; rfl

/-- What a row's maximum, sums and accumulator hold after `n` blocks. -/
structure Inv (w : ℕ → Fin 512 → ℝ) (V : ℕ → Fin 512 → D → EReal) (n : ℕ) (m : Fin 128 → EReal) (l : Fin 128 → EReal)
    (acc : D → EReal) : Prop where
  ex : ∃ c : ℝ, (∀ y, Sc c (m y)) ∧ (0 < n → 0 < c)
    ∧ (∀ y, l y = (((∑ b ∈ Finset.range n, ∑ g : Fin 4, w b (lane4 y g)) / c : ℝ) : EReal))
    ∧ (∀ d, acc d = ∑ b ∈ Finset.range n, ∑ j, ((w b j / c : ℝ) : EReal) * V b j d)

theorem Inv.init (w : ℕ → Fin 512 → ℝ) (V : ℕ → Fin 512 → D → EReal) :
    Inv w V 0 (fun _ => ⊥) (fun _ => 0) (fun _ => 0) :=
  ⟨0, fun _ => Sc.zero, fun h => absurd h (lt_irrefl 0), fun y => by simp, fun d => by simp⟩

/-- One block: the update that the kernel makes. -/
theorem Inv.step {w : ℕ → Fin 512 → ℝ} {V : ℕ → Fin 512 → D → EReal} {n : ℕ} {m l : Fin 128 → EReal} {acc : D → EReal}
    (h : Inv w V n m l acc) (s : Fin 512 → EReal) (hs : ∀ j, Sc (w n j) (s j)) (hpos : 0 < n ∨ ∃ j, 0 < w n j)
    (m' l' : Fin 128 → EReal) (acc' : D → EReal) (p : Fin 512 → EReal) (α : D → EReal)
    (hm : ∀ y, m' y = max (m y) (Finset.univ.sup s))
    (hp : ∀ y g, p (lane4 y g) = Ideal.exp2 (s (lane4 y g) - m' y))
    (hα : ∀ d, ∃ y, α d = Ideal.exp2 (m y - m' y))
    (hl : ∀ y, l' y = Ideal.exp2 (m y - m' y) * l y
      + (((p (lane4 y 0) + p (lane4 y 1)) + p (lane4 y 2)) + p (lane4 y 3)))
    (hacc : ∀ d, acc' d = α d * acc d + ∑ j, p j * V n j d) :
    Inv w V (n + 1) m' l' acc' := by
  obtain ⟨c, hc, hc0, hlc, hac⟩ := h
  obtain ⟨b, hb, hble⟩ := Sc.sup (w n) s hs Finset.univ
  have hw : ∀ j, 0 ≤ w n j := fun j => (hs j).nonneg
  have hm' : ∀ y, Sc (max c b) (m' y) := fun y => by rw [hm]; exact (hc y).max hb
  have hc' : 0 < max c b := by
    rcases hpos with h | ⟨j, h⟩
    · exact lt_max_of_lt_left (hc0 h)
    · exact lt_max_of_lt_right (h.trans_le (hble j (Finset.mem_univ j)))
  set e := max c b with he
  have hcn : 0 ≤ c := (hc 0).nonneg
  have hα' : ∀ y, Ideal.exp2 (m y - m' y) = ((c / e : ℝ) : EReal) := fun y => (hc y).exp2 (hm' y) hc'
  have hpj : ∀ j, p j = ((w n j / e : ℝ) : EReal) := by
    intro j
    have hj : j = lane4 ⟨j.val % 128, by omega⟩ ⟨j.val / 128, by omega⟩ := by
      refine Fin.ext ?_; show j.val = 128 * (j.val / 128) + j.val % 128; omega
    rw [hj, hp]; exact (hs _).exp2 (hm' _) hc'
  refine ⟨e, hm', fun _ => hc', fun y => ?_, fun d => ?_⟩
  · rw [hl, hα', hlc, hpj, hpj, hpj, hpj, ← EReal.coe_mul, ← EReal.coe_add, ← EReal.coe_add, ← EReal.coe_add, ← EReal.coe_add]
    congr 1
    rw [Finset.sum_range_succ, Fin.sum_univ_four (f := fun g => w n (lane4 y g)), add_div]
    congr 1
    · rcases Nat.eq_zero_or_pos n with rfl | hn
      · simp
      · have := (hc0 hn).ne'
        field_simp
    · ring
  · obtain ⟨y, hy⟩ := hα d
    rw [hacc, hy, hα', hac, coe_mul_sum _ _ (div_nonneg hcn hc'.le), Finset.sum_range_succ]
    congr 1
    · refine Finset.sum_congr rfl fun b hb => ?_
      have hn : 0 < n := (Nat.zero_le b).trans_lt (Finset.mem_range.mp hb)
      rw [coe_mul_sum _ _ (div_nonneg hcn hc'.le)]
      refine Finset.sum_congr rfl fun j _ => ?_
      rw [← mul_assoc, ← EReal.coe_mul]
      congr 2
      have := (hc0 hn).ne'
      field_simp
    · exact Finset.sum_congr rfl fun j _ => by rw [hpj]

/-- The quotient stored at the last block. -/
theorem Inv.quot {w : ℕ → Fin 512 → ℝ} {V : ℕ → Fin 512 → D → EReal} {n : ℕ} {m l : Fin 128 → EReal} {acc : D → EReal}
    (h : Inv w V n m l acc) (hn : 0 < n) (W : ℝ) (hW : W = ∑ b ∈ Finset.range n, ∑ j, w b j) (hW0 : 0 < W) (d : D) :
    Ideal.div (acc d) (∑ y, l y) = ∑ b ∈ Finset.range n, ∑ j, ((w b j / W : ℝ) : EReal) * V b j d := by
  obtain ⟨c, hc, hc0, hlc, hac⟩ := h
  have hcp := hc0 hn
  have hL : ∑ y, l y = ((W / c : ℝ) : EReal) := by
    rw [Finset.sum_congr rfl fun y _ => hlc y, ← coe_sum]
    congr 1
    rw [← Finset.sum_div, Finset.sum_comm, Finset.sum_congr rfl fun b _ => sum_lane4 (w b), hW]
  have hne : W / c ≠ 0 := (div_pos hW0 hcp).ne'
  rw [hL, Ideal.div_coe hne, hac, mul_comm, coe_mul_sum _ _ (by positivity)]
  refine Finset.sum_congr rfl fun b _ => ?_
  rw [coe_mul_sum _ _ (by positivity)]
  refine Finset.sum_congr rfl fun j _ => ?_
  rw [← mul_assoc, ← EReal.coe_mul]
  congr 2
  field_simp

end Cert.Mla

end
-- ==== Proof.Mla.Read.lean ====
/-
  One head's step read at an index, at the ideal values.
-/
module

public import proofs.«01_k».proof.Proof.Mla.Body
public import proofs.«01_k».proof.Proof.Mla.Online
public import Idealize.ShloMosaic.Lib.MatmulPlain
public import Idealize.ShloMosaic.Lib.ValueIdx

@[expose] public section

set_option maxRecDepth 16384

noncomputable section

namespace Cert.Mla

open Cert.KernelIdeal Cert.KernelIdeal.Gen Idealize.ShloMosaic Idealize.ShloMosaic.TcCoe Idealize.SL.Sem
open scoped BigOperators

/-- An index of a head's rows. -/
abbrev iR (r : Fin 512) (d : Fin 128) : S512x128.Idx := ValueIdx.ix2 r d
/-- An index of a head's scores. -/
abbrev iS (r j : Fin 512) : S512x512.Idx := ValueIdx.ix2 r j

theorem ofBits_neg_inf : Ideal.ofBits .f32 0xFF800000#32 = ⊥ := by simp [Ideal.ofBits, Ideal.ieee]

theorem sFull_at (q k : Vec Ideal S512x128 .bf16) (r j : Fin 512) :
    sFull q k (iS r j) = ∑ d : Fin 128, q (iR r d) * k (iR j d) := by
  unfold sFull
  rw [shapeCast_self]
  refine (Ideal.matmul_transposedRhs_apply (M := 512) (K := 128) (N := 512) none q k _ r j).trans ?_
  show Ideal.ofBits .f32 0x00000000#32 + _ = _
  rw [Ideal.ofBits_zero_f32, zero_add]

theorem hM_at (s : FVec Ideal S512x512 .f32) (m : Vec Ideal S512x128 .f32) (r : Fin 512) (d : Fin 128) :
    hM s m (iR r d) = max (m (iR r d)) (Finset.univ.sup fun j : Fin 512 => s (iS r j)) := by
  show max _ _ = _
  refine congrArg (max (m (iR r d))) ?_
  refine (broadcastTo_apply (s := S512x1) (t := S512x128) _ _ _ (ValueIdx.ix2 (n0 := 512) (n1 := 1) r 0)
    (fun a => by match a with | ⟨0, _⟩ => rfl | ⟨1, _⟩ => rfl)).trans ?_
  refine (shapeCast_apply (s := S512) (t := S512x1) _ _ _ (ValueIdx.ix1 r) ?_).trans ?_
  · refine (Shape.rowMajor_val_one _).trans ((Shape.rowMajor_val_two _).trans ?_).symm
    show r.val * 1 + 0 = r.val
    omega
  · refine (Ideal.multiReduction_maximumf_single _ _ _ _ _ _).trans ?_
    show Finset.univ.fold max (Ideal.ofBits .f32 0xFF800000#32) _ = _
    rw [ofBits_neg_inf]
    refine congrArg (Finset.univ.sup) (funext fun j => congrArg s ?_)
    funext b
    match b with
    | ⟨0, _⟩ => rfl
    | ⟨1, _⟩ => rfl

theorem hMs_at (s : FVec Ideal S512x512 .f32) (m : Vec Ideal S512x128 .f32) (r : Fin 512) (d : Fin 128) :
    hMs s m (iR r d) = max (m (iR r d)) (Finset.univ.sup fun j : Fin 512 => s (iS r j)) := by
  unfold hMs; rw [shapeCast_self]; exact hM_at s m r d

theorem hP_at (s : FVec Ideal S512x512 .f32) (m : Vec Ideal S512x128 .f32) (r : Fin 512) (y : Fin 128) (g : Fin 4) :
    hP s m (iS r (lane4 y g)) = Ideal.exp2 (s (iS r (lane4 y g)) - hMs s m (iR r y)) := by
  unfold hMs; rw [shapeCast_self]
  show Ideal.exp2 (_ - _) = _
  refine congrArg (fun z => Ideal.exp2 (s (iS r (lane4 y g)) - z)) ?_
  refine concatenate_apply_piece (t := S512x512) 1 _ _ _ g.val (by show g.val < 4; exact g.isLt) S512x128 (hM s m) ?_ rfl (128 * g.val) ?_ (iR r y)
    (fun b hb => by match b with | ⟨0, _⟩ => rfl | ⟨1, _⟩ => exact absurd rfl hb) ?_
  · fin_cases g <;> rfl
  · fin_cases g <;> rfl
  · rfl

theorem hA_at (s : FVec Ideal S512x512 .f32) (m : Vec Ideal S512x128 .f32) (r : Fin 512) (d : Fin 128) :
    hA s m (iR r d) = Ideal.exp2 (m (iR r d) - hMs s m (iR r d)) := by
  unfold hMs; rw [shapeCast_self]; rfl

theorem slice_at (p : FVec Ideal S512x512 .f32) (r : Fin 512) (y : Fin 128) (g : Fin 4) (h : S512x512.Slices ![0, 128 * g.val] S512x128) :
    extractStridedSlice S512x128 ![0, 128 * g.val] p h (iR r y) = p (iS r (lane4 y g)) :=
  extractStridedSlice_apply (s := S512x512) (t := S512x128) _ _ _ _ _ fun b => by
    match b with
    | ⟨0, _⟩ => exact (Nat.zero_add _).symm
    | ⟨1, _⟩ => rfl

theorem hL_at (s : FVec Ideal S512x512 .f32) (m l : Vec Ideal S512x128 .f32) (r : Fin 512) (y : Fin 128) :
    hL s m l (iR r y) = Ideal.exp2 (m (iR r y) - hMs s m (iR r y)) * l (iR r y)
      + (((hP s m (iS r (lane4 y 0)) + hP s m (iS r (lane4 y 1))) + hP s m (iS r (lane4 y 2))) + hP s m (iS r (lane4 y 3))) := by
  unfold hL
  rw [shapeCast_self, ← hA_at]
  rw [← slice_at (hP s m) r y 0 slices_S512x512_o0_0_S512x128, ← slice_at (hP s m) r y 1 slices_S512x512_o0_128_S512x128,
    ← slice_at (hP s m) r y 2 slices_S512x512_o0_256_S512x128, ← slice_at (hP s m) r y 3 slices_S512x512_o0_384_S512x128]
  rfl

theorem hC_at (s : FVec Ideal S512x512 .f32) (m a : Vec Ideal S512x128 .f32) (v : Vec Ideal S512x128 .bf16) (r : Fin 512) (d : Fin 128) :
    hC s m a v (iR r d) = Ideal.exp2 (m (iR r d) - hMs s m (iR r d)) * a (iR r d) + ∑ j : Fin 512, hP s m (iS r j) * v (iR j d) := by
  unfold hC
  rw [shapeCast_self, shapeCast_self, ← hA_at]
  refine congrArg (hA s m (iR r d) * a (iR r d) + ·) ?_
  refine (Ideal.matmul_plain_apply (M := 512) (K := 512) (N := 128) none _ _ _ r d).trans ?_
  show Ideal.ofBits .f32 0x00000000#32 + _ = _
  rw [Ideal.ofBits_zero_f32, zero_add]
  rfl

/-- A row and a lane of the scratch. -/
abbrev iX (h : Fin 16) (r : Fin 512) (d : Fin 128) : S8192x128.Idx :=
  ValueIdx.ix2 (n0 := 8192) (n1 := 128) ⟨512 * h.val + r.val, by omega⟩ d

/-- A row and a head's lane of a window. -/
abbrev iW (h : Fin 16) (r : Fin 512) (d : Fin 128) : S512x2048.Idx :=
  ValueIdx.ix2 (n0 := 512) (n1 := 2048) r ⟨128 * h.val + d.val, by omega⟩

theorem glue_at {F : FTy → Type} {e : EltTy} (f : Fin 16 → S512x128.Idx → Elt F e) (h : Fin 16) (r : Fin 512) (d : Fin 128) :
    glue f (iX h r d) = f h (iR r d) := by
  have eh : hd (iX h r d) = h := Fin.ext (by show (512 * h.val + r.val) / 512 = h.val; omega)
  have el : loc (iX h r d) = iR r d := by
    funext b
    match b with
    | ⟨0, _⟩ => refine Fin.ext ?_; show (512 * h.val + r.val) % 512 = r.val; omega
    | ⟨1, _⟩ => rfl
  show f (hd _) (loc _) = _
  rw [eh, el]

theorem rowsOf_at {F : FTy → Type} {e : EltTy} (X : S8192x128.Idx → Elt F e) (h : Fin 16) (r : Fin 512) (d : Fin 128) :
    rowsOf X h (iR r d) = X (iX h r d) := by
  refine congrArg X (funext fun b => ?_)
  match b with
  | ⟨0, _⟩ => refine Fin.ext ?_; show 512 * h.val + 1 * r.val = 512 * h.val + r.val; omega
  | ⟨1, _⟩ => refine Fin.ext ?_; show 0 + 1 * d.val = d.val; omega

theorem lanesOf_at {F : FTy → Type} {e : EltTy} (X : S512x2048.Idx → Elt F e) (h : Fin 16) (r : Fin 512) (d : Fin 128) :
    lanesOf X h (iR r d) = X (iW h r d) := by
  refine congrArg X (funext fun b => ?_)
  match b with
  | ⟨0, _⟩ => refine Fin.ext ?_; show 0 + 1 * r.val = r.val; omega
  | ⟨1, _⟩ => refine Fin.ext ?_; show 128 * h.val + 1 * d.val = 128 * h.val + d.val; omega

theorem newQ_at (x0 : Vec Ideal S512x2048 .bf16) (h : Fin 16) (r : Fin 512) (d : Fin 128) :
    newQ x0 (iX h r d) = x0 (iW h r d) := by
  unfold newQ
  rw [glue_at]
  have e : k0_pay8 (lanesOf x0 h) = lanesOf x0 h := by unfold k0_pay8; simp only [shapeCast_self]
  rw [e, lanesOf_at]

theorem fillM_at (i : S8192x128.Idx) : k0_pay24 (F := Ideal) i = ⊥ := by
  unfold k0_pay24
  simp only [shapeCast_self]
  exact ofBits_neg_inf

theorem fillL_at (i : S8192x128.Idx) : k0_pay25 (F := Ideal) i = 0 := by
  unfold k0_pay25
  simp only [shapeCast_self]
  exact Ideal.ofBits_zero_f32

theorem fillC_at (i : S8192x128.Idx) : k0_pay1 (k0_pay26 (F := Ideal)) i = 0 := by
  unfold k0_pay1
  simp only [shapeCast_self]
  exact Ideal.ofBits_zero_f32

theorem pay274_at (a l : Vec Ideal S8192x128 .f32) (r : Fin 8192) (d : Fin 128) :
    k0_pay274 a l (ValueIdx.ix2 r d) = Ideal.div (a (ValueIdx.ix2 r d)) (∑ y : Fin 128, l (ValueIdx.ix2 r y)) := by
  show Ideal.div _ _ = _
  refine congrArg (Ideal.div _) ?_
  refine (broadcastTo_apply (s := S8192x1) (t := S8192x128) _ _ _ (ValueIdx.ix2 (n0 := 8192) (n1 := 1) r 0)
    (fun a => by match a with | ⟨0, _⟩ => rfl | ⟨1, _⟩ => rfl)).trans ?_
  refine (shapeCast_apply (s := S8192) (t := S8192x1) _ _ _ (ValueIdx.ix1 r) ?_).trans ?_
  · refine (Shape.rowMajor_val_one _).trans ((Shape.rowMajor_val_two _).trans ?_).symm
    show r.val * 1 + 0 = r.val
    omega
  · refine (Ideal.multiReduction_add_single _ _ _ _ _ _).trans ?_
    refine Finset.sum_congr rfl fun j _ => congrArg l ?_
    funext b
    match b with
    | ⟨0, _⟩ => rfl
    | ⟨1, _⟩ => rfl

/-- On the diagonal, a column after its row is masked. -/
theorem sEdge_at (v : BitVec 32) (q k : Vec Ideal S512x128 .bf16) (r j : Fin 512) :
    sEdge v v q k (iS r j) = if j.val ≤ r.val then sFull q k (iS r j) else ⊥ := by
  have hm : k0_pay151 v v (iS r j) = if j.val ≤ r.val then 1#1 else 0#1 := by
    refine (show k0_pay151 v v (iS r j) = IntOp.cmpi .sge ((BitVec.ofNat 32 r.val &&& 511#32) - BitVec.ofNat 32 j.val)
      (v * 512#32 - v * 512#32) from by
        rw [← iota_single_apply .tc S512x512 32 0 iota_S512x512_d0_w32 (iS r j), ← iota_single_apply .tc S512x512 32 1 iota_S512x512_d1_w32 (iS r j)]
        rfl).trans ?_
    have hr := r.isLt
    have hj := j.isLt
    have er : BitVec.ofNat 32 r.val &&& 511#32 = BitVec.ofNat 32 r.val := by
      refine BitVec.eq_of_toNat_eq ?_
      rw [BitVec.toNat_and, BitVec.toNat_ofNat, Nat.mod_eq_of_lt (by omega)]
      refine (Nat.and_two_pow_sub_one_eq_mod r.val 9).trans ?_
      exact Nat.mod_eq_of_lt hr
    rw [er, BitVec.sub_self]
    by_cases h : j.val ≤ r.val
    · rw [if_pos h]
      have e : BitVec.ofNat 32 r.val - BitVec.ofNat 32 j.val = BitVec.ofNat 32 (r.val - j.val) := by
        refine BitVec.eq_of_toNat_eq ?_
        simp only [BitVec.toNat_sub, BitVec.toNat_ofNat]
        omega
      rw [e]
      exact (by decide +kernel : ∀ k : Fin 512, IntOp.cmpi .sge (BitVec.ofNat 32 k.val) 0#32 = 1#1) ⟨r.val - j.val, by omega⟩
    · rw [if_neg h]
      have e : BitVec.ofNat 32 r.val - BitVec.ofNat 32 j.val = BitVec.ofNat 32 (4294967295 - (j.val - r.val - 1)) := by
        refine BitVec.eq_of_toNat_eq ?_
        simp only [BitVec.toNat_sub, BitVec.toNat_ofNat]
        omega
      rw [e]
      exact (by decide +kernel : ∀ k : Fin 512, IntOp.cmpi .sge (BitVec.ofNat 32 (4294967295 - k.val)) 0#32 = 0#1)
        ⟨j.val - r.val - 1, by omega⟩
  show (if k0_pay151 v v (iS r j) = 1#1 then sFull q k (iS r j) else _) = _
  rw [hm]
  by_cases h : j.val ≤ r.val
  · rw [if_pos h, if_pos h, if_pos rfl]
  · rw [if_neg h, if_neg h, if_neg (by decide)]
    rfl

end Cert.Mla

end
-- ==== Proof.Mla.Points.lean ====
/-
  The grid points of the attention kernel: what the scratch holds after each one, and what the last block of a row of
  blocks writes.
-/
module

public import proofs.«01_k».proof.Proof.Mla.CasesAB
public import proofs.«01_k».proof.Proof.Mla.CasesCD
public import proofs.«01_k».proof.Proof.Mla.Read

@[expose] public section

set_option maxRecDepth 16384

noncomputable section

namespace Cert.Mla

open Cert.KernelIdeal Cert.KernelIdeal.Gen Idealize.ShloMosaic Idealize.ShloMosaic.TcCoe Idealize.SL.Sem
open scoped BigOperators

/-! ## All heads and rows -/

/-- The invariant of every head and row, over the first `n` blocks of keys. -/
def InvAll (w : Fin 16 → Fin 512 → ℕ → Fin 512 → ℝ) (W : Fin 16 → ℕ → Fin 512 → Fin 128 → EReal) (n : ℕ)
    (ms ls cs : Vec Ideal S8192x128 .f32) : Prop :=
  ∀ h r, Inv (w h r) (W h) n (fun y => ms (iX h r y)) (fun y => ls (iX h r y)) (fun d => cs (iX h r d))

theorem InvAll.init (w : Fin 16 → Fin 512 → ℕ → Fin 512 → ℝ) (W : Fin 16 → ℕ → Fin 512 → Fin 128 → EReal) :
    InvAll w W 0 (k0_pay24 (F := Ideal)) (k0_pay25 (F := Ideal)) (k0_pay1 (k0_pay26 (F := Ideal))) := fun h r => by
  simp only [fillM_at, fillL_at, fillC_at]
  exact Inv.init _ _

theorem InvAll.step {w : Fin 16 → Fin 512 → ℕ → Fin 512 → ℝ} {W : Fin 16 → ℕ → Fin 512 → Fin 128 → EReal} {n : ℕ}
    {ms ls cs : Vec Ideal S8192x128 .f32} (H : InvAll w W n ms ls cs) (S : Fin 16 → FVec Ideal S512x512 .f32)
    (x2 : Vec Ideal S512x2048 .bf16) (hS : ∀ h r j, Sc (w h r n j) (S h (iS r j)))
    (hpos : ∀ h r, 0 < n ∨ ∃ j, 0 < w h r n j) (hW : ∀ h j d, x2 (iW h j d) = W h n j d) :
    InvAll w W (n + 1) (allM S ms) (allL S ms ls) (allC S ms cs x2) := fun h r => by
  have eM : ∀ y, allM S ms (iX h r y) = hMs (S h) (rowsOf ms h) (iR r y) := fun y => glue_at _ h r y
  refine (H h r).step (fun j => S h (iS r j)) (hS h r) (hpos h r) _ _ _ (fun j => hP (S h) (rowsOf ms h) (iS r j))
    (fun d => Ideal.exp2 (rowsOf ms h (iR r d) - hMs (S h) (rowsOf ms h) (iR r d))) ?_ ?_ ?_ ?_ ?_
  · intro y
    rw [eM, hMs_at, rowsOf_at]
  · intro y g
    rw [eM]; exact hP_at _ _ r y g
  · intro d
    exact ⟨d, by rw [eM, rowsOf_at]⟩
  · intro y
    rw [eM, ← rowsOf_at ms, ← rowsOf_at ls]
    exact (glue_at _ h r y).trans (hL_at _ _ _ r y)
  · intro d
    refine (glue_at _ h r d).trans ?_
    rw [hC_at, rowsOf_at cs]
    refine congrArg (_ + ·) (Finset.sum_congr rfl fun j _ => ?_)
    rw [lanesOf_at, hW]

/-- The output block of a finished row of blocks. -/
theorem InvAll.out {w : Fin 16 → Fin 512 → ℕ → Fin 512 → ℝ} {W : Fin 16 → ℕ → Fin 512 → Fin 128 → EReal} {n : ℕ}
    {ms ls cs : Vec Ideal S8192x128 .f32} (H : InvAll w W n ms ls cs) (hn : 0 < n) (r : Fin 512) (e : Fin 1024) (h : Fin 16)
    (d : Fin 128) (hh : h.val = e.val / 64) (hd : d.val = e.val % 64) (Z : ℝ)
    (hZ : Z = ∑ b ∈ Finset.range n, ∑ j, w h r b j) (hZ0 : 0 < Z) :
    finOut cs ls (ValueIdx.ix2 (n0 := 512) (n1 := 1024) r e) = ∑ b ∈ Finset.range n, ∑ j, ((w h r b j / Z : ℝ) : EReal) * W h b j d := by
  rw [← (H h r).quot hn Z hZ hZ0 d]
  have e1 : (ValueIdx.ix2 (n0 := 8192) (n1 := 128) ⟨512 * (e.val / 64) + r.val, by omega⟩ ⟨e.val % 64, by omega⟩ : S8192x128.Idx)
      = iX h r d := by
    funext b
    match b with
    | ⟨0, _⟩ => refine Fin.ext ?_; show 512 * (e.val / 64) + r.val = 512 * h.val + r.val; rw [hh]
    | ⟨1, _⟩ => exact Fin.ext hd.symm
  show k0_pay274 cs ls _ = _
  exact (congrArg (k0_pay274 cs ls) e1).trans (pay274_at cs ls _ d)

theorem SF_at (qs : Vec Ideal S8192x128 .bf16) (k : Vec Ideal S512x2048 .bf16) (h : Fin 16) (r j : Fin 512) :
    SF qs k h (iS r j) = ∑ d : Fin 128, qs (iX h r d) * k (iW h j d) :=
  (sFull_at _ _ r j).trans (Finset.sum_congr rfl fun d _ => by rw [rowsOf_at, lanesOf_at])

theorem SE_at (v v' : BitVec 32) (hv : v = v') (qs : Vec Ideal S8192x128 .bf16) (k : Vec Ideal S512x2048 .bf16) (h : Fin 16)
    (r j : Fin 512) : SE v v' qs k h (iS r j) = if j.val ≤ r.val then ∑ d : Fin 128, qs (iX h r d) * k (iW h j d) else ⊥ := by
  subst hv
  rw [← SF_at]
  exact sEdge_at v _ _ r j

/-! ## The grid -/

/-- The batch of a point. -/
def pB (t : ℕ) : ℕ := t / 36
/-- The block of queries of a point. -/
def pQ (t : ℕ) : ℕ := if t % 9 ≤ t / 9 % 4 then t / 9 % 4 else 7 - t / 9 % 4
/-- The block of keys of a point. -/
def pK (t : ℕ) : ℕ := if t % 9 ≤ t / 9 % 4 then t % 9 else t % 9 - t / 9 % 4 - 1

/-- The last point of a row of blocks. -/
abbrev isL (t : ℕ) : Prop :=
  t % 36 = 0 ∨ t % 36 = 8 ∨ t % 36 = 10 ∨ t % 36 = 17 ∨ t % 36 = 20 ∨ t % 36 = 26 ∨ t % 36 = 30 ∨ t % 36 = 35

/-- The first point of a row of blocks. -/
abbrev isF (t : ℕ) : Prop :=
  t % 36 = 0 ∨ t % 36 = 1 ∨ t % 36 = 9 ∨ t % 36 = 11 ∨ t % 36 = 18 ∨ t % 36 = 21 ∨ t % 36 = 27 ∨ t % 36 = 31

theorem pts0 : ∀ t : Fin 144, pB t.val < 4 ∧ pQ t.val < 8 ∧ pK t.val ≤ pQ t.val ∧ (isL t.val → pK t.val = pQ t.val)
    ∧ (¬isL t.val → pK t.val < pQ t.val) ∧ (isF t.val → pK t.val = 0)
    ∧ (¬isF t.val → pB (t.val - 1) = pB t.val ∧ pQ (t.val - 1) = pQ t.val ∧ pK (t.val - 1) + 1 = pK t.val) := by decide +kernel

theorem idx0 : ∀ t : Fin grid0.N, cc0_transform_0 (grid0.coords t) = ![8 * pB t.val + pQ t.val, 0] := by decide +kernel
theorem idx1 : ∀ t : Fin grid0.N, cc0_transform_1 (grid0.coords t) = ![8 * pB t.val + pK t.val, 0] := by decide +kernel
theorem idx2 : ∀ t : Fin grid0.N, cc0_transform_2 (grid0.coords t) = ![8 * pB t.val + pK t.val, 0] := by decide +kernel
theorem idx3 : ∀ t : Fin grid0.N, cc0_transform_3 (grid0.coords t) = ![8 * pB t.val + pQ t.val, 0] := by decide +kernel

end Cert.Mla

end
-- ==== Proof.Mla.Grid.lean ====
/-
  The run of the attention kernel over its grid: after each point the scratch satisfies the invariant of its row of
  blocks, and the last point of a row writes the weighted mean of the values.
-/
module

public import proofs.«01_k».proof.Proof.Mla.Points

@[expose] public section

set_option maxRecDepth 16384

noncomputable section

namespace Cert.Mla

open Cert.KernelIdeal Cert.KernelIdeal.Gen Idealize.ShloMosaic Idealize.ShloMosaic.TcCoe Idealize.SL.Sem
open scoped BigOperators

variable (m : (ℓ : Loc nD τ sig) → Buf (Elt Ideal) ℓ) (c : Dev nD)

theorem tN (t : Fin cfg0.N) : t.val < 144 := lt_of_lt_of_eq t.isLt (show cfg0.N = 144 from N_0)

theorem blk0_at (f : ℕ → ℕ → EReal) (hf : ∀ i : S16384x2048.Idx, V m c (Pipeline.arrRef spec0 0) i = f (i 0).val (i 1).val)
    (t : Fin cfg0.N) (h : Fin 16) (r : Fin 512) (d : Fin 128) :
    (iblk m c 0 t : Vec Ideal S512x2048 .bf16) (iW h r d) = f (512 * (8 * pB t.val + pQ t.val) + r.val) (128 * h.val + d.val) := by
  refine (hf _).trans ?_
  have e := idx0 t
  congr 1
  · show cc0_transform_0 (grid0.coords t) 0 * 512 + 1 * r.val = _
    rw [e]; show (8 * pB t.val + pQ t.val) * 512 + 1 * r.val = _; omega
  · show cc0_transform_0 (grid0.coords t) 1 * 2048 + 1 * (128 * h.val + d.val) = _
    rw [e]; show 0 * 2048 + 1 * (128 * h.val + d.val) = _; omega

theorem blk1_at (f : ℕ → ℕ → EReal) (hf : ∀ i : S16384x2048.Idx, V m c (Pipeline.arrRef spec0 1) i = f (i 0).val (i 1).val)
    (t : Fin cfg0.N) (h : Fin 16) (r : Fin 512) (d : Fin 128) :
    (iblk m c 1 t : Vec Ideal S512x2048 .bf16) (iW h r d) = f (512 * (8 * pB t.val + pK t.val) + r.val) (128 * h.val + d.val) := by
  refine (hf _).trans ?_
  have e := idx1 t
  congr 1
  · show cc0_transform_1 (grid0.coords t) 0 * 512 + 1 * r.val = _
    rw [e]; show (8 * pB t.val + pK t.val) * 512 + 1 * r.val = _; omega
  · show cc0_transform_1 (grid0.coords t) 1 * 2048 + 1 * (128 * h.val + d.val) = _
    rw [e]; show 0 * 2048 + 1 * (128 * h.val + d.val) = _; omega

theorem blk2_at (f : ℕ → ℕ → EReal) (hf : ∀ i : S16384x2048.Idx, V m c (Pipeline.arrRef spec0 2) i = f (i 0).val (i 1).val)
    (t : Fin cfg0.N) (h : Fin 16) (r : Fin 512) (d : Fin 128) :
    (iblk m c 2 t : Vec Ideal S512x2048 .bf16) (iW h r d) = f (512 * (8 * pB t.val + pK t.val) + r.val) (128 * h.val + d.val) := by
  refine (hf _).trans ?_
  have e := idx2 t
  congr 1
  · show cc0_transform_2 (grid0.coords t) 0 * 512 + 1 * r.val = _
    rw [e]; show (8 * pB t.val + pK t.val) * 512 + 1 * r.val = _; omega
  · show cc0_transform_2 (grid0.coords t) 1 * 2048 + 1 * (128 * h.val + d.val) = _
    rw [e]; show 0 * 2048 + 1 * (128 * h.val + d.val) = _; omega

/-- At the last point of a row of blocks the two block indices that the mask compares agree. -/
theorem edge_eq : ∀ t : Fin grid0.N, isL t.val →
    (Scalar.select (Scalar.cmpi .sle (BitVec.ofNat 32 (grid0.coords t 3).val) (BitVec.ofNat 32 (grid0.coords t 2).val))
      (BitVec.ofNat 32 (grid0.coords t 2).val) (Scalar.subi 7#32 (BitVec.ofNat 32 (grid0.coords t 2).val)))
    = Scalar.select (Scalar.cmpi .sle (BitVec.ofNat 32 (grid0.coords t 3).val) (BitVec.ofNat 32 (grid0.coords t 2).val))
      (BitVec.ofNat 32 (grid0.coords t 3).val)
      (Scalar.subi (Scalar.subi (BitVec.ofNat 32 (grid0.coords t 3).val) (BitVec.ofNat 32 (grid0.coords t 2).val)) 1#32) := by
  decide +kernel

section Run

variable (Qn Kn Vn : ℕ → ℕ → EReal) (u : ℕ → Fin 16 → ℕ → ℕ → ℝ)

/-- The weight of key `512 n + j` for query `R`: none after the query. -/
def wt (b : ℕ) (q : ℕ) (h : Fin 16) (r : Fin 512) (n : ℕ) (j : Fin 512) : ℝ :=
  if 512 * n + j.val ≤ 512 * q + r.val then u b h (512 * q + r.val) (512 * n + j.val) else 0

/-- The values of a batch, by block. -/
def wv (b : ℕ) (h : Fin 16) (n : ℕ) (j : Fin 512) (d : Fin 128) : EReal := Vn (512 * (8 * b + n) + j.val) (128 * h.val + d.val)

/-- The weights' logarithms are the products of the rows. -/
def Scores : Prop := ∀ b h R J, b < 4 → R < 4096 → J < 4096 →
  0 < u b h R J ∧ Sc (u b h R J) (∑ d : Fin 128, Qn (4096 * b + R) (128 * h.val + d.val) * Kn (4096 * b + J) (128 * h.val + d.val))

/-- What the scratch holds after point `t`. -/
def Good (t : ℕ) (s : Vec Ideal S8192x128 .bf16 × Vec Ideal S8192x128 .f32 × Vec Ideal S8192x128 .f32 × Vec Ideal S8192x128 .f32) : Prop :=
  (∀ h r d, s.1 (iX h r d) = Qn (512 * (8 * pB t + pQ t) + r.val) (128 * h.val + d.val))
  ∧ InvAll (wt u (pB t) (pQ t)) (wv Vn (pB t)) (pK t + 1) s.2.1 s.2.2.1 s.2.2.2

variable {Qn Kn Vn u}

theorem score_full (hu : Scores Qn Kn u) (b q k : ℕ) (hb : b < 4) (hq : q < 8) (hk : k < q)
    (S : Fin 16 → FVec Ideal S512x512 .f32)
    (hS : ∀ h r j, S h (iS r j) = ∑ d : Fin 128, Qn (512 * (8 * b + q) + r.val) (128 * h.val + d.val)
      * Kn (512 * (8 * b + k) + j.val) (128 * h.val + d.val)) (h : Fin 16) (r j : Fin 512) :
    Sc (wt u b q h r k j) (S h (iS r j)) := by
  rw [hS, wt, if_pos (by omega)]
  have H := (hu b h (512 * q + r.val) (512 * k + j.val) hb (by omega) (by omega)).2
  rwa [show 4096 * b + (512 * q + r.val) = 512 * (8 * b + q) + r.val by omega,
    show 4096 * b + (512 * k + j.val) = 512 * (8 * b + k) + j.val by omega] at H

theorem score_edge (hu : Scores Qn Kn u) (b q : ℕ) (hb : b < 4) (hq : q < 8)
    (S : Fin 16 → FVec Ideal S512x512 .f32)
    (hS : ∀ h r j, S h (iS r j) = if j.val ≤ r.val then ∑ d : Fin 128, Qn (512 * (8 * b + q) + r.val) (128 * h.val + d.val)
      * Kn (512 * (8 * b + q) + j.val) (128 * h.val + d.val) else ⊥) (h : Fin 16) (r j : Fin 512) :
    Sc (wt u b q h r q j) (S h (iS r j)) := by
  rw [hS, wt]
  by_cases hj : j.val ≤ r.val
  · rw [if_pos hj, if_pos (by omega)]
    have H := (hu b h (512 * q + r.val) (512 * q + j.val) hb (by omega) (by omega)).2
    rwa [show 4096 * b + (512 * q + r.val) = 512 * (8 * b + q) + r.val by omega,
      show 4096 * b + (512 * q + j.val) = 512 * (8 * b + q) + j.val by omega] at H
  · rw [if_neg hj, if_neg (by omega)]
    exact Sc.zero

theorem wt_pos (hu : Scores Qn Kn u) (b q : ℕ) (hb : b < 4) (hq : q < 8) (h : Fin 16) (r : Fin 512) (n : ℕ) :
    0 < n ∨ ∃ j, 0 < wt u b q h r n j := by
  rcases Nat.eq_zero_or_pos n with rfl | hn
  · refine .inr ⟨0, ?_⟩
    rw [wt, if_pos (by show 512 * 0 + 0 ≤ _; omega)]
    exact (hu b h _ _ hb (by omega) (by show 512 * 0 + 0 < _; omega)).1
  · exact .inl hn

variable (hQ : ∀ i : S16384x2048.Idx, V m c (Pipeline.arrRef spec0 0) i = Qn (i 0).val (i 1).val)
  (hK : ∀ i : S16384x2048.Idx, V m c (Pipeline.arrRef spec0 1) i = Kn (i 0).val (i 1).val)
  (hV : ∀ i : S16384x2048.Idx, V m c (Pipeline.arrRef spec0 2) i = Vn (i 0).val (i 1).val)
  (hu : Scores Qn Kn u)

include hQ hK hV hu

/-- A point of a row of blocks, over scratch that satisfies the invariant of the points before. -/
theorem good_full (t : Fin cfg0.N) (hL : ¬isL t.val) (qs : Vec Ideal S8192x128 .bf16) (ms ls cs : Vec Ideal S8192x128 .f32)
    (hq : ∀ h r d, qs (iX h r d) = Qn (512 * (8 * pB t.val + pQ t.val) + r.val) (128 * h.val + d.val))
    (hI : InvAll (wt u (pB t.val) (pQ t.val)) (wv Vn (pB t.val)) (pK t.val) ms ls cs) :
    Good Qn Vn u t.val (qs, allM (SF qs (iblk m c 1 t)) ms, allL (SF qs (iblk m c 1 t)) ms ls, allC (SF qs (iblk m c 1 t)) ms cs (iblk m c 2 t)) := by
  obtain ⟨p1, p2, p3, p4, p5, p6, p7⟩ := pts0 ⟨t.val, tN t⟩
  refine ⟨hq, hI.step _ _ (score_full hu _ _ _ p1 p2 (p5 hL) _ fun h r j => ?_) (fun h r => wt_pos hu _ _ p1 p2 h r _)
    (fun h j d => blk2_at m c Vn hV t h j d)⟩
  rw [SF_at]
  exact Finset.sum_congr rfl fun d _ => by rw [hq, blk1_at m c Kn hK]

theorem good_edge (t : Fin cfg0.N) (hL : isL t.val) (v v' : BitVec 32) (hv : v = v') (qs : Vec Ideal S8192x128 .bf16)
    (ms ls cs : Vec Ideal S8192x128 .f32)
    (hq : ∀ h r d, qs (iX h r d) = Qn (512 * (8 * pB t.val + pQ t.val) + r.val) (128 * h.val + d.val))
    (hI : InvAll (wt u (pB t.val) (pQ t.val)) (wv Vn (pB t.val)) (pK t.val) ms ls cs) :
    Good Qn Vn u t.val (qs, allM (SE v v' qs (iblk m c 1 t)) ms, allL (SE v v' qs (iblk m c 1 t)) ms ls, allC (SE v v' qs (iblk m c 1 t)) ms cs (iblk m c 2 t)) := by
  obtain ⟨p1, p2, p3, p4, p5, p6, p7⟩ := pts0 ⟨t.val, tN t⟩
  have hk : pK t.val = pQ t.val := p4 hL
  refine ⟨hq, hI.step _ _ ?_ (fun h r => wt_pos hu _ _ p1 p2 h r _) (fun h j d => blk2_at m c Vn hV t h j d)⟩
  rw [hk]
  refine score_edge hu _ _ p1 p2 _ fun h r j => ?_
  rw [SE_at v v' hv]
  refine if_congr Iff.rfl (Finset.sum_congr rfl fun d _ => ?_) rfl
  rw [hq, blk1_at m c Kn hK, hk]

theorem newQ_good (t : Fin cfg0.N) (h : Fin 16) (r : Fin 512) (d : Fin 128) :
    newQ (iblk m c 0 t) (iX h r d) = Qn (512 * (8 * pB t.val + pQ t.val) + r.val) (128 * h.val + d.val) :=
  (newQ_at _ h r d).trans (blk0_at m c Qn hQ t h r d)

theorem good_run : ∀ (n : ℕ) (hn : n < cfg0.N), Good Qn Vn u n (outsAt0 m c n hn).2
    ∧ (isL n → (outsAt0 m c n hn).1 = finOut (outsAt0 m c n hn).2.2.2.2 (outsAt0 m c n hn).2.2.2.1) := by
  intro n
  induction n using Nat.strong_induction_on with
  | _ n ih =>
    intro hn
    obtain ⟨p1, p2, p3, p4, p5, p6, p7⟩ := pts0 ⟨n, tN ⟨n, hn⟩⟩
    by_cases h0 : isF n
    · have I0 : InvAll (wt u (pB n) (pQ n)) (wv Vn (pB n)) (pK n) (k0_pay24 (F := Ideal)) (k0_pay25 (F := Ideal)) (k0_pay1 (k0_pay26 (F := Ideal))) := by
        rw [show pK n = 0 from p6 h0]; exact InvAll.init _ _
      by_cases h1 : isL n
      · have e := outsAt0_A m c ⟨n, hn⟩ h0 (not_not.mpr h1) h1 h1
        rw [sout0_A_0_eq, sout0_A_1_eq, sout0_A_2_eq, sout0_A_3_eq, out0_A_3_eq] at e
        rw [show outsAt0 m c n hn = _ from e]
        exact ⟨good_edge m c hQ hK hV hu ⟨n, hn⟩ h1 _ _ (edge_eq ⟨n, hn⟩ h1) _ _ _ _ (newQ_good m c hQ hK hV hu ⟨n, hn⟩) I0, fun _ => rfl⟩
      · have e := outsAt0_B m c ⟨n, hn⟩ h0 h1 h1 h1
        rw [sout0_B_0_eq, sout0_B_1_eq, sout0_B_2_eq, sout0_B_3_eq] at e
        rw [show outsAt0 m c n hn = _ from e]
        exact ⟨good_full m c hQ hK hV hu ⟨n, hn⟩ h1 _ _ _ _ (newQ_good m c hQ hK hV hu ⟨n, hn⟩) I0, fun h => absurd h h1⟩
    · have hne : n ≠ 0 := fun h => h0 (.inl (by omega))
      obtain ⟨q1, q2, q3⟩ := p7 h0
      have ih' := (ih (n - 1) (by omega) (Nat.lt_of_le_of_lt (Nat.sub_le _ _) hn)).1
      unfold Good at ih'
      rw [show pB (n - 1) = pB n from q1, show pQ (n - 1) = pQ n from q2, show pK (n - 1) + 1 = pK n from q3] at ih'
      by_cases h1 : isL n
      · have e := outsAt0_D m c ⟨n, hn⟩ h0 (not_not.mpr h1) h1 h1
        rw [sout0_D_0_eq, sout0_D_1_eq, sout0_D_2_eq, sout0_D_3_eq, out0_D_3_eq] at e
        rw [show outsAt0 m c n hn = _ from e]
        exact ⟨good_edge m c hQ hK hV hu ⟨n, hn⟩ h1 _ _ (edge_eq ⟨n, hn⟩ h1) _ _ _ _ ih'.1 ih'.2, fun _ => rfl⟩
      · have e := outsAt0_C m c ⟨n, hn⟩ h0 h1 h1 h1
        rw [sout0_C_0_eq, sout0_C_1_eq, sout0_C_2_eq, sout0_C_3_eq] at e
        rw [show outsAt0 m c n hn = _ from e]
        exact ⟨good_full m c hQ hK hV hu ⟨n, hn⟩ h1 _ _ _ _ ih'.1 ih'.2, fun h => absurd h h1⟩

end Run

end Cert.Mla

end
-- ==== Proof.Mla.Assemble.lean ====
/-
  The array that the attention kernel returns, index by index: the weighted mean of the values over the keys up to the
  query.
-/
module

public import proofs.«01_k».proof.Proof.Mla.Grid
public import proofs.«01_k».proof.Proof.Gen.KernelIdeal.Value
public import Idealize.ShloMosaic.Lib.Pipeline.ValueKit

@[expose] public section

set_option maxRecDepth 16384

noncomputable section

namespace Cert.Mla

open Cert.KernelIdeal Cert.KernelIdeal.Gen Idealize.ShloMosaic Idealize.ShloMosaic.TcCoe Idealize.SL.Sem
open scoped BigOperators

/-- A sum over the blocks up to the query's is the sum over all keys, when the later ones add nothing. -/
theorem sum_blocks {M : Type*} [AddCommMonoid M] (f : ℕ → M) (q r : ℕ) (hq : q < 8) (hr : r < 512) (h0 : ∀ J, 512 * q + r < J → f J = 0) :
    ∑ n ∈ Finset.range (q + 1), ∑ j : Fin 512, f (512 * n + j.val) = ∑ J : Fin 4096, f J.val := by
  rw [← Fin.sum_mul_add_fin (L := 4096) 8 512 (fun J => f J.val)]
  rw [Finset.sum_fin_eq_sum_range]
  rw [← Finset.sum_subset (s₁ := Finset.range (q + 1)) (s₂ := Finset.range 8)]
  · refine Finset.sum_congr rfl fun n hn => ?_
    have hn' : n < 8 := by have := Finset.mem_range.mp hn; omega
    rw [dif_pos hn']
    refine Finset.sum_congr rfl fun j _ => ?_
    show _ = f (n * 512 + j.val)
    rw [Nat.mul_comm]
  · exact Finset.range_subset_range.mpr (by omega)
  · intro n hn hn'
    have h1 := Finset.mem_range.mp hn
    have h2 : ¬n < q + 1 := fun h => hn' (Finset.mem_range.mpr h)
    rw [dif_pos h1]
    refine Finset.sum_eq_zero fun j _ => ?_
    exact h0 (n * 512 + j.val) (by omega)

/-- The weight of key `J` for query `R`: none after the query. -/
def vis (u : ℕ → Fin 16 → ℕ → ℕ → ℝ) (b : ℕ) (h : Fin 16) (R J : ℕ) : ℝ := if J ≤ R then u b h R J else 0

/-- The weighted mean of lane `d` of the values. -/
def meanOf (u : ℕ → Fin 16 → ℕ → ℕ → ℝ) (Vn : ℕ → ℕ → EReal) (b : ℕ) (h : Fin 16) (R d : ℕ) : EReal :=
  ∑ J : Fin 4096, ((vis u b h R J.val / ∑ J' : Fin 4096, vis u b h R J'.val : ℝ) : EReal) * Vn (4096 * b + J.val) (128 * h.val + d)

theorem vis_pos {Qn Kn : ℕ → ℕ → EReal} {u : ℕ → Fin 16 → ℕ → ℕ → ℝ} (hu : Scores Qn Kn u) (b : ℕ) (h : Fin 16) (R : ℕ)
    (hb : b < 4) (hR : R < 4096) : 0 < ∑ J : Fin 4096, vis u b h R J.val := by
  have nn : ∀ J : Fin 4096, 0 ≤ vis u b h R J.val := fun J => by
    unfold vis; split_ifs
    · exact (hu b h R J.val hb hR J.isLt).1.le
    · exact le_rfl
  refine Finset.sum_pos' (fun J _ => nn J) ⟨0, Finset.mem_univ _, ?_⟩
  have e : vis u b h R (0 : Fin 4096).val = u b h R 0 := if_pos (Nat.zero_le R)
  rw [e]
  exact (hu b h R 0 hb hR (by norm_num)).1

variable (m : (ℓ : Loc nD τ sig) → Buf (Elt Ideal) ℓ) (c : Dev nD)
variable {Qn Kn Vn : ℕ → ℕ → EReal} {u : ℕ → Fin 16 → ℕ → ℕ → ℝ}

theorem flush_isL : ∀ t : Fin cfg0.N, (cfg0.win 3).flush t = true → isL t.val := by decide +kernel

/-- The block that a finished row of blocks writes. -/
theorem block_at (hu : Scores Qn Kn u) (t : ℕ) (ht : t < 144) (hL : isL t)
    (s : Vec Ideal S8192x128 .bf16 × Vec Ideal S8192x128 .f32 × Vec Ideal S8192x128 .f32 × Vec Ideal S8192x128 .f32)
    (hs : Good Qn Vn u t s) (r : Fin 512) (e : Fin 1024) :
    finOut s.2.2.2 s.2.2.1 (ValueIdx.ix2 (n0 := 512) (n1 := 1024) r e)
      = meanOf u Vn (pB t) ⟨e.val / 64, by omega⟩ (512 * pQ t + r.val) (e.val % 64) := by
  obtain ⟨p1, p2, p3, p4, p5, p6, p7⟩ := pts0 ⟨t, ht⟩
  have hk : pK t = pQ t := p4 hL
  have hz : ∀ J, 512 * pQ t + r.val < J → vis u (pB t) ⟨e.val / 64, by omega⟩ (512 * pQ t + r.val) J = 0 :=
    fun J hJ => if_neg (by omega)
  refine (hs.2.out (Nat.succ_pos _) r e ⟨e.val / 64, by omega⟩ ⟨e.val % 64, by omega⟩ rfl rfl _ ?_
    (vis_pos hu (pB t) ⟨e.val / 64, by omega⟩ (512 * pQ t + r.val) p1 (by have : pQ t < 8 := p2; omega))).trans ?_
  · rw [hk]
    exact (sum_blocks _ (pQ t) r.val p2 r.isLt hz).symm
  · rw [hk]
    refine Eq.trans ?_ (sum_blocks (fun J => ((vis u (pB t) ⟨e.val / 64, by omega⟩ (512 * pQ t + r.val) J
      / ∑ J' : Fin 4096, vis u (pB t) ⟨e.val / 64, by omega⟩ (512 * pQ t + r.val) J'.val : ℝ) : EReal)
      * Vn (4096 * pB t + J) (128 * (e.val / 64) + e.val % 64)) (pQ t) r.val p2 r.isLt fun J hJ => by
        show ((_ / _ : ℝ) : EReal) * _ = 0
        rw [hz J hJ, zero_div, EReal.coe_zero, zero_mul])
    refine Finset.sum_congr rfl fun n _ => Finset.sum_congr rfl fun j _ => ?_
    show _ * Vn _ _ = _ * Vn _ _
    rw [show 512 * (8 * pB t + n) + j.val = 4096 * pB t + (512 * n + j.val) by omega]
    rfl

theorem out_at (hQ : ∀ i : S16384x2048.Idx, V m c (Pipeline.arrRef spec0 0) i = Qn (i 0).val (i 1).val)
    (hK : ∀ i : S16384x2048.Idx, V m c (Pipeline.arrRef spec0 1) i = Kn (i 0).val (i 1).val)
    (hV : ∀ i : S16384x2048.Idx, V m c (Pipeline.arrRef spec0 2) i = Vn (i 0).val (i 1).val)
    (hu : Scores Qn Kn u) :
    (dats m 0 c).arrAt 3 cfg0.N = fun i : S16384x1024.Idx =>
      meanOf u Vn ((i 0).val / 4096) ⟨(i 1).val / 64, by have h : (i 1).val < 1024 := (i 1).isLt; omega⟩ ((i 0).val % 4096) ((i 1).val % 64) := by
  refine (dats m 0 c).arrAt_eq_of_covers 3 _ (by decide +kernel) fun t hf y => ?_
  obtain ⟨p1, p2, p3, p4, p5, p6, p7⟩ := pts0 ⟨t.val, tN t⟩
  have p1' : pB t.val < 4 := p1
  have p2' : pQ t.val < 8 := p2
  have hL := flush_isL t hf
  have g := good_run m c hQ hK hV hu t.val t.isLt
  blk_simp
  rw [after0_3, g.2 hL]
  have y0 : (y 0).val < 512 := (y 0).isLt
  have y1 : (y 1).val < 1024 := (y 1).isLt
  have ey : y = ValueIdx.ix2 (n0 := 512) (n1 := 1024) ⟨(y 0).val, y0⟩ ⟨(y 1).val, y1⟩ := by
    funext b
    match b with
    | ⟨0, _⟩ => rfl
    | ⟨1, _⟩ => rfl
  have e := block_at hu t.val (tN t) hL _ g.1 ⟨(y 0).val, y0⟩ ⟨(y 1).val, y1⟩
  refine (congrArg _ ?_).trans (e.trans ?_)
  · exact ey
  · have e3 := idx3 t
    have c0 : win0_3.index t 0 = 8 * pB t.val + pQ t.val := congrFun e3 0
    have c1 : win0_3.index t 1 = 0 := congrFun e3 1
    simp only [c0, c1]
    congr 1
    · show pB t.val = _
      omega
    · refine Fin.ext ?_
      show (y 1).val / 64 = (0 * 1024 + (y 1).val) / 64
      omega
    · show 512 * pQ t.val + (y 0).val = _
      omega
    · show (y 1).val % 64 = _
      omega

end Cert.Mla

end
-- ==== Proof.Mla.Host.lean ====
/-
  The arrays that the host prepares for the attention kernel, read at an index: a head's lanes of the queries and keys
  are its 64 unrotated columns, its 32 rotated ones and zeros.
-/
module

public import proofs.«01_k».proof.Proof.Mla.Assemble
public import Idealize.ShloMosaic.Lib.IdealHost
public import Idealize.ShloMosaic.Lib.Claim

@[expose] public section

set_option maxRecDepth 16384

noncomputable section

namespace Cert.Mla

open Cert.KernelIdeal Cert.KernelIdeal.Gen Idealize.ShloMosaic Idealize.ShloMosaic.TcCoe Idealize.SL.Sem
open scoped BigOperators

/-- The scale of the queries. -/
def scaleE : Vec Ideal S_ .f32 :=
  Host.divf (F := Ideal) (constant S_ .f32 0x3F800000#32) (mulf (Host.sqrt (constant S_ .f32 0x42C00000#32)) (Host.log (constant S_ .f32 0x40000000#32)))

def zero32 : Vec Ideal S4x4096x16x32 .f32 := broadcastInDim S4x4096x16x32 ![] bcast_S_S4x4096x16x32 (constant (F := Ideal) S_ .f32 0x00000000#32)

/-- The packed queries. -/
def packQ (x0 : Vec Ideal S4x4096x16x64 .f32) (x1 : Vec Ideal S4x4096x16x32 .f32) : Vec Ideal S4x4096x16x128 .f32 :=
  concatenate S4x4096x16x128 3 [⟨S4x4096x16x64, mulf (F := Ideal) (φ := .f32) x0 (broadcastInDim S4x4096x16x64 ![] bcast_S_S4x4096x16x64 scaleE)⟩,
    ⟨S4x4096x16x32, mulf (F := Ideal) (φ := .f32) x1 (broadcastInDim S4x4096x16x32 ![] bcast_S_S4x4096x16x32 scaleE)⟩, ⟨S4x4096x16x32, zero32⟩]
    concatenates_S4x4096x16x64_S4x4096x16x32_S4x4096x16x32_S4x4096x16x128_d3

/-- The packed keys. -/
def packK (x2 : Vec Ideal S4x4096x16x64 .f32) (x3 : Vec Ideal S4x4096x32 .f32) : Vec Ideal S4x4096x16x128 .f32 :=
  concatenate S4x4096x16x128 3 [⟨S4x4096x16x64, x2⟩,
    ⟨S4x4096x16x32, broadcastInDim S4x4096x16x32 ![0, 1, 2, 3] bcast_S4x4096x1x32_S4x4096x16x32_0_1_2_3
      (broadcastInDim S4x4096x1x32 ![0, 1, 3] bcast_S4x4096x32_S4x4096x1x32_0_1_3 x3)⟩, ⟨S4x4096x16x32, zero32⟩]
    concatenates_S4x4096x16x64_S4x4096x16x32_S4x4096x16x32_S4x4096x16x128_d3

/-- The packed values. -/
def packV (x4 : Vec Ideal S4x4096x16x64 .f32) : Vec Ideal S4x4096x16x128 .f32 :=
  concatenate S4x4096x16x128 3 [⟨S4x4096x16x64, x4⟩,
    ⟨S4x4096x16x64, broadcastInDim S4x4096x16x64 ![] bcast_S_S4x4096x16x64 (constant (F := Ideal) S_ .f32 0x00000000#32)⟩]
    concatenates_S4x4096x16x64_S4x4096x16x64_S4x4096x16x128_d3

/-- Rows and lanes of a packed array. -/
def flat (A : Vec Ideal S4x4096x16x128 .f32) : Vec Ideal S16384x2048 .bf16 :=
  truncf (F := Ideal) (φ := .f32) .bf16 (shapeCast S16384x2048 A shapeCasts_S4x4096x16x128_S16384x2048) bitsLt_bf16_f32

variable (m : (ℓ : Loc nD τ sig) → Buf (Elt Ideal) ℓ) (c : Dev nD)

theorem V_q : V m c main_v16 = flat (packQ (m ((c : Thread nD τ).loc main_arg0)) (m ((c : Thread nD τ).loc main_arg1))) := by
  unfold_abbrev_sides
  after_results_simp
  dsimp only [Matrix.cons_val]
  rfl

theorem V_k : V m c main_v18 = flat (packK (m ((c : Thread nD τ).loc main_arg2)) (m ((c : Thread nD τ).loc main_arg3))) := by
  unfold_abbrev_sides
  after_results_simp
  dsimp only [Matrix.cons_val]
  rfl

theorem V_v : V m c main_v20 = flat (packV (m ((c : Thread nD τ).loc main_arg4))) := by
  unfold_abbrev_sides
  after_results
  rfl

/-! ## Indices -/

abbrev i4q (b : Fin 4) (R : Fin 4096) (h : Fin 16) (d : Fin 64) : S4x4096x16x64.Idx := ValueIdx.ix4 b R h d
abbrev i4r (b : Fin 4) (R : Fin 4096) (h : Fin 16) (d : Fin 32) : S4x4096x16x32.Idx := ValueIdx.ix4 b R h d
abbrev i4p (b : Fin 4) (R : Fin 4096) (h : Fin 16) (d : Fin 128) : S4x4096x16x128.Idx := ValueIdx.ix4 b R h d
abbrev i3k (b : Fin 4) (R : Fin 4096) (d : Fin 32) : S4x4096x32.Idx := ValueIdx.ix3 b R d

theorem flat_at (A : Vec Ideal S4x4096x16x128 .f32) (b : Fin 4) (R : Fin 4096) (h : Fin 16) (d : Fin 128) :
    flat A (ValueIdx.ix2 (n0 := 16384) (n1 := 2048) ⟨4096 * b.val + R.val, by omega⟩ ⟨128 * h.val + d.val, by omega⟩) = A (i4p b R h d) := by
  refine shapeCast_apply (s := S4x4096x16x128) (t := S16384x2048) A _ _ _ ?_
  rw [Shape.rowMajor_val_four, Shape.rowMajor_val_two]
  show ((b.val * 4096 + R.val) * 16 + h.val) * 128 + d.val = (4096 * b.val + R.val) * 2048 + (128 * h.val + d.val)
  omega

theorem scaleE_at (i : S_.Idx) : scaleE i = (((Real.sqrt 96)⁻¹ * (Real.log 2)⁻¹ : ℝ) : EReal) := by
  have e96 : Ideal.ofBits .f32 0x42C00000#32 = ((96 : ℝ) : EReal) := by
    simp [Ideal.ofBits, Ideal.ieee]
    rw [← EReal.coe_mul]; norm_num
  have e2 : Ideal.ofBits .f32 0x40000000#32 = ((2 : ℝ) : EReal) := by
    simp [Ideal.ofBits, Ideal.ieee]
    rw [← EReal.coe_mul]; norm_num
  show Ideal.div (Ideal.ofBits .f32 0x3F800000#32) (Ideal.sqrt (Ideal.ofBits .f32 0x42C00000#32) * Ideal.log (Ideal.ofBits .f32 0x40000000#32)) = _
  have h1 : (0 : ℝ) < Real.sqrt 96 := Real.sqrt_pos.mpr (by norm_num)
  have h2 : (0 : ℝ) < Real.log 2 := Real.log_pos (by norm_num)
  rw [e96, e2, Ideal.sqrt_coe, if_neg (by norm_num), Ideal.log_coe, if_neg (by norm_num), ← EReal.coe_mul,
    Ideal.div_coe (mul_pos h1 h2).ne', Ideal.ofBits_one_f32, one_mul, one_div, mul_inv]

theorem zero32_at (i : S4x4096x16x32.Idx) : zero32 i = 0 := Ideal.ofBits_zero_f32

section Pack

variable (x0 x2 x4 : Vec Ideal S4x4096x16x64 .f32) (x1 : Vec Ideal S4x4096x16x32 .f32) (x3 : Vec Ideal S4x4096x32 .f32)
  (b : Fin 4) (R : Fin 4096) (h : Fin 16)

theorem cat3_lo (a : Vec Ideal S4x4096x16x64 .f32) (a' a'' : Vec Ideal S4x4096x16x32 .f32) (d : Fin 64) :
    concatenate S4x4096x16x128 3 [⟨S4x4096x16x64, a⟩, ⟨S4x4096x16x32, a'⟩, ⟨S4x4096x16x32, a''⟩]
      concatenates_S4x4096x16x64_S4x4096x16x32_S4x4096x16x32_S4x4096x16x128_d3 (i4p b R h ⟨d.val, by omega⟩) = a (i4q b R h d) :=
  concatenate_apply_piece (t := S4x4096x16x128) 3 _ _ _ 0 (by show 0 < 3; decide) S4x4096x16x64 a rfl rfl 0 rfl (i4q b R h d)
    (fun b hb => by match b with | ⟨0, _⟩ => rfl | ⟨1, _⟩ => rfl | ⟨2, _⟩ => rfl | ⟨3, _⟩ => exact absurd rfl hb) (Nat.zero_add _)

theorem cat3_mid (a : Vec Ideal S4x4096x16x64 .f32) (a' a'' : Vec Ideal S4x4096x16x32 .f32) (d : Fin 32) :
    concatenate S4x4096x16x128 3 [⟨S4x4096x16x64, a⟩, ⟨S4x4096x16x32, a'⟩, ⟨S4x4096x16x32, a''⟩]
      concatenates_S4x4096x16x64_S4x4096x16x32_S4x4096x16x32_S4x4096x16x128_d3 (i4p b R h ⟨64 + d.val, by omega⟩) = a' (i4r b R h d) :=
  concatenate_apply_piece (t := S4x4096x16x128) 3 _ _ _ 1 (by show 1 < 3; decide) S4x4096x16x32 a' rfl rfl 64 rfl (i4r b R h d)
    (fun b hb => by match b with | ⟨0, _⟩ => rfl | ⟨1, _⟩ => rfl | ⟨2, _⟩ => rfl | ⟨3, _⟩ => exact absurd rfl hb) rfl

theorem cat3_hi (a : Vec Ideal S4x4096x16x64 .f32) (a' a'' : Vec Ideal S4x4096x16x32 .f32) (d : Fin 32) :
    concatenate S4x4096x16x128 3 [⟨S4x4096x16x64, a⟩, ⟨S4x4096x16x32, a'⟩, ⟨S4x4096x16x32, a''⟩]
      concatenates_S4x4096x16x64_S4x4096x16x32_S4x4096x16x32_S4x4096x16x128_d3 (i4p b R h ⟨96 + d.val, by omega⟩) = a'' (i4r b R h d) :=
  concatenate_apply_piece (t := S4x4096x16x128) 3 _ _ _ 2 (by show 2 < 3; decide) S4x4096x16x32 a'' rfl rfl 96 rfl (i4r b R h d)
    (fun b hb => by match b with | ⟨0, _⟩ => rfl | ⟨1, _⟩ => rfl | ⟨2, _⟩ => rfl | ⟨3, _⟩ => exact absurd rfl hb) rfl

theorem packV_at (d : Fin 64) : packV x4 (i4p b R h ⟨d.val, by omega⟩) = x4 (i4q b R h d) := by
  unfold packV
  exact concatenate_apply_piece (t := S4x4096x16x128) 3 _ _ _ 0 (by show 0 < 2; decide) S4x4096x16x64 x4 rfl rfl 0 rfl (i4q b R h d)
    (fun b hb => by match b with | ⟨0, _⟩ => rfl | ⟨1, _⟩ => rfl | ⟨2, _⟩ => rfl | ⟨3, _⟩ => exact absurd rfl hb) (Nat.zero_add _)

theorem packQ_nope (d : Fin 64) : packQ x0 x1 (i4p b R h ⟨d.val, by omega⟩) = x0 (i4q b R h d) * (((Real.sqrt 96)⁻¹ * (Real.log 2)⁻¹ : ℝ) : EReal) := by
  unfold packQ
  rw [cat3_lo, ← scaleE_at (fun a => a.elim0)]
  exact congrArg (x0 (i4q b R h d) * ·) (congrArg scaleE (funext fun a => a.elim0))

theorem packQ_rope (d : Fin 32) : packQ x0 x1 (i4p b R h ⟨64 + d.val, by omega⟩) = x1 (i4r b R h d) * (((Real.sqrt 96)⁻¹ * (Real.log 2)⁻¹ : ℝ) : EReal) := by
  unfold packQ
  rw [cat3_mid, ← scaleE_at (fun a => a.elim0)]
  exact congrArg (x1 (i4r b R h d) * ·) (congrArg scaleE (funext fun a => a.elim0))

theorem packQ_pad (d : Fin 32) : packQ x0 x1 (i4p b R h ⟨96 + d.val, by omega⟩) = 0 := by
  unfold packQ
  rw [cat3_hi, zero32_at]

theorem packK_nope (d : Fin 64) : packK x2 x3 (i4p b R h ⟨d.val, by omega⟩) = x2 (i4q b R h d) := by
  unfold packK
  rw [cat3_lo]

theorem packK_rope (d : Fin 32) : packK x2 x3 (i4p b R h ⟨64 + d.val, by omega⟩) = x3 (i3k b R d) := by
  unfold packK
  rw [cat3_mid]
  refine (broadcastInDim_apply (s := S4x4096x1x32) (t := S4x4096x16x32) _ _ _ _ (ValueIdx.ix4 (n0 := 4) (n1 := 4096) (n2 := 1) (n3 := 32) b R 0 d)
    (fun a => by match a with | ⟨0, _⟩ => rfl | ⟨1, _⟩ => rfl | ⟨2, _⟩ => rfl | ⟨3, _⟩ => rfl)).trans ?_
  exact broadcastInDim_apply (s := S4x4096x32) (t := S4x4096x1x32) _ _ _ _ (i3k b R d)
    (fun a => by match a with | ⟨0, _⟩ => rfl | ⟨1, _⟩ => rfl | ⟨2, _⟩ => rfl)

end Pack

/-- A head's lanes, in their three parts. -/
theorem sum_lanes {M : Type*} [AddCommMonoid M] (f : Fin 128 → M) :
    ∑ d, f d = (∑ d : Fin 64, f ⟨d.val, by omega⟩) + (∑ d : Fin 32, f ⟨64 + d.val, by omega⟩) + ∑ d : Fin 32, f ⟨96 + d.val, by omega⟩ := by
  rw [show (∑ d, f d) = ∑ d : Fin (64 + 32 + 32), f d from rfl, Fin.sum_univ_add, Fin.sum_univ_add]
  rfl

/-- The scale's real value. -/
def sc0 : ℝ := (Real.sqrt 96)⁻¹

/-- The score of a key, over real queries and keys. -/
def tsc (qn kn : Fin 64 → ℝ) (qr kr : Fin 32 → ℝ) : ℝ := ((∑ d, qn d * kn d) + ∑ d, qr d * kr d) * sc0

theorem score_pack (x0 x2 : Vec Ideal S4x4096x16x64 .f32) (x1 : Vec Ideal S4x4096x16x32 .f32) (x3 : Vec Ideal S4x4096x32 .f32)
    (b : Fin 4) (R J : Fin 4096) (h : Fin 16) (qn kn : Fin 64 → ℝ) (qr kr : Fin 32 → ℝ)
    (h0 : ∀ d, x0 (i4q b R h d) = qn d) (h1 : ∀ d, x1 (i4r b R h d) = qr d) (h2 : ∀ d, x2 (i4q b J h d) = kn d)
    (h3 : ∀ d, x3 (i3k b J d) = kr d) :
    ∑ d : Fin 128, packQ x0 x1 (i4p b R h d) * packK x2 x3 (i4p b J h d) = ((tsc qn kn qr kr * (Real.log 2)⁻¹ : ℝ) : EReal) := by
  rw [sum_lanes]
  have e1 : ∀ d : Fin 64, packQ x0 x1 (i4p b R h ⟨d.val, by omega⟩) * packK x2 x3 (i4p b J h ⟨d.val, by omega⟩)
      = ((qn d * (sc0 * (Real.log 2)⁻¹) * kn d : ℝ) : EReal) := fun d => by
    rw [packQ_nope, packK_nope, h0, h2]
    rw [← EReal.coe_mul, ← EReal.coe_mul]; rfl
  have e2 : ∀ d : Fin 32, packQ x0 x1 (i4p b R h ⟨64 + d.val, by omega⟩) * packK x2 x3 (i4p b J h ⟨64 + d.val, by omega⟩)
      = ((qr d * (sc0 * (Real.log 2)⁻¹) * kr d : ℝ) : EReal) := fun d => by
    rw [packQ_rope, packK_rope, h1, h3]
    rw [← EReal.coe_mul, ← EReal.coe_mul]; rfl
  have e3 : ∀ d : Fin 32, packQ x0 x1 (i4p b R h ⟨96 + d.val, by omega⟩) * packK x2 x3 (i4p b J h ⟨96 + d.val, by omega⟩) = 0 := fun d => by
    rw [packQ_pad, zero_mul]
  rw [Finset.sum_congr rfl fun d _ => e1 d, Finset.sum_congr rfl fun d _ => e2 d, Finset.sum_congr rfl fun d _ => e3 d,
    Finset.sum_const_zero, add_zero, ← coe_sum, ← coe_sum, ← EReal.coe_add]
  congr 1
  rw [tsc, add_mul, add_mul, Finset.sum_mul, Finset.sum_mul, Finset.sum_mul, Finset.sum_mul]
  congr 1 <;> exact Finset.sum_congr rfl fun d _ => by ring

end Cert.Mla

end
-- ==== Proof.Mla.Scores.lean ====
/-
  The real scores of the attention, from real queries and keys, and the weights the kernel gives them.
-/
module

public import proofs.«01_k».proof.Proof.Mla.Host

@[expose] public section

set_option maxRecDepth 16384

noncomputable section

namespace Cert.Mla

open Cert.KernelIdeal Cert.KernelIdeal.Gen Idealize.ShloMosaic Idealize.ShloMosaic.TcCoe Idealize.SL.Sem
open scoped BigOperators

/-- Every element is a real number. -/
def IsReal {s : Shape} (x : Vec Ideal s .f32) : Prop := ∀ i, x i = (((x i : EReal).toReal : ℝ) : EReal)

section

variable (x0 x2 x4 : Vec Ideal S4x4096x16x64 .f32) (x1 : Vec Ideal S4x4096x16x32 .f32) (x3 : Vec Ideal S4x4096x32 .f32)

/-- The real score of key `J` for query `R`. -/
def tR (b : Fin 4) (h : Fin 16) (R J : Fin 4096) : ℝ :=
  tsc (fun d => (x0 (i4q b R h d) : EReal).toReal) (fun d => (x2 (i4q b J h d) : EReal).toReal)
    (fun d => (x1 (i4r b R h d) : EReal).toReal) (fun d => (x3 (i3k b J d) : EReal).toReal)

/-- The unnormalized weight, its exponential. -/
def uR (b : ℕ) (h : Fin 16) (R J : ℕ) : ℝ :=
  if hh : b < 4 ∧ R < 4096 ∧ J < 4096 then Real.exp (tR x0 x2 x1 x3 ⟨b, hh.1⟩ h ⟨R, hh.2.1⟩ ⟨J, hh.2.2⟩) else 1

theorem uR_at (b : Fin 4) (h : Fin 16) (R J : Fin 4096) : uR x0 x2 x1 x3 b.val h R.val J.val = Real.exp (tR x0 x2 x1 x3 b h R J) := by
  unfold uR
  rw [dif_pos ⟨b.isLt, R.isLt, J.isLt⟩]

/-- An array of rows and lanes, by numbers. -/
def nat2 (A : Vec Ideal S16384x2048 .bf16) (a e : ℕ) : EReal :=
  if h : a < 16384 ∧ e < 2048 then A (ValueIdx.ix2 (n0 := 16384) (n1 := 2048) ⟨a, h.1⟩ ⟨e, h.2⟩) else 0

theorem nat2_at (A : Vec Ideal S16384x2048 .bf16) (i : S16384x2048.Idx) : A i = nat2 A (i 0).val (i 1).val := by
  have h0 : (i 0).val < 16384 := (i 0).isLt
  have h1 : (i 1).val < 2048 := (i 1).isLt
  unfold nat2
  rw [dif_pos ⟨h0, h1⟩]
  exact congrArg A (funext fun a => by match a with | ⟨0, _⟩ => rfl | ⟨1, _⟩ => rfl)

theorem nat2_flat (A : Vec Ideal S4x4096x16x128 .f32) (b : Fin 4) (R : Fin 4096) (h : Fin 16) (d : Fin 128) :
    nat2 (flat A) (4096 * b.val + R.val) (128 * h.val + d.val) = A (i4p b R h d) := by
  unfold nat2
  rw [dif_pos ⟨by omega, by omega⟩]
  exact flat_at A b R h d

theorem nat2_packV (b : Fin 4) (J : Fin 4096) (h : Fin 16) (d : Fin 64) :
    nat2 (flat (packV x4)) (4096 * b.val + J.val) (128 * h.val + d.val) = x4 (i4q b J h d) :=
  (nat2_flat (packV x4) b J h ⟨d.val, by omega⟩).trans (packV_at x4 b J h d)

/-- The packed queries and keys have these scores. -/
theorem scores (h0 : IsReal x0) (h1 : IsReal x1) (h2 : IsReal x2) (h3 : IsReal x3) :
    Scores (nat2 (flat (packQ x0 x1))) (nat2 (flat (packK x2 x3))) (uR x0 x2 x1 x3) := by
  intro b h R J hb hR hJ
  have e := uR_at x0 x2 x1 x3 ⟨b, hb⟩ h ⟨R, hR⟩ ⟨J, hJ⟩
  have s : (∑ d : Fin 128, nat2 (flat (packQ x0 x1)) (4096 * b + R) (128 * h.val + d.val) * nat2 (flat (packK x2 x3)) (4096 * b + J) (128 * h.val + d.val))
      = ((tR x0 x2 x1 x3 ⟨b, hb⟩ h ⟨R, hR⟩ ⟨J, hJ⟩ * (Real.log 2)⁻¹ : ℝ) : EReal) := by
    refine Eq.trans (Finset.sum_congr rfl fun d _ => ?_)
      (score_pack x0 x2 x1 x3 ⟨b, hb⟩ ⟨R, hR⟩ ⟨J, hJ⟩ h _ _ _ _ (fun d => h0 _) (fun d => h1 _) (fun d => h2 _) (fun d => h3 _))
    exact congrArg₂ (· * ·) (nat2_flat (packQ x0 x1) ⟨b, hb⟩ ⟨R, hR⟩ h d) (nat2_flat (packK x2 x3) ⟨b, hb⟩ ⟨J, hJ⟩ h d)
  rw [s]
  have e' : uR x0 x2 x1 x3 b h R J = Real.exp (tR x0 x2 x1 x3 ⟨b, hb⟩ h ⟨R, hR⟩ ⟨J, hJ⟩) := e
  rw [e']
  exact ⟨Real.exp_pos _, Sc.of_real _⟩

end

/-- What the kernel leaves in its result, of real queries and keys. -/
theorem kernel_out (m : (ℓ : Loc nD τ sig) → Buf (Elt Ideal) ℓ) (c : Dev nD)
    (h0 : IsReal (m ((c : Thread nD τ).loc main_arg0))) (h1 : IsReal (m ((c : Thread nD τ).loc main_arg1)))
    (h2 : IsReal (m ((c : Thread nD τ).loc main_arg2))) (h3 : IsReal (m ((c : Thread nD τ).loc main_arg3))) :
    (dats m 0 c).arrAt 3 cfg0.N = fun i : S16384x1024.Idx =>
      meanOf (uR (m ((c : Thread nD τ).loc main_arg0)) (m ((c : Thread nD τ).loc main_arg2)) (m ((c : Thread nD τ).loc main_arg1)) (m ((c : Thread nD τ).loc main_arg3)))
        (nat2 (flat (packV (m ((c : Thread nD τ).loc main_arg4))))) ((i 0).val / 4096)
        ⟨(i 1).val / 64, by have h : (i 1).val < 1024 := (i 1).isLt; omega⟩ ((i 0).val % 4096) ((i 1).val % 64) :=
  out_at m c
    (Qn := nat2 (flat (packQ (m ((c : Thread nD τ).loc main_arg0)) (m ((c : Thread nD τ).loc main_arg1)))))
    (Kn := nat2 (flat (packK (m ((c : Thread nD τ).loc main_arg2)) (m ((c : Thread nD τ).loc main_arg3)))))
    (fun i => (congrFun (V_q m c) i).trans (nat2_at _ i)) (fun i => (congrFun (V_k m c) i).trans (nat2_at _ i))
    (fun i => (congrFun (V_v m c) i).trans (nat2_at _ i)) (scores _ _ _ _ h0 h1 h2 h3)

end Cert.Mla

end
-- ==== Proof.Mla.Pre.lean ====
/-
  What the precondition says: the queries and the keys are real numbers.
-/
module

public import proofs.«01_k».proof.Proof.Mla.Scores
public import proofs.«01_k».proof.Pre_finite
public import Idealize.ShloMosaic.Lib.ReduceAll

@[expose] public section

noncomputable section

namespace Cert.Mla

open Idealize.ShloMosaic

theorem ofBits_inf : Ideal.ofBits .f32 0x7F800000#32 = ⊤ := by simp [Ideal.ofBits, Ideal.ieee]

/-- A number whose magnitude is below infinity is real. -/
theorem real_of_abs (x : EReal) (h : Ideal.cmp .olt (max x (-x)) ⊤ = 1#1) : x = ((x.toReal : ℝ) : EReal) := by
  induction x using EReal.rec with
  | bot => simp [Ideal.cmp] at h
  | top => simp [Ideal.cmp] at h
  | coe r => rfl

theorem and_one {a b : BitVec 1} (h : a &&& b = 1#1) : a = 1#1 ∧ b = 1#1 := by
  revert a b; decide

variable [hF : Cert.Pre_finite.Facts]

/-- One array's test. -/
theorem test_all {s : Shape} {axes : List (Fin s.rank)} (x : Vec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (e : Host.reduce IntOp.andi (cmpf (F := Ideal) .olt (Host.absf (F := Ideal) (φ := .f32) x)
      (broadcastInDim s ![] hb (constant (F := Ideal) Cert.Pre_finite.S_ .f32 0x7F800000#32)))
        (constantI Cert.Pre_finite.S_ 1 1#1) hr hu j = 1#1) : IsReal x := by
  haveI : Subsingleton Cert.Pre_finite.S_.Idx := ⟨fun a b => funext fun k => k.elim0⟩
  intro i
  have h := Host.reduce_andi_all _ _ hr hu j e i
  refine real_of_abs (x i) ?_
  rw [← ofBits_inf]
  exact h

/-- The precondition gives real queries and keys. -/
theorem finite_real (x0 x2 x4 : Vec Ideal Cert.Pre_finite.S4x4096x16x64 .f32) (x1 : Vec Ideal Cert.Pre_finite.S4x4096x16x32 .f32)
    (x3 : Vec Ideal Cert.Pre_finite.S4x4096x32 .f32) (h : ∀ j, Cert.Pre_finite.fn (F := Ideal) x0 x1 x2 x3 x4 j = 1#1) :
    IsReal x0 ∧ IsReal x1 ∧ IsReal x2 ∧ IsReal x3 := by
  have h' := h (fun a => a.elim0)
  unfold Cert.Pre_finite.fn Cert.Pre_finite.fn_part1 at h'
  obtain ⟨hA, h3⟩ := and_one h'
  obtain ⟨hB, h2⟩ := and_one hA
  obtain ⟨h0, h1⟩ := and_one hB
  exact ⟨test_all x0 _ _ _ _ h0, test_all x1 _ _ _ _ h1, test_all x2 _ _ _ _ h2, test_all x3 _ _ _ _ h3⟩

end Cert.Mla

end
-- ==== Proof.Mla.Ref.lean ====
/-
  The reference, read at an index: of real queries and keys, its result is the weighted mean of the values.
-/
module

public import proofs.«01_k».proof.Proof.Mla.Scores
public import proofs.«01_k».proof.Proof.Gen.ReferenceIdeal.Read
public import Idealize.ShloMosaic.Lib.KernelVsHost

@[expose] public section

set_option maxRecDepth 16384

noncomputable section

namespace Cert.Mla

open Idealize.ShloMosaic Cert.ReferenceIdeal.Read
open scoped BigOperators

/-- The largest of numbers that are real or `-∞`, one of them real, is real. -/
theorem fold_real {n : ℕ} (f : Fin n → EReal) (hf : ∀ i, f i = ⊥ ∨ ∃ r : ℝ, f i = r) (i₀ : Fin n) (r₀ : ℝ) (h₀ : f i₀ = r₀) :
    ∃ M : ℝ, (Finset.univ : Finset (Fin n)).fold max ⊥ f = M := by
  have key : ∀ s : Finset (Fin n), s.fold max ⊥ f = ⊥ ∨ ∃ r : ℝ, s.fold max ⊥ f = r := fun s => by
    classical
    induction s using Finset.induction_on with
    | empty => exact .inl rfl
    | insert i s hi ih =>
      rw [Finset.fold_insert hi]
      rcases max_choice (f i) (s.fold max ⊥ f) with e | e <;> rw [e]
      · exact hf i
      · exact ih
  rcases key Finset.univ with e | e
  · have hle : f i₀ ≤ (Finset.univ : Finset (Fin n)).fold max ⊥ f := Finset.le_fold_max _ |>.mpr (.inr ⟨i₀, Finset.mem_univ _, le_rfl⟩)
    rw [e, h₀] at hle
    exact absurd hle (not_le.mpr (EReal.bot_lt_coe r₀))
  · exact e

abbrev i4s (b : Fin 4) (h : Fin 16) (R J : Fin 4096) : Cert.ReferenceIdeal.S4x16x4096x4096.Idx := ValueIdx.ix4 b h R J
abbrev i3s (b : Fin 4) (h : Fin 16) (R : Fin 4096) : Cert.ReferenceIdeal.S4x16x4096.Idx := ValueIdx.ix3 b h R

/-- The mask: key `J` is visible to query `R` when `J ≤ R`. -/
theorem mask_at (R J : Fin 4096) (i : Cert.ReferenceIdeal.S1x1x4096x4096.Idx) (h2 : (i 2).val = R.val) (h3 : (i 3).val = J.val) :
    val_main_v14 (F := Ideal) i = if J.val ≤ R.val then 1#1 else 0#1 := by
  rw [val_main_v14_apply, val_main_v13_apply, val_main_v11_apply, val_main_v12_apply, val_main_v9_apply, val_main_v10_apply,
    val_main_v2_apply, val_main_v2_apply]
  show BitVec.ofBool ((BitVec.ofNat 32 (i 3).val).sle (BitVec.ofNat 32 (i 2).val)) = _
  rw [h2, h3]
  have e : (BitVec.ofNat 32 J.val).sle (BitVec.ofNat 32 R.val) = decide (J.val ≤ R.val) := by
    have hJ := J.isLt
    have hR := R.isLt
    rw [BitVec.sle_eq_decide]
    rw [decide_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    omega
  rw [e]
  by_cases hc : J.val ≤ R.val <;> simp [hc]

/-- The reference's scale. -/
theorem sc_at (i : Cert.ReferenceIdeal.S_.Idx) : val_main_v1 (F := Ideal) i = ((sc0 : ℝ) : EReal) := by
  have e96 : Ideal.ofBits .f32 0x42C00000#32 = ((96 : ℝ) : EReal) := by
    simp [Ideal.ofBits, Ideal.ieee]
    rw [← EReal.coe_mul]; norm_num
  have h1 : (0 : ℝ) < Real.sqrt 96 := Real.sqrt_pos.mpr (by norm_num)
  rw [val_main_v1_apply, val_main_v0_apply, val_main_cst_apply, val_main_cst_0_apply]
  show Ideal.div (Ideal.ofBits .f32 0x3F800000#32) (Ideal.sqrt (Ideal.ofBits .f32 0x42C00000#32)) = _
  rw [e96, Ideal.sqrt_coe, if_neg (by norm_num), Ideal.div_coe h1.ne', Ideal.ofBits_one_f32, one_mul, one_div]
  rfl

section

variable (x0 x2 x4 : Vec Ideal Cert.KernelIdeal.S4x4096x16x64 .f32) (x1 : Vec Ideal Cert.KernelIdeal.S4x4096x16x32 .f32)
  (x3 : Vec Ideal Cert.KernelIdeal.S4x4096x32 .f32)
  (h0 : IsReal x0) (h1 : IsReal x1) (h2 : IsReal x2) (h3 : IsReal x3)
  (b : Fin 4) (h : Fin 16) (R J : Fin 4096)

include h0 h1 h2 h3

/-- The scaled score. -/
theorem v8_at : val_main_v8 (F := Ideal) x0 x1 x2 x3 (i4s b h R J) = ((tR x0 x2 x1 x3 b h R J : ℝ) : EReal) := by
  have e3 : val_main_v3 (F := Ideal) x0 x2 (i4s b h R J)
      = ((∑ d, (x0 (i4q b R h d) : EReal).toReal * (x2 (i4q b J h d) : EReal).toReal : ℝ) : EReal) := by
    rw [val_main_v3_apply, coe_sum]
    refine Finset.sum_congr rfl fun d _ => ?_
    rw [EReal.coe_mul, ← h0, ← h2]
    exact congrArg₂ (fun a b => x0 a * x2 b) (funext fun a => by match a with | ⟨0, _⟩ => rfl | ⟨1, _⟩ => rfl | ⟨2, _⟩ => rfl | ⟨3, _⟩ => rfl)
      (funext fun a => by match a with | ⟨0, _⟩ => rfl | ⟨1, _⟩ => rfl | ⟨2, _⟩ => rfl | ⟨3, _⟩ => rfl)
  have e5 : val_main_v5 (F := Ideal) x1 x3 (i4s b h R J)
      = ((∑ d, (x1 (i4r b R h d) : EReal).toReal * (x3 (i3k b J d) : EReal).toReal : ℝ) : EReal) := by
    rw [val_main_v5_apply, val_main_v4_apply, coe_sum]
    refine Finset.sum_congr rfl fun d _ => ?_
    rw [EReal.coe_mul, ← h1, ← h3, mul_comm (x1 _)]
    exact congrArg₂ (fun a b => x3 a * x1 b) (funext fun a => by match a with | ⟨0, _⟩ => rfl | ⟨1, _⟩ => rfl | ⟨2, _⟩ => rfl)
      (funext fun a => by match a with | ⟨0, _⟩ => rfl | ⟨1, _⟩ => rfl | ⟨2, _⟩ => rfl | ⟨3, _⟩ => rfl)
  rw [val_main_v8_apply, val_main_v6_apply, e3, e5, val_main_v7_apply, sc_at]
  show ((_ : EReal) + _) * _ = _
  rw [← EReal.coe_add, ← EReal.coe_mul]
  rfl

/-- The masked score. -/
theorem v15_at : val_main_v15 (F := Ideal) x0 x1 x2 x3 (i4s b h R J)
    = if J.val ≤ R.val then ((tR x0 x2 x1 x3 b h R J : ℝ) : EReal) else ⊥ := by
  rw [val_main_v15_apply, val_main_call0_v1_apply, mask_at R J _ rfl rfl, v8_at x0 x2 x1 x3 h0 h1 h2 h3, val_main_call0_v2_apply,
    val_main_call0_v0_apply, val_main_cst_1_apply]
  by_cases hc : J.val ≤ R.val
  · rw [if_pos hc, if_pos hc]; rfl
  · rw [if_neg hc, if_neg hc]; exact ofBits_neg_inf

/-- The row's maximum is real. -/
theorem v18_at : ∃ M : ℝ, val_main_v18 (F := Ideal) x0 x1 x2 x3 (i3s b h R) = (M : EReal) := by
  have hr : Cert.ReferenceIdeal.S4x16x4096x4096.Reduces [3] Cert.ReferenceIdeal.S4x16x4096 := by decide
  obtain ⟨M, hM⟩ := fold_real (fun J : Fin 4096 => val_main_v15 (F := Ideal) x0 x1 x2 x3 (i4s b h R J))
    (fun J => by
      rw [v15_at x0 x2 x1 x3 h0 h1 h2 h3]
      by_cases hc : J.val ≤ R.val
      · rw [if_pos hc]; exact .inr ⟨_, rfl⟩
      · rw [if_neg hc]; exact .inl rfl) 0 (tR x0 x2 x1 x3 b h R 0) (by
      show val_main_v15 (F := Ideal) x0 x1 x2 x3 (i4s b h R 0) = _
      exact (v15_at x0 x2 x1 x3 h0 h1 h2 h3 b h R 0).trans (if_pos (Nat.zero_le _)))
  refine ⟨M, ?_⟩
  rw [val_main_v18_apply, val_main_v17_apply, val_main_cst_3_apply]
  have e16 : val_main_v16 (F := Ideal) x0 x1 x2 x3 (i3s b h R) = (M : EReal) := by
    unfold val_main_v16 val_main_cst_2
    refine (congrFun (hostReduce_maximumf_eq_multiReduction (F := Ideal) (φ := .f32) (val_main_v15 (F := Ideal) x0 x1 x2 x3) 0xFF800000#32 _ _ hr (.inl rfl) rfl) _).trans ?_
    refine (Ideal.multiReduction_maximumf_single _ _ hr _ _ _).trans ?_
    show Finset.univ.fold max (Ideal.ofBits .f32 0xFF800000#32) _ = _
    rw [ofBits_neg_inf, ← hM]
    refine Finset.fold_congr fun J _ => ?_
    exact congrArg (val_main_v15 (F := Ideal) x0 x1 x2 x3) (funext fun a => Fin.ext (by
      match a with | ⟨0, _⟩ => rfl | ⟨1, _⟩ => rfl | ⟨2, _⟩ => rfl | ⟨3, _⟩ => rfl))
  rw [e16]
  show max (Ideal.ofBits .f32 0xFF800000#32) (M : EReal) = M
  rw [ofBits_neg_inf, max_eq_right bot_le]

/-- The exponentials of a row. -/
theorem v22_at (M : ℝ) (hM : val_main_v18 (F := Ideal) x0 x1 x2 x3 (i3s b h R) = (M : EReal)) :
    val_main_v22 (F := Ideal) x0 x1 x2 x3 (i4s b h R J) = ((vis (uR x0 x2 x1 x3) b.val h R.val J.val * Real.exp (-M) : ℝ) : EReal) := by
  rw [val_main_v22_apply, val_main_v21_apply, v15_at x0 x2 x1 x3 h0 h1 h2 h3, val_main_v20_apply, val_main_v19_apply]
  have e : val_main_v18 (F := Ideal) x0 x1 x2 x3 (idx_main_v19 (idx_main_v20 (i4s b h R J))) = (M : EReal) :=
    (congrArg (val_main_v18 (F := Ideal) x0 x1 x2 x3) (funext fun a => Fin.ext (by
      match a with | ⟨0, _⟩ => rfl | ⟨1, _⟩ => rfl | ⟨2, _⟩ => rfl))).trans hM
  rw [e]
  unfold vis
  by_cases hc : J.val ≤ R.val
  · rw [if_pos hc, if_pos hc, uR_at, ← Real.exp_add]
    show Ideal.exp (((tR x0 x2 x1 x3 b h R J : ℝ) : EReal) - (M : EReal)) = _
    rw [← EReal.coe_sub, Ideal.exp_coe, sub_eq_add_neg]
  · rw [if_neg hc, if_neg hc, zero_mul]
    show Ideal.exp ((⊥ : EReal) - (M : EReal)) = _
    rw [EReal.bot_sub, Ideal.exp_bot]; rfl

/-- The weights. -/
theorem v29_at : val_main_v29 (F := Ideal) x0 x1 x2 x3 (i4s b h R J)
    = ((vis (uR x0 x2 x1 x3) b.val h R.val J.val / ∑ J' : Fin 4096, vis (uR x0 x2 x1 x3) b.val h R.val J'.val : ℝ) : EReal) := by
  obtain ⟨M, hM⟩ := v18_at x0 x2 x1 x3 h0 h1 h2 h3 b h R
  have hp : 0 < ∑ J' : Fin 4096, vis (uR x0 x2 x1 x3) b.val h R.val J'.val :=
    vis_pos (scores x0 x2 x1 x3 h0 h1 h2 h3) b.val h R.val b.isLt R.isLt
  have hx := Real.exp_pos (-M)
  have e25 : val_main_v25 (F := Ideal) x0 x1 x2 x3 (i4s b h R J)
      = (((∑ J' : Fin 4096, vis (uR x0 x2 x1 x3) b.val h R.val J'.val) * Real.exp (-M) : ℝ) : EReal) := by
    rw [val_main_v25_apply, val_main_v24_apply, val_main_v23_apply, Finset.sum_mul, coe_sum, val_main_cst_4_apply]
    refine Eq.trans (congrArg₂ (· + ·) Ideal.ofBits_zero_f32 (Finset.sum_congr rfl fun J' _ => ?_)) (zero_add _)
    exact (congrArg (val_main_v22 (F := Ideal) x0 x1 x2 x3) (funext fun a => Fin.ext (by
      match a with | ⟨0, _⟩ => rfl | ⟨1, _⟩ => rfl | ⟨2, _⟩ => rfl | ⟨3, _⟩ => rfl))).trans (v22_at x0 x2 x1 x3 h0 h1 h2 h3 b h R J' M hM)
  rw [val_main_v29_apply, val_main_v26_apply, v22_at x0 x2 x1 x3 h0 h1 h2 h3 b h R J M hM, e25, val_main_v28_apply, val_main_v27_apply,
    mask_at R J _ rfl rfl]
  show Ideal.div _ _ * (((if J.val ≤ R.val then 1#1 else 0#1 : BitVec 1).toNat : ℝ) : EReal) = _
  rw [Ideal.div_coe (mul_pos hp hx).ne', ← EReal.coe_mul, ← EReal.coe_mul]
  refine congrArg (fun r : ℝ => (r : EReal)) ?_
  generalize (∑ J' : Fin 4096, vis (uR x0 x2 x1 x3) b.val h R.val J'.val) = L at hp ⊢
  generalize Real.exp (-M) = X at hx ⊢
  unfold vis
  generalize uR x0 x2 x1 x3 b.val h R.val J.val = w
  by_cases hc : J.val ≤ R.val
  · rw [if_pos hc, if_pos hc]
    have hL := hp.ne'
    have hX := hx.ne'
    field_simp
    simp
  · rw [if_neg hc, if_neg hc]
    simp

/-- The reference's result. -/
theorem ref_at {Vn : ℕ → ℕ → EReal} (hV : ∀ (b : Fin 4) (J : Fin 4096) (h : Fin 16) (d : Fin 64),
      Vn (4096 * b.val + J.val) (128 * h.val + d.val) = x4 (i4q b J h d)) :
    val_main_v33 (F := Ideal) x0 x1 x2 x3 x4 = fun i : Cert.KernelIdeal.S16384x1024.Idx =>
      meanOf (uR x0 x2 x1 x3) Vn ((i 0).val / 4096)
        ⟨(i 1).val / 64, by have h : (i 1).val < 1024 := (i 1).isLt; omega⟩ ((i 0).val % 4096) ((i 1).val % 64) := by
  funext i
  have hi0 : (i 0).val < 16384 := (i 0).isLt
  have hi1 : (i 1).val < 1024 := (i 1).isLt
  rw [val_main_v33_apply, val_main_v32_apply, val_main_v31_apply, val_main_v30_apply]
  show (∑ J : Fin 4096, _) = _
  unfold meanOf
  refine Finset.sum_congr rfl fun J _ => ?_
  rw [mul_comm]
  refine congrArg₂ (· * ·) (Eq.trans (congrArg (val_main_v29 (F := Ideal) x0 x1 x2 x3) (funext fun a => Fin.ext ?_))
      (v29_at x0 x2 x1 x3 h0 h1 h2 h3 ⟨(i 0).val / 4096, by omega⟩ ⟨(i 1).val / 64, by omega⟩ ⟨(i 0).val % 4096, by omega⟩ J))
    (Eq.trans (congrArg x4 (funext fun a => Fin.ext ?_))
      (hV ⟨(i 0).val / 4096, by omega⟩ J ⟨(i 1).val / 64, by omega⟩ ⟨(i 1).val % 64, by omega⟩).symm)
  · match a with
    | ⟨0, _⟩ => show ((i 0).val * 1024 + (i 1).val) / 4194304 = (i 0).val / 4096; omega
    | ⟨1, _⟩ => show ((i 0).val * 1024 + (i 1).val) / 64 % 16 = (i 1).val / 64; omega
    | ⟨2, _⟩ => show ((i 0).val * 1024 + (i 1).val) / 1024 % 4096 = (i 0).val % 4096; omega
    | ⟨3, _⟩ => rfl
  · match a with
    | ⟨0, _⟩ => show ((i 0).val * 1024 + (i 1).val) / 4194304 = (i 0).val / 4096; omega
    | ⟨1, _⟩ => rfl
    | ⟨2, _⟩ => show ((i 0).val * 1024 + (i 1).val) / 64 % 16 = (i 1).val / 64; omega
    | ⟨3, _⟩ => show ((i 0).val * 1024 + (i 1).val) % 64 = (i 1).val % 64; omega

end

end Cert.Mla

end
-- ==== Proof.Win.Pre.lean ====
/-
  What the window attention's precondition says: the queries and the keys are real numbers.
-/
module

public import proofs.«01_k».proof.Proof.Mla.Pre
public import proofs.«01_k».proof.Pre_finite5

@[expose] public section

noncomputable section

namespace Cert.Win

open Idealize.ShloMosaic Cert.Mla

variable [hF : Cert.Pre_finite5.Facts]

/-- One array's test. -/
theorem test_all {s : Shape} {axes : List (Fin s.rank)} (x : Vec Ideal s .f32) (hb : Cert.Pre_finite5.S_.BroadcastsInDim s (![] : Fin 0 → Fin s.rank))
    (hr : s.ReducesTo axes Cert.Pre_finite5.S_) (hu : 0 < Cert.Pre_finite5.S_.numel) (j : Cert.Pre_finite5.S_.Idx)
    (e : Host.reduce IntOp.andi (cmpf (F := Ideal) .olt (Host.absf (F := Ideal) (φ := .f32) x)
      (broadcastInDim s ![] hb (constant (F := Ideal) Cert.Pre_finite5.S_ .f32 0x7F800000#32)))
        (constantI Cert.Pre_finite5.S_ 1 1#1) hr hu j = 1#1) : IsReal x := by
  haveI : Subsingleton Cert.Pre_finite5.S_.Idx := ⟨fun a b => funext fun k => k.elim0⟩
  intro i
  have h := Host.reduce_andi_all _ _ hr hu j e i
  refine real_of_abs (x i) ?_
  rw [← ofBits_inf]
  exact h

/-- The precondition gives real queries and keys. -/
theorem finite_real (x0 : Vec Ideal Cert.Pre_finite5.S4x4096x4x4x64 .f32) (x1 x2 : Vec Ideal Cert.Pre_finite5.S4x4096x4x64 .f32)
    (h : ∀ j, Cert.Pre_finite5.fn (F := Ideal) x0 x1 x2 j = 1#1) : IsReal x0 ∧ IsReal x1 := by
  have h' := h (fun a => a.elim0)
  unfold Cert.Pre_finite5.fn at h'
  obtain ⟨h0, h1⟩ := and_one h'
  exact ⟨test_all x0 _ _ _ _ h0, test_all x1 _ _ _ _ h1⟩

end Cert.Win

end
-- ==== Proof.Win.Body.lean ====
/-
  What one grid point of the window attention leaves in its output block, at any arithmetic: four groups of four heads,
  each group's four query blocks stacked into 1024 rows, scored against three key tiles.
-/
module

public import proofs.«01_k».proof.Proof.Gen.Kernel5Ideal.Value
public import Idealize.ShloMosaic.Lib.Pipeline.ReadBack
public import Idealize.ShloMosaic.Lib.Pipeline.ValueKit
public import Idealize.ShloMosaic.Lib.ValueIdxCore

@[expose] public section

set_option maxRecDepth 16384

noncomputable section

namespace Cert.Win

open Cert.Kernel5Ideal Cert.Kernel5Ideal.Gen Idealize.ShloMosaic Idealize.ShloMosaic.TcCoe Idealize.SL.Sem Idealize.ShloMosaic.Tactic

variable {F : FTy → Type} [FloatOps F] [Named F]

theorem inbQ (h : Fin 16) : ∀ a, (![0, 128 * h.val] : Fin 2 → ℕ) a + S256x128.size a ≤ S256x2048.size a := by
  intro a; fin_cases a
  · show 0 + 256 ≤ 256; omega
  · show 128 * h.val + 128 ≤ 2048; omega

theorem inbK (g : Fin 4) : ∀ a, (![0, 128 * g.val] : Fin 2 → ℕ) a + S256x128.size a ≤ S256x512.size a := by
  intro a; fin_cases a
  · show 0 + 256 ≤ 256; omega
  · show 128 * g.val + 128 ≤ 512; omega

/-- A head's lanes of the query block. -/
abbrev lanesQ (X : S256x2048.Idx → Elt F .bf16) (h : Fin 16) : S256x128.Idx → Elt F .bf16 :=
  View.ld X (Rect.unit (s := S256x2048) ![0, 128 * h.val] S256x128.size (inbQ h))

/-- A group's lanes of a tile. -/
abbrev lanesK (X : S256x512.Idx → Elt F .bf16) (g : Fin 4) : S256x128.Idx → Elt F .bf16 :=
  View.ld X (Rect.unit (s := S256x512) ![0, 128 * g.val] S256x128.size (inbK g))

abbrev hd0 (g : Fin 4) : Fin 16 := ⟨4 * g.val, by omega⟩
abbrev hd1 (g : Fin 4) : Fin 16 := ⟨4 * g.val + 1, by omega⟩
abbrev hd2 (g : Fin 4) : Fin 16 := ⟨4 * g.val + 2, by omega⟩
abbrev hd3 (g : Fin 4) : Fin 16 := ⟨4 * g.val + 3, by omega⟩

/-- Four blocks of rows, one above the other. -/
def stk (q0 q1 q2 q3 : Vec F S256x128 .bf16) : FVec F S1024x128 .bf16 :=
  concatenate S1024x128 0 [⟨S256x128, shapeCast S256x128 q0 shapeCasts_S256x128_S256x128⟩,
    ⟨S256x128, shapeCast S256x128 q1 shapeCasts_S256x128_S256x128⟩,
    ⟨S256x128, shapeCast S256x128 q2 shapeCasts_S256x128_S256x128⟩,
    ⟨S256x128, shapeCast S256x128 q3 shapeCasts_S256x128_S256x128⟩]
    concatenates_S256x128_S256x128_S256x128_S256x128_S1024x128_d0

/-- A group's queries, its four heads one above the other. -/
def stack (x0 : Vec F S256x2048 .bf16) (g : Fin 4) : FVec F S1024x128 .bf16 :=
  stk (lanesQ x0 (hd0 g)) (lanesQ x0 (hd1 g)) (lanesQ x0 (hd2 g)) (lanesQ x0 (hd3 g))

/-- The products of the stacked rows with one tile's. -/
def raw (q : FVec F S1024x128 .bf16) (k : Vec F S256x128 .bf16) : FVec F S1024x256 .f32 :=
  matmul dot_S1024x128_S256x128_S1024x256_1_1_0_0_n_n none q (shapeCast S256x128 k shapeCasts_S256x128_S256x128)
    (constant S1024x256 .f32 0x00000000#32)

def low : FVec F S1024x256 .f32 := broadcast S1024x256 (Named.named κ "mask" 0xF149F2CA#32)

/-- The scores of the tile two before the queries'. -/
def sFar (a : BitVec 32) (q : FVec F S1024x128 .bf16) (k : Vec F S256x128 .bf16) : FVec F S1024x256 .f32 :=
  select (andi (cmpi .slt k0_pay6 (broadcast S1024x256 0#32))
    (broadcast S1024x256 (Scalar.cmpi .sge (Scalar.addi (Scalar.subi a 2#32) 0#32) 0#32))) (raw q k) low

/-- The scores of the tile before the queries'. -/
def sNear (a : BitVec 32) (q : FVec F S1024x128 .bf16) (k : Vec F S256x128 .bf16) : FVec F S1024x256 .f32 :=
  Scalar.select (Scalar.cmpi .sge (Scalar.addi (Scalar.subi a 2#32) 1#32) 0#32) (raw q k) low

/-- The scores of the queries' own tile. -/
def sOwn (q : FVec F S1024x128 .bf16) (k : Vec F S256x128 .bf16) : FVec F S1024x256 .f32 :=
  select (cmpi .sge k0_pay6 (broadcast S1024x256 0#32)) (raw q k) low

section Group

variable (s0 s1 s2 : FVec F S1024x256 .f32)

/-- The rows' maxima, in every lane. -/
def gM : FVec F S1024x128 .f32 :=
  broadcastTo S1024x128 (shapeCast S1024x1 (shapeCast S1024x1
    (multiReduction .maximumf [1] S1024 (maximumf (maximumf s0 s1) s2) 0xFF800000#32 reduces_S1024x256_S1024 (.inl rfl) rfl)
    shapeCasts_S1024_S1024x1) shapeCasts_S1024x1_S1024x1) broadcasts_S1024x1_S1024x128

/-- The rows' maxima, along a tile's columns. -/
def gC : FVec F S1024x256 .f32 :=
  concatenate S1024x256 1 [⟨S1024x128, gM s0 s1 s2⟩, ⟨S1024x128, gM s0 s1 s2⟩] concatenates_S1024x128_S1024x128_S1024x256_d1

/-- The powers of one tile's scores. -/
def gP (s : FVec F S1024x256 .f32) : FVec F S1024x256 .f32 := exp2 (subf s (gC s0 s1 s2))

/-- One tile's weighted values. -/
def gV (s : FVec F S1024x256 .f32) (v : Vec F S256x128 .bf16) : FVec F S1024x128 .f32 :=
  matmul dot_S1024x256_S256x128_S1024x128_1_0_0_1_n_n none (truncf .bf16 (gP s0 s1 s2 s) bitsLt_bf16_f32)
    (shapeCast S256x128 v shapeCasts_S256x128_S256x128) (constant S1024x128 .f32 0x00000000#32)

/-- The rows' sums, in every lane. -/
def gL : FVec F S1024x128 .f32 :=
  broadcastTo S1024x128 (shapeCast S1024x1
    (multiReduction .add [1] S1024 (addf (addf (gP s0 s1 s2 s0) (gP s0 s1 s2 s1)) (gP s0 s1 s2 s2)) 0x00000000#32 reduces_S1024x256_S1024 (.inl rfl) rfl)
    shapeCasts_S1024_S1024x1) broadcasts_S1024x1_S1024x128

/-- The quotients. -/
def gOut (v0 v1 v2 : Vec F S256x128 .bf16) : FVec F S1024x128 .f32 :=
  divf (addf (addf (gV s0 s1 s2 s0 v0) (gV s0 s1 s2 s1 v1)) (gV s0 s1 s2 s2 v2)) (gL s0 s1 s2)

end Group

/-- One group's quotients. -/
def grp (a : BitVec 32) (x0 : Vec F S256x2048 .bf16) (x1 x2 x3 x4 x5 x6 : Vec F S256x512 .bf16) (g : Fin 4) : FVec F S1024x128 .f32 :=
  gOut (sFar a (stack x0 g) (lanesK x1 g)) (sNear a (stack x0 g) (lanesK x2 g)) (sOwn (stack x0 g) (lanesK x3 g))
    (lanesK x4 g) (lanesK x5 g) (lanesK x6 g)

/-- Two heads side by side. -/
def pairCat (q : FVec F S1024x128 .f32) (o o' : ℕ) (h : S1024x128.Slices ![o, 0] S256x128) (h' : S1024x128.Slices ![o', 0] S256x128) :
    FVec F S256x128 .bf16 :=
  truncf .bf16 (concatenate S256x128 1
    [⟨S256x64, extractStridedSlice S256x64 ![0, 0] (extractStridedSlice S256x128 ![o, 0] q h) slices_S256x128_o0_0_S256x64⟩,
     ⟨S256x64, extractStridedSlice S256x64 ![0, 0] (extractStridedSlice S256x128 ![o', 0] q h') slices_S256x128_o0_0_S256x64⟩]
    concatenates_S256x64_S256x64_S256x128_d1) bitsLt_bf16_f32

/-- The heads' quotients at their places in the output block. -/
def finOut (Q : Fin 4 → FVec F S1024x128 .f32) : Vec F S256x1024 .bf16 :=
  truncf .bf16 (fun y : S256x1024.Idx => Q ⟨(y 1).val / 256, by have h1 : (y 1).val < 1024 := (y 1).isLt; omega⟩
    (ValueIdx.ix2 (n0 := 1024) (n1 := 128)
      ⟨256 * ((y 1).val / 64 % 4) + (y 0).val, by have h0 : (y 0).val < 256 := (y 0).isLt; omega⟩
      ⟨(y 1).val % 64, by omega⟩)) bitsLt_bf16_f32

theorem canon_pair [∀ e, Nonempty (Elt F e)] (Q : Fin 4 → FVec F S1024x128 .f32) (y : S256x1024.Idx) (a : ℕ) (inb)
    (w : S256x128.Idx → Elt F .bf16) (L : List (View.Piece (Elt F) S256x1024 .bf16)) (ha : a % 128 = 0) (hlt : a / 256 < 4) (h h')
    (hw : w = pairCat (Q ⟨a / 256, hlt⟩) (4 * (a % 256)) (4 * (a % 256) + 256) h h')
    (hQ : ¬(a ≤ (y 1).val ∧ (y 1).val < a + 128) → View.canon L y = finOut Q y) :
    View.canon ((⟨Rect.unit (s := S256x1024) ![0, a] S256x128.size inb, w⟩ : View.Piece (Elt F) S256x1024 .bf16) :: L) y = finOut Q y := by
  by_cases hy : a ≤ (y 1).val ∧ (y 1).val < a + 128
  · have h0 : (y 0).val < 256 := (y 0).isLt
    obtain ⟨x, rfl⟩ : ∃ x : S256x128.Idx, (Rect.unit (s := S256x1024) ![0, a] S256x128.size inb).emb x = y := by
      refine ⟨ValueIdx.ix2 (n0 := 256) (n1 := 128) ⟨(y 0).val, h0⟩ ⟨(y 1).val - a, by omega⟩, ?_⟩
      funext b
      match b with
      | ⟨0, _⟩ => refine Fin.ext ?_; show 0 + 1 * (y 0).val = (y 0).val; omega
      | ⟨1, _⟩ => refine Fin.ext ?_; show a + 1 * ((y 1).val - a) = (y 1).val; omega
    rw [View.canon_cons_emb, hw]
    have hx0 : (x 0).val < 256 := (x 0).isLt
    have hx1 : (x 1).val < 128 := (x 1).isLt
    refine congrArg (FloatOps.truncf .bf16 bitsLt_bf16_f32) ?_
    have eg : (⟨(a + 1 * (x 1).val) / 256, by omega⟩ : Fin 4) = ⟨a / 256, hlt⟩ := Fin.ext (by show (a + 1 * (x 1).val) / 256 = a / 256; omega)
    refine Eq.trans ?_ (congrFun (congrArg Q eg) _).symm
    by_cases hlt : (x 1).val < 64
    · refine (concatenate_pair_apply_left (s₁ := S256x64) (s₂ := S256x64) (t := S256x128) 1 _ _ _ x rfl
        (ValueIdx.ix2 (n0 := 256) (n1 := 64) ⟨(x 0).val, hx0⟩ ⟨(x 1).val, hlt⟩)
        (fun b => by match b with | ⟨0, _⟩ => rfl | ⟨1, _⟩ => rfl)).trans ?_
      refine (extractStridedSlice_apply (s := S256x128) (t := S256x64) _ _ _ _
        (ValueIdx.ix2 (n0 := 256) (n1 := 128) ⟨(x 0).val, hx0⟩ ⟨(x 1).val, hx1⟩)
        (fun b => by match b with | ⟨0, _⟩ => exact (Nat.zero_add _).symm | ⟨1, _⟩ => exact (Nat.zero_add _).symm)).trans ?_
      refine extractStridedSlice_apply (s := S1024x128) (t := S256x128) _ _ _ _ _ fun b => ?_
      match b with
      | ⟨0, _⟩ => show 256 * ((a + 1 * (x 1).val) / 64 % 4) + (0 + 1 * (x 0).val) = 4 * (a % 256) + (x 0).val; omega
      | ⟨1, _⟩ => show (a + 1 * (x 1).val) % 64 = 0 + (x 1).val; omega
    · refine (concatenate_pair_apply_right (s₁ := S256x64) (s₂ := S256x64) (t := S256x128) 1 _ _ _ x rfl rfl
        (ValueIdx.ix2 (n0 := 256) (n1 := 64) ⟨(x 0).val, hx0⟩ ⟨(x 1).val - 64, by omega⟩)
        (fun b hb => by match b with | ⟨0, _⟩ => rfl | ⟨1, _⟩ => exact absurd rfl hb)
        (by show (x 1).val - 64 + 64 = (x 1).val; omega)).trans ?_
      refine (extractStridedSlice_apply (s := S256x128) (t := S256x64) _ _ _ _
        (ValueIdx.ix2 (n0 := 256) (n1 := 128) ⟨(x 0).val, hx0⟩ ⟨(x 1).val - 64, by omega⟩)
        (fun b => by match b with | ⟨0, _⟩ => exact (Nat.zero_add _).symm | ⟨1, _⟩ => exact (Nat.zero_add _).symm)).trans ?_
      refine extractStridedSlice_apply (s := S1024x128) (t := S256x128) _ _ _ _ _ fun b => ?_
      match b with
      | ⟨0, _⟩ => show 256 * ((a + 1 * (x 1).val) / 64 % 4) + (0 + 1 * (x 0).val) = 4 * (a % 256) + 256 + (x 0).val; omega
      | ⟨1, _⟩ => show (a + 1 * (x 1).val) % 64 = 0 + ((x 1).val - 64); omega
  · rw [View.canon_cons_of_not_mem]
    · exact hQ hy
    · intro hm
      exact hy ((Rect.mem_set_unit (inb := inb)).mp hm 1)

/-! ## The printed values -/

section Printed

variable (i : grid0.Coords) (a : BitVec 32) (q0 q1 q2 q3 k k' k'' v0 v1 v2 : Vec F S256x128 .bf16) (s0 s1 s2 : FVec F S1024x256 .f32)
  (q : FVec F S1024x128 .bf16)

theorem p7 : k0_pay7 q0 q1 q2 q3 = stk q0 q1 q2 q3 := rfl
theorem p8 : k0_pay8 i q0 q1 q2 q3 k = sFar (BitVec.ofNat 32 (i 1).val) (stk q0 q1 q2 q3) k := rfl
theorem p9 : k0_pay9 i q0 q1 q2 q3 k = sNear (BitVec.ofNat 32 (i 1).val) (stk q0 q1 q2 q3) k := rfl
theorem p10 : k0_pay10 k0_pay6 q s0 s1 k v0 v1 v2 = gOut s0 s1 (sOwn q k) v0 v1 v2 := rfl
theorem p16 : k0_pay16 a k0_pay6 q0 q1 q2 q3 k = sFar a (stk q0 q1 q2 q3) k := rfl
theorem p17 : k0_pay17 a q0 q1 q2 q3 k = sNear a (stk q0 q1 q2 q3) k := rfl
theorem p18 : k0_pay18 q0 q1 q2 q3 k = raw (stk q0 q1 q2 q3) k := rfl
theorem p20 : k0_pay20 k0_pay6 s0 s1 (raw q k) k0_pay19 v0 v1 v2 = gOut s0 s1 (sOwn q k) v0 v1 v2 := rfl
theorem p28 : k0_pay28 a k0_pay6 (k0_pay25 q0) (k0_pay26 q1) q2 q3 k = sFar a (stk q0 q1 q2 q3) k := rfl
theorem p29 : k0_pay29 a (k0_pay25 q0) (k0_pay26 q1) q2 q3 k = sNear a (stk q0 q1 q2 q3) k := rfl
theorem p30 : k0_pay30 k0_pay6 (k0_pay25 q0) (k0_pay26 q1) q2 q3 k = sOwn (stk q0 q1 q2 q3) k := rfl
theorem p31 : k0_pay31 a k0_pay6 (k0_pay25 q0) (k0_pay26 q1) q2 q3 k k' k''
    = multiReduction .maximumf [1] S1024 (maximumf (maximumf (sFar a (stk q0 q1 q2 q3) k) (sNear a (stk q0 q1 q2 q3) k')) (sOwn (stk q0 q1 q2 q3) k''))
      0xFF800000#32 reduces_S1024x256_S1024 (.inl rfl) rfl := rfl
theorem p32 : k0_pay32 s0 s1 s2 (multiReduction .maximumf [1] S1024 (maximumf (maximumf s0 s1) s2) 0xFF800000#32 reduces_S1024x256_S1024 (.inl rfl) rfl)
    v0 v1 v2 = gOut s0 s1 s2 v0 v1 v2 := rfl
theorem p42 : k0_pay42 a k0_pay6 (k0_pay37 q0) (k0_pay38 q1) (k0_pay39 q2) (k0_pay40 q3) k = sFar a (stk q0 q1 q2 q3) k := rfl
theorem p43 : k0_pay43 a (k0_pay37 q0) (k0_pay38 q1) (k0_pay39 q2) (k0_pay40 q3) k = sNear a (stk q0 q1 q2 q3) k := rfl
theorem p44 : k0_pay44 k0_pay6 (k0_pay37 q0) (k0_pay38 q1) (k0_pay39 q2) (k0_pay40 q3) k = sOwn (stk q0 q1 q2 q3) k := rfl
theorem p45 : k0_pay45 a k0_pay6 (k0_pay37 q0) (k0_pay38 q1) (k0_pay39 q2) (k0_pay40 q3) k k' k''
    = gC (sFar a (stk q0 q1 q2 q3) k) (sNear a (stk q0 q1 q2 q3) k') (sOwn (stk q0 q1 q2 q3) k'') := by
  unfold k0_pay45; rw [p42, p43, p44]; rfl
theorem p46 : k0_pay46 a k0_pay6 (k0_pay37 q0) (k0_pay38 q1) (k0_pay39 q2) (k0_pay40 q3) k k' k''
    = gP (sFar a (stk q0 q1 q2 q3) k) (sNear a (stk q0 q1 q2 q3) k') (sOwn (stk q0 q1 q2 q3) k'') (sFar a (stk q0 q1 q2 q3) k) := by
  unfold k0_pay46; rw [p42, p45]; rfl
theorem p47 : k0_pay47 a k0_pay6 (k0_pay37 q0) (k0_pay38 q1) (k0_pay39 q2) (k0_pay40 q3) k k' k''
    = truncf .bf16 (gP (sFar a (stk q0 q1 q2 q3) k) (sNear a (stk q0 q1 q2 q3) k') (sOwn (stk q0 q1 q2 q3) k'') (sFar a (stk q0 q1 q2 q3) k)) bitsLt_bf16_f32 := by
  unfold k0_pay47; rw [p46]
theorem p48 : k0_pay48 s1 s2 (gC s0 s1 s2) (gP s0 s1 s2 s0) (truncf .bf16 (gP s0 s1 s2 s0) bitsLt_bf16_f32) v0 v1 v2 = gOut s0 s1 s2 v0 v1 v2 := rfl

end Printed

set_option maxHeartbeats 4000000 in
/-- The output block. -/
theorem out0_7_eq [∀ e, Nonempty (Elt F e)] (i : grid0.Coords) (x0 : Vec F S256x2048 .bf16) (x1 x2 x3 x4 x5 x6 : Vec F S256x512 .bf16) :
    out0_7 i x0 x1 x2 x3 x4 x5 x6 = finOut (grp (BitVec.ofNat 32 (i 1).val) x0 x1 x2 x3 x4 x5 x6) := by
  funext y
  unfold_out out0_7
  simp only [p7, p8, p9, p16, p17, p18, p28, p29, p30, p31, p43, p44, p45, p46, p47]
  unfold k0_pay11 k0_pay12 k0_pay13 k0_pay14 k0_pay21 k0_pay22 k0_pay23 k0_pay24 k0_pay33 k0_pay34 k0_pay35 k0_pay36 k0_pay49 k0_pay50 k0_pay51 k0_pay52
  simp only [p10, p20, p32, p48]
  have y1 : (y 1).val < 1024 := (y 1).isLt
  refine canon_pair _ y 896 _ _ _ (by norm_num) (by norm_num) slices_S1024x128_o512_0_S256x128 slices_S1024x128_o768_0_S256x128 rfl fun h7 => ?_
  refine canon_pair _ y 768 _ _ _ (by norm_num) (by norm_num) slices_S1024x128_o0_0_S256x128 slices_S1024x128_o256_0_S256x128 rfl fun h6 => ?_
  refine canon_pair _ y 640 _ _ _ (by norm_num) (by norm_num) slices_S1024x128_o512_0_S256x128 slices_S1024x128_o768_0_S256x128 rfl fun h5 => ?_
  refine canon_pair _ y 512 _ _ _ (by norm_num) (by norm_num) slices_S1024x128_o0_0_S256x128 slices_S1024x128_o256_0_S256x128 rfl fun h4 => ?_
  refine canon_pair _ y 384 _ _ _ (by norm_num) (by norm_num) slices_S1024x128_o512_0_S256x128 slices_S1024x128_o768_0_S256x128 rfl fun h3 => ?_
  refine canon_pair _ y 256 _ _ _ (by norm_num) (by norm_num) slices_S1024x128_o0_0_S256x128 slices_S1024x128_o256_0_S256x128 rfl fun h2 => ?_
  refine canon_pair _ y 128 _ _ _ (by norm_num) (by norm_num) slices_S1024x128_o512_0_S256x128 slices_S1024x128_o768_0_S256x128 rfl fun h1 => ?_
  refine canon_pair _ y 0 _ _ _ (by norm_num) (by norm_num) slices_S1024x128_o0_0_S256x128 slices_S1024x128_o256_0_S256x128 rfl fun h0 => ?_
  omega

end Cert.Win

end
-- ==== Proof.Win.Read.lean ====
/-
  One group's scores, powers and quotients of the window attention, read at an index, at the ideal values.
-/
module

public import proofs.«01_k».proof.Proof.Win.Body
public import proofs.«01_k».proof.Proof.Mla.Read

@[expose] public section

set_option maxRecDepth 16384

noncomputable section

namespace Cert.Win

open Cert.Kernel5Ideal Cert.Kernel5Ideal.Gen Idealize.ShloMosaic Idealize.ShloMosaic.TcCoe Idealize.SL.Sem
open scoped BigOperators

/-- A stacked row and a lane. -/
abbrev iX (r : Fin 1024) (d : Fin 128) : S1024x128.Idx := ValueIdx.ix2 r d
/-- A stacked row and a key of a tile. -/
abbrev iT (r : Fin 1024) (j : Fin 256) : S1024x256.Idx := ValueIdx.ix2 r j
/-- A row and a lane of a tile. -/
abbrev iB (r : Fin 256) (d : Fin 128) : S256x128.Idx := ValueIdx.ix2 r d
/-- Row `r` of the group's head `e`. -/
def at4 (e : Fin 4) (r : Fin 256) : Fin 1024 := ⟨256 * e.val + r.val, by omega⟩

theorem raw_at (q : FVec Ideal S1024x128 .bf16) (k : Vec Ideal S256x128 .bf16) (r : Fin 1024) (j : Fin 256) :
    raw q k (iT r j) = ∑ d : Fin 128, q (iX r d) * k (iB j d) := by
  unfold raw
  rw [shapeCast_self]
  refine (Ideal.matmul_transposedRhs_apply (M := 1024) (K := 128) (N := 256) none q k _ r j).trans ?_
  show Ideal.ofBits .f32 0x00000000#32 + _ = _
  rw [Ideal.ofBits_zero_f32, zero_add]

section Masks

variable (e : Fin 4) (r j : Fin 256)

theorem rel_at : k0_pay6 (iT (at4 e r) j) = BitVec.ofNat 32 r.val - BitVec.ofNat 32 j.val := by
  refine (show k0_pay6 (iT (at4 e r) j) = (BitVec.ofNat 32 (at4 e r).val &&& 255#32) - BitVec.ofNat 32 j.val from by
    rw [← iota_single_apply .tc S1024x256 32 0 iota_S1024x256_d0_w32 (iT (at4 e r) j), ← iota_single_apply .tc S1024x256 32 1 iota_S1024x256_d1_w32 (iT (at4 e r) j)]
    rfl).trans ?_
  refine congrArg (· - BitVec.ofNat 32 j.val) ?_
  have hr := r.isLt
  have he := e.isLt
  refine BitVec.eq_of_toNat_eq ?_
  rw [BitVec.toNat_and, BitVec.toNat_ofNat, BitVec.toNat_ofNat]
  refine (Nat.and_two_pow_sub_one_eq_mod _ 8).trans ?_
  show (256 * e.val + r.val) % 2 ^ 32 % 2 ^ 8 = r.val % 2 ^ 32
  omega

theorem sub_le (h : j.val ≤ r.val) : BitVec.ofNat 32 r.val - BitVec.ofNat 32 j.val = BitVec.ofNat 32 (r.val - j.val) := by
  refine BitVec.eq_of_toNat_eq ?_
  simp only [BitVec.toNat_sub, BitVec.toNat_ofNat]
  omega

theorem sub_gt (h : ¬j.val ≤ r.val) : BitVec.ofNat 32 r.val - BitVec.ofNat 32 j.val = BitVec.ofNat 32 (4294967295 - (j.val - r.val - 1)) := by
  refine BitVec.eq_of_toNat_eq ?_
  simp only [BitVec.toNat_sub, BitVec.toNat_ofNat]
  omega

theorem sge_at : IntOp.cmpi .sge (k0_pay6 (iT (at4 e r) j)) 0#32 = if j.val ≤ r.val then 1#1 else 0#1 := by
  rw [rel_at]
  by_cases h : j.val ≤ r.val
  · rw [if_pos h, sub_le r j h]
    exact (by decide +kernel : ∀ k : Fin 256, IntOp.cmpi .sge (BitVec.ofNat 32 k.val) 0#32 = 1#1) ⟨r.val - j.val, by omega⟩
  · rw [if_neg h, sub_gt r j h]
    exact (by decide +kernel : ∀ k : Fin 256, IntOp.cmpi .sge (BitVec.ofNat 32 (4294967295 - k.val)) 0#32 = 0#1)
      ⟨j.val - r.val - 1, by omega⟩

theorem slt_at : IntOp.cmpi .slt (k0_pay6 (iT (at4 e r) j)) 0#32 = if j.val ≤ r.val then 0#1 else 1#1 := by
  rw [rel_at]
  by_cases h : j.val ≤ r.val
  · rw [if_pos h, sub_le r j h]
    exact (by decide +kernel : ∀ k : Fin 256, IntOp.cmpi .slt (BitVec.ofNat 32 k.val) 0#32 = 0#1) ⟨r.val - j.val, by omega⟩
  · rw [if_neg h, sub_gt r j h]
    exact (by decide +kernel : ∀ k : Fin 256, IntOp.cmpi .slt (BitVec.ofNat 32 (4294967295 - k.val)) 0#32 = 1#1)
      ⟨j.val - r.val - 1, by omega⟩

theorem far_ok : ∀ n : Fin 16, Scalar.cmpi .sge (Scalar.addi (Scalar.subi (BitVec.ofNat 32 n.val) 2#32) 0#32) 0#32
    = if 2 ≤ n.val then 1#1 else 0#1 := by decide +kernel

theorem near_ok : ∀ n : Fin 16, Scalar.cmpi .sge (Scalar.addi (Scalar.subi (BitVec.ofNat 32 n.val) 2#32) 1#32) 0#32
    = if 1 ≤ n.val then 1#1 else 0#1 := by decide +kernel

variable (n : Fin 16) (q : FVec Ideal S1024x128 .bf16) (k : Vec Ideal S256x128 .bf16)

theorem sOwn_at : sOwn q k (iT (at4 e r) j) = if j.val ≤ r.val then raw q k (iT (at4 e r) j) else ⊥ := by
  show (if IntOp.cmpi .sge (k0_pay6 (iT (at4 e r) j)) 0#32 = 1#1 then raw q k (iT (at4 e r) j) else _) = _
  rw [sge_at]
  by_cases h : j.val ≤ r.val
  · rw [if_pos h, if_pos h, if_pos rfl]
  · rw [if_neg h, if_neg h, if_neg (by decide)]
    rfl

theorem sNear_at : sNear (BitVec.ofNat 32 n.val) q k (iT (at4 e r) j) = if 1 ≤ n.val then raw q k (iT (at4 e r) j) else ⊥ := by
  unfold sNear
  rw [near_ok]
  by_cases h : 1 ≤ n.val
  · rw [if_pos h, if_pos h]; rfl
  · rw [if_neg h, if_neg h]; rfl

theorem sFar_at : sFar (BitVec.ofNat 32 n.val) q k (iT (at4 e r) j)
    = if r.val < j.val ∧ 2 ≤ n.val then raw q k (iT (at4 e r) j) else ⊥ := by
  show (if IntOp.andi (IntOp.cmpi .slt (k0_pay6 (iT (at4 e r) j)) 0#32)
    (Scalar.cmpi .sge (Scalar.addi (Scalar.subi (BitVec.ofNat 32 n.val) 2#32) 0#32) 0#32) = 1#1 then raw q k (iT (at4 e r) j) else _) = _
  rw [slt_at, far_ok]
  by_cases h : j.val ≤ r.val
  · by_cases h' : 2 ≤ n.val
    · rw [if_pos h, if_pos h', if_neg (by decide), if_neg (fun hh => by omega)]; rfl
    · rw [if_pos h, if_neg h', if_neg (by decide), if_neg (fun hh => by omega)]; rfl
  · by_cases h' : 2 ≤ n.val
    · rw [if_neg h, if_pos h', if_pos (by decide), if_pos ⟨by omega, h'⟩]
    · rw [if_neg h, if_neg h', if_neg (by decide), if_neg (fun hh => h' hh.2)]; rfl

end Masks

section Group

variable (s0 s1 s2 : FVec Ideal S1024x256 .f32)

/-- A row's largest score. -/
def top (r : Fin 1024) : EReal := Finset.univ.sup fun j : Fin 256 => max (max (s0 (iT r j)) (s1 (iT r j))) (s2 (iT r j))

theorem gM_at (r : Fin 1024) (d : Fin 128) : gM s0 s1 s2 (iX r d) = top s0 s1 s2 r := by
  unfold gM
  rw [shapeCast_self]
  refine (broadcastTo_apply (s := S1024x1) (t := S1024x128) _ _ _ (ValueIdx.ix2 (n0 := 1024) (n1 := 1) r 0)
    (fun a => by match a with | ⟨0, _⟩ => rfl | ⟨1, _⟩ => rfl)).trans ?_
  refine (shapeCast_apply (s := S1024) (t := S1024x1) _ _ _ (ValueIdx.ix1 r) ?_).trans ?_
  · refine (Shape.rowMajor_val_one _).trans ((Shape.rowMajor_val_two _).trans ?_).symm
    show r.val * 1 + 0 = r.val
    omega
  · refine (Ideal.multiReduction_maximumf_single _ _ _ _ _ _).trans ?_
    show Finset.univ.fold max (Ideal.ofBits .f32 0xFF800000#32) _ = _
    rw [Cert.Mla.ofBits_neg_inf]
    refine congrArg (Finset.univ.sup) (funext fun j => congrArg (maximumf (maximumf s0 s1) s2) (?_ : _ = iT r j))
    funext b
    match b with
    | ⟨0, _⟩ => rfl
    | ⟨1, _⟩ => rfl

theorem gC_at (r : Fin 1024) (j : Fin 256) : gC s0 s1 s2 (iT r j) = top s0 s1 s2 r := by
  unfold gC
  by_cases h : j.val < 128
  · exact (concatenate_pair_apply_left (s₁ := S1024x128) (s₂ := S1024x128) (t := S1024x256) 1 _ _ _ (iT r j) rfl
      (iX r ⟨j.val, h⟩) (fun b => by match b with | ⟨0, _⟩ => rfl | ⟨1, _⟩ => rfl)).trans (gM_at s0 s1 s2 r _)
  · exact (concatenate_pair_apply_right (s₁ := S1024x128) (s₂ := S1024x128) (t := S1024x256) 1 _ _ _ (iT r j) rfl rfl
      (iX r ⟨j.val - 128, by omega⟩)
      (fun b hb => by match b with | ⟨0, _⟩ => rfl | ⟨1, _⟩ => exact absurd rfl hb)
      (by show j.val - 128 + 128 = j.val; omega)).trans (gM_at s0 s1 s2 r _)

theorem gP_at (s : FVec Ideal S1024x256 .f32) (r : Fin 1024) (j : Fin 256) :
    gP s0 s1 s2 s (iT r j) = Ideal.exp2 (s (iT r j) - top s0 s1 s2 r) := by
  rw [← gC_at s0 s1 s2 r j]; rfl

theorem gV_at (s : FVec Ideal S1024x256 .f32) (v : Vec Ideal S256x128 .bf16) (r : Fin 1024) (d : Fin 128) :
    gV s0 s1 s2 s v (iX r d) = ∑ j : Fin 256, Ideal.exp2 (s (iT r j) - top s0 s1 s2 r) * v (iB j d) := by
  unfold gV
  rw [shapeCast_self]
  refine (Ideal.matmul_plain_apply (M := 1024) (K := 256) (N := 128) none _ _ _ r d).trans ?_
  show Ideal.ofBits .f32 0x00000000#32 + _ = _
  rw [Ideal.ofBits_zero_f32, zero_add]
  exact Finset.sum_congr rfl fun j _ => congrArg (· * v (iB j d)) (gP_at s0 s1 s2 s r j)

theorem gL_at (r : Fin 1024) (d : Fin 128) :
    gL s0 s1 s2 (iX r d) = ∑ j : Fin 256, ((Ideal.exp2 (s0 (iT r j) - top s0 s1 s2 r) + Ideal.exp2 (s1 (iT r j) - top s0 s1 s2 r))
      + Ideal.exp2 (s2 (iT r j) - top s0 s1 s2 r)) := by
  unfold gL
  refine (broadcastTo_apply (s := S1024x1) (t := S1024x128) _ _ _ (ValueIdx.ix2 (n0 := 1024) (n1 := 1) r 0)
    (fun a => by match a with | ⟨0, _⟩ => rfl | ⟨1, _⟩ => rfl)).trans ?_
  refine (shapeCast_apply (s := S1024) (t := S1024x1) _ _ _ (ValueIdx.ix1 r) ?_).trans ?_
  · refine (Shape.rowMajor_val_one _).trans ((Shape.rowMajor_val_two _).trans ?_).symm
    show r.val * 1 + 0 = r.val
    omega
  · refine (Ideal.multiReduction_add_single _ _ _ _ _ _).trans ?_
    refine Finset.sum_congr rfl fun (j : Fin 256) _ => Eq.trans ?_
      (congrArg₂ (· + ·) (congrArg₂ (· + ·) (gP_at s0 s1 s2 s0 r j) (gP_at s0 s1 s2 s1 r j)) (gP_at s0 s1 s2 s2 r j))
    refine congrArg (addf (addf (gP s0 s1 s2 s0) (gP s0 s1 s2 s1)) (gP s0 s1 s2 s2)) (?_ : _ = iT r j)
    funext b
    match b with
    | ⟨0, _⟩ => rfl
    | ⟨1, _⟩ => rfl

theorem gOut_at (v0 v1 v2 : Vec Ideal S256x128 .bf16) (r : Fin 1024) (d : Fin 128) :
    gOut s0 s1 s2 v0 v1 v2 (iX r d) = Ideal.div
      ((∑ j : Fin 256, Ideal.exp2 (s0 (iT r j) - top s0 s1 s2 r) * v0 (iB j d) + ∑ j : Fin 256, Ideal.exp2 (s1 (iT r j) - top s0 s1 s2 r) * v1 (iB j d))
        + ∑ j : Fin 256, Ideal.exp2 (s2 (iT r j) - top s0 s1 s2 r) * v2 (iB j d))
      (∑ j : Fin 256, ((Ideal.exp2 (s0 (iT r j) - top s0 s1 s2 r) + Ideal.exp2 (s1 (iT r j) - top s0 s1 s2 r))
        + Ideal.exp2 (s2 (iT r j) - top s0 s1 s2 r))) := by
  rw [← gV_at s0 s1 s2 s0 v0 r d, ← gV_at s0 s1 s2 s1 v1 r d, ← gV_at s0 s1 s2 s2 v2 r d, ← gL_at s0 s1 s2 r d]
  rfl

end Group

/-! ## The lanes of the windows -/

theorem lanesQ_at (X : Vec Ideal S256x2048 .bf16) (h : Fin 16) (r : Fin 256) (d : Fin 128) :
    lanesQ X h (iB r d) = X (ValueIdx.ix2 (n0 := 256) (n1 := 2048) r ⟨128 * h.val + d.val, by omega⟩) := by
  refine congrArg X (funext fun b => ?_)
  match b with
  | ⟨0, _⟩ => refine Fin.ext ?_; show 0 + 1 * r.val = r.val; omega
  | ⟨1, _⟩ => refine Fin.ext ?_; show 128 * h.val + 1 * d.val = 128 * h.val + d.val; omega

theorem lanesK_at (X : Vec Ideal S256x512 .bf16) (g : Fin 4) (r : Fin 256) (d : Fin 128) :
    lanesK X g (iB r d) = X (ValueIdx.ix2 (n0 := 256) (n1 := 512) r ⟨128 * g.val + d.val, by omega⟩) := by
  refine congrArg X (funext fun b => ?_)
  match b with
  | ⟨0, _⟩ => refine Fin.ext ?_; show 0 + 1 * r.val = r.val; omega
  | ⟨1, _⟩ => refine Fin.ext ?_; show 128 * g.val + 1 * d.val = 128 * g.val + d.val; omega

theorem stk_at (q : Fin 4 → Vec Ideal S256x128 .bf16) (e : Fin 4) (r : Fin 256) (d : Fin 128) :
    stk (q 0) (q 1) (q 2) (q 3) (iX (at4 e r) d) = q e (iB r d) := by
  unfold stk
  simp only [shapeCast_self]
  refine concatenate_apply_piece (t := S1024x128) 0 _ _ _ e.val (by show e.val < 4; exact e.isLt) S256x128 (q e) ?_ rfl (256 * e.val) ?_ (iB r d)
    (fun b hb => by match b with | ⟨0, _⟩ => exact absurd rfl hb | ⟨1, _⟩ => rfl) ?_
  · fin_cases e <;> rfl
  · fin_cases e <;> rfl
  · rfl

theorem stack_at (x0 : Vec Ideal S256x2048 .bf16) (g e : Fin 4) (r : Fin 256) (d : Fin 128) :
    stack x0 g (iX (at4 e r) d) = x0 (ValueIdx.ix2 (n0 := 256) (n1 := 2048) r ⟨128 * (4 * g.val + e.val) + d.val, by omega⟩) :=
  (stk_at (fun e => lanesQ x0 ⟨4 * g.val + e.val, by omega⟩) e r d).trans (lanesQ_at x0 ⟨4 * g.val + e.val, by omega⟩ r d)

end Cert.Win

end
-- ==== Proof.Win.Row.lean ====
/-
  The softmax of one row over three tiles, and a sum over the tiles as a sum over all keys.
-/
module

public import proofs.«01_k».proof.Proof.Mla.Online
public import Idealize.ShloMosaic.Lib.Pipeline.ValueKit.Acc

@[expose] public section

noncomputable section

namespace Cert.Win

open Idealize.ShloMosaic Cert.Mla
open scoped BigOperators

/-- The quotient of a row: the mean of the values, weighted. -/
theorem row_quot (s0 s1 s2 : Fin 256 → EReal) (w0 w1 w2 : Fin 256 → ℝ) (V0 V1 V2 : Fin 256 → EReal) (h0 : ∀ j, Sc (w0 j) (s0 j))
    (h1 : ∀ j, Sc (w1 j) (s1 j)) (h2 : ∀ j, Sc (w2 j) (s2 j)) (j₀ : Fin 256) (hpos : 0 < w2 j₀) (M : EReal)
    (hM : M = Finset.univ.sup fun j : Fin 256 => max (max (s0 j) (s1 j)) (s2 j)) (W : ℝ) (hW : W = (∑ j, w0 j + ∑ j, w1 j) + ∑ j, w2 j) :
    Ideal.div ((∑ j : Fin 256, Ideal.exp2 (s0 j - M) * V0 j + ∑ j : Fin 256, Ideal.exp2 (s1 j - M) * V1 j)
        + ∑ j : Fin 256, Ideal.exp2 (s2 j - M) * V2 j)
      (∑ j : Fin 256, ((Ideal.exp2 (s0 j - M) + Ideal.exp2 (s1 j - M)) + Ideal.exp2 (s2 j - M)))
    = (∑ j, ((w0 j / W : ℝ) : EReal) * V0 j + ∑ j, ((w1 j / W : ℝ) : EReal) * V1 j) + ∑ j, ((w2 j / W : ℝ) : EReal) * V2 j := by
  obtain ⟨c, hc, hle⟩ := Sc.sup (fun j => max (max (w0 j) (w1 j)) (w2 j)) (fun j => max (max (s0 j) (s1 j)) (s2 j))
    (fun j => ((h0 j).max (h1 j)).max (h2 j)) Finset.univ
  rw [← hM] at hc
  have hc0 : 0 < c := hpos.trans_le ((le_max_right _ _).trans (hle j₀ (Finset.mem_univ _)))
  have e0 : ∀ j, Ideal.exp2 (s0 j - M) = ((w0 j / c : ℝ) : EReal) := fun j => (h0 j).exp2 hc hc0
  have e1 : ∀ j, Ideal.exp2 (s1 j - M) = ((w1 j / c : ℝ) : EReal) := fun j => (h1 j).exp2 hc hc0
  have e2 : ∀ j, Ideal.exp2 (s2 j - M) = ((w2 j / c : ℝ) : EReal) := fun j => (h2 j).exp2 hc hc0
  have hW0 : 0 < W := by
    rw [hW]
    have a0 : 0 ≤ ∑ j, w0 j := Finset.sum_nonneg fun j _ => (h0 j).nonneg
    have a1 : 0 ≤ ∑ j, w1 j := Finset.sum_nonneg fun j _ => (h1 j).nonneg
    have a2 : 0 < ∑ j, w2 j := Finset.sum_pos' (fun j _ => (h2 j).nonneg) ⟨j₀, Finset.mem_univ _, hpos⟩
    linarith
  have hL : ∑ j : Fin 256, ((Ideal.exp2 (s0 j - M) + Ideal.exp2 (s1 j - M)) + Ideal.exp2 (s2 j - M)) = ((W / c : ℝ) : EReal) := by
    rw [Finset.sum_congr rfl fun j _ => show (Ideal.exp2 (s0 j - M) + Ideal.exp2 (s1 j - M)) + Ideal.exp2 (s2 j - M)
        = (((w0 j / c + w1 j / c) + w2 j / c : ℝ) : EReal) from by rw [e0, e1, e2, EReal.coe_add, EReal.coe_add], ← coe_sum]
    congr 1
    rw [Finset.sum_add_distrib, Finset.sum_add_distrib, ← Finset.sum_div, ← Finset.sum_div, ← Finset.sum_div, hW, add_div, add_div]
  have hne : W / c ≠ 0 := (div_pos hW0 hc0).ne'
  have inv0 : 0 ≤ 1 / (W / c) := by positivity
  have tile : ∀ (w : Fin 256 → ℝ) (V : Fin 256 → EReal),
      ((1 / (W / c) : ℝ) : EReal) * ∑ j, ((w j / c : ℝ) : EReal) * V j = ∑ j, ((w j / W : ℝ) : EReal) * V j := fun w V => by
    rw [coe_mul_sum _ _ inv0]
    refine Finset.sum_congr rfl fun j _ => ?_
    rw [← mul_assoc, ← EReal.coe_mul]
    congr 2
    field_simp
  rw [hL, Finset.sum_congr rfl fun j _ => congrArg (· * V0 j) (e0 j), Finset.sum_congr rfl fun j _ => congrArg (· * V1 j) (e1 j),
    Finset.sum_congr rfl fun j _ => congrArg (· * V2 j) (e2 j)]
  rw [Ideal.div_coe hne, mul_comm, EReal.left_distrib_of_nonneg_of_ne_top (by exact_mod_cast inv0) (EReal.coe_ne_top _),
    EReal.left_distrib_of_nonneg_of_ne_top (by exact_mod_cast inv0) (EReal.coe_ne_top _), tile, tile, tile]

/-- A sum over the three tiles up to the query's is the sum over all keys, when the others add nothing. -/
theorem sum_tiles {M : Type*} [AddCommMonoid M] (f : ℕ → M) (q r : ℕ) (hq : q < 16) (hr : r < 256)
    (h0 : ∀ J, 256 * q + r < J → f J = 0) (h1 : ∀ J, J + 512 ≤ 256 * q + r → f J = 0) :
    ((if 2 ≤ q then ∑ j : Fin 256, f (256 * (q - 2) + j.val) else 0) + (if 1 ≤ q then ∑ j : Fin 256, f (256 * (q - 1) + j.val) else 0))
      + ∑ j : Fin 256, f (256 * q + j.val) = ∑ J : Fin 4096, f J.val := by
  rw [← Fin.sum_mul_add_fin (L := 4096) 16 256 (fun J => f J.val)]
  have e : (∑ n : Fin 16, ∑ j : Fin 256, f (n.val * 256 + j.val)) = ∑ n ∈ Finset.range 16, ∑ j : Fin 256, f (256 * n + j.val) := by
    rw [Finset.sum_range]
    exact Finset.sum_congr rfl fun n _ => Finset.sum_congr rfl fun j _ => by rw [Nat.mul_comm]
  refine Eq.trans ?_ e.symm
  have z : ∀ n, n ∉ (Finset.range 16).filter (fun n => n = q ∨ n + 1 = q ∨ n + 2 = q) → n < 16 → ∑ j : Fin 256, f (256 * n + j.val) = 0 := by
    intro n hn hn'
    rw [Finset.mem_filter, Finset.mem_range] at hn
    refine Finset.sum_eq_zero fun j _ => ?_
    have hj := j.isLt
    by_cases hl : q < n
    · exact h0 _ (by omega)
    · exact h1 _ (by by_contra hh; exact hn ⟨hn', by omega⟩)
  rw [← Finset.sum_subset (Finset.filter_subset (fun n => n = q ∨ n + 1 = q ∨ n + 2 = q) (Finset.range 16))
    (fun n hn hn' => z n hn' (Finset.mem_range.mp hn))]
  rcases Nat.lt_or_ge q 2 with hq2 | hq2
  · rcases Nat.eq_zero_or_pos q with rfl | hq1
    · rw [if_neg (by omega), if_neg (by omega), zero_add, zero_add]
      rw [show (Finset.range 16).filter (fun n => n = 0 ∨ n + 1 = 0 ∨ n + 2 = 0) = {0} from by decide, Finset.sum_singleton]
    · obtain rfl : q = 1 := by omega
      rw [if_neg (by omega), if_pos (by omega), zero_add]
      rw [show (Finset.range 16).filter (fun n => n = 1 ∨ n + 1 = 1 ∨ n + 2 = 1) = {0, 1} from by decide,
        Finset.sum_pair (by decide)]
  · rw [if_pos hq2, if_pos (by omega)]
    rw [show (Finset.range 16).filter (fun n => n = q ∨ n + 1 = q ∨ n + 2 = q) = {q - 2, q - 1, q} from by
      ext n; simp only [Finset.mem_filter, Finset.mem_range, Finset.mem_insert, Finset.mem_singleton]; omega]
    rw [Finset.sum_insert (by simp only [Finset.mem_insert, Finset.mem_singleton]; omega), Finset.sum_pair (by omega), add_assoc]

end Cert.Win

end
-- ==== Proof.Win.Assemble.lean ====
/-
  The array that the window attention returns, index by index: the weighted mean of the values over the 512 keys up to
  the query.
-/
module

public import proofs.«01_k».proof.Proof.Win.Read
public import proofs.«01_k».proof.Proof.Win.Row
public import proofs.«01_k».proof.Proof.Gen.Kernel5Ideal.Value
public import Idealize.ShloMosaic.Lib.Pipeline.ValueKit

@[expose] public section

set_option maxRecDepth 16384

noncomputable section

namespace Cert.Win

open Cert.Kernel5Ideal Cert.Kernel5Ideal.Gen Idealize.ShloMosaic Idealize.ShloMosaic.TcCoe Idealize.SL.Sem Cert.Mla
open scoped BigOperators

/-- The weight of key `J` for query `R`: none outside the window. -/
def band (u : ℕ → Fin 16 → ℕ → ℕ → ℝ) (b : ℕ) (h : Fin 16) (R J : ℕ) : ℝ := if J ≤ R ∧ R < J + 512 then u b h R J else 0

/-- The weighted mean of lane `d` of the values. -/
def meanW (u : ℕ → Fin 16 → ℕ → ℕ → ℝ) (Vn : ℕ → ℕ → EReal) (b : ℕ) (h : Fin 16) (R d : ℕ) : EReal :=
  ∑ J : Fin 4096, ((band u b h R J.val / ∑ J' : Fin 4096, band u b h R J'.val : ℝ) : EReal)
    * Vn (4096 * b + J.val) (512 + 128 * (h.val / 4) + d)

/-- The weights' logarithms are the products of the rows. -/
def ScoresW (Qn Kn : ℕ → ℕ → EReal) (u : ℕ → Fin 16 → ℕ → ℕ → ℝ) : Prop := ∀ b h R J, b < 4 → R < 4096 → J < 4096 →
  0 < u b h R J ∧ Sc (u b h R J) (∑ d : Fin 128, Qn (4096 * b + R) (128 * h.val + d.val) * Kn (4096 * b + J) (512 + 128 * (h.val / 4) + d.val))

/-! ## The blocks -/

theorem tN (t : Fin cfg0.N) : t.val < 64 := lt_of_lt_of_eq t.isLt (show cfg0.N = 64 from N_0)

theorem idx0 : ∀ t : Fin grid0.N, cc0_transform_0 (grid0.coords t) = ![16 * (t.val / 16) + t.val % 16, 0] := by decide +kernel
theorem idx1 : ∀ t : Fin grid0.N, cc0_transform_1 (grid0.coords t) = ![16 * (t.val / 16) + (t.val % 16 - 2), 1] := by decide +kernel
theorem idx2 : ∀ t : Fin grid0.N, cc0_transform_2 (grid0.coords t) = ![16 * (t.val / 16) + (t.val % 16 - 1), 1] := by decide +kernel
theorem idx3 : ∀ t : Fin grid0.N, cc0_transform_3 (grid0.coords t) = ![16 * (t.val / 16) + t.val % 16, 1] := by decide +kernel
theorem idx4 : ∀ t : Fin grid0.N, cc0_transform_4 (grid0.coords t) = ![16 * (t.val / 16) + (t.val % 16 - 2), 1] := by decide +kernel
theorem idx5 : ∀ t : Fin grid0.N, cc0_transform_5 (grid0.coords t) = ![16 * (t.val / 16) + (t.val % 16 - 1), 1] := by decide +kernel
theorem idx6 : ∀ t : Fin grid0.N, cc0_transform_6 (grid0.coords t) = ![16 * (t.val / 16) + t.val % 16, 1] := by decide +kernel
theorem idx7 : ∀ t : Fin grid0.N, cc0_transform_7 (grid0.coords t) = ![16 * (t.val / 16) + t.val % 16, 0] := by decide +kernel
theorem coord1 : ∀ t : Fin grid0.N, (grid0.coords t 1).val = t.val % 16 := by decide +kernel

/-- A row and a column of a key or value tile. -/
abbrev iK (r : Fin 256) (d : Fin 512) : S256x512.Idx := ValueIdx.ix2 r d

variable (m : (ℓ : Loc nD τ sig) → Buf (Elt Ideal) ℓ) (c : Dev nD)

theorem blk0_at (f : ℕ → ℕ → EReal) (hf : ∀ i : S16384x2048.Idx, V m c (Pipeline.arrRef spec0 0) i = f (i 0).val (i 1).val)
    (t : Fin cfg0.N) (r : Fin 256) (d : Fin 2048) :
    (iblk m c 0 t : Vec Ideal S256x2048 .bf16) (ValueIdx.ix2 (n0 := 256) (n1 := 2048) r d) = f (256 * (16 * (t.val / 16) + t.val % 16) + r.val) d.val := by
  refine (hf _).trans ?_
  have e := idx0 t
  congr 1
  · show cc0_transform_0 (grid0.coords t) 0 * 256 + 1 * r.val = _
    rw [e]; show (16 * (t.val / 16) + t.val % 16) * 256 + 1 * r.val = _; omega
  · show cc0_transform_0 (grid0.coords t) 1 * 2048 + 1 * d.val = _
    rw [e]; show 0 * 2048 + 1 * d.val = _; omega

theorem blk1_at (f : ℕ → ℕ → EReal) (hf : ∀ i : S16384x1024.Idx, V m c (Pipeline.arrRef spec0 1) i = f (i 0).val (i 1).val)
    (t : Fin cfg0.N) (r : Fin 256) (d : Fin 512) :
    (iblk m c 1 t : Vec Ideal S256x512 .bf16) (iK r d) = f (256 * (16 * (t.val / 16) + (t.val % 16 - 2)) + r.val) (512 + d.val) := by
  refine (hf _).trans ?_
  have e := idx1 t
  congr 1
  · show cc0_transform_1 (grid0.coords t) 0 * 256 + 1 * r.val = _
    rw [e]; show (16 * (t.val / 16) + (t.val % 16 - 2)) * 256 + 1 * r.val = _; omega
  · show cc0_transform_1 (grid0.coords t) 1 * 512 + 1 * d.val = _
    rw [e]; show 1 * 512 + 1 * d.val = _; omega

theorem blk2_at (f : ℕ → ℕ → EReal) (hf : ∀ i : S16384x1024.Idx, V m c (Pipeline.arrRef spec0 2) i = f (i 0).val (i 1).val)
    (t : Fin cfg0.N) (r : Fin 256) (d : Fin 512) :
    (iblk m c 2 t : Vec Ideal S256x512 .bf16) (iK r d) = f (256 * (16 * (t.val / 16) + (t.val % 16 - 1)) + r.val) (512 + d.val) := by
  refine (hf _).trans ?_
  have e := idx2 t
  congr 1
  · show cc0_transform_2 (grid0.coords t) 0 * 256 + 1 * r.val = _
    rw [e]; show (16 * (t.val / 16) + (t.val % 16 - 1)) * 256 + 1 * r.val = _; omega
  · show cc0_transform_2 (grid0.coords t) 1 * 512 + 1 * d.val = _
    rw [e]; show 1 * 512 + 1 * d.val = _; omega

theorem blk3_at (f : ℕ → ℕ → EReal) (hf : ∀ i : S16384x1024.Idx, V m c (Pipeline.arrRef spec0 3) i = f (i 0).val (i 1).val)
    (t : Fin cfg0.N) (r : Fin 256) (d : Fin 512) :
    (iblk m c 3 t : Vec Ideal S256x512 .bf16) (iK r d) = f (256 * (16 * (t.val / 16) + t.val % 16) + r.val) (512 + d.val) := by
  refine (hf _).trans ?_
  have e := idx3 t
  congr 1
  · show cc0_transform_3 (grid0.coords t) 0 * 256 + 1 * r.val = _
    rw [e]; show (16 * (t.val / 16) + t.val % 16) * 256 + 1 * r.val = _; omega
  · show cc0_transform_3 (grid0.coords t) 1 * 512 + 1 * d.val = _
    rw [e]; show 1 * 512 + 1 * d.val = _; omega

theorem blk4_at (f : ℕ → ℕ → EReal) (hf : ∀ i : S16384x1536.Idx, V m c (Pipeline.arrRef spec0 4) i = f (i 0).val (i 1).val)
    (t : Fin cfg0.N) (r : Fin 256) (d : Fin 512) :
    (iblk m c 4 t : Vec Ideal S256x512 .bf16) (iK r d) = f (256 * (16 * (t.val / 16) + (t.val % 16 - 2)) + r.val) (512 + d.val) := by
  refine (hf _).trans ?_
  have e := idx4 t
  congr 1
  · show cc0_transform_4 (grid0.coords t) 0 * 256 + 1 * r.val = _
    rw [e]; show (16 * (t.val / 16) + (t.val % 16 - 2)) * 256 + 1 * r.val = _; omega
  · show cc0_transform_4 (grid0.coords t) 1 * 512 + 1 * d.val = _
    rw [e]; show 1 * 512 + 1 * d.val = _; omega

theorem blk5_at (f : ℕ → ℕ → EReal) (hf : ∀ i : S16384x1536.Idx, V m c (Pipeline.arrRef spec0 5) i = f (i 0).val (i 1).val)
    (t : Fin cfg0.N) (r : Fin 256) (d : Fin 512) :
    (iblk m c 5 t : Vec Ideal S256x512 .bf16) (iK r d) = f (256 * (16 * (t.val / 16) + (t.val % 16 - 1)) + r.val) (512 + d.val) := by
  refine (hf _).trans ?_
  have e := idx5 t
  congr 1
  · show cc0_transform_5 (grid0.coords t) 0 * 256 + 1 * r.val = _
    rw [e]; show (16 * (t.val / 16) + (t.val % 16 - 1)) * 256 + 1 * r.val = _; omega
  · show cc0_transform_5 (grid0.coords t) 1 * 512 + 1 * d.val = _
    rw [e]; show 1 * 512 + 1 * d.val = _; omega

theorem blk6_at (f : ℕ → ℕ → EReal) (hf : ∀ i : S16384x1536.Idx, V m c (Pipeline.arrRef spec0 6) i = f (i 0).val (i 1).val)
    (t : Fin cfg0.N) (r : Fin 256) (d : Fin 512) :
    (iblk m c 6 t : Vec Ideal S256x512 .bf16) (iK r d) = f (256 * (16 * (t.val / 16) + t.val % 16) + r.val) (512 + d.val) := by
  refine (hf _).trans ?_
  have e := idx6 t
  congr 1
  · show cc0_transform_6 (grid0.coords t) 0 * 256 + 1 * r.val = _
    rw [e]; show (16 * (t.val / 16) + t.val % 16) * 256 + 1 * r.val = _; omega
  · show cc0_transform_6 (grid0.coords t) 1 * 512 + 1 * d.val = _
    rw [e]; show 1 * 512 + 1 * d.val = _; omega

/-! ## A group's quotient -/

section Rows

variable {Qn Kn Vn : ℕ → ℕ → EReal} {u : ℕ → Fin 16 → ℕ → ℕ → ℝ}

theorem band_sum_pos (hu : ScoresW Qn Kn u) (b : ℕ) (h : Fin 16) (R : ℕ) (hb : b < 4) (hR : R < 4096) :
    0 < ∑ J : Fin 4096, band u b h R J.val := by
  have nn : ∀ J : Fin 4096, 0 ≤ band u b h R J.val := fun J => by
    unfold band; split_ifs
    · exact (hu b h R J.val hb hR J.isLt).1.le
    · exact le_rfl
  refine Finset.sum_pos' (fun J _ => nn J) ⟨⟨R, hR⟩, Finset.mem_univ _, ?_⟩
  have e : band u b h R R = u b h R R := if_pos ⟨le_rfl, by omega⟩
  exact (hu b h R R hb hR hR).1.trans_eq e.symm

theorem raw_tile (x0 : Vec Ideal S256x2048 .bf16) (x1 : Vec Ideal S256x512 .bf16) (b n k : ℕ)
    (hx0 : ∀ r d, x0 (ValueIdx.ix2 (n0 := 256) (n1 := 2048) r d) = Qn (256 * (16 * b + n) + r.val) d.val)
    (hx1 : ∀ r d, x1 (iK r d) = Kn (256 * (16 * b + k) + r.val) (512 + d.val)) (g e : Fin 4) (r j : Fin 256) :
    raw (stack x0 g) (lanesK x1 g) (iT (at4 e r) j) = ∑ d : Fin 128, Qn (4096 * b + (256 * n + r.val)) (128 * (4 * g.val + e.val) + d.val)
      * Kn (4096 * b + (256 * k + j.val)) (512 + 128 * ((4 * g.val + e.val) / 4) + d.val) := by
  rw [raw_at]
  refine Finset.sum_congr rfl fun d _ => ?_
  rw [stack_at, lanesK_at, hx0, hx1, show 256 * (16 * b + n) + r.val = 4096 * b + (256 * n + r.val) by omega,
    show 256 * (16 * b + k) + j.val = 4096 * b + (256 * k + j.val) by omega, show (4 * g.val + e.val) / 4 = g.val by omega, Nat.add_assoc 512]

theorem grp_at (hu : ScoresW Qn Kn u) (b : ℕ) (hb : b < 4) (n : Fin 16) (x0 : Vec Ideal S256x2048 .bf16) (x1 x2 x3 x4 x5 x6 : Vec Ideal S256x512 .bf16)
    (hx0 : ∀ r d, x0 (ValueIdx.ix2 (n0 := 256) (n1 := 2048) r d) = Qn (256 * (16 * b + n.val) + r.val) d.val)
    (hx1 : ∀ r d, x1 (iK r d) = Kn (256 * (16 * b + (n.val - 2)) + r.val) (512 + d.val))
    (hx2 : ∀ r d, x2 (iK r d) = Kn (256 * (16 * b + (n.val - 1)) + r.val) (512 + d.val))
    (hx3 : ∀ r d, x3 (iK r d) = Kn (256 * (16 * b + n.val) + r.val) (512 + d.val))
    (hx4 : ∀ r d, x4 (iK r d) = Vn (256 * (16 * b + (n.val - 2)) + r.val) (512 + d.val))
    (hx5 : ∀ r d, x5 (iK r d) = Vn (256 * (16 * b + (n.val - 1)) + r.val) (512 + d.val))
    (hx6 : ∀ r d, x6 (iK r d) = Vn (256 * (16 * b + n.val) + r.val) (512 + d.val))
    (g e : Fin 4) (r : Fin 256) (d : Fin 128) :
    grp (BitVec.ofNat 32 n.val) x0 x1 x2 x3 x4 x5 x6 g (iX (at4 e r) d)
      = meanW u Vn b ⟨4 * g.val + e.val, by omega⟩ (256 * n.val + r.val) d.val := by
  have hn := n.isLt
  have hr := r.isLt
  generalize hh : (⟨4 * g.val + e.val, by omega⟩ : Fin 16) = h
  have hv : h.val = 4 * g.val + e.val := by rw [← hh]
  have hg : h.val / 4 = g.val := by omega
  have hz0 : ∀ J, 256 * n.val + r.val < J → band u b h (256 * n.val + r.val) J = 0 := fun J hJ => if_neg (fun H => by omega)
  have hz1 : ∀ J, J + 512 ≤ 256 * n.val + r.val → band u b h (256 * n.val + r.val) J = 0 := fun J hJ => if_neg (fun H => by omega)
  have S := fun J hJ => hu b h (256 * n.val + r.val) J hb (by omega) hJ
  have R1 := raw_tile x0 x1 b n.val (n.val - 2) hx0 hx1 g e r
  have R2 := raw_tile x0 x2 b n.val (n.val - 1) hx0 hx2 g e r
  have R3 := raw_tile x0 x3 b n.val n.val hx0 hx3 g e r
  rw [← hv] at R1 R2 R3
  set w0 : Fin 256 → ℝ := fun j => if 2 ≤ n.val then band u b h (256 * n.val + r.val) (256 * (n.val - 2) + j.val) else 0 with hw0
  set w1 : Fin 256 → ℝ := fun j => if 1 ≤ n.val then band u b h (256 * n.val + r.val) (256 * (n.val - 1) + j.val) else 0 with hw1
  set w2 : Fin 256 → ℝ := fun j => band u b h (256 * n.val + r.val) (256 * n.val + j.val) with hw2
  have k0 : ∀ j, Sc (w0 j) (sFar (BitVec.ofNat 32 n.val) (stack x0 g) (lanesK x1 g) (iT (at4 e r) j)) := fun j => by
    have hj := j.isLt
    rw [sFar_at, hw0]
    show Sc (if _ then _ else _) _
    by_cases h2 : 2 ≤ n.val
    · rw [if_pos h2]
      by_cases hjr : r.val < j.val
      · rw [if_pos ⟨hjr, h2⟩, band, if_pos ⟨by omega, by omega⟩, R1]
        exact (S _ (by omega)).2
      · rw [if_neg (fun H => hjr H.1), hz1 _ (by omega)]
        exact Sc.zero
    · rw [if_neg h2, if_neg (fun H => h2 H.2)]
      exact Sc.zero
  have k1 : ∀ j, Sc (w1 j) (sNear (BitVec.ofNat 32 n.val) (stack x0 g) (lanesK x2 g) (iT (at4 e r) j)) := fun j => by
    have hj := j.isLt
    rw [sNear_at, hw1]
    show Sc (if _ then _ else _) _
    by_cases h1 : 1 ≤ n.val
    · rw [if_pos h1, if_pos h1, band, if_pos ⟨by omega, by omega⟩, R2]
      exact (S _ (by omega)).2
    · rw [if_neg h1, if_neg h1]
      exact Sc.zero
  have k2 : ∀ j, Sc (w2 j) (sOwn (stack x0 g) (lanesK x3 g) (iT (at4 e r) j)) := fun j => by
    have hj := j.isLt
    rw [sOwn_at, hw2]
    show Sc (band _ _ _ _ _) _
    by_cases hjr : j.val ≤ r.val
    · rw [if_pos hjr, band, if_pos ⟨by omega, by omega⟩, R3]
      exact (S _ (by omega)).2
    · rw [if_neg hjr, hz0 _ (by omega)]
      exact Sc.zero
  have hpos : 0 < w2 r := by
    rw [hw2]
    show 0 < band _ _ _ _ _
    rw [band, if_pos ⟨le_rfl, by omega⟩]
    exact (S _ (by omega)).1
  have hW : (∑ J' : Fin 4096, band u b h (256 * n.val + r.val) J'.val) = (∑ j, w0 j + ∑ j, w1 j) + ∑ j, w2 j := by
    rw [← sum_tiles (fun J => band u b h (256 * n.val + r.val) J) n.val r.val hn hr hz0 hz1]
    refine congrArg₂ (· + ·) (congrArg₂ (· + ·) ?_ ?_) rfl
    · rw [hw0]; split_ifs
      · rfl
      · exact Finset.sum_const_zero.symm
    · rw [hw1]; split_ifs
      · rfl
      · exact Finset.sum_const_zero.symm
  unfold grp
  refine (gOut_at _ _ _ _ _ _ (at4 e r) d).trans ?_
  refine (row_quot _ _ _ w0 w1 w2 _ _ _ k0 k1 k2 r hpos _ rfl _ hW).trans ?_
  unfold meanW
  generalize (∑ J' : Fin 4096, band u b h (256 * n.val + r.val) J'.val) = W
  rw [← sum_tiles (fun J => ((band u b h (256 * n.val + r.val) J / W : ℝ) : EReal) * Vn (4096 * b + J) (512 + 128 * (h.val / 4) + d.val)) n.val r.val hn hr
    (fun J hJ => by show ((_ / _ : ℝ) : EReal) * _ = 0; rw [hz0 J hJ, zero_div, EReal.coe_zero, zero_mul])
    (fun J hJ => by show ((_ / _ : ℝ) : EReal) * _ = 0; rw [hz1 J hJ, zero_div, EReal.coe_zero, zero_mul])]
  have val : ∀ (x : Vec Ideal S256x512 .bf16) (k : ℕ) (hx : ∀ r d, x (iK r d) = Vn (256 * (16 * b + k) + r.val) (512 + d.val)) (j : Fin 256),
      lanesK x g (iB j d) = Vn (4096 * b + (256 * k + j.val)) (512 + 128 * (h.val / 4) + d.val) := fun x k hx j => by
    rw [lanesK_at, hx, hg, show 256 * (16 * b + k) + j.val = 4096 * b + (256 * k + j.val) by omega, Nat.add_assoc 512]
  refine congrArg₂ (· + ·) (congrArg₂ (· + ·) ?_ ?_) ?_
  · rw [hw0]
    by_cases h2 : 2 ≤ n.val
    · rw [if_pos h2]
      refine Finset.sum_congr rfl fun j _ => ?_
      show ((ite _ _ _ / W : ℝ) : EReal) * _ = _
      rw [if_pos h2, val x4 _ hx4]
    · rw [if_neg h2]
      refine Finset.sum_eq_zero fun j _ => ?_
      show ((ite _ _ _ / W : ℝ) : EReal) * _ = _
      rw [if_neg h2, zero_div, EReal.coe_zero, zero_mul]
  · rw [hw1]
    by_cases h2 : 1 ≤ n.val
    · rw [if_pos h2]
      refine Finset.sum_congr rfl fun j _ => ?_
      show ((ite _ _ _ / W : ℝ) : EReal) * _ = _
      rw [if_pos h2, val x5 _ hx5]
    · rw [if_neg h2]
      refine Finset.sum_eq_zero fun j _ => ?_
      show ((ite _ _ _ / W : ℝ) : EReal) * _ = _
      rw [if_neg h2, zero_div, EReal.coe_zero, zero_mul]
  · refine Finset.sum_congr rfl fun j _ => ?_
    rw [val x6 _ hx6]

theorem out_at (hQ : ∀ i : S16384x2048.Idx, V m c (Pipeline.arrRef spec0 0) i = Qn (i 0).val (i 1).val)
    (hK : ∀ i : S16384x1024.Idx, V m c main_v16 i = Kn (i 0).val (i 1).val)
    (hV : ∀ i : S16384x1536.Idx, V m c main_v17 i = Vn (i 0).val (i 1).val) (hu : ScoresW Qn Kn u) :
    (dats m 0 c).arrAt 7 cfg0.N = fun i : S16384x1024.Idx =>
      meanW u Vn ((i 0).val / 4096) ⟨(i 1).val / 64, by have h : (i 1).val < 1024 := (i 1).isLt; omega⟩ ((i 0).val % 4096) ((i 1).val % 64) := by
  refine (dats m 0 c).arrAt_eq_of_covers 7 _ (by decide +kernel) fun t hf y => ?_
  have ht := tN t
  blk_simp
  rw [after0_7, out0_7_eq]
  have y0 : (y 0).val < 256 := (y 0).isLt
  have y1 : (y 1).val < 1024 := (y 1).isLt
  have ct := coord1 t
  have E := grp_at hu (t.val / 16) (by omega) ⟨t.val % 16, by omega⟩ (iblk m c 0 t) (iblk m c 1 t) (iblk m c 2 t) (iblk m c 3 t) (iblk m c 4 t)
    (iblk m c 5 t) (iblk m c 6 t) (blk0_at m c Qn hQ t) (blk1_at m c Kn hK t) (blk2_at m c Kn hK t) (blk3_at m c Kn hK t) (blk4_at m c Vn hV t)
    (blk5_at m c Vn hV t) (blk6_at m c Vn hV t) ⟨(y 1).val / 256, by omega⟩ ⟨(y 1).val / 64 % 4, by omega⟩ ⟨(y 0).val, y0⟩ ⟨(y 1).val % 64, by omega⟩
  rw [ct]
  refine Eq.trans ?_ (E.trans ?_)
  · rfl
  · have e3 := idx7 t
    have c0 : win0_7.index t 0 = 16 * (t.val / 16) + t.val % 16 := congrFun e3 0
    have c1 : win0_7.index t 1 = 0 := congrFun e3 1
    simp only [c0, c1]
    congr 1
    · omega
    · refine Fin.ext ?_
      show 4 * ((y 1).val / 256) + (y 1).val / 64 % 4 = (0 * 1024 + (y 1).val) / 64
      omega
    · show 256 * (t.val % 16) + (y 0).val = _
      omega
    · show (y 1).val % 64 = _
      omega

end Rows

end Cert.Win

end
-- ==== Proof.Win.Host.lean ====
/-
  The arrays that the host prepares for the window attention, read at an index, and the scores of real queries and keys.
-/
module

public import proofs.«01_k».proof.Proof.Win.Assemble
public import proofs.«01_k».proof.Proof.Mla.Scores
public import Idealize.ShloMosaic.Lib.IdealHost

@[expose] public section

set_option maxRecDepth 16384

noncomputable section

namespace Cert.Win

open Cert.Kernel5Ideal Cert.Kernel5Ideal.Gen Idealize.ShloMosaic Idealize.ShloMosaic.TcCoe Idealize.SL.Sem
open Cert.Mla (Sc coe_sum IsReal)
open scoped BigOperators

/-- The scale of the queries. -/
def scaleE : Vec Ideal S_ .f32 :=
  Host.divf (F := Ideal) (constant S_ .f32 0x3E000000#32) (Host.log (constant S_ .f32 0x40000000#32))

/-- The packed queries. -/
def packQ (x0 : Vec Ideal S4x4096x4x4x64 .f32) : Vec Ideal S4x4096x4x4x128 .f32 :=
  concatenate S4x4096x4x4x128 4 [⟨S4x4096x4x4x64, mulf (F := Ideal) (φ := .f32) x0 (broadcastInDim S4x4096x4x4x64 ![] bcast_S_S4x4096x4x4x64 scaleE)⟩,
    ⟨S4x4096x4x4x64, broadcastInDim S4x4096x4x4x64 ![] bcast_S_S4x4096x4x4x64 (constant (F := Ideal) S_ .f32 0x00000000#32)⟩]
    concatenates_S4x4096x4x4x64_S4x4096x4x4x64_S4x4096x4x4x128_d4

/-- The packed keys, or values, of one branch. -/
def packK (x1 : Vec Ideal S4x4096x4x64 .f32) : Vec Ideal S4x4096x4x128 .f32 :=
  concatenate S4x4096x4x128 3 [⟨S4x4096x4x64, x1⟩,
    ⟨S4x4096x4x64, broadcastInDim S4x4096x4x64 ![] bcast_S_S4x4096x4x64 (constant (F := Ideal) S_ .f32 0x00000000#32)⟩]
    concatenates_S4x4096x4x64_S4x4096x4x64_S4x4096x4x128_d3

def zeros : Vec Ideal S16384x512 .f32 := broadcastInDim S16384x512 ![] bcast_S_S16384x512 (constant (F := Ideal) S_ .f32 0x00000000#32)

def flatQ (x0 : Vec Ideal S4x4096x4x4x64 .f32) : Vec Ideal S16384x2048 .bf16 :=
  truncf (F := Ideal) (φ := .f32) .bf16 (shapeCast S16384x2048 (packQ x0) shapeCasts_S4x4096x4x4x128_S16384x2048) bitsLt_bf16_f32

def rowsK (x1 : Vec Ideal S4x4096x4x64 .f32) : Vec Ideal S16384x512 .f32 := shapeCast S16384x512 (packK x1) shapeCasts_S4x4096x4x128_S16384x512

def flatK (x1 : Vec Ideal S4x4096x4x64 .f32) : Vec Ideal S16384x1024 .bf16 :=
  truncf (F := Ideal) (φ := .f32) .bf16 (concatenate S16384x1024 1 [⟨S16384x512, zeros⟩, ⟨S16384x512, rowsK x1⟩]
    concatenates_S16384x512_S16384x512_S16384x1024_d1) bitsLt_bf16_f32

def flatV (x2 : Vec Ideal S4x4096x4x64 .f32) : Vec Ideal S16384x1536 .bf16 :=
  truncf (F := Ideal) (φ := .f32) .bf16 (concatenate S16384x1536 1 [⟨S16384x512, zeros⟩, ⟨S16384x512, rowsK x2⟩, ⟨S16384x512, zeros⟩]
    concatenates_S16384x512_S16384x512_S16384x512_S16384x1536_d1) bitsLt_bf16_f32

variable (m : (ℓ : Loc nD τ sig) → Buf (Elt Ideal) ℓ) (c : Dev nD)

theorem V_q : V m c main_v15 = flatQ (m ((c : Thread nD τ).loc main_arg0)) := by
  unfold_abbrev_sides
  after_results
  rfl

theorem V_k : V m c main_v16 = flatK (m ((c : Thread nD τ).loc main_arg1)) := by
  unfold_abbrev_sides
  after_results
  rfl

theorem V_v : V m c main_v17 = flatV (m ((c : Thread nD τ).loc main_arg2)) := by
  unfold_abbrev_sides
  after_results_simp
  dsimp only [Matrix.cons_val]
  rfl

/-! ## Indices -/

abbrev i5q (b : Fin 4) (R : Fin 4096) (g e : Fin 4) (d : Fin 64) : S4x4096x4x4x64.Idx := fun a => match a with
  | ⟨0, _⟩ => b | ⟨1, _⟩ => R | ⟨2, _⟩ => g | ⟨3, _⟩ => e | ⟨4, _⟩ => d
abbrev i5p (b : Fin 4) (R : Fin 4096) (g e : Fin 4) (d : Fin 128) : S4x4096x4x4x128.Idx := fun a => match a with
  | ⟨0, _⟩ => b | ⟨1, _⟩ => R | ⟨2, _⟩ => g | ⟨3, _⟩ => e | ⟨4, _⟩ => d
abbrev i4k (b : Fin 4) (R : Fin 4096) (g : Fin 4) (d : Fin 64) : S4x4096x4x64.Idx := ValueIdx.ix4 b R g d
abbrev i4p (b : Fin 4) (R : Fin 4096) (g : Fin 4) (d : Fin 128) : S4x4096x4x128.Idx := ValueIdx.ix4 b R g d

theorem scaleE_at (i : S_.Idx) : scaleE i = ((0.125 * (Real.log 2)⁻¹ : ℝ) : EReal) := by
  have e8 : Ideal.ofBits .f32 0x3E000000#32 = ((0.125 : ℝ) : EReal) := by
    simp [Ideal.ofBits, Ideal.ieee]
    rw [← EReal.coe_mul]; norm_num
  have e2 : Ideal.ofBits .f32 0x40000000#32 = ((2 : ℝ) : EReal) := by
    simp [Ideal.ofBits, Ideal.ieee]
    rw [← EReal.coe_mul]; norm_num
  show Ideal.div (Ideal.ofBits .f32 0x3E000000#32) (Ideal.log (Ideal.ofBits .f32 0x40000000#32)) = _
  have h2 : (0 : ℝ) < Real.log 2 := Real.log_pos (by norm_num)
  rw [e8, e2, Ideal.log_coe, if_neg (by norm_num), Ideal.div_coe h2.ne', ← EReal.coe_mul, one_div]

section Pack

variable (x0 : Vec Ideal S4x4096x4x4x64 .f32) (x1 : Vec Ideal S4x4096x4x64 .f32) (b : Fin 4) (R : Fin 4096) (g e : Fin 4) (d : Fin 64)

theorem packQ_lo : packQ x0 (i5p b R g e ⟨d.val, by omega⟩) = x0 (i5q b R g e d) * ((0.125 * (Real.log 2)⁻¹ : ℝ) : EReal) := by
  unfold packQ
  rw [← scaleE_at (fun a => a.elim0)]
  refine (concatenate_apply_piece (t := S4x4096x4x4x128) 4 _ _ _ 0 (by show 0 < 2; decide) S4x4096x4x4x64 _ rfl rfl 0 rfl (i5q b R g e d)
    (fun b hb => by match b with | ⟨0, _⟩ => rfl | ⟨1, _⟩ => rfl | ⟨2, _⟩ => rfl | ⟨3, _⟩ => rfl | ⟨4, _⟩ => exact absurd rfl hb) (Nat.zero_add _)).trans ?_
  exact congrArg (x0 (i5q b R g e d) * ·) (congrArg scaleE (funext fun a => a.elim0))

theorem packQ_hi : packQ x0 (i5p b R g e ⟨64 + d.val, by omega⟩) = 0 := by
  unfold packQ
  refine (concatenate_apply_piece (t := S4x4096x4x4x128) 4 _ _ _ 1 (by show 1 < 2; decide) S4x4096x4x4x64 _ rfl rfl 64 rfl (i5q b R g e d)
    (fun b hb => by match b with | ⟨0, _⟩ => rfl | ⟨1, _⟩ => rfl | ⟨2, _⟩ => rfl | ⟨3, _⟩ => rfl | ⟨4, _⟩ => exact absurd rfl hb) rfl).trans ?_
  exact Ideal.ofBits_zero_f32

theorem packK_lo : packK x1 (i4p b R g ⟨d.val, by omega⟩) = x1 (i4k b R g d) := by
  unfold packK
  exact concatenate_apply_piece (t := S4x4096x4x128) 3 _ _ _ 0 (by show 0 < 2; decide) S4x4096x4x64 x1 rfl rfl 0 rfl (i4k b R g d)
    (fun b hb => by match b with | ⟨0, _⟩ => rfl | ⟨1, _⟩ => rfl | ⟨2, _⟩ => rfl | ⟨3, _⟩ => exact absurd rfl hb) (Nat.zero_add _)

theorem flatQ_at (l : Fin 128) :
    flatQ x0 (ValueIdx.ix2 (n0 := 16384) (n1 := 2048) ⟨4096 * b.val + R.val, by omega⟩ ⟨128 * (4 * g.val + e.val) + l.val, by omega⟩)
      = packQ x0 (i5p b R g e l) := by
  refine shapeCast_apply (s := S4x4096x4x4x128) (t := S16384x2048) (packQ x0) _ _ _ ?_
  rw [Shape.rowMajor_val_five, Shape.rowMajor_val_two]
  show (((b.val * 4096 + R.val) * 4 + g.val) * 4 + e.val) * 128 + l.val = (4096 * b.val + R.val) * 2048 + (128 * (4 * g.val + e.val) + l.val)
  omega

theorem rowsK_at (l : Fin 128) :
    rowsK x1 (ValueIdx.ix2 (n0 := 16384) (n1 := 512) ⟨4096 * b.val + R.val, by omega⟩ ⟨128 * g.val + l.val, by omega⟩) = packK x1 (i4p b R g l) := by
  refine shapeCast_apply (s := S4x4096x4x128) (t := S16384x512) (packK x1) _ _ _ ?_
  rw [Shape.rowMajor_val_four, Shape.rowMajor_val_two]
  show ((b.val * 4096 + R.val) * 4 + g.val) * 128 + l.val = (4096 * b.val + R.val) * 512 + (128 * g.val + l.val)
  omega

theorem flatK_at (l : Fin 128) :
    flatK x1 (ValueIdx.ix2 (n0 := 16384) (n1 := 1024) ⟨4096 * b.val + R.val, by omega⟩ ⟨512 + 128 * g.val + l.val, by omega⟩) = packK x1 (i4p b R g l) := by
  unfold flatK
  refine Eq.trans ?_ (rowsK_at x1 b R g l)
  show (concatenate S16384x1024 1 [⟨S16384x512, zeros⟩, ⟨S16384x512, rowsK x1⟩]
    concatenates_S16384x512_S16384x512_S16384x1024_d1 : Vec Ideal S16384x1024 .f32) _ = _
  exact concatenate_apply_piece (t := S16384x1024) 1 _ _ _ 1 (by show 1 < 2; decide) S16384x512 (rowsK x1) rfl rfl 512 rfl _
    (fun b hb => by match b with | ⟨0, _⟩ => rfl | ⟨1, _⟩ => exact absurd rfl hb) (Nat.add_assoc _ _ _).symm

theorem flatV_at (l : Fin 128) :
    flatV x1 (ValueIdx.ix2 (n0 := 16384) (n1 := 1536) ⟨4096 * b.val + R.val, by omega⟩ ⟨512 + 128 * g.val + l.val, by omega⟩) = packK x1 (i4p b R g l) := by
  unfold flatV
  refine Eq.trans ?_ (rowsK_at x1 b R g l)
  show (concatenate S16384x1536 1 [⟨S16384x512, zeros⟩, ⟨S16384x512, rowsK x1⟩, ⟨S16384x512, zeros⟩]
    concatenates_S16384x512_S16384x512_S16384x512_S16384x1536_d1 : Vec Ideal S16384x1536 .f32) _ = _
  exact concatenate_apply_piece (t := S16384x1536) 1 _ _ _ 1 (by show 1 < 3; decide) S16384x512 (rowsK x1) rfl rfl 512 rfl _
    (fun b hb => by match b with | ⟨0, _⟩ => rfl | ⟨1, _⟩ => exact absurd rfl hb) (Nat.add_assoc _ _ _).symm

end Pack

/-! ## Scores -/

/-- The score of a key, over real queries and keys. -/
def tsc (q k : Fin 64 → ℝ) : ℝ := (∑ d, q d * k d) * 0.125

theorem sum_lanes {M : Type*} [AddCommMonoid M] (f : Fin 128 → M) :
    ∑ d, f d = (∑ d : Fin 64, f ⟨d.val, by omega⟩) + ∑ d : Fin 64, f ⟨64 + d.val, by omega⟩ := by
  rw [show (∑ d, f d) = ∑ d : Fin (64 + 64), f d from rfl, Fin.sum_univ_add]
  rfl

theorem score_pack (x0 : Vec Ideal S4x4096x4x4x64 .f32) (x1 : Vec Ideal S4x4096x4x64 .f32) (b : Fin 4) (R J : Fin 4096) (g e : Fin 4)
    (q k : Fin 64 → ℝ) (h0 : ∀ d, x0 (i5q b R g e d) = q d) (h1 : ∀ d, x1 (i4k b J g d) = k d) :
    ∑ d : Fin 128, packQ x0 (i5p b R g e d) * packK x1 (i4p b J g d) = ((tsc q k * (Real.log 2)⁻¹ : ℝ) : EReal) := by
  rw [sum_lanes]
  have e1 : ∀ d : Fin 64, packQ x0 (i5p b R g e ⟨d.val, by omega⟩) * packK x1 (i4p b J g ⟨d.val, by omega⟩)
      = ((q d * (0.125 * (Real.log 2)⁻¹) * k d : ℝ) : EReal) := fun d => by
    rw [packQ_lo, packK_lo, h0, h1]
    rw [← EReal.coe_mul, ← EReal.coe_mul]
  have e2 : ∀ d : Fin 64, packQ x0 (i5p b R g e ⟨64 + d.val, by omega⟩) * packK x1 (i4p b J g ⟨64 + d.val, by omega⟩) = 0 := fun d => by
    rw [packQ_hi, zero_mul]
  rw [Finset.sum_congr rfl fun d _ => e1 d, Finset.sum_congr rfl fun d _ => e2 d, Finset.sum_const_zero, add_zero, ← coe_sum]
  congr 1
  rw [tsc, Finset.sum_mul, Finset.sum_mul]
  exact Finset.sum_congr rfl fun d _ => by ring

section

variable (x0 : Vec Ideal S4x4096x4x4x64 .f32) (x1 x2 : Vec Ideal S4x4096x4x64 .f32)

/-- The real score of key `J` for query `R`, by group and head of the group. -/
def tR (b g e : Fin 4) (R J : Fin 4096) : ℝ :=
  tsc (fun d => (x0 (i5q b R g e d) : EReal).toReal) (fun d => (x1 (i4k b J g d) : EReal).toReal)

/-- The unnormalized weight, its exponential. -/
def uR (b : ℕ) (h : Fin 16) (R J : ℕ) : ℝ :=
  if hh : b < 4 ∧ R < 4096 ∧ J < 4096 then
    Real.exp (tR x0 x1 ⟨b, hh.1⟩ ⟨h.val / 4, by omega⟩ ⟨h.val % 4, by omega⟩ ⟨R, hh.2.1⟩ ⟨J, hh.2.2⟩) else 1

theorem uR_at (b : Fin 4) (h : Fin 16) (R J : Fin 4096) :
    uR x0 x1 b.val h R.val J.val = Real.exp (tR x0 x1 b ⟨h.val / 4, by omega⟩ ⟨h.val % 4, by omega⟩ R J) := by
  unfold uR
  rw [dif_pos ⟨b.isLt, R.isLt, J.isLt⟩]

/-- An array of rows and lanes, by numbers. -/
def nat2 {n : ℕ} (A : Vec Ideal ⟨2, ![16384, n]⟩ .bf16) (a e : ℕ) : EReal :=
  if h : a < 16384 ∧ e < n then A (ValueIdx.ix2 (n0 := 16384) (n1 := n) ⟨a, h.1⟩ ⟨e, h.2⟩) else 0

theorem nat2_at {n : ℕ} (A : Vec Ideal ⟨2, ![16384, n]⟩ .bf16) (i : (⟨2, ![16384, n]⟩ : Shape).Idx) : A i = nat2 A (i 0).val (i 1).val := by
  have h0 : (i 0).val < 16384 := (i 0).isLt
  have h1 : (i 1).val < n := (i 1).isLt
  unfold nat2
  rw [dif_pos ⟨h0, h1⟩]
  exact congrArg A (funext fun a => by match a with | ⟨0, _⟩ => rfl | ⟨1, _⟩ => rfl)

theorem nat2_q (b : Fin 4) (R : Fin 4096) (g e : Fin 4) (l : Fin 128) :
    nat2 (n := 2048) (flatQ x0) (4096 * b.val + R.val) (128 * (4 * g.val + e.val) + l.val) = packQ x0 (i5p b R g e l) := by
  unfold nat2
  rw [dif_pos ⟨by omega, by omega⟩]
  exact flatQ_at x0 b R g e l

theorem nat2_k (b : Fin 4) (R : Fin 4096) (g : Fin 4) (l : Fin 128) :
    nat2 (n := 1024) (flatK x1) (4096 * b.val + R.val) (512 + 128 * g.val + l.val) = packK x1 (i4p b R g l) := by
  unfold nat2
  rw [dif_pos ⟨by omega, by omega⟩]
  exact flatK_at x1 b R g l

theorem nat2_v (b : Fin 4) (R : Fin 4096) (g : Fin 4) (d : Fin 64) :
    nat2 (n := 1536) (flatV x2) (4096 * b.val + R.val) (512 + 128 * g.val + d.val) = x2 (i4k b R g d) := by
  unfold nat2
  rw [dif_pos ⟨by omega, by omega⟩]
  exact (flatV_at x2 b R g ⟨d.val, by omega⟩).trans (packK_lo x2 b R g d)

theorem scores (h0 : IsReal x0) (h1 : IsReal x1) : ScoresW (nat2 (n := 2048) (flatQ x0)) (nat2 (n := 1024) (flatK x1)) (uR x0 x1) := by
  intro b h R J hb hR hJ
  have e := uR_at x0 x1 ⟨b, hb⟩ h ⟨R, hR⟩ ⟨J, hJ⟩
  have s : (∑ d : Fin 128, nat2 (n := 2048) (flatQ x0) (4096 * b + R) (128 * h.val + d.val) * nat2 (n := 1024) (flatK x1) (4096 * b + J) (512 + 128 * (h.val / 4) + d.val))
      = ((tR x0 x1 ⟨b, hb⟩ ⟨h.val / 4, by omega⟩ ⟨h.val % 4, by omega⟩ ⟨R, hR⟩ ⟨J, hJ⟩ * (Real.log 2)⁻¹ : ℝ) : EReal) := by
    refine Eq.trans (Finset.sum_congr rfl fun d _ => ?_)
      (score_pack x0 x1 ⟨b, hb⟩ ⟨R, hR⟩ ⟨J, hJ⟩ ⟨h.val / 4, by omega⟩ ⟨h.val % 4, by omega⟩ _ _ (fun d => h0 _) (fun d => h1 _))
    have q := nat2_q x0 ⟨b, hb⟩ ⟨R, hR⟩ ⟨h.val / 4, by omega⟩ ⟨h.val % 4, by omega⟩ d
    have q' : nat2 (n := 2048) (flatQ x0) (4096 * b + R) (128 * (4 * (h.val / 4) + h.val % 4) + d.val) = _ := q
    rw [Nat.div_add_mod] at q'
    exact congrArg₂ (· * ·) q' (nat2_k x1 ⟨b, hb⟩ ⟨J, hJ⟩ ⟨h.val / 4, by omega⟩ d)
  rw [s]
  have e' : uR x0 x1 b h R J = _ := e
  rw [e']
  exact ⟨Real.exp_pos _, Sc.of_real _⟩

end

/-- What the kernel leaves in its result, of real queries and keys. -/
theorem kernel_out (h0 : IsReal (m ((c : Thread nD τ).loc main_arg0))) (h1 : IsReal (m ((c : Thread nD τ).loc main_arg1))) :
    (dats m 0 c).arrAt 7 cfg0.N = fun i : S16384x1024.Idx =>
      meanW (uR (m ((c : Thread nD τ).loc main_arg0)) (m ((c : Thread nD τ).loc main_arg1)))
        (nat2 (n := 1536) (flatV (m ((c : Thread nD τ).loc main_arg2)))) ((i 0).val / 4096)
        ⟨(i 1).val / 64, by have h : (i 1).val < 1024 := (i 1).isLt; omega⟩ ((i 0).val % 4096) ((i 1).val % 64) :=
  out_at m c (Qn := nat2 (n := 2048) (flatQ (m ((c : Thread nD τ).loc main_arg0)))) (Kn := nat2 (n := 1024) (flatK (m ((c : Thread nD τ).loc main_arg1))))
    (fun i => (congrFun (V_q m c) i).trans (nat2_at (n := 2048) _ i)) (fun i => (congrFun (V_k m c) i).trans (nat2_at (n := 1024) _ i))
    (fun i => (congrFun (V_v m c) i).trans (nat2_at (n := 1536) _ i)) (scores _ _ h0 h1)

end Cert.Win

end
-- ==== Proof.Win.Ref.lean ====
/-
  The window attention's reference, read at an index: of real queries and keys, its result is the weighted mean of the
  values.
-/
module

public import proofs.«01_k».proof.Proof.Win.Host
public import proofs.«01_k».proof.Proof.Mla.Ref
public import proofs.«01_k».proof.Proof.Gen.Reference5Ideal.Read

@[expose] public section

set_option maxRecDepth 16384

noncomputable section

namespace Cert.Win

open Idealize.ShloMosaic Cert.Reference5Ideal.Read
open Cert.Mla (Sc coe_sum IsReal fold_real ofBits_neg_inf)
open scoped BigOperators

abbrev i5s (b : Fin 4) (g e : Fin 4) (R J : Fin 4096) : Cert.Reference5Ideal.S4x4096x4x4x4096.Idx := fun a => match a with
  | ⟨0, _⟩ => b | ⟨1, _⟩ => R | ⟨2, _⟩ => g | ⟨3, _⟩ => e | ⟨4, _⟩ => J
abbrev i4s (b : Fin 4) (g e : Fin 4) (R : Fin 4096) : Cert.Reference5Ideal.S4x4096x4x4.Idx := ValueIdx.ix4 b R g e

/-- Key `J` is in the window of query `R`. -/
abbrev inW (R J : Fin 4096) : Prop := J.val ≤ R.val ∧ R.val < J.val + 512

theorem sle_nat (J R : Fin 4096) : IntOp.cmpi .sle (BitVec.ofNat 32 J.val) (BitVec.ofNat 32 R.val) = if J.val ≤ R.val then 1#1 else 0#1 := by
  have e : (BitVec.ofNat 32 J.val).sle (BitVec.ofNat 32 R.val) = decide (J.val ≤ R.val) := by
    have hJ := J.isLt
    have hR := R.isLt
    rw [BitVec.sle_eq_decide]
    rw [decide_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    omega
  show BitVec.ofBool ((BitVec.ofNat 32 J.val).sle (BitVec.ofNat 32 R.val)) = _
  rw [e]
  by_cases hc : J.val ≤ R.val <;> simp [hc]

theorem slt_512 (J R : Fin 4096) (h : J.val ≤ R.val) :
    IntOp.cmpi .slt (IntOp.subi (BitVec.ofNat 32 R.val) (BitVec.ofNat 32 J.val)) 512#32 = if R.val < J.val + 512 then 1#1 else 0#1 := by
  have hJ := J.isLt
  have hR := R.isLt
  have s : IntOp.subi (BitVec.ofNat 32 R.val) (BitVec.ofNat 32 J.val) = BitVec.ofNat 32 (R.val - J.val) := by
    refine BitVec.eq_of_toNat_eq ?_
    show (BitVec.ofNat 32 R.val - BitVec.ofNat 32 J.val).toNat = _
    simp only [BitVec.toNat_sub, BitVec.toNat_ofNat]
    omega
  have e : (BitVec.ofNat 32 (R.val - J.val)).slt 512#32 = decide (R.val < J.val + 512) := by
    rw [BitVec.slt_eq_decide]
    rw [decide_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    omega
  rw [s]
  show BitVec.ofBool ((BitVec.ofNat 32 (R.val - J.val)).slt 512#32) = _
  rw [e]
  by_cases hc : R.val < J.val + 512 <;> simp [hc]

/-- The mask. -/
theorem mask_at (R J : Fin 4096) (i : Cert.Reference5Ideal.S1x4096x1x1x4096.Idx) (h1 : (i 1).val = R.val) (h4 : (i 4).val = J.val) :
    val_main_v18 (F := Ideal) i = if inW R J then 1#1 else 0#1 := by
  rw [val_main_v18_apply, val_main_v13_apply, val_main_v5_apply, val_main_v12_apply, val_main_v10_apply, val_main_v11_apply, val_main_c_apply,
    val_main_v3_apply, val_main_v4_apply, val_main_v1_apply, val_main_v2_apply, val_main_v8_apply, val_main_v9_apply, val_main_v6_apply,
    val_main_v7_apply, val_main_v0_apply, val_main_v0_apply]
  show IntOp.andi (IntOp.cmpi .sle (BitVec.ofNat 32 (i 4).val) (BitVec.ofNat 32 (i 1).val))
    (IntOp.cmpi .slt (IntOp.subi (BitVec.ofNat 32 (i 1).val) (BitVec.ofNat 32 (i 4).val)) 512#32) = _
  rw [h1, h4, sle_nat]
  by_cases hc : J.val ≤ R.val
  · rw [if_pos hc, slt_512 J R hc]
    by_cases hd : R.val < J.val + 512
    · rw [if_pos hd, if_pos ⟨hc, hd⟩]; decide
    · rw [if_neg hd, if_neg (fun H => hd H.2)]; decide
  · rw [if_neg hc, if_neg (fun H => hc H.1)]
    generalize IntOp.cmpi .slt _ _ = x
    revert x; decide

section

variable (x0 : Vec Ideal Cert.Kernel5Ideal.S4x4096x4x4x64 .f32) (x1 x2 : Vec Ideal Cert.Kernel5Ideal.S4x4096x4x64 .f32)
  (h0 : IsReal x0) (h1 : IsReal x1) (b g e : Fin 4) (R J : Fin 4096)

/-- The head of a group. -/
def hd (g e : Fin 4) : Fin 16 := ⟨4 * g.val + e.val, by omega⟩

theorem uR_hd : uR x0 x1 b.val (hd g e) R.val J.val = Real.exp (tR x0 x1 b g e R J) := by
  rw [uR_at]
  congr 2
  · refine Fin.ext ?_; show (4 * g.val + e.val) / 4 = g.val; omega
  · refine Fin.ext ?_; show (4 * g.val + e.val) % 4 = e.val; omega

include h0 h1

/-- The scaled score. -/
theorem v17_at : val_main_v17 (F := Ideal) x0 x1 (i5s b g e R J) = ((tR x0 x1 b g e R J : ℝ) : EReal) := by
  have e8 : Ideal.ofBits .f32 0x3E000000#32 = ((0.125 : ℝ) : EReal) := by
    simp [Ideal.ofBits, Ideal.ieee]
    rw [← EReal.coe_mul]; norm_num
  have e3 : val_main_v15 (F := Ideal) x0 x1 (i5s b g e R J)
      = ((∑ d, (x0 (i5q b R g e d) : EReal).toReal * (x1 (i4k b J g d) : EReal).toReal : ℝ) : EReal) := by
    rw [val_main_v15_apply, val_main_v14_apply, coe_sum]
    refine Finset.sum_congr rfl fun d _ => ?_
    rw [EReal.coe_mul, ← h0, ← h1, mul_comm (x0 _)]
    exact congrArg₂ (fun a b => x1 a * x0 b) (funext fun a => by match a with | ⟨0, _⟩ => rfl | ⟨1, _⟩ => rfl | ⟨2, _⟩ => rfl | ⟨3, _⟩ => rfl)
      (funext fun a => by match a with | ⟨0, _⟩ => rfl | ⟨1, _⟩ => rfl | ⟨2, _⟩ => rfl | ⟨3, _⟩ => rfl | ⟨4, _⟩ => rfl)
  rw [val_main_v17_apply, e3, val_main_v16_apply, val_main_cst_apply]
  show (_ : EReal) * Ideal.ofBits .f32 0x3E000000#32 = _
  rw [e8, ← EReal.coe_mul]
  rfl

/-- The masked score. -/
theorem v19_at : val_main_v19 (F := Ideal) x0 x1 (i5s b g e R J) = if inW R J then ((tR x0 x1 b g e R J : ℝ) : EReal) else ⊥ := by
  rw [val_main_v19_apply, val_main_call0_v1_apply, mask_at R J _ rfl rfl, v17_at x0 x1 h0 h1, val_main_call0_v2_apply,
    val_main_call0_v0_apply, val_main_cst_0_apply]
  by_cases hc : inW R J
  · rw [if_pos hc, if_pos hc]; rfl
  · rw [if_neg hc, if_neg hc]; exact ofBits_neg_inf

/-- The row's maximum is real. -/
theorem v22_at : ∃ M : ℝ, val_main_v22 (F := Ideal) x0 x1 (i4s b g e R) = (M : EReal) := by
  have hr : Cert.Reference5Ideal.S4x4096x4x4x4096.Reduces [4] Cert.Reference5Ideal.S4x4096x4x4 := by decide
  obtain ⟨M, hM⟩ := fold_real (fun J : Fin 4096 => val_main_v19 (F := Ideal) x0 x1 (i5s b g e R J))
    (fun J => by
      rw [v19_at x0 x1 h0 h1]
      by_cases hc : inW R J
      · rw [if_pos hc]; exact .inr ⟨_, rfl⟩
      · rw [if_neg hc]; exact .inl rfl) R (tR x0 x1 b g e R R) (by
      show val_main_v19 (F := Ideal) x0 x1 (i5s b g e R R) = _
      exact (v19_at x0 x1 h0 h1 b g e R R).trans (if_pos ⟨le_rfl, by omega⟩))
  refine ⟨M, ?_⟩
  rw [val_main_v22_apply, val_main_v21_apply, val_main_cst_2_apply]
  have e16 : val_main_v20 (F := Ideal) x0 x1 (i4s b g e R) = (M : EReal) := by
    unfold val_main_v20 val_main_cst_1
    refine (congrFun (hostReduce_maximumf_eq_multiReduction (F := Ideal) (φ := .f32) (val_main_v19 (F := Ideal) x0 x1) 0xFF800000#32 _ _ hr (.inl rfl) rfl) _).trans ?_
    refine (Ideal.multiReduction_maximumf_single _ _ hr _ _ _).trans ?_
    show Finset.univ.fold max (Ideal.ofBits .f32 0xFF800000#32) _ = _
    rw [ofBits_neg_inf, ← hM]
    refine Finset.fold_congr fun J _ => ?_
    exact congrArg (val_main_v19 (F := Ideal) x0 x1) (funext fun a => Fin.ext (by
      match a with | ⟨0, _⟩ => rfl | ⟨1, _⟩ => rfl | ⟨2, _⟩ => rfl | ⟨3, _⟩ => rfl | ⟨4, _⟩ => rfl))
  rw [e16]
  show max (Ideal.ofBits .f32 0xFF800000#32) (M : EReal) = M
  rw [ofBits_neg_inf, max_eq_right bot_le]

/-- The exponentials of a row. -/
theorem v26_at (M : ℝ) (hM : val_main_v22 (F := Ideal) x0 x1 (i4s b g e R) = (M : EReal)) :
    val_main_v26 (F := Ideal) x0 x1 (i5s b g e R J) = ((band (uR x0 x1) b.val (hd g e) R.val J.val * Real.exp (-M) : ℝ) : EReal) := by
  rw [val_main_v26_apply, val_main_v25_apply, v19_at x0 x1 h0 h1, val_main_v24_apply, val_main_v23_apply]
  have e' : val_main_v22 (F := Ideal) x0 x1 (idx_main_v23 (idx_main_v24 (i5s b g e R J))) = (M : EReal) :=
    (congrArg (val_main_v22 (F := Ideal) x0 x1) (funext fun a => Fin.ext (by
      match a with | ⟨0, _⟩ => rfl | ⟨1, _⟩ => rfl | ⟨2, _⟩ => rfl | ⟨3, _⟩ => rfl))).trans hM
  rw [e']
  unfold band
  by_cases hc : inW R J
  · rw [if_pos hc, if_pos hc, uR_hd, ← Real.exp_add]
    show Ideal.exp (((tR x0 x1 b g e R J : ℝ) : EReal) - (M : EReal)) = _
    rw [← EReal.coe_sub, Ideal.exp_coe, sub_eq_add_neg]
  · rw [if_neg hc, if_neg hc, zero_mul]
    show Ideal.exp ((⊥ : EReal) - (M : EReal)) = _
    rw [EReal.bot_sub, Ideal.exp_bot]; rfl

/-- The weights. -/
theorem v33_at : val_main_v33 (F := Ideal) x0 x1 (i5s b g e R J)
    = ((band (uR x0 x1) b.val (hd g e) R.val J.val / ∑ J' : Fin 4096, band (uR x0 x1) b.val (hd g e) R.val J'.val : ℝ) : EReal) := by
  obtain ⟨M, hM⟩ := v22_at x0 x1 h0 h1 b g e R
  have hp : 0 < ∑ J' : Fin 4096, band (uR x0 x1) b.val (hd g e) R.val J'.val :=
    band_sum_pos (scores x0 x1 h0 h1) b.val (hd g e) R.val b.isLt R.isLt
  have hx := Real.exp_pos (-M)
  have e29 : val_main_v29 (F := Ideal) x0 x1 (i5s b g e R J)
      = (((∑ J' : Fin 4096, band (uR x0 x1) b.val (hd g e) R.val J'.val) * Real.exp (-M) : ℝ) : EReal) := by
    rw [val_main_v29_apply, val_main_v28_apply, val_main_v27_apply, Finset.sum_mul, coe_sum, val_main_cst_3_apply]
    refine Eq.trans (congrArg₂ (· + ·) Ideal.ofBits_zero_f32 (Finset.sum_congr rfl fun J' _ => ?_)) (zero_add _)
    exact (congrArg (val_main_v26 (F := Ideal) x0 x1) (funext fun a => Fin.ext (by
      match a with | ⟨0, _⟩ => rfl | ⟨1, _⟩ => rfl | ⟨2, _⟩ => rfl | ⟨3, _⟩ => rfl | ⟨4, _⟩ => rfl))).trans (v26_at x0 x1 h0 h1 b g e R J' M hM)
  rw [val_main_v33_apply, val_main_v30_apply, v26_at x0 x1 h0 h1 b g e R J M hM, e29, val_main_v32_apply, val_main_v31_apply,
    mask_at R J _ rfl rfl]
  show Ideal.div _ _ * (((if inW R J then 1#1 else 0#1 : BitVec 1).toNat : ℝ) : EReal) = _
  rw [Ideal.div_coe (mul_pos hp hx).ne', ← EReal.coe_mul, ← EReal.coe_mul]
  refine congrArg (fun r : ℝ => (r : EReal)) ?_
  generalize (∑ J' : Fin 4096, band (uR x0 x1) b.val (hd g e) R.val J'.val) = L at hp ⊢
  generalize Real.exp (-M) = X at hx ⊢
  unfold band
  generalize uR x0 x1 b.val (hd g e) R.val J.val = w
  by_cases hc : inW R J
  · rw [if_pos hc, if_pos hc]
    have hL := hp.ne'
    have hX := hx.ne'
    field_simp
    simp
  · rw [if_neg hc, if_neg hc]
    simp

/-- The reference's result. -/
theorem ref_at : val_main_v37 (F := Ideal) x0 x1 x2 = fun i : Cert.Kernel5Ideal.S16384x1024.Idx =>
      meanW (uR x0 x1) (nat2 (n := 1536) (flatV x2)) ((i 0).val / 4096)
        ⟨(i 1).val / 64, by have h : (i 1).val < 1024 := (i 1).isLt; omega⟩ ((i 0).val % 4096) ((i 1).val % 64) := by
  funext i
  have hi0 : (i 0).val < 16384 := (i 0).isLt
  have hi1 : (i 1).val < 1024 := (i 1).isLt
  show val_main_v36 (F := Ideal) x0 x1 x2 i = _
  rw [val_main_v36_apply, val_main_v35_apply, val_main_v34_apply]
  show (∑ J : Fin 4096, _) = _
  unfold meanW
  have eh : (⟨(i 1).val / 64, by omega⟩ : Fin 16) = hd ⟨(i 1).val / 256, by omega⟩ ⟨(i 1).val / 64 % 4, by omega⟩ := by
    refine Fin.ext ?_
    show (i 1).val / 64 = 4 * ((i 1).val / 256) + (i 1).val / 64 % 4
    omega
  refine Finset.sum_congr rfl fun J _ => ?_
  rw [mul_comm, eh]
  refine congrArg₂ (· * ·) (Eq.trans (congrArg (val_main_v33 (F := Ideal) x0 x1) (funext fun a => Fin.ext ?_))
      (v33_at x0 x1 h0 h1 ⟨(i 0).val / 4096, by omega⟩ ⟨(i 1).val / 256, by omega⟩ ⟨(i 1).val / 64 % 4, by omega⟩ ⟨(i 0).val % 4096, by omega⟩ J))
    (Eq.trans (congrArg x2 (funext fun a => Fin.ext ?_))
      ((nat2_v x2 ⟨(i 0).val / 4096, by omega⟩ J ⟨(i 1).val / 256, by omega⟩ ⟨(i 1).val % 64, by omega⟩).symm.trans ?_))
  · match a with
    | ⟨0, _⟩ => show ((i 0).val * 1024 + (i 1).val) / 4194304 = (i 0).val / 4096; omega
    | ⟨1, _⟩ => show ((i 0).val * 1024 + (i 1).val) / 1024 % 4096 = (i 0).val % 4096; omega
    | ⟨2, _⟩ => show ((i 0).val * 1024 + (i 1).val) / 256 % 4 = (i 1).val / 256; omega
    | ⟨3, _⟩ => show ((i 0).val * 1024 + (i 1).val) / 64 % 4 = (i 1).val / 64 % 4; omega
    | ⟨4, _⟩ => rfl
  · match a with
    | ⟨0, _⟩ => show ((i 0).val * 1024 + (i 1).val) / 4194304 = (i 0).val / 4096; omega
    | ⟨1, _⟩ => rfl
    | ⟨2, _⟩ => show ((i 0).val * 1024 + (i 1).val) / 256 % 4 = (i 1).val / 256; omega
    | ⟨3, _⟩ => show ((i 0).val * 1024 + (i 1).val) % 64 = (i 1).val % 64; omega
  · congr 2
    show 512 + 128 * ((i 1).val / 256) = 512 + 128 * ((4 * ((i 1).val / 256) + (i 1).val / 64 % 4) / 4)
    omega

end

end Cert.Win

end
-- ==== Proof.lean ====
/-
  The proof of `Cert.Claim`: each of the sixteen kernels and its reference run and leave their arguments alone; each kernel as it
  is read ideally is the printed kernel; and kernel and reference agree. For the attention, of real queries and keys: what the
  kernel leaves in its result is `Cert.Mla.kernel_out`, what the reference leaves is `Cert.Mla.ref_at`, both the mean of the
  values with the weights `exp` of the visible scores; for the window attention `Cert.Win.kernel_out` and `Cert.Win.ref_at` say
  the same of the scores in the window. For the gated merge, the output projection, the query projection, the compressed
  projection, the first norm, the projections to the sparse attention's values, rotated keys and rotated queries, and those to
  the latent attention's values, keys and queries, and to the gates and the shared key, and the modulation's vectors, of any arguments: `Cert.Merge`, `Cert.OutProj`, `Cert.Query`, `Cert.Compressed`,
  `Cert.FirstNorm`, `Cert.Values`, `Cert.Keys`, `Cert.Selected`, `Cert.Queries`, `Cert.LatentValues`, `Cert.LatentKeys`,
  `Cert.LatentQueries`, `Cert.GateKey` and `Cert.Modulation` state
  the arrays of both sides.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Pre_finite
public import proofs.«01_k».proof.Proof.Gen.Pre_finite5
public import proofs.«01_k».proof.Proof.Lin.Merge
public import proofs.«01_k».proof.Proof.Lin.OutProj
public import proofs.«01_k».proof.Proof.Lin.Query
public import proofs.«01_k».proof.Proof.Lin.Compressed
public import proofs.«01_k».proof.Proof.Lin.FirstNorm
public import proofs.«01_k».proof.Proof.Lin.Values
public import proofs.«01_k».proof.Proof.Lin.Keys
public import proofs.«01_k».proof.Proof.Lin.Queries
public import proofs.«01_k».proof.Proof.Lin.Selected
public import proofs.«01_k».proof.Proof.Lin.LatentValues
public import proofs.«01_k».proof.Proof.Lin.LatentKeys
public import proofs.«01_k».proof.Proof.Lin.LatentQueries
public import proofs.«01_k».proof.Proof.Lin.GateKey
public import proofs.«01_k».proof.Proof.Lin.Modulation
public import proofs.«01_k».proof.Proof.Mla.Pre
public import proofs.«01_k».proof.Proof.Mla.Ref
public import proofs.«01_k».proof.Proof.Win.Pre
public import proofs.«01_k».proof.Proof.Win.Ref

@[expose] public section

noncomputable section

namespace Cert.Proof

open Idealize.ShloMosaic Idealize.SL.Sem

/-- The reference runs, its arguments unchanged; it has no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2, sem_eq_zero_of_no_sems (by decide) r.2⟩) (Cert.ReferenceIdeal.Value.run m ρ)

/-- Kernel and reference agree, of real queries and keys. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => (Cert.KernelIdeal.Gen.dats m 0 c).arrAt 3 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨a0, a1, a2, a3, a4⟩ := ha c
  obtain ⟨r0, r1, r2, r3⟩ := Cert.Mla.finite_real _ _ _ _ _ (fun j => congrFun (hp c) j)
  refine (Cert.ReferenceIdeal.Read.val_main_v33_eq m' c).trans ?_
  rw [a0, a1, a2, a3, a4]
  exact (Cert.Mla.ref_at _ _ _ _ _ r0 r1 r2 r3 (fun b J h d => Cert.Mla.nat2_packV _ b J h d)).trans
    (Cert.Mla.kernel_out m c r0 r1 r2 r3).symm

/-- The gated merge: kernel and reference agree. -/
theorem merge : Cert.algebraic_Kernel2Ideal_Reference2Ideal (hKernel2Ideal := Cert.Kernel2Ideal.Gen.facts)
    (hReference2Ideal := Cert.Reference2Ideal.Gen.facts) := by
  intro m g m' g' _ ha
  refine ⟨fun c => (Cert.Kernel2Ideal.Gen.dats m 0 c).arrAt 7 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨a0, a1, a2, a3, a4, a5⟩ := ha c
  refine (Cert.Reference2Ideal.Read.val_main_v19_eq _ _ _ _ _ _).trans ?_
  rw [a0, a1, a2, a3, a4, a5]
  exact (Cert.Merge.ref_at _ _ _ _ _ _).trans (Cert.Merge.kernel_out m c).symm

/-- The output projection: kernel and reference agree in both results. -/
theorem out_proj : Cert.algebraic_Kernel3Ideal_Reference3Ideal (hKernel3Ideal := Cert.Kernel3Ideal.Gen.facts)
    (hReference3Ideal := Cert.Reference3Ideal.Gen.facts) := by
  intro m g m' g' _ ha
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N,
    Cert.Kernel3Ideal.Value.run_blocks m g, ?_⟩
  refine (θ_run _ _ _).mono (fun r h c => ⟨(h c).1.trans ?_, (h c).2.1.trans ?_, (h c).2.2⟩) (Cert.Reference3Ideal.Value.run m' g')
  · obtain ⟨a0, a1, a2, a3, a4, a5, a6, a7⟩ := ha c
    refine (Cert.Reference3Ideal.Read.val_main_v39_eq _ _ _ _ _).trans ?_
    rw [a0, a1, a2, a3, a4]
    exact (Cert.OutProj.ref_sums _ _ _ _ _).trans (Cert.OutProj.kernel_sums m c).symm
  · obtain ⟨a0, a1, a2, a3, a4, a5, a6, a7⟩ := ha c
    refine (Cert.Reference3Ideal.Read.val_main_v41_eq m' c).trans ?_
    rw [a0, a1, a2, a3, a4, a5, a6, a7]
    exact (Cert.OutProj.ref_norms _ _ _ _ _ _ _ _).trans (Cert.OutProj.kernel_norms m c).symm

/-- The query projection: kernel and reference agree. -/
theorem query : Cert.algebraic_Kernel4Ideal_Reference4Ideal (hKernel4Ideal := Cert.Kernel4Ideal.Gen.facts)
    (hReference4Ideal := Cert.Reference4Ideal.Gen.facts) := by
  intro m g m' g' _ ha
  refine ⟨fun c => (Cert.Kernel4Ideal.Gen.dats m 0 c).arrAt 2 Cert.Kernel4Ideal.cfg0.N, Cert.Kernel4Ideal.Value.run_blocks m g, ?_⟩
  refine (θ_run _ _ _).mono (fun r h c => ⟨(h c).1.trans ?_, (h c).2⟩) (Cert.Reference4Ideal.Value.run m' g')
  obtain ⟨a0, a1⟩ := ha c
  refine (Cert.Reference4Ideal.Read.val_main_v2_eq _ _).trans ?_
  rw [a0, a1]
  exact (Cert.Query.ref_at _ _).trans (Cert.Query.kernel_out m c).symm

/-- The window attention: kernel and reference agree, of real queries and keys. -/
theorem window : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hp ha
  refine ⟨fun c => (Cert.Kernel5Ideal.Gen.dats m 0 c).arrAt 7 Cert.Kernel5Ideal.cfg0.N, Cert.Kernel5Ideal.Value.run_blocks m g, ?_⟩
  refine (θ_run _ _ _).mono (fun r h c => ⟨(h c).1.trans ?_, (h c).2⟩) (Cert.Reference5Ideal.Value.run m' g')
  obtain ⟨a0, a1, a2⟩ := ha c
  obtain ⟨r0, r1⟩ := Cert.Win.finite_real _ _ _ (fun j => congrFun (hp c) j)
  refine (Cert.Reference5Ideal.Read.val_main_v37_eq m' c).trans ?_
  rw [a0, a1, a2]
  exact (Cert.Win.ref_at _ _ _ r0 r1).trans (Cert.Win.kernel_out m c r0 r1).symm

/-- The projection to the compressed queries, keys and values: kernel and reference agree. -/
theorem compressed : Cert.algebraic_Kernel6Ideal_Reference6Ideal (hKernel6Ideal := Cert.Kernel6Ideal.Gen.facts)
    (hReference6Ideal := Cert.Reference6Ideal.Gen.facts) := by
  intro m g m' g' _ ha
  refine ⟨fun c => (Cert.Kernel6Ideal.Gen.dats m 0 c).arrAt 2 Cert.Kernel6Ideal.cfg0.N, Cert.Kernel6Ideal.Value.run_blocks m g, ?_⟩
  refine (θ_run _ _ _).mono (fun r h c => ⟨(h c).1.trans ?_, (h c).2⟩) (Cert.Reference6Ideal.Value.run m' g')
  obtain ⟨a0, a1⟩ := ha c
  refine (Cert.Reference6Ideal.Read.val_main_v2_eq _ _).trans ?_
  rw [a0, a1]
  exact (Cert.Compressed.ref_at _ _).trans (Cert.Compressed.kernel_out m c).symm

/-- The first sub-layer's norm: kernel and reference agree. -/
theorem first_norm : Cert.algebraic_Kernel7Ideal_Reference7Ideal (hKernel7Ideal := Cert.Kernel7Ideal.Gen.facts)
    (hReference7Ideal := Cert.Reference7Ideal.Gen.facts) := by
  intro m g m' g' _ ha
  refine ⟨fun c => (Cert.Kernel7Ideal.Gen.dats m 0 c).arrAt 4 Cert.Kernel7Ideal.cfg0.N, Cert.Kernel7Ideal.Value.run_blocks m g, ?_⟩
  refine (θ_run _ _ _).mono (fun r h c => ⟨(h c).1.trans ?_, (h c).2⟩) (Cert.Reference7Ideal.Value.run m' g')
  obtain ⟨a0, a1, a2, a3⟩ := ha c
  refine (Cert.Reference7Ideal.Read.val_main_v22_eq _ _ _ _).trans ?_
  rw [a0, a1, a2, a3]
  exact (Cert.FirstNorm.ref_at _ _ _ _).trans (Cert.FirstNorm.kernel_out m c).symm

/-- The projection to the sparse attention's values: kernel and reference agree. -/
theorem values : Cert.algebraic_Kernel8Ideal_Reference8Ideal (hKernel8Ideal := Cert.Kernel8Ideal.Gen.facts)
    (hReference8Ideal := Cert.Reference8Ideal.Gen.facts) := by
  intro m g m' g' _ ha
  refine ⟨fun c => (Cert.Kernel8Ideal.Gen.dats m 0 c).arrAt 2 Cert.Kernel8Ideal.cfg0.N, Cert.Kernel8Ideal.Value.run_blocks m g, ?_⟩
  refine (θ_run _ _ _).mono (fun r h c => ⟨(h c).1.trans ?_, (h c).2⟩) (Cert.Reference8Ideal.Value.run m' g')
  obtain ⟨a0, a1⟩ := ha c
  refine (Cert.Reference8Ideal.Read.val_main_v15_eq _ _).trans ?_
  rw [a0, a1]
  exact (Cert.Values.ref_at _ _).trans (Cert.Values.kernel_out m c).symm

/-- The projection to the rotated keys of compression and window: kernel and reference agree. -/
theorem keys : Cert.algebraic_Kernel9Ideal_Reference9Ideal (hKernel9Ideal := Cert.Kernel9Ideal.Gen.facts)
    (hReference9Ideal := Cert.Reference9Ideal.Gen.facts) := by
  intro m g m' g' _ ha
  refine ⟨fun c => (Cert.Kernel9Ideal.Gen.dats m 0 c).arrAt 3 Cert.Kernel9Ideal.cfg0.N, Cert.Kernel9Ideal.Value.run_blocks m g, ?_⟩
  refine (θ_run _ _ _).mono (fun r h c => ⟨(h c).1.trans ?_, (h c).2⟩) (Cert.Reference9Ideal.Value.run m' g')
  obtain ⟨a0, a1, a2, a3⟩ := ha c
  refine (Cert.Reference9Ideal.Read.val_main_v44_eq m' c).trans ?_
  rw [a0, a1, a2, a3]
  exact (Cert.Keys.ref_at _ _ _ _).trans (Cert.Keys.kernel_out m c).symm

/-- The projection to the rotated queries: kernel and reference agree. -/
theorem queries : Cert.algebraic_Kernel10Ideal_Reference10Ideal (hKernel10Ideal := Cert.Kernel10Ideal.Gen.facts)
    (hReference10Ideal := Cert.Reference10Ideal.Gen.facts) := by
  intro m g m' g' _ ha
  refine ⟨fun c => (Cert.Kernel10Ideal.Gen.dats m 0 c).arrAt 3 Cert.Kernel10Ideal.cfg0.N, Cert.Kernel10Ideal.Value.run_blocks m g, ?_⟩
  refine (θ_run _ _ _).mono (fun r h c => ⟨(h c).1.trans ?_, (h c).2⟩) (Cert.Reference10Ideal.Value.run m' g')
  obtain ⟨a0, a1, a2, a3⟩ := ha c
  refine (Cert.Reference10Ideal.Read.val_main_v26_eq _ _ _ _).trans ?_
  rw [a0, a1, a2, a3]
  exact (Cert.Queries.ref_at _ _ _ _).trans (Cert.Queries.kernel_out m c).symm

/-- The projection to the rotated keys of the selected blocks: kernel and reference agree. -/
theorem selected : Cert.algebraic_Kernel11Ideal_Reference11Ideal (hKernel11Ideal := Cert.Kernel11Ideal.Gen.facts)
    (hReference11Ideal := Cert.Reference11Ideal.Gen.facts) := by
  intro m g m' g' _ ha
  refine ⟨fun c => (Cert.Kernel11Ideal.Gen.dats m 0 c).arrAt 3 Cert.Kernel11Ideal.cfg0.N, Cert.Kernel11Ideal.Value.run_blocks m g, ?_⟩
  refine (θ_run _ _ _).mono (fun r h c => ⟨(h c).1.trans ?_, (h c).2⟩) (Cert.Reference11Ideal.Value.run m' g')
  obtain ⟨a0, a1, a2, a3⟩ := ha c
  refine (Cert.Reference11Ideal.Read.val_main_v30_eq _ _ _ _).trans ?_
  rw [a0, a1, a2, a3]
  exact (Cert.Selected.ref_at _ _ _ _).trans (Cert.Selected.kernel_out m c).symm

/-- The projection to the latent attention's values: kernel and reference agree. -/
theorem latent_values : Cert.algebraic_Kernel12Ideal_Reference12Ideal (hKernel12Ideal := Cert.Kernel12Ideal.Gen.facts)
    (hReference12Ideal := Cert.Reference12Ideal.Gen.facts) := by
  intro m g m' g' _ ha
  refine ⟨fun c => (Cert.Kernel12Ideal.Gen.dats m 0 c).arrAt 3 Cert.Kernel12Ideal.cfg0.N, Cert.Kernel12Ideal.Value.run_blocks m g, ?_⟩
  refine (θ_run _ _ _).mono (fun r h c => ⟨(h c).1.trans ?_, (h c).2⟩) (Cert.Reference12Ideal.Value.run m' g')
  obtain ⟨a0, a1, a2⟩ := ha c
  refine (Cert.Reference12Ideal.Read.val_main_v20_eq _ _ _).trans ?_
  rw [a0, a1, a2]
  exact (Cert.LatentValues.ref_at _ _ _).trans (Cert.LatentValues.kernel_out m c).symm

theorem latent_keys : Cert.algebraic_Kernel13Ideal_Reference13Ideal (hKernel13Ideal := Cert.Kernel13Ideal.Gen.facts)
    (hReference13Ideal := Cert.Reference13Ideal.Gen.facts) := by
  intro m g m' g' _ ha
  refine ⟨fun c => (Cert.Kernel13Ideal.Gen.dats m 0 c).arrAt 4 Cert.Kernel13Ideal.cfg0.N, Cert.Kernel13Ideal.Value.run_blocks m g, ?_⟩
  refine (θ_run _ _ _).mono (fun r h c => ⟨(h c).1.trans ?_, (h c).2⟩) (Cert.Reference13Ideal.Value.run m' g')
  obtain ⟨a0, a1, a2, a3⟩ := ha c
  refine (Cert.Reference13Ideal.Read.val_main_v23_eq _ _ _ _).trans ?_
  rw [a0, a1, a2, a3]
  exact (Cert.LatentKeys.ref_at _ _ _ _).trans (Cert.LatentKeys.kernel_out m c).symm

theorem latent_queries : Cert.algebraic_Kernel14Ideal_Reference14Ideal (hKernel14Ideal := Cert.Kernel14Ideal.Gen.facts)
    (hReference14Ideal := Cert.Reference14Ideal.Gen.facts) := by
  intro m g m' g' _ ha
  refine ⟨fun c => (Cert.Kernel14Ideal.Gen.dats m 0 c).arrAt 4 Cert.Kernel14Ideal.cfg0.N, Cert.Kernel14Ideal.Value.run_blocks m g, ?_⟩
  refine (θ_run _ _ _).mono (fun r h c => ⟨(h c).1.trans ?_, (h c).2⟩) (Cert.Reference14Ideal.Value.run m' g')
  obtain ⟨a0, a1, a2, a3, a4⟩ := ha c
  refine (Cert.Reference14Ideal.Read.val_main_v40_eq _ _).trans ?_
  rw [a0, a1, a2, a3, a4]
  exact (Cert.LatentQueries.ref_at _ _ _ _ _).trans (Cert.LatentQueries.kernel_out m c).symm

/-- The projection to the branch gates and to the rotated key that the heads share: kernel and reference agree. -/
theorem gate_key : Cert.algebraic_Kernel15Ideal_Reference15Ideal (hKernel15Ideal := Cert.Kernel15Ideal.Gen.facts)
    (hReference15Ideal := Cert.Reference15Ideal.Gen.facts) := by
  intro m g m' g' _ ha
  refine ⟨fun c => (Cert.Kernel15Ideal.Gen.dats m 0 c).arrAt 3 Cert.Kernel15Ideal.cfg0.N, Cert.Kernel15Ideal.Value.run_blocks m g, ?_⟩
  refine (θ_run _ _ _).mono (fun r h c => ⟨(h c).1.trans ?_, (h c).2⟩) (Cert.Reference15Ideal.Value.run m' g')
  obtain ⟨a0, a1, a2, a3⟩ := ha c
  refine (Cert.Reference15Ideal.Read.val_main_v22_eq _ _ _ _).trans ?_
  rw [a0, a1, a2, a3]
  exact (Cert.GateKey.ref_at _ _ _ _).trans (Cert.GateKey.kernel_out m c).symm

/-- The modulation's vectors: kernel and reference agree. -/
theorem modulation : Cert.algebraic_Kernel16Ideal_Reference16Ideal (hKernel16Ideal := Cert.Kernel16Ideal.Gen.facts)
    (hReference16Ideal := Cert.Reference16Ideal.Gen.facts) := by
  intro m g m' g' _ ha
  refine ⟨fun c => (Cert.Kernel16Ideal.Gen.dats m 0 c).arrAt 3 Cert.Kernel16Ideal.cfg0.N, Cert.Kernel16Ideal.Value.run_blocks m g, ?_⟩
  refine (θ_run _ _ _).mono (fun r h c => ⟨(h c).1.trans ?_, (h c).2⟩) (Cert.Reference16Ideal.Value.run m' g')
  obtain ⟨a0, a1, a2⟩ := ha c
  refine (Cert.Reference16Ideal.Read.val_main_v6_eq _ _ _).trans ?_
  rw [a0, a1, a2]
  exact (Cert.Modulation.ref_at _ _ _).trans (Cert.Modulation.kernel_out m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Pre_finite.Gen.facts, Cert.Pre_finite5.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.Kernel2.Gen.frame m ρ, fun m ρ _ => Cert.Kernel2Ideal.Gen.frame m ρ,
    fun m ρ _ => (θ_run _ _ _).mono (fun r h => ⟨fun c => (h c).2, sem_eq_zero_of_no_sems (by decide) r.2⟩) (Cert.Reference2Ideal.Value.run m ρ),
    fun m ρ _ => Cert.Kernel3.Gen.frame m ρ, fun m ρ _ => Cert.Kernel3Ideal.Gen.frame m ρ,
    fun m ρ _ => (θ_run _ _ _).mono (fun r h => ⟨fun c => (h c).2.2, sem_eq_zero_of_no_sems (by decide) r.2⟩) (Cert.Reference3Ideal.Value.run m ρ),
    fun m ρ _ => Cert.Kernel4.Gen.frame m ρ, fun m ρ _ => Cert.Kernel4Ideal.Gen.frame m ρ,
    fun m ρ _ => (θ_run _ _ _).mono (fun r h => ⟨fun c => (h c).2, sem_eq_zero_of_no_sems (by decide) r.2⟩) (Cert.Reference4Ideal.Value.run m ρ),
    fun m ρ _ => Cert.Kernel5.Gen.frame m ρ, fun m ρ _ => Cert.Kernel5Ideal.Gen.frame m ρ, fun m ρ _ => Cert.Kernel5Ideal.Gen.frame m ρ,
    fun m ρ _ => (θ_run _ _ _).mono (fun r h => ⟨fun c => (h c).2, sem_eq_zero_of_no_sems (by decide) r.2⟩) (Cert.Reference5Ideal.Value.run m ρ),
    fun m ρ _ => (θ_run _ _ _).mono (fun r h => ⟨fun c => (h c).2, sem_eq_zero_of_no_sems (by decide) r.2⟩) (Cert.Reference5Ideal.Value.run m ρ),
    fun m ρ _ => Cert.Kernel6.Gen.frame m ρ, fun m ρ _ => Cert.Kernel6Ideal.Gen.frame m ρ,
    fun m ρ _ => (θ_run _ _ _).mono (fun r h => ⟨fun c => (h c).2, sem_eq_zero_of_no_sems (by decide) r.2⟩) (Cert.Reference6Ideal.Value.run m ρ),
    fun m ρ _ => Cert.Kernel7.Gen.frame m ρ, fun m ρ _ => Cert.Kernel7Ideal.Gen.frame m ρ,
    fun m ρ _ => (θ_run _ _ _).mono (fun r h => ⟨fun c => (h c).2, sem_eq_zero_of_no_sems (by decide) r.2⟩) (Cert.Reference7Ideal.Value.run m ρ),
    fun m ρ _ => Cert.Kernel8.Gen.frame m ρ, fun m ρ _ => Cert.Kernel8Ideal.Gen.frame m ρ,
    fun m ρ _ => (θ_run _ _ _).mono (fun r h => ⟨fun c => (h c).2, sem_eq_zero_of_no_sems (by decide) r.2⟩) (Cert.Reference8Ideal.Value.run m ρ),
    fun m ρ _ => Cert.Kernel9.Gen.frame m ρ, fun m ρ _ => Cert.Kernel9Ideal.Gen.frame m ρ,
    fun m ρ _ => (θ_run _ _ _).mono (fun r h => ⟨fun c => (h c).2, sem_eq_zero_of_no_sems (by decide) r.2⟩) (Cert.Reference9Ideal.Value.run m ρ),
    fun m ρ _ => Cert.Kernel10.Gen.frame m ρ, fun m ρ _ => Cert.Kernel10Ideal.Gen.frame m ρ,
    fun m ρ _ => (θ_run _ _ _).mono (fun r h => ⟨fun c => (h c).2, sem_eq_zero_of_no_sems (by decide) r.2⟩) (Cert.Reference10Ideal.Value.run m ρ),
    fun m ρ _ => Cert.Kernel11.Gen.frame m ρ, fun m ρ _ => Cert.Kernel11Ideal.Gen.frame m ρ,
    fun m ρ _ => (θ_run _ _ _).mono (fun r h => ⟨fun c => (h c).2, sem_eq_zero_of_no_sems (by decide) r.2⟩) (Cert.Reference11Ideal.Value.run m ρ),
    fun m ρ _ => Cert.Kernel12.Gen.frame m ρ, fun m ρ _ => Cert.Kernel12Ideal.Gen.frame m ρ,
    fun m ρ _ => (θ_run _ _ _).mono (fun r h => ⟨fun c => (h c).2, sem_eq_zero_of_no_sems (by decide) r.2⟩) (Cert.Reference12Ideal.Value.run m ρ),
    fun m ρ _ => Cert.Kernel13.Gen.frame m ρ, fun m ρ _ => Cert.Kernel13Ideal.Gen.frame m ρ,
    fun m ρ _ => (θ_run _ _ _).mono (fun r h => ⟨fun c => (h c).2, sem_eq_zero_of_no_sems (by decide) r.2⟩) (Cert.Reference13Ideal.Value.run m ρ),
    fun m ρ _ => Cert.Kernel14.Gen.frame m ρ, fun m ρ _ => Cert.Kernel14Ideal.Gen.frame m ρ,
    fun m ρ _ => (θ_run _ _ _).mono (fun r h => ⟨fun c => (h c).2, sem_eq_zero_of_no_sems (by decide) r.2⟩) (Cert.Reference14Ideal.Value.run m ρ),
    fun m ρ _ => Cert.Kernel15.Gen.frame m ρ, fun m ρ _ => Cert.Kernel15Ideal.Gen.frame m ρ,
    fun m ρ _ => (θ_run _ _ _).mono (fun r h => ⟨fun c => (h c).2, sem_eq_zero_of_no_sems (by decide) r.2⟩) (Cert.Reference15Ideal.Value.run m ρ),
    fun m ρ _ => Cert.Kernel16.Gen.frame m ρ, fun m ρ _ => Cert.Kernel16Ideal.Gen.frame m ρ,
    fun m ρ _ => (θ_run _ _ _).mono (fun r h => ⟨fun c => (h c).2, sem_eq_zero_of_no_sems (by decide) r.2⟩) (Cert.Reference16Ideal.Value.run m ρ),
    IdealRules.named_const.statement Cert.KernelIdeal.κ "mask" .f32 0xF149F2CA#32 ⊥ rfl, algebraic, trivial, merge, trivial, out_proj, trivial, query,
    IdealRules.named_const.statement Cert.Kernel5Ideal.κ "mask" .f32 0xF149F2CA#32 ⊥ rfl, window, trivial, compressed, trivial, first_norm,
    trivial, values, trivial, keys,
    IdealRules.named_const.statement Cert.Kernel10Ideal.κ "scale" .f32 0x3E38AA3B#32 (((1 / 8) * (Real.log 2)⁻¹ : ℝ) : EReal) rfl, queries,
    trivial, selected, trivial, latent_values, trivial, latent_keys,
    IdealRules.named_const.statement Cert.Kernel14Ideal.κ "scale" .f32 0x3E16C740#32 (((Real.sqrt 96 * Real.log 2)⁻¹ : ℝ) : EReal) rfl, latent_queries,
    trivial, gate_key, trivial, modulation⟩

end Cert.Proof

end
